-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_experts_exist_once [hPre_experts_exist_once : Cert.Pre_experts_exist_once.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_once [hPre_experts_exist_once : Cert.Pre_experts_exist_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_experts_exist_once [hKernelIdeal : Cert.KernelIdeal.Facts] [hPre_experts_exist_once : Cert.Pre_experts_exist_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_exist_once [hReferenceIdeal : Cert.ReferenceIdeal.Facts] [hPre_experts_exist_once : Cert.Pre_experts_exist_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_experts_exist_once [hKernelIdeal : Cert.KernelIdeal.Facts] [hReferenceIdeal : Cert.ReferenceIdeal.Facts] [hPre_experts_exist_once : Cert.Pre_experts_exist_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_experts_exist : Cert.Pre_experts_exist.Facts) (hPre_experts_exist_once : Cert.Pre_experts_exist_once.Facts),
    quiescent_Kernel (hKernel := hKernel) (hPre_experts_exist := hPre_experts_exist)
    ∧ quiescent_KernelIdeal (hKernelIdeal := hKernelIdeal) (hPre_experts_exist := hPre_experts_exist)
    ∧ quiescent_KernelIdeal_pre_experts_exist_once (hKernelIdeal := hKernelIdeal) (hPre_experts_exist_once := hPre_experts_exist_once)
    ∧ quiescent_ReferenceIdeal (hReferenceIdeal := hReferenceIdeal)
    ∧ quiescent_ReferenceIdeal_pre_experts_exist_once (hReferenceIdeal := hReferenceIdeal) (hPre_experts_exist_once := hPre_experts_exist_once)
    ∧ preserves_Kernel_KernelIdeal
    ∧ algebraic_KernelIdeal_ReferenceIdeal_pre_experts_exist_once (hKernelIdeal := hKernelIdeal) (hReferenceIdeal := hReferenceIdeal) (hPre_experts_exist_once := hPre_experts_exist_once)
-- ==== Pre_experts_exist.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S_ : Shape := ⟨0, ![]⟩

class Facts : Prop where
  bcast_S_S33x1x8 : S_.BroadcastsInDim S33x1x8 (![] : Fin 0 → Fin S33x1x8.rank)

variable [Facts]

def fn {F : FTy → Type} [FloatOps F] (main_arg0 : FVec F S33x1x7168 .bf16) (main_arg1 : IVec S33x1x8 32) (main_arg2 : FVec F S33x1x8 .f32) (main_arg3 : FVec F S32x7168x1536 .fp8e4m3) (main_arg4 : FVec F S32x1536 .f32) (main_arg5 : FVec F S32x768x7168 .fp8e4m3) (main_arg6 : FVec F S32x7168 .f32) : IVec S33x1x8 1 :=
  let main_c : IVec S_ 32 := constantI S_ 32 0#32
  let main_v0 : IVec S33x1x8 32 := broadcastInDim S33x1x8 ![] bcast_S_S33x1x8 main_c
  let main_v1 : IVec S33x1x8 1 := cmpi .sge main_arg1 main_v0
  let main_c_0 : IVec S_ 32 := constantI S_ 32 32#32
  let main_v2 : IVec S33x1x8 32 := broadcastInDim S33x1x8 ![] bcast_S_S33x1x8 main_c_0
  let main_v3 : IVec S33x1x8 1 := cmpi .slt main_arg1 main_v2
  let main_v4 : IVec S33x1x8 1 := andi main_v1 main_v3
  main_v4
-- ==== Pre_experts_exist_once.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S33x1x8x1 : Shape := ⟨4, ![33, 1, 8, 1]⟩
abbrev S33x1x1x8 : Shape := ⟨4, ![33, 1, 1, 8]⟩
abbrev S33x1x8x8 : Shape := ⟨4, ![33, 1, 8, 8]⟩
abbrev S_ : Shape := ⟨0, ![]⟩

class Facts : Prop where
  bcast_S33x1x8_S33x1x8x1_0_1_2 : S33x1x8.BroadcastsInDim S33x1x8x1 (![0, 1, 2] : Fin 3 → Fin S33x1x8x1.rank)
  bcast_S33x1x8_S33x1x1x8_0_1_3 : S33x1x8.BroadcastsInDim S33x1x1x8 (![0, 1, 3] : Fin 3 → Fin S33x1x1x8.rank)
  bcast_S_S33x1x8x1 : S_.BroadcastsInDim S33x1x8x1 (![] : Fin 0 → Fin S33x1x8x1.rank)
  bcast_S33x1x8x1_S33x1x8x8_0_1_2_3 : S33x1x8x1.BroadcastsInDim S33x1x8x8 (![0, 1, 2, 3] : Fin 4 → Fin S33x1x8x8.rank)
  bcast_S33x1x1x8_S33x1x8x8_0_1_2_3 : S33x1x1x8.BroadcastsInDim S33x1x8x8 (![0, 1, 2, 3] : Fin 4 → Fin S33x1x8x8.rank)

variable [Facts]

def fn_where {F : FTy → Type} [FloatOps F] (arg0 : IVec S33x1x8x8 1) (arg1 : IVec S33x1x8x1 1) (arg2 : IVec S33x1x8x8 1) : IVec S33x1x8x8 1 :=
  let v0 : IVec S33x1x8x8 1 := broadcastInDim S33x1x8x8 ![0, 1, 2, 3] bcast_S33x1x8x1_S33x1x8x8_0_1_2_3 arg1
  let v1 : IVec S33x1x8x8 1 := select arg0 v0 arg2
  v1

def fn {F : FTy → Type} [FloatOps F] (main_arg0 : FVec F S33x1x7168 .bf16) (main_arg1 : IVec S33x1x8 32) (main_arg2 : FVec F S33x1x8 .f32) (main_arg3 : FVec F S32x7168x1536 .fp8e4m3) (main_arg4 : FVec F S32x1536 .f32) (main_arg5 : FVec F S32x768x7168 .fp8e4m3) (main_arg6 : FVec F S32x7168 .f32) : IVec S33x1x8x8 1 :=
  let main_v0 : IVec S33x1x8x1 32 := broadcastInDim S33x1x8x1 ![0, 1, 2] bcast_S33x1x8_S33x1x8x1_0_1_2 main_arg1
  let main_v1 : IVec S33x1x1x8 32 := broadcastInDim S33x1x1x8 ![0, 1, 3] bcast_S33x1x8_S33x1x1x8_0_1_3 main_arg1
  let main_v2 : IVec S33x1x8x8 32 := iotaInDim S33x1x8x8 32 2
  let main_v3 : IVec S33x1x8x8 32 := iotaInDim S33x1x8x8 32 3
  let main_v4 : IVec S33x1x8x8 1 := cmpi .eq main_v2 main_v3
  let main_c : IVec S_ 32 := constantI S_ 32 0#32
  let main_v5 : IVec S33x1x8x1 32 := broadcastInDim S33x1x8x1 ![] bcast_S_S33x1x8x1 main_c
  let main_v6 : IVec S33x1x8x1 1 := cmpi .sge main_v0 main_v5
  let main_c_0 : IVec S_ 32 := constantI S_ 32 32#32
  let main_v7 : IVec S33x1x8x1 32 := broadcastInDim S33x1x8x1 ![] bcast_S_S33x1x8x1 main_c_0
  let main_v8 : IVec S33x1x8x1 1 := cmpi .slt main_v0 main_v7
  let main_v9 : IVec S33x1x8x1 1 := andi main_v6 main_v8
  let main_v10 : IVec S33x1x8x8 32 := broadcastInDim S33x1x8x8 ![0, 1, 2, 3] bcast_S33x1x8x1_S33x1x8x8_0_1_2_3 main_v0
  let main_v11 : IVec S33x1x8x8 32 := broadcastInDim S33x1x8x8 ![0, 1, 2, 3] bcast_S33x1x1x8_S33x1x8x8_0_1_2_3 main_v1
  let main_v12 : IVec S33x1x8x8 1 := cmpi .ne main_v10 main_v11
  let main_v13 : IVec S33x1x8x8 1 := fn_where (F := F) main_v4 main_v9 main_v12
  main_v13
-- ==== Kernel.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S33x8 : Shape := ⟨2, ![33, 8]⟩
abbrev S8x33 : Shape := ⟨2, ![8, 33]⟩
abbrev S33x7168 : Shape := ⟨2, ![33, 7168]⟩
abbrev S33 : Shape := ⟨1, ![33]⟩
abbrev S48x7168 : Shape := ⟨2, ![48, 7168]⟩
abbrev S48x1536 : Shape := ⟨2, ![48, 1536]⟩
abbrev S2x7168x1536 : Shape := ⟨3, ![2, 7168, 1536]⟩
abbrev S2x768x7168 : Shape := ⟨3, ![2, 768, 7168]⟩
abbrev S_ : Shape := ⟨0, ![]⟩
abbrev S5 : Shape := ⟨1, ![5]⟩
abbrev S4 : Shape := ⟨1, ![4]⟩
abbrev S2x7 : Shape := ⟨2, ![2, 7]⟩
abbrev S2x4 : Shape := ⟨2, ![2, 4]⟩
abbrev S1 : Shape := ⟨1, ![1]⟩
abbrev S1x1 : Shape := ⟨2, ![1, 1]⟩
abbrev S1x1024x1536 : Shape := ⟨3, ![1, 1024, 1536]⟩
abbrev S1024x1536 : Shape := ⟨2, ![1024, 1536]⟩
abbrev S1x768x1792 : Shape := ⟨3, ![1, 768, 1792]⟩
abbrev S768x1792 : Shape := ⟨2, ![768, 1792]⟩
abbrev S34x7168 : Shape := ⟨2, ![34, 7168]⟩
abbrev S48x1024 : Shape := ⟨2, ![48, 1024]⟩
abbrev S33x1 : Shape := ⟨2, ![33, 1]⟩
abbrev S1x1536 : Shape := ⟨2, ![1, 1536]⟩
abbrev S48x768 : Shape := ⟨2, ![48, 768]⟩
abbrev S33x768 : Shape := ⟨2, ![33, 768]⟩
abbrev S33x1792 : Shape := ⟨2, ![33, 1792]⟩
abbrev S1x1792 : Shape := ⟨2, ![1, 1792]⟩

abbrev nBuf : Space → Nat
  | .hbm => 13
  | .vmem => 13
  | .smem => 2
  | _ => 0

abbrev bufTy : (tb : Table) → Fin (tcTables nBuf tb) → BufTy
  | .hbm, ⟨0, _⟩ => ⟨S33x1x7168, .bf16⟩
  | .hbm, ⟨1, _⟩ => ⟨S33x1x8, .i32⟩
  | .hbm, ⟨2, _⟩ => ⟨S33x1x8, .f32⟩
  | .hbm, ⟨3, _⟩ => ⟨S32x7168x1536, .fp8e4m3⟩
  | .hbm, ⟨4, _⟩ => ⟨S32x1536, .f32⟩
  | .hbm, ⟨5, _⟩ => ⟨S32x768x7168, .fp8e4m3⟩
  | .hbm, ⟨6, _⟩ => ⟨S32x7168, .f32⟩
  | .hbm, ⟨7, _⟩ => ⟨S33x8, .i32⟩
  | .hbm, ⟨8, _⟩ => ⟨S8x33, .i32⟩
  | .hbm, ⟨9, _⟩ => ⟨S33x8, .f32⟩
  | .hbm, ⟨10, _⟩ => ⟨S8x33, .f32⟩
  | .hbm, ⟨11, _⟩ => ⟨S33x7168, .bf16⟩
  | .hbm, ⟨12, _⟩ => ⟨S33x7168, .bf16⟩
  | .local _ .vmem, ⟨0, _⟩ => ⟨S8x33, .i32⟩
  | .local _ .vmem, ⟨1, _⟩ => ⟨S8x33, .f32⟩
  | .local _ .vmem, ⟨2, _⟩ => ⟨S33x8, .i32⟩
  | .local _ .vmem, ⟨3, _⟩ => ⟨S33x8, .f32⟩
  | .local _ .vmem, ⟨4, _⟩ => ⟨S33x7168, .bf16⟩
  | .local _ .vmem, ⟨5, _⟩ => ⟨S48x7168, .bf16⟩
  | .local _ .vmem, ⟨6, _⟩ => ⟨S32x1536, .f32⟩
  | .local _ .vmem, ⟨7, _⟩ => ⟨S32x7168, .f32⟩
  | .local _ .vmem, ⟨8, _⟩ => ⟨S48x1536, .f32⟩
  | .local _ .vmem, ⟨9, _⟩ => ⟨S33x7168, .f32⟩
  | .local _ .vmem, ⟨10, _⟩ => ⟨S33x7168, .bf16⟩
  | .local _ .vmem, ⟨11, _⟩ => ⟨S2x7168x1536, .fp8e4m3⟩
  | .local _ .vmem, ⟨12, _⟩ => ⟨S2x768x7168, .fp8e4m3⟩
  | .local _ .smem, ⟨0, _⟩ => ⟨S8x33, .i32⟩
  | .local _ .smem, ⟨1, _⟩ => ⟨S33, .i32⟩
  | _, _ => ⟨S33x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch0 : Ref sig .tc := ⟨.smem, 0, rfl⟩
abbrev cc0_scratch1 : Ref sig .tc := ⟨.smem, 1, rfl⟩

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c11_i32 : BitVec 32 := 11#32
  let v11 : BitVec 32 := Scalar.addi c0_i32_1 c11_i32
  let c1_i32_2 : BitVec 32 := 1#32
  ⟨c0_i32_1, v11, c1_i32_2⟩
def k0_cond1 (k0_t1 : Fin k0_t1_loop.trips) : BitVec 1 :=
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32 : BitVec 32 := 7#32
  let v61 : BitVec 1 := Scalar.cmpi .slt v60 c7_i32
  let v62 : BitVec 32 := Scalar.extui v61
  let c0_i32_51 : BitVec 32 := 0#32
  let v63 : BitVec 1 := Scalar.cmpi .ne v62 c0_i32_51
  v63

def k0_mult1 (k0_t1 : Fin k0_t1_loop.trips) : BitVec 32 :=
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c1024_i32 : BitVec 32 := 1024#32
  let v67 : BitVec 32 := Scalar.muli v60 c1024_i32
  v67
def k0_off1 (k0_t1 : Fin k0_t1_loop.trips) : Fin 2 → Nat :=
  let c0_i32_55 : BitVec 32 := 0#32
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  ![0, v60.toNat]
def k0_off2 (k0_t1 : Fin k0_t1_loop.trips) : Fin 3 → Nat :=
  let c0_i32_54 : BitVec 32 := 0#32
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c1024_i32 : BitVec 32 := 1024#32
  let v67 : BitVec 32 := Scalar.muli v60 c1024_i32
  let v68 : BitVec 32 := v67
  let c0_i32_56 : BitVec 32 := 0#32
  ![0, v68.toNat, 0]
def k0_off3 (v10 : BitVec 32) (k0_t1 : Fin k0_t1_loop.trips) : Fin 3 → Nat :=
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c1024_i32 : BitVec 32 := 1024#32
  let v67 : BitVec 32 := Scalar.muli v60 c1024_i32
  let v68 : BitVec 32 := v67
  let c0_i32_57 : BitVec 32 := 0#32
  ![v10.toNat, v68.toNat, 0]

def k0_cond2 (k0_t1 : Fin k0_t1_loop.trips) : BitVec 1 :=
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32_52 : BitVec 32 := 7#32
  let v64 : BitVec 1 := Scalar.cmpi .sge v60 c7_i32_52
  let v65 : BitVec 32 := Scalar.extui v64
  let c0_i32_53 : BitVec 32 := 0#32
  let v66 : BitVec 1 := Scalar.cmpi .ne v65 c0_i32_53
  v66

def k0_mult2 (k0_t1 : Fin k0_t1_loop.trips) : BitVec 32 :=
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32_54 : BitVec 32 := 7#32
  let v67 : BitVec 32 := Scalar.subi v60 c7_i32_54
  let c1792_i32 : BitVec 32 := 1792#32
  let v68 : BitVec 32 := Scalar.muli v67 c1792_i32
  v68
def k0_off4 (k0_t1 : Fin k0_t1_loop.trips) : Fin 2 → Nat :=
  let c0_i32_56 : BitVec 32 := 0#32
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32_54 : BitVec 32 := 7#32
  let v67 : BitVec 32 := Scalar.subi v60 c7_i32_54
  ![0, v67.toNat]
def k0_off5 (k0_t1 : Fin k0_t1_loop.trips) : Fin 3 → Nat :=
  let c0_i32_55 : BitVec 32 := 0#32
  let c0_i32_57 : BitVec 32 := 0#32
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32_54 : BitVec 32 := 7#32
  let v67 : BitVec 32 := Scalar.subi v60 c7_i32_54
  let c1792_i32 : BitVec 32 := 1792#32
  let v68 : BitVec 32 := Scalar.muli v67 c1792_i32
  let v69 : BitVec 32 := v68
  ![0, 0, v69.toNat]
def k0_off6 (v10 : BitVec 32) (k0_t1 : Fin k0_t1_loop.trips) : Fin 3 → Nat :=
  let c0_i32_58 : BitVec 32 := 0#32
  let c0_i32_50 : BitVec 32 := 0#32
  let c0_i32_1 : BitVec 32 := 0#32
  let c1_i32_2 : BitVec 32 := 1#32
  let arg28 : BitVec 32 := Scf.iv c0_i32_1 c1_i32_2 k0_t1
  let c1_i32_49 : BitVec 32 := 1#32
  let v59 : BitVec 32 := Scalar.muli arg28 c1_i32_49
  let v60 : BitVec 32 := Scalar.addi c0_i32_50 v59
  let c7_i32_54 : BitVec 32 := 7#32
  let v67 : BitVec 32 := Scalar.subi v60 c7_i32_54
  let c1792_i32 : BitVec 32 := 1792#32
  let v68 : BitVec 32 := Scalar.muli v67 c1792_i32
  let v69 : BitVec 32 := v68
  ![v10.toNat, 0, v69.toNat]

def k0_chk1 (v10 : BitVec 32) : Prop :=
  (∀ k0_t1 : Fin k0_t1_loop.trips, ∀ (k0_h1 : k0_cond1 k0_t1 = 1#1), ∀ a, (k0_off3 v10 k0_t1) a + S1x1024x1536.size a ≤ S32x7168x1536.size a) ∧
  (∀ k0_t1 : Fin k0_t1_loop.trips, ∀ (k0_h1 : k0_cond1 k0_t1 = 1#1), ∀ (hinb : ∀ a, (k0_off3 v10 k0_t1) a + S1x1024x1536.size a ≤ S32x7168x1536.size a), (Rect.unit (s := S32x7168x1536) (k0_off3 v10 k0_t1) S1x1024x1536.size hinb).WholeWords (EltTy.packing .fp8e4m3)) ∧
  (∀ k0_t1 : Fin k0_t1_loop.trips, ∀ (k0_h2 : k0_cond2 k0_t1 = 1#1), ∀ a, (k0_off6 v10 k0_t1) a + S1x768x1792.size a ≤ S32x768x7168.size a) ∧
  (∀ k0_t1 : Fin k0_t1_loop.trips, ∀ (k0_h2 : k0_cond2 k0_t1 = 1#1), ∀ (hinb : ∀ a, (k0_off6 v10 k0_t1) a + S1x768x1792.size a ≤ S32x768x7168.size a), (Rect.unit (s := S32x768x7168) (k0_off6 v10 k0_t1) S1x768x1792.size hinb).WholeWords (EltTy.packing .fp8e4m3))
theorem k0_off3_inb : ∀ (v10 : BitVec 32) (k0_hw1 : k0_chk1 v10) (k0_t1 : Fin k0_t1_loop.trips), ∀ (k0_h1 : k0_cond1 k0_t1 = 1#1), ∀ a, (k0_off3 v10 k0_t1) a + S1x1024x1536.size a ≤ S32x7168x1536.size a := fun v10 k0_hw1 k0_t1 k0_h1 => k0_hw1.1 k0_t1 k0_h1
theorem k0_off3_wordsfp8e4m3 : ∀ (v10 : BitVec 32) (k0_hw1 : k0_chk1 v10) (k0_t1 : Fin k0_t1_loop.trips), ∀ (k0_h1 : k0_cond1 k0_t1 = 1#1), (Rect.unit (s := S32x7168x1536) (k0_off3 v10 k0_t1) S1x1024x1536.size (k0_off3_inb v10 k0_hw1 k0_t1 k0_h1)).WholeWords (EltTy.packing .fp8e4m3) := fun v10 k0_hw1 k0_t1 k0_h1 => k0_hw1.2.1 k0_t1 k0_h1 (k0_off3_inb v10 k0_hw1 k0_t1 k0_h1)
theorem k0_off6_inb : ∀ (v10 : BitVec 32) (k0_hw1 : k0_chk1 v10) (k0_t1 : Fin k0_t1_loop.trips), ∀ (k0_h2 : k0_cond2 k0_t1 = 1#1), ∀ a, (k0_off6 v10 k0_t1) a + S1x768x1792.size a ≤ S32x768x7168.size a := fun v10 k0_hw1 k0_t1 k0_h2 => k0_hw1.2.2.1 k0_t1 k0_h2
theorem k0_off6_wordsfp8e4m3 : ∀ (v10 : BitVec 32) (k0_hw1 : k0_chk1 v10) (k0_t1 : Fin k0_t1_loop.trips), ∀ (k0_h2 : k0_cond2 k0_t1 = 1#1), (Rect.unit (s := S32x768x7168) (k0_off6 v10 k0_t1) S1x768x1792.size (k0_off6_inb v10 k0_hw1 k0_t1 k0_h2)).WholeWords (EltTy.packing .fp8e4m3) := fun v10 k0_hw1 k0_t1 k0_h2 => k0_hw1.2.2.2 k0_t1 k0_h2 (k0_off6_inb v10 k0_hw1 k0_t1 k0_h2)

@[reducible] def k0_t2_loop : Scf.Loop 32 :=
  let c0_i32_5 : BitVec 32 := 0#32
  let c33_i32 : BitVec 32 := 33#32
  let v12 : BitVec 32 := Scalar.addi c0_i32_5 c33_i32
  let c1_i32_6 : BitVec 32 := 1#32
  ⟨c0_i32_5, v12, c1_i32_6⟩
def k0_off7 (k0_t2 : Fin k0_t2_loop.trips) : Fin 2 → Nat :=
  let c0_49 : Index := 0#32
  let c0_i32_5 : BitVec 32 := 0#32
  let c1_i32_6 : BitVec 32 := 1#32
  let arg28 : BitVec 32 := Scf.iv c0_i32_5 c1_i32_6 k0_t2
  let v59 : Index := Scalar.indexCast arg28
  ![0, v59.toNat]
def k0_off8 (k0_t2 : Fin k0_t2_loop.trips) : Fin 2 → Nat :=
  let c1 : Index := 1#32
  let c0_i32_5 : BitVec 32 := 0#32
  let c1_i32_6 : BitVec 32 := 1#32
  let arg28 : BitVec 32 := Scf.iv c0_i32_5 c1_i32_6 k0_t2
  let v63 : Index := Scalar.indexCast arg28
  ![1, v63.toNat]
def k0_off9 (k0_t2 : Fin k0_t2_loop.trips) : Fin 2 → Nat :=
  let c2 : Index := 2#32
  let c0_i32_5 : BitVec 32 := 0#32
  let c1_i32_6 : BitVec 32 := 1#32
  let arg28 : BitVec 32 := Scf.iv c0_i32_5 c1_i32_6 k0_t2
  let v67 : Index := Scalar.indexCast arg28
  ![2, v67.toNat]
def k0_off10 (k0_t2 : Fin k0_t2_loop.trips) : Fin 2 → Nat :=
  let c3 : Index := 3#32
  let c0_i32_5 : BitVec 32 := 0#32
  let c1_i32_6 : BitVec 32 := 1#32
  let arg28 : BitVec 32 := Scf.iv c0_i32_5 c1_i32_6 k0_t2
  let v71 : Index := Scalar.indexCast arg28
  ![3, v71.toNat]
def k0_off11 (k0_t2 : Fin k0_t2_loop.trips) : Fin 2 → Nat :=
  let c4 : Index := 4#32
  let c0_i32_5 : BitVec 32 := 0#32
  let c1_i32_6 : BitVec 32 := 1#32
  let arg28 : BitVec 32 := Scf.iv c0_i32_5 c1_i32_6 k0_t2
  let v75 : Index := Scalar.indexCast arg28
  ![4, v75.toNat]
def k0_off12 (k0_t2 : Fin k0_t2_loop.trips) : Fin 2 → Nat :=
  let c5 : Index := 5#32
  let c0_i32_5 : BitVec 32 := 0#32
  let c1_i32_6 : BitVec 32 := 1#32
  let arg28 : BitVec 32 := Scf.iv c0_i32_5 c1_i32_6 k0_t2
  let v79 : Index := Scalar.indexCast arg28
  ![5, v79.toNat]
def k0_off13 (k0_t2 : Fin k0_t2_loop.trips) : Fin 2 → Nat :=
  let c6 : Index := 6#32
  let c0_i32_5 : BitVec 32 := 0#32
  let c1_i32_6 : BitVec 32 := 1#32
  let arg28 : BitVec 32 := Scf.iv c0_i32_5 c1_i32_6 k0_t2
  let v83 : Index := Scalar.indexCast arg28
  ![6, v83.toNat]
def k0_off14 (k0_t2 : Fin k0_t2_loop.trips) : Fin 2 → Nat :=
  let c7 : Index := 7#32
  let c0_i32_5 : BitVec 32 := 0#32
  let c1_i32_6 : BitVec 32 := 1#32
  let arg28 : BitVec 32 := Scf.iv c0_i32_5 c1_i32_6 k0_t2
  let v87 : Index := Scalar.indexCast arg28
  ![7, v87.toNat]
@[reducible] def k0_t3_loop : Scf.Loop 32 :=
  let c0_i32_10 : BitVec 32 := 0#32
  let c32_i32 : BitVec 32 := 32#32
  let v15 : BitVec 32 := Scalar.addi c0_i32_10 c32_i32
  let c1_i32_11 : BitVec 32 := 1#32
  ⟨c0_i32_10, v15, c1_i32_11⟩
def k0_off15 (arg29 : BitVec 32) : Fin 1 → Nat :=
  let v59 : Index := Scalar.indexCast arg29
  ![v59.toNat]

def k0_chk2 (arg29 : BitVec 32) : Prop :=
  (∀ a, (k0_off15 arg29) a + S1.size a ≤ S33.size a)
theorem k0_off15_inb : ∀ (arg29 : BitVec 32) (k0_hw2 : k0_chk2 arg29), ∀ a, (k0_off15 arg29) a + S1.size a ≤ S33.size a := fun arg29 k0_hw2 => k0_hw2

@[reducible] def k0_t4_loop (v16 : BitVec 32) : Scf.Loop 32 :=
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_43 : BitVec 32 := 1#32
  ⟨c0_i32_41, v57, c1_i32_43⟩

def k0_off16 (v16 : BitVec 32) (k0_t4 : Fin (k0_t4_loop v16).trips) : Fin 1 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let v62 : Index := Scalar.indexCast v60
  ![v62.toNat]
@[reducible] def k0_t5_loop : Scf.Loop 32 :=
  let c0_i32_53 : BitVec 32 := 0#32
  let c7_i32 : BitVec 32 := 7#32
  let v68 : BitVec 32 := Scalar.addi c0_i32_53 c7_i32
  let c1_i32_54 : BitVec 32 := 1#32
  ⟨c0_i32_53, v68, c1_i32_54⟩
def k0_mult3 (k0_t5 : Fin k0_t5_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  v101
def k0_off17 (v16 : BitVec 32) (k0_t4 : Fin (k0_t4_loop v16).trips) (k0_t5 : Fin k0_t5_loop.trips) : Fin 1 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v130 : BitVec 32 := Scalar.addi v60 v105
  let v131 : Index := Scalar.indexCast v130
  ![v131.toNat]
def k0_cond3 (v16 : BitVec 32) (k0_t4 : Fin (k0_t4_loop v16).trips) (k0_t5 : Fin k0_t5_loop.trips) : BitVec 1 :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v106 : BitVec 32 := Scalar.addi v60 v105
  let v107 : BitVec 1 := Scalar.cmpi .slt v106 v16
  let v108 : BitVec 32 := Scalar.extui v107
  let c0_i32_78 : BitVec 32 := 0#32
  let v109 : BitVec 1 := Scalar.cmpi .ne v108 c0_i32_78
  v109

def k0_cond4 (k0_t5 : Fin k0_t5_loop.trips) : BitVec 1 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_91 : BitVec 32 := 7#32
  let v137 : BitVec 1 := Scalar.cmpi .slt v136 c7_i32_91
  let v138 : BitVec 32 := Scalar.extui v137
  let c0_i32_92 : BitVec 32 := 0#32
  let v139 : BitVec 1 := Scalar.cmpi .ne v138 c0_i32_92
  v139

def k0_mult4 (k0_t5 : Fin k0_t5_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  v143
def k0_off18 (v16 : BitVec 32) (k0_t4 : Fin (k0_t4_loop v16).trips) (k0_t5 : Fin k0_t5_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  ![v134.toNat, v136.toNat]
def k0_off19 (v16 : BitVec 32) (k0_t4 : Fin (k0_t4_loop v16).trips) (k0_t5 : Fin k0_t5_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  let v144 : BitVec 32 := v143
  let c0_i32_96 : BitVec 32 := 0#32
  ![v134.toNat, v144.toNat, 0]
def k0_off20 (k0_t5 : Fin k0_t5_loop.trips) (v132 : BitVec 32) : Fin 3 → Nat :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  let v144 : BitVec 32 := v143
  let c0_i32_97 : BitVec 32 := 0#32
  ![v132.toNat, v144.toNat, 0]

def k0_cond5 (k0_t5 : Fin k0_t5_loop.trips) : BitVec 1 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_93 : BitVec 32 := 7#32
  let v140 : BitVec 1 := Scalar.cmpi .sge v136 c7_i32_93
  let v141 : BitVec 32 := Scalar.extui v140
  let c0_i32_94 : BitVec 32 := 0#32
  let v142 : BitVec 1 := Scalar.cmpi .ne v141 c0_i32_94
  v142

def k0_mult5 (k0_t5 : Fin k0_t5_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  v144
def k0_off21 (v16 : BitVec 32) (k0_t4 : Fin (k0_t4_loop v16).trips) (k0_t5 : Fin k0_t5_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  ![v134.toNat, v143.toNat]
def k0_off22 (v16 : BitVec 32) (k0_t4 : Fin (k0_t4_loop v16).trips) (k0_t5 : Fin k0_t5_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c0_i32_96 : BitVec 32 := 0#32
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  let v145 : BitVec 32 := v144
  ![v134.toNat, 0, v145.toNat]
def k0_off23 (k0_t5 : Fin k0_t5_loop.trips) (v132 : BitVec 32) : Fin 3 → Nat :=
  let c0_i32_97 : BitVec 32 := 0#32
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  let v145 : BitVec 32 := v144
  ![v132.toNat, 0, v145.toNat]

def k0_chk4 (v16 : BitVec 32) (k0_t4 : Fin (k0_t4_loop v16).trips) (k0_t5 : Fin k0_t5_loop.trips) (v132 : BitVec 32) : Prop :=
  (∀ (k0_h3 : k0_cond3 v16 k0_t4 k0_t5 = 1#1), ∀ (k0_h4 : k0_cond4 k0_t5 = 1#1), ∀ a, (k0_off20 k0_t5 v132) a + S1x1024x1536.size a ≤ S32x7168x1536.size a) ∧
  (∀ (k0_h3 : k0_cond3 v16 k0_t4 k0_t5 = 1#1), ∀ (k0_h4 : k0_cond4 k0_t5 = 1#1), ∀ (hinb : ∀ a, (k0_off20 k0_t5 v132) a + S1x1024x1536.size a ≤ S32x7168x1536.size a), (Rect.unit (s := S32x7168x1536) (k0_off20 k0_t5 v132) S1x1024x1536.size hinb).WholeWords (EltTy.packing .fp8e4m3)) ∧
  (∀ (k0_h3 : k0_cond3 v16 k0_t4 k0_t5 = 1#1), ∀ (k0_h5 : k0_cond5 k0_t5 = 1#1), ∀ a, (k0_off23 k0_t5 v132) a + S1x768x1792.size a ≤ S32x768x7168.size a) ∧
  (∀ (k0_h3 : k0_cond3 v16 k0_t4 k0_t5 = 1#1), ∀ (k0_h5 : k0_cond5 k0_t5 = 1#1), ∀ (hinb : ∀ a, (k0_off23 k0_t5 v132) a + S1x768x1792.size a ≤ S32x768x7168.size a), (Rect.unit (s := S32x768x7168) (k0_off23 k0_t5 v132) S1x768x1792.size hinb).WholeWords (EltTy.packing .fp8e4m3))
theorem k0_off20_inb : ∀ (v16 : BitVec 32) (k0_t4 : Fin (k0_t4_loop v16).trips) (k0_t5 : Fin k0_t5_loop.trips) (v132 : BitVec 32) (k0_hw4 : k0_chk4 v16 k0_t4 k0_t5 v132), ∀ (k0_h3 : k0_cond3 v16 k0_t4 k0_t5 = 1#1), ∀ (k0_h4 : k0_cond4 k0_t5 = 1#1), ∀ a, (k0_off20 k0_t5 v132) a + S1x1024x1536.size a ≤ S32x7168x1536.size a := fun v16 k0_t4 k0_t5 v132 k0_hw4 k0_h3 k0_h4 => k0_hw4.1 k0_h3 k0_h4
theorem k0_off20_wordsfp8e4m3 : ∀ (v16 : BitVec 32) (k0_t4 : Fin (k0_t4_loop v16).trips) (k0_t5 : Fin k0_t5_loop.trips) (v132 : BitVec 32) (k0_hw4 : k0_chk4 v16 k0_t4 k0_t5 v132), ∀ (k0_h3 : k0_cond3 v16 k0_t4 k0_t5 = 1#1), ∀ (k0_h4 : k0_cond4 k0_t5 = 1#1), (Rect.unit (s := S32x7168x1536) (k0_off20 k0_t5 v132) S1x1024x1536.size (k0_off20_inb v16 k0_t4 k0_t5 v132 k0_hw4 k0_h3 k0_h4)).WholeWords (EltTy.packing .fp8e4m3) := fun v16 k0_t4 k0_t5 v132 k0_hw4 k0_h3 k0_h4 => k0_hw4.2.1 k0_h3 k0_h4 (k0_off20_inb v16 k0_t4 k0_t5 v132 k0_hw4 k0_h3 k0_h4)
theorem k0_off23_inb : ∀ (v16 : BitVec 32) (k0_t4 : Fin (k0_t4_loop v16).trips) (k0_t5 : Fin k0_t5_loop.trips) (v132 : BitVec 32) (k0_hw4 : k0_chk4 v16 k0_t4 k0_t5 v132), ∀ (k0_h3 : k0_cond3 v16 k0_t4 k0_t5 = 1#1), ∀ (k0_h5 : k0_cond5 k0_t5 = 1#1), ∀ a, (k0_off23 k0_t5 v132) a + S1x768x1792.size a ≤ S32x768x7168.size a := fun v16 k0_t4 k0_t5 v132 k0_hw4 k0_h3 k0_h5 => k0_hw4.2.2.1 k0_h3 k0_h5
theorem k0_off23_wordsfp8e4m3 : ∀ (v16 : BitVec 32) (k0_t4 : Fin (k0_t4_loop v16).trips) (k0_t5 : Fin k0_t5_loop.trips) (v132 : BitVec 32) (k0_hw4 : k0_chk4 v16 k0_t4 k0_t5 v132), ∀ (k0_h3 : k0_cond3 v16 k0_t4 k0_t5 = 1#1), ∀ (k0_h5 : k0_cond5 k0_t5 = 1#1), (Rect.unit (s := S32x768x7168) (k0_off23 k0_t5 v132) S1x768x1792.size (k0_off23_inb v16 k0_t4 k0_t5 v132 k0_hw4 k0_h3 k0_h5)).WholeWords (EltTy.packing .fp8e4m3) := fun v16 k0_t4 k0_t5 v132 k0_hw4 k0_h3 k0_h5 => k0_hw4.2.2.2 k0_h3 k0_h5 (k0_off23_inb v16 k0_t4 k0_t5 v132 k0_hw4 k0_h3 k0_h5)

def k0_mult6 (k0_t5 : Fin k0_t5_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  v110
def k0_off24 (v16 : BitVec 32) (k0_t4 : Fin (k0_t4_loop v16).trips) (k0_t5 : Fin k0_t5_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  ![v61.toNat, v100.toNat]
def k0_off25 (v16 : BitVec 32) (k0_t4 : Fin (k0_t4_loop v16).trips) (k0_t5 : Fin k0_t5_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  let v111 : BitVec 32 := v110
  let c0_i32_80 : BitVec 32 := 0#32
  ![v61.toNat, v111.toNat, 0]
def k0_off26 (v63 : BitVec 32) (k0_t5 : Fin k0_t5_loop.trips) : Fin 3 → Nat :=
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  let v111 : BitVec 32 := v110
  let c0_i32_81 : BitVec 32 := 0#32
  ![v63.toNat, v111.toNat, 0]

def k0_off27 (k0_t5 : Fin k0_t5_loop.trips) : Fin 2 → Nat :=
  let c0_84 : Index := 0#32
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  let v102 : BitVec 32 := v101
  let v119 : Index := Scalar.indexCast v102
  ![0, v119.toNat]
def k0_off28 (v16 : BitVec 32) (k0_t4 : Fin (k0_t4_loop v16).trips) (k0_t5 : Fin k0_t5_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let v121 : Index := Scalar.indexCast v61
  let c0_i32_73 : BitVec 32 := 0#32
  let c0_i32_53 : BitVec 32 := 0#32
  let c1_i32_54 : BitVec 32 := 1#32
  let arg29 : BitVec 32 := Scf.iv c0_i32_53 c1_i32_54 k0_t5
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  let v102 : BitVec 32 := v101
  let v122 : Index := Scalar.indexCast v102
  let c0_85 : Index := 0#32
  ![v121.toNat, v122.toNat, 0]
def k0_off29 (v63 : BitVec 32) : Fin 2 → Nat :=
  let v83 : Index := Scalar.indexCast v63
  let c0_66 : Index := 0#32
  ![v83.toNat, 0]
@[reducible] def k0_t6_loop : Scf.Loop 32 :=
  let c0_i32_68 : BitVec 32 := 0#32
  let c4_i32_69 : BitVec 32 := 4#32
  let v98 : BitVec 32 := Scalar.addi c0_i32_68 c4_i32_69
  let c1_i32_70 : BitVec 32 := 1#32
  ⟨c0_i32_68, v98, c1_i32_70⟩
def k0_mult7 (k0_t6 : Fin k0_t6_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  v101
def k0_off30 (v16 : BitVec 32) (k0_t4 : Fin (k0_t4_loop v16).trips) (k0_t6 : Fin k0_t6_loop.trips) : Fin 1 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v142 : BitVec 32 := Scalar.addi v60 v106
  let v143 : Index := Scalar.indexCast v142
  ![v143.toNat]
def k0_cond6 (v16 : BitVec 32) (k0_t4 : Fin (k0_t4_loop v16).trips) (k0_t6 : Fin k0_t6_loop.trips) : BitVec 1 :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v107 : BitVec 32 := Scalar.addi v60 v106
  let v108 : BitVec 1 := Scalar.cmpi .slt v107 v16
  let v109 : BitVec 32 := Scalar.extui v108
  let c0_i32_79 : BitVec 32 := 0#32
  let v110 : BitVec 1 := Scalar.cmpi .ne v109 c0_i32_79
  v110

def k0_cond7 (k0_t6 : Fin k0_t6_loop.trips) : BitVec 1 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_91 : BitVec 32 := 7#32
  let v149 : BitVec 1 := Scalar.cmpi .slt v148 c7_i32_91
  let v150 : BitVec 32 := Scalar.extui v149
  let c0_i32_92 : BitVec 32 := 0#32
  let v151 : BitVec 1 := Scalar.cmpi .ne v150 c0_i32_92
  v151

def k0_mult8 (k0_t6 : Fin k0_t6_loop.trips) : BitVec 32 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  v155
def k0_off31 (v16 : BitVec 32) (k0_t4 : Fin (k0_t4_loop v16).trips) (k0_t6 : Fin k0_t6_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  ![v146.toNat, v148.toNat]
def k0_off32 (v16 : BitVec 32) (k0_t4 : Fin (k0_t4_loop v16).trips) (k0_t6 : Fin k0_t6_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  let v156 : BitVec 32 := v155
  let c0_i32_95 : BitVec 32 := 0#32
  ![v146.toNat, v156.toNat, 0]
def k0_off33 (k0_t6 : Fin k0_t6_loop.trips) (v144 : BitVec 32) : Fin 3 → Nat :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  let v156 : BitVec 32 := v155
  let c0_i32_96 : BitVec 32 := 0#32
  ![v144.toNat, v156.toNat, 0]

def k0_cond8 (k0_t6 : Fin k0_t6_loop.trips) : BitVec 1 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_93 : BitVec 32 := 7#32
  let v152 : BitVec 1 := Scalar.cmpi .sge v148 c7_i32_93
  let v153 : BitVec 32 := Scalar.extui v152
  let c0_i32_94 : BitVec 32 := 0#32
  let v154 : BitVec 1 := Scalar.cmpi .ne v153 c0_i32_94
  v154

def k0_mult9 (k0_t6 : Fin k0_t6_loop.trips) : BitVec 32 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  v156
def k0_off34 (v16 : BitVec 32) (k0_t4 : Fin (k0_t4_loop v16).trips) (k0_t6 : Fin k0_t6_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  ![v146.toNat, v155.toNat]
def k0_off35 (v16 : BitVec 32) (k0_t4 : Fin (k0_t4_loop v16).trips) (k0_t6 : Fin k0_t6_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c0_i32_97 : BitVec 32 := 0#32
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  let v157 : BitVec 32 := v156
  ![v146.toNat, 0, v157.toNat]
def k0_off36 (k0_t6 : Fin k0_t6_loop.trips) (v144 : BitVec 32) : Fin 3 → Nat :=
  let c0_i32_98 : BitVec 32 := 0#32
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  let v157 : BitVec 32 := v156
  ![v144.toNat, 0, v157.toNat]

def k0_chk6 (v16 : BitVec 32) (k0_t4 : Fin (k0_t4_loop v16).trips) (k0_t6 : Fin k0_t6_loop.trips) (v144 : BitVec 32) : Prop :=
  (∀ (k0_h6 : k0_cond6 v16 k0_t4 k0_t6 = 1#1), ∀ (k0_h7 : k0_cond7 k0_t6 = 1#1), ∀ a, (k0_off33 k0_t6 v144) a + S1x1024x1536.size a ≤ S32x7168x1536.size a) ∧
  (∀ (k0_h6 : k0_cond6 v16 k0_t4 k0_t6 = 1#1), ∀ (k0_h7 : k0_cond7 k0_t6 = 1#1), ∀ (hinb : ∀ a, (k0_off33 k0_t6 v144) a + S1x1024x1536.size a ≤ S32x7168x1536.size a), (Rect.unit (s := S32x7168x1536) (k0_off33 k0_t6 v144) S1x1024x1536.size hinb).WholeWords (EltTy.packing .fp8e4m3)) ∧
  (∀ (k0_h6 : k0_cond6 v16 k0_t4 k0_t6 = 1#1), ∀ (k0_h8 : k0_cond8 k0_t6 = 1#1), ∀ a, (k0_off36 k0_t6 v144) a + S1x768x1792.size a ≤ S32x768x7168.size a) ∧
  (∀ (k0_h6 : k0_cond6 v16 k0_t4 k0_t6 = 1#1), ∀ (k0_h8 : k0_cond8 k0_t6 = 1#1), ∀ (hinb : ∀ a, (k0_off36 k0_t6 v144) a + S1x768x1792.size a ≤ S32x768x7168.size a), (Rect.unit (s := S32x768x7168) (k0_off36 k0_t6 v144) S1x768x1792.size hinb).WholeWords (EltTy.packing .fp8e4m3))
theorem k0_off33_inb : ∀ (v16 : BitVec 32) (k0_t4 : Fin (k0_t4_loop v16).trips) (k0_t6 : Fin k0_t6_loop.trips) (v144 : BitVec 32) (k0_hw6 : k0_chk6 v16 k0_t4 k0_t6 v144), ∀ (k0_h6 : k0_cond6 v16 k0_t4 k0_t6 = 1#1), ∀ (k0_h7 : k0_cond7 k0_t6 = 1#1), ∀ a, (k0_off33 k0_t6 v144) a + S1x1024x1536.size a ≤ S32x7168x1536.size a := fun v16 k0_t4 k0_t6 v144 k0_hw6 k0_h6 k0_h7 => k0_hw6.1 k0_h6 k0_h7
theorem k0_off33_wordsfp8e4m3 : ∀ (v16 : BitVec 32) (k0_t4 : Fin (k0_t4_loop v16).trips) (k0_t6 : Fin k0_t6_loop.trips) (v144 : BitVec 32) (k0_hw6 : k0_chk6 v16 k0_t4 k0_t6 v144), ∀ (k0_h6 : k0_cond6 v16 k0_t4 k0_t6 = 1#1), ∀ (k0_h7 : k0_cond7 k0_t6 = 1#1), (Rect.unit (s := S32x7168x1536) (k0_off33 k0_t6 v144) S1x1024x1536.size (k0_off33_inb v16 k0_t4 k0_t6 v144 k0_hw6 k0_h6 k0_h7)).WholeWords (EltTy.packing .fp8e4m3) := fun v16 k0_t4 k0_t6 v144 k0_hw6 k0_h6 k0_h7 => k0_hw6.2.1 k0_h6 k0_h7 (k0_off33_inb v16 k0_t4 k0_t6 v144 k0_hw6 k0_h6 k0_h7)
theorem k0_off36_inb : ∀ (v16 : BitVec 32) (k0_t4 : Fin (k0_t4_loop v16).trips) (k0_t6 : Fin k0_t6_loop.trips) (v144 : BitVec 32) (k0_hw6 : k0_chk6 v16 k0_t4 k0_t6 v144), ∀ (k0_h6 : k0_cond6 v16 k0_t4 k0_t6 = 1#1), ∀ (k0_h8 : k0_cond8 k0_t6 = 1#1), ∀ a, (k0_off36 k0_t6 v144) a + S1x768x1792.size a ≤ S32x768x7168.size a := fun v16 k0_t4 k0_t6 v144 k0_hw6 k0_h6 k0_h8 => k0_hw6.2.2.1 k0_h6 k0_h8
theorem k0_off36_wordsfp8e4m3 : ∀ (v16 : BitVec 32) (k0_t4 : Fin (k0_t4_loop v16).trips) (k0_t6 : Fin k0_t6_loop.trips) (v144 : BitVec 32) (k0_hw6 : k0_chk6 v16 k0_t4 k0_t6 v144), ∀ (k0_h6 : k0_cond6 v16 k0_t4 k0_t6 = 1#1), ∀ (k0_h8 : k0_cond8 k0_t6 = 1#1), (Rect.unit (s := S32x768x7168) (k0_off36 k0_t6 v144) S1x768x1792.size (k0_off36_inb v16 k0_t4 k0_t6 v144 k0_hw6 k0_h6 k0_h8)).WholeWords (EltTy.packing .fp8e4m3) := fun v16 k0_t4 k0_t6 v144 k0_hw6 k0_h6 k0_h8 => k0_hw6.2.2.2 k0_h6 k0_h8 (k0_off36_inb v16 k0_t4 k0_t6 v144 k0_hw6 k0_h6 k0_h8)

def k0_mult10 (k0_t6 : Fin k0_t6_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  v111
def k0_off37 (v16 : BitVec 32) (k0_t4 : Fin (k0_t4_loop v16).trips) (k0_t6 : Fin k0_t6_loop.trips) : Fin 2 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  ![v61.toNat, v100.toNat]
def k0_off38 (v16 : BitVec 32) (k0_t4 : Fin (k0_t4_loop v16).trips) (k0_t6 : Fin k0_t6_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_81 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  let v112 : BitVec 32 := v111
  ![v61.toNat, 0, v112.toNat]
def k0_off39 (v63 : BitVec 32) (k0_t6 : Fin k0_t6_loop.trips) : Fin 3 → Nat :=
  let c0_i32_82 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  let v112 : BitVec 32 := v111
  ![v63.toNat, 0, v112.toNat]
def k0_off40 (v16 : BitVec 32) (k0_t4 : Fin (k0_t4_loop v16).trips) (k0_t6 : Fin k0_t6_loop.trips) : Fin 3 → Nat :=
  let c0_i32_40 : BitVec 32 := 0#32
  let c0_i32_41 : BitVec 32 := 0#32
  let c1_i32_43 : BitVec 32 := 1#32
  let arg28 : BitVec 32 := Scf.iv c0_i32_41 c1_i32_43 k0_t4
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let v119 : Index := Scalar.indexCast v61
  let c0_83 : Index := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v120 : Index := Scalar.indexCast v102
  ![v119.toNat, 0, v120.toNat]
def k0_off41 (k0_t6 : Fin k0_t6_loop.trips) : Fin 2 → Nat :=
  let c0_85 : Index := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v124 : Index := Scalar.indexCast v102
  ![0, v124.toNat]
def k0_off42 (v63 : BitVec 32) (k0_t6 : Fin k0_t6_loop.trips) : Fin 2 → Nat :=
  let v126 : Index := Scalar.indexCast v63
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v127 : Index := Scalar.indexCast v102
  ![v126.toNat, v127.toNat]

def k0_chk5 (v63 : BitVec 32) : Prop :=
  (∀ k0_t5 : Fin k0_t5_loop.trips, ∀ a, (k0_off26 v63 k0_t5) a + S1x1024x1536.size a ≤ S32x7168x1536.size a) ∧
  (∀ k0_t5 : Fin k0_t5_loop.trips, ∀ (hinb : ∀ a, (k0_off26 v63 k0_t5) a + S1x1024x1536.size a ≤ S32x7168x1536.size a), (Rect.unit (s := S32x7168x1536) (k0_off26 v63 k0_t5) S1x1024x1536.size hinb).WholeWords (EltTy.packing .fp8e4m3)) ∧
  (∀ a, (k0_off29 v63) a + S1x1536.size a ≤ S32x1536.size a) ∧
  (∀ k0_t6 : Fin k0_t6_loop.trips, ∀ a, (k0_off39 v63 k0_t6) a + S1x768x1792.size a ≤ S32x768x7168.size a) ∧
  (∀ k0_t6 : Fin k0_t6_loop.trips, ∀ (hinb : ∀ a, (k0_off39 v63 k0_t6) a + S1x768x1792.size a ≤ S32x768x7168.size a), (Rect.unit (s := S32x768x7168) (k0_off39 v63 k0_t6) S1x768x1792.size hinb).WholeWords (EltTy.packing .fp8e4m3)) ∧
  (∀ k0_t6 : Fin k0_t6_loop.trips, ∀ a, (k0_off42 v63 k0_t6) a + S1x1792.size a ≤ S32x7168.size a)
theorem k0_off26_inb : ∀ (v63 : BitVec 32) (k0_hw5 : k0_chk5 v63) (k0_t5 : Fin k0_t5_loop.trips), ∀ a, (k0_off26 v63 k0_t5) a + S1x1024x1536.size a ≤ S32x7168x1536.size a := fun v63 k0_hw5 k0_t5 => k0_hw5.1 k0_t5
theorem k0_off26_wordsfp8e4m3 : ∀ (v63 : BitVec 32) (k0_hw5 : k0_chk5 v63) (k0_t5 : Fin k0_t5_loop.trips), (Rect.unit (s := S32x7168x1536) (k0_off26 v63 k0_t5) S1x1024x1536.size (k0_off26_inb v63 k0_hw5 k0_t5)).WholeWords (EltTy.packing .fp8e4m3) := fun v63 k0_hw5 k0_t5 => k0_hw5.2.1 k0_t5 (k0_off26_inb v63 k0_hw5 k0_t5)
theorem k0_off29_inb : ∀ (v63 : BitVec 32) (k0_hw5 : k0_chk5 v63), ∀ a, (k0_off29 v63) a + S1x1536.size a ≤ S32x1536.size a := fun v63 k0_hw5 => k0_hw5.2.2.1
theorem k0_off39_inb : ∀ (v63 : BitVec 32) (k0_hw5 : k0_chk5 v63) (k0_t6 : Fin k0_t6_loop.trips), ∀ a, (k0_off39 v63 k0_t6) a + S1x768x1792.size a ≤ S32x768x7168.size a := fun v63 k0_hw5 k0_t6 => k0_hw5.2.2.2.1 k0_t6
theorem k0_off39_wordsfp8e4m3 : ∀ (v63 : BitVec 32) (k0_hw5 : k0_chk5 v63) (k0_t6 : Fin k0_t6_loop.trips), (Rect.unit (s := S32x768x7168) (k0_off39 v63 k0_t6) S1x768x1792.size (k0_off39_inb v63 k0_hw5 k0_t6)).WholeWords (EltTy.packing .fp8e4m3) := fun v63 k0_hw5 k0_t6 => k0_hw5.2.2.2.2.1 k0_t6 (k0_off39_inb v63 k0_hw5 k0_t6)
theorem k0_off42_inb : ∀ (v63 : BitVec 32) (k0_hw5 : k0_chk5 v63) (k0_t6 : Fin k0_t6_loop.trips), ∀ a, (k0_off42 v63 k0_t6) a + S1x1792.size a ≤ S32x7168.size a := fun v63 k0_hw5 k0_t6 => k0_hw5.2.2.2.2.2 k0_t6

def k0_off43 (k0_t6 : Fin k0_t6_loop.trips) : Fin 2 → Nat :=
  let c0_89 : Index := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v142 : Index := Scalar.indexCast v102
  ![0, v142.toNat]
def k0_mult11 (k0_t6 : Fin k0_t6_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32_91 : BitVec 32 := 1792#32
  let v149 : BitVec 32 := Scalar.muli v100 c1792_i32_91
  v149
def k0_off44 (k0_t6 : Fin k0_t6_loop.trips) : Fin 1 → Nat :=
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  ![v100.toNat]
def k0_off45 (k0_t6 : Fin k0_t6_loop.trips) : Fin 2 → Nat :=
  let c0_i32_92 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t6
  let c1_i32_72 : BitVec 32 := 1#32
  let v99 : BitVec 32 := Scalar.muli arg29 c1_i32_72
  let v100 : BitVec 32 := Scalar.addi c0_i32_73 v99
  let c1792_i32_91 : BitVec 32 := 1792#32
  let v149 : BitVec 32 := Scalar.muli v100 c1792_i32_91
  let v150 : BitVec 32 := v149
  ![0, v150.toNat]
@[reducible] def k0_t7_loop (v16 : BitVec 32) : Scf.Loop 32 :=
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let v54 : BitVec 32 := Scalar.addi c0_i32_41 v53
  let c1_i32_44 : BitVec 32 := 1#32
  ⟨v57, v54, c1_i32_44⟩
def k0_off46 (v16 : BitVec 32) (k0_t7 : Fin (k0_t7_loop v16).trips) : Fin 1 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let v62 : Index := Scalar.indexCast v60
  ![v62.toNat]
@[reducible] def k0_t8_loop : Scf.Loop 32 :=
  let c0_i32_53 : BitVec 32 := 0#32
  let c7_i32 : BitVec 32 := 7#32
  let v68 : BitVec 32 := Scalar.addi c0_i32_53 c7_i32
  let c1_i32_54 : BitVec 32 := 1#32
  ⟨c0_i32_53, v68, c1_i32_54⟩
def k0_mult12 (k0_t8 : Fin k0_t8_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  v101
def k0_off47 (v16 : BitVec 32) (k0_t7 : Fin (k0_t7_loop v16).trips) (k0_t8 : Fin k0_t8_loop.trips) : Fin 1 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v130 : BitVec 32 := Scalar.addi v60 v105
  let v131 : Index := Scalar.indexCast v130
  ![v131.toNat]
def k0_cond10 (v16 : BitVec 32) (k0_t7 : Fin (k0_t7_loop v16).trips) (k0_t8 : Fin k0_t8_loop.trips) : BitVec 1 :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v106 : BitVec 32 := Scalar.addi v60 v105
  let v107 : BitVec 1 := Scalar.cmpi .slt v106 v16
  let v108 : BitVec 32 := Scalar.extui v107
  let c0_i32_78 : BitVec 32 := 0#32
  let v109 : BitVec 1 := Scalar.cmpi .ne v108 c0_i32_78
  v109

def k0_cond11 (k0_t8 : Fin k0_t8_loop.trips) : BitVec 1 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_91 : BitVec 32 := 7#32
  let v137 : BitVec 1 := Scalar.cmpi .slt v136 c7_i32_91
  let v138 : BitVec 32 := Scalar.extui v137
  let c0_i32_92 : BitVec 32 := 0#32
  let v139 : BitVec 1 := Scalar.cmpi .ne v138 c0_i32_92
  v139

def k0_mult13 (k0_t8 : Fin k0_t8_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  v143
def k0_off48 (v16 : BitVec 32) (k0_t7 : Fin (k0_t7_loop v16).trips) (k0_t8 : Fin k0_t8_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  ![v134.toNat, v136.toNat]
def k0_off49 (v16 : BitVec 32) (k0_t7 : Fin (k0_t7_loop v16).trips) (k0_t8 : Fin k0_t8_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  let v144 : BitVec 32 := v143
  let c0_i32_96 : BitVec 32 := 0#32
  ![v134.toNat, v144.toNat, 0]
def k0_off50 (k0_t8 : Fin k0_t8_loop.trips) (v132 : BitVec 32) : Fin 3 → Nat :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c1024_i32_95 : BitVec 32 := 1024#32
  let v143 : BitVec 32 := Scalar.muli v136 c1024_i32_95
  let v144 : BitVec 32 := v143
  let c0_i32_97 : BitVec 32 := 0#32
  ![v132.toNat, v144.toNat, 0]

def k0_cond12 (k0_t8 : Fin k0_t8_loop.trips) : BitVec 1 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_93 : BitVec 32 := 7#32
  let v140 : BitVec 1 := Scalar.cmpi .sge v136 c7_i32_93
  let v141 : BitVec 32 := Scalar.extui v140
  let c0_i32_94 : BitVec 32 := 0#32
  let v142 : BitVec 1 := Scalar.cmpi .ne v141 c0_i32_94
  v142

def k0_mult14 (k0_t8 : Fin k0_t8_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  v144
def k0_off51 (v16 : BitVec 32) (k0_t7 : Fin (k0_t7_loop v16).trips) (k0_t8 : Fin k0_t8_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  ![v134.toNat, v143.toNat]
def k0_off52 (v16 : BitVec 32) (k0_t7 : Fin (k0_t7_loop v16).trips) (k0_t8 : Fin k0_t8_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let v133 : BitVec 32 := Scalar.addi v60 v105
  let c2_i32_89 : BitVec 32 := 2#32
  let v134 : BitVec 32 := Scalar.remsi v133 c2_i32_89
  let c0_i32_96 : BitVec 32 := 0#32
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  let v145 : BitVec 32 := v144
  ![v134.toNat, 0, v145.toNat]
def k0_off53 (k0_t8 : Fin k0_t8_loop.trips) (v132 : BitVec 32) : Fin 3 → Nat :=
  let c0_i32_97 : BitVec 32 := 0#32
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c11_i32_74 : BitVec 32 := 11#32
  let v103 : BitVec 32 := Scalar.addi v100 c11_i32_74
  let c11_i32_75 : BitVec 32 := 11#32
  let v104 : BitVec 1 := Scalar.cmpi .sge v103 c11_i32_75
  let c1_i32_76 : BitVec 32 := 1#32
  let c0_i32_77 : BitVec 32 := 0#32
  let v105 : BitVec 32 := Scalar.select v104 c1_i32_76 c0_i32_77
  let c11_i32_90 : BitVec 32 := 11#32
  let v135 : BitVec 32 := Scalar.muli v105 c11_i32_90
  let v136 : BitVec 32 := Scalar.subi v103 v135
  let c7_i32_95 : BitVec 32 := 7#32
  let v143 : BitVec 32 := Scalar.subi v136 c7_i32_95
  let c1792_i32 : BitVec 32 := 1792#32
  let v144 : BitVec 32 := Scalar.muli v143 c1792_i32
  let v145 : BitVec 32 := v144
  ![v132.toNat, 0, v145.toNat]

def k0_chk7 (v16 : BitVec 32) (k0_t7 : Fin (k0_t7_loop v16).trips) (k0_t8 : Fin k0_t8_loop.trips) (v132 : BitVec 32) : Prop :=
  (∀ (k0_h10 : k0_cond10 v16 k0_t7 k0_t8 = 1#1), ∀ (k0_h11 : k0_cond11 k0_t8 = 1#1), ∀ a, (k0_off50 k0_t8 v132) a + S1x1024x1536.size a ≤ S32x7168x1536.size a) ∧
  (∀ (k0_h10 : k0_cond10 v16 k0_t7 k0_t8 = 1#1), ∀ (k0_h11 : k0_cond11 k0_t8 = 1#1), ∀ (hinb : ∀ a, (k0_off50 k0_t8 v132) a + S1x1024x1536.size a ≤ S32x7168x1536.size a), (Rect.unit (s := S32x7168x1536) (k0_off50 k0_t8 v132) S1x1024x1536.size hinb).WholeWords (EltTy.packing .fp8e4m3)) ∧
  (∀ (k0_h10 : k0_cond10 v16 k0_t7 k0_t8 = 1#1), ∀ (k0_h12 : k0_cond12 k0_t8 = 1#1), ∀ a, (k0_off53 k0_t8 v132) a + S1x768x1792.size a ≤ S32x768x7168.size a) ∧
  (∀ (k0_h10 : k0_cond10 v16 k0_t7 k0_t8 = 1#1), ∀ (k0_h12 : k0_cond12 k0_t8 = 1#1), ∀ (hinb : ∀ a, (k0_off53 k0_t8 v132) a + S1x768x1792.size a ≤ S32x768x7168.size a), (Rect.unit (s := S32x768x7168) (k0_off53 k0_t8 v132) S1x768x1792.size hinb).WholeWords (EltTy.packing .fp8e4m3))
theorem k0_off50_inb : ∀ (v16 : BitVec 32) (k0_t7 : Fin (k0_t7_loop v16).trips) (k0_t8 : Fin k0_t8_loop.trips) (v132 : BitVec 32) (k0_hw7 : k0_chk7 v16 k0_t7 k0_t8 v132), ∀ (k0_h10 : k0_cond10 v16 k0_t7 k0_t8 = 1#1), ∀ (k0_h11 : k0_cond11 k0_t8 = 1#1), ∀ a, (k0_off50 k0_t8 v132) a + S1x1024x1536.size a ≤ S32x7168x1536.size a := fun v16 k0_t7 k0_t8 v132 k0_hw7 k0_h10 k0_h11 => k0_hw7.1 k0_h10 k0_h11
theorem k0_off50_wordsfp8e4m3 : ∀ (v16 : BitVec 32) (k0_t7 : Fin (k0_t7_loop v16).trips) (k0_t8 : Fin k0_t8_loop.trips) (v132 : BitVec 32) (k0_hw7 : k0_chk7 v16 k0_t7 k0_t8 v132), ∀ (k0_h10 : k0_cond10 v16 k0_t7 k0_t8 = 1#1), ∀ (k0_h11 : k0_cond11 k0_t8 = 1#1), (Rect.unit (s := S32x7168x1536) (k0_off50 k0_t8 v132) S1x1024x1536.size (k0_off50_inb v16 k0_t7 k0_t8 v132 k0_hw7 k0_h10 k0_h11)).WholeWords (EltTy.packing .fp8e4m3) := fun v16 k0_t7 k0_t8 v132 k0_hw7 k0_h10 k0_h11 => k0_hw7.2.1 k0_h10 k0_h11 (k0_off50_inb v16 k0_t7 k0_t8 v132 k0_hw7 k0_h10 k0_h11)
theorem k0_off53_inb : ∀ (v16 : BitVec 32) (k0_t7 : Fin (k0_t7_loop v16).trips) (k0_t8 : Fin k0_t8_loop.trips) (v132 : BitVec 32) (k0_hw7 : k0_chk7 v16 k0_t7 k0_t8 v132), ∀ (k0_h10 : k0_cond10 v16 k0_t7 k0_t8 = 1#1), ∀ (k0_h12 : k0_cond12 k0_t8 = 1#1), ∀ a, (k0_off53 k0_t8 v132) a + S1x768x1792.size a ≤ S32x768x7168.size a := fun v16 k0_t7 k0_t8 v132 k0_hw7 k0_h10 k0_h12 => k0_hw7.2.2.1 k0_h10 k0_h12
theorem k0_off53_wordsfp8e4m3 : ∀ (v16 : BitVec 32) (k0_t7 : Fin (k0_t7_loop v16).trips) (k0_t8 : Fin k0_t8_loop.trips) (v132 : BitVec 32) (k0_hw7 : k0_chk7 v16 k0_t7 k0_t8 v132), ∀ (k0_h10 : k0_cond10 v16 k0_t7 k0_t8 = 1#1), ∀ (k0_h12 : k0_cond12 k0_t8 = 1#1), (Rect.unit (s := S32x768x7168) (k0_off53 k0_t8 v132) S1x768x1792.size (k0_off53_inb v16 k0_t7 k0_t8 v132 k0_hw7 k0_h10 k0_h12)).WholeWords (EltTy.packing .fp8e4m3) := fun v16 k0_t7 k0_t8 v132 k0_hw7 k0_h10 k0_h12 => k0_hw7.2.2.2 k0_h10 k0_h12 (k0_off53_inb v16 k0_t7 k0_t8 v132 k0_hw7 k0_h10 k0_h12)

def k0_mult15 (k0_t8 : Fin k0_t8_loop.trips) : BitVec 32 :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  v110
def k0_off54 (v16 : BitVec 32) (k0_t7 : Fin (k0_t7_loop v16).trips) (k0_t8 : Fin k0_t8_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  ![v61.toNat, v100.toNat]
def k0_off55 (v16 : BitVec 32) (k0_t7 : Fin (k0_t7_loop v16).trips) (k0_t8 : Fin k0_t8_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  let v111 : BitVec 32 := v110
  let c0_i32_80 : BitVec 32 := 0#32
  ![v61.toNat, v111.toNat, 0]
def k0_off56 (v63 : BitVec 32) (k0_t8 : Fin k0_t8_loop.trips) : Fin 3 → Nat :=
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32_79 : BitVec 32 := 1024#32
  let v110 : BitVec 32 := Scalar.muli v100 c1024_i32_79
  let v111 : BitVec 32 := v110
  let c0_i32_81 : BitVec 32 := 0#32
  ![v63.toNat, v111.toNat, 0]

def k0_off57 (k0_t8 : Fin k0_t8_loop.trips) : Fin 2 → Nat :=
  let c0_84 : Index := 0#32
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  let v102 : BitVec 32 := v101
  let v119 : Index := Scalar.indexCast v102
  ![0, v119.toNat]
def k0_off58 (v16 : BitVec 32) (k0_t7 : Fin (k0_t7_loop v16).trips) (k0_t8 : Fin k0_t8_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let v121 : Index := Scalar.indexCast v61
  let c0_i32_73 : BitVec 32 := 0#32
  let c0_i32_53 : BitVec 32 := 0#32
  let c1_i32_54 : BitVec 32 := 1#32
  let arg29 : BitVec 32 := Scf.iv c0_i32_53 c1_i32_54 k0_t8
  let c1_i32_72 : BitVec 32 := 1#32
  let v99 : BitVec 32 := Scalar.muli arg29 c1_i32_72
  let v100 : BitVec 32 := Scalar.addi c0_i32_73 v99
  let c1024_i32 : BitVec 32 := 1024#32
  let v101 : BitVec 32 := Scalar.muli v100 c1024_i32
  let v102 : BitVec 32 := v101
  let v122 : Index := Scalar.indexCast v102
  let c0_85 : Index := 0#32
  ![v121.toNat, v122.toNat, 0]
def k0_off59 (v63 : BitVec 32) : Fin 2 → Nat :=
  let v83 : Index := Scalar.indexCast v63
  let c0_66 : Index := 0#32
  ![v83.toNat, 0]
@[reducible] def k0_t9_loop : Scf.Loop 32 :=
  let c0_i32_68 : BitVec 32 := 0#32
  let c4_i32_69 : BitVec 32 := 4#32
  let v98 : BitVec 32 := Scalar.addi c0_i32_68 c4_i32_69
  let c1_i32_70 : BitVec 32 := 1#32
  ⟨c0_i32_68, v98, c1_i32_70⟩
def k0_mult16 (k0_t9 : Fin k0_t9_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  v101
def k0_off60 (v16 : BitVec 32) (k0_t7 : Fin (k0_t7_loop v16).trips) (k0_t9 : Fin k0_t9_loop.trips) : Fin 1 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v142 : BitVec 32 := Scalar.addi v60 v106
  let v143 : Index := Scalar.indexCast v142
  ![v143.toNat]
def k0_cond13 (v16 : BitVec 32) (k0_t7 : Fin (k0_t7_loop v16).trips) (k0_t9 : Fin k0_t9_loop.trips) : BitVec 1 :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v107 : BitVec 32 := Scalar.addi v60 v106
  let v108 : BitVec 1 := Scalar.cmpi .slt v107 v16
  let v109 : BitVec 32 := Scalar.extui v108
  let c0_i32_79 : BitVec 32 := 0#32
  let v110 : BitVec 1 := Scalar.cmpi .ne v109 c0_i32_79
  v110

def k0_cond14 (k0_t9 : Fin k0_t9_loop.trips) : BitVec 1 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_91 : BitVec 32 := 7#32
  let v149 : BitVec 1 := Scalar.cmpi .slt v148 c7_i32_91
  let v150 : BitVec 32 := Scalar.extui v149
  let c0_i32_92 : BitVec 32 := 0#32
  let v151 : BitVec 1 := Scalar.cmpi .ne v150 c0_i32_92
  v151

def k0_mult17 (k0_t9 : Fin k0_t9_loop.trips) : BitVec 32 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  v155
def k0_off61 (v16 : BitVec 32) (k0_t7 : Fin (k0_t7_loop v16).trips) (k0_t9 : Fin k0_t9_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  ![v146.toNat, v148.toNat]
def k0_off62 (v16 : BitVec 32) (k0_t7 : Fin (k0_t7_loop v16).trips) (k0_t9 : Fin k0_t9_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  let v156 : BitVec 32 := v155
  let c0_i32_95 : BitVec 32 := 0#32
  ![v146.toNat, v156.toNat, 0]
def k0_off63 (k0_t9 : Fin k0_t9_loop.trips) (v144 : BitVec 32) : Fin 3 → Nat :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c1024_i32 : BitVec 32 := 1024#32
  let v155 : BitVec 32 := Scalar.muli v148 c1024_i32
  let v156 : BitVec 32 := v155
  let c0_i32_96 : BitVec 32 := 0#32
  ![v144.toNat, v156.toNat, 0]

def k0_cond15 (k0_t9 : Fin k0_t9_loop.trips) : BitVec 1 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_93 : BitVec 32 := 7#32
  let v152 : BitVec 1 := Scalar.cmpi .sge v148 c7_i32_93
  let v153 : BitVec 32 := Scalar.extui v152
  let c0_i32_94 : BitVec 32 := 0#32
  let v154 : BitVec 1 := Scalar.cmpi .ne v153 c0_i32_94
  v154

def k0_mult18 (k0_t9 : Fin k0_t9_loop.trips) : BitVec 32 :=
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  v156
def k0_off64 (v16 : BitVec 32) (k0_t7 : Fin (k0_t7_loop v16).trips) (k0_t9 : Fin k0_t9_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  ![v146.toNat, v155.toNat]
def k0_off65 (v16 : BitVec 32) (k0_t7 : Fin (k0_t7_loop v16).trips) (k0_t9 : Fin k0_t9_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let v145 : BitVec 32 := Scalar.addi v60 v106
  let c2_i32_89 : BitVec 32 := 2#32
  let v146 : BitVec 32 := Scalar.remsi v145 c2_i32_89
  let c0_i32_97 : BitVec 32 := 0#32
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  let v157 : BitVec 32 := v156
  ![v146.toNat, 0, v157.toNat]
def k0_off66 (k0_t9 : Fin k0_t9_loop.trips) (v144 : BitVec 32) : Fin 3 → Nat :=
  let c0_i32_98 : BitVec 32 := 0#32
  let c7_i32_74 : BitVec 32 := 7#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let v103 : BitVec 32 := Scalar.addi c7_i32_74 v100
  let c11_i32_75 : BitVec 32 := 11#32
  let v104 : BitVec 32 := Scalar.addi v103 c11_i32_75
  let c11_i32_76 : BitVec 32 := 11#32
  let v105 : BitVec 1 := Scalar.cmpi .sge v104 c11_i32_76
  let c1_i32_77 : BitVec 32 := 1#32
  let c0_i32_78 : BitVec 32 := 0#32
  let v106 : BitVec 32 := Scalar.select v105 c1_i32_77 c0_i32_78
  let c11_i32_90 : BitVec 32 := 11#32
  let v147 : BitVec 32 := Scalar.muli v106 c11_i32_90
  let v148 : BitVec 32 := Scalar.subi v104 v147
  let c7_i32_95 : BitVec 32 := 7#32
  let v155 : BitVec 32 := Scalar.subi v148 c7_i32_95
  let c1792_i32_96 : BitVec 32 := 1792#32
  let v156 : BitVec 32 := Scalar.muli v155 c1792_i32_96
  let v157 : BitVec 32 := v156
  ![v144.toNat, 0, v157.toNat]

def k0_chk9 (v16 : BitVec 32) (k0_t7 : Fin (k0_t7_loop v16).trips) (k0_t9 : Fin k0_t9_loop.trips) (v144 : BitVec 32) : Prop :=
  (∀ (k0_h13 : k0_cond13 v16 k0_t7 k0_t9 = 1#1), ∀ (k0_h14 : k0_cond14 k0_t9 = 1#1), ∀ a, (k0_off63 k0_t9 v144) a + S1x1024x1536.size a ≤ S32x7168x1536.size a) ∧
  (∀ (k0_h13 : k0_cond13 v16 k0_t7 k0_t9 = 1#1), ∀ (k0_h14 : k0_cond14 k0_t9 = 1#1), ∀ (hinb : ∀ a, (k0_off63 k0_t9 v144) a + S1x1024x1536.size a ≤ S32x7168x1536.size a), (Rect.unit (s := S32x7168x1536) (k0_off63 k0_t9 v144) S1x1024x1536.size hinb).WholeWords (EltTy.packing .fp8e4m3)) ∧
  (∀ (k0_h13 : k0_cond13 v16 k0_t7 k0_t9 = 1#1), ∀ (k0_h15 : k0_cond15 k0_t9 = 1#1), ∀ a, (k0_off66 k0_t9 v144) a + S1x768x1792.size a ≤ S32x768x7168.size a) ∧
  (∀ (k0_h13 : k0_cond13 v16 k0_t7 k0_t9 = 1#1), ∀ (k0_h15 : k0_cond15 k0_t9 = 1#1), ∀ (hinb : ∀ a, (k0_off66 k0_t9 v144) a + S1x768x1792.size a ≤ S32x768x7168.size a), (Rect.unit (s := S32x768x7168) (k0_off66 k0_t9 v144) S1x768x1792.size hinb).WholeWords (EltTy.packing .fp8e4m3))
theorem k0_off63_inb : ∀ (v16 : BitVec 32) (k0_t7 : Fin (k0_t7_loop v16).trips) (k0_t9 : Fin k0_t9_loop.trips) (v144 : BitVec 32) (k0_hw9 : k0_chk9 v16 k0_t7 k0_t9 v144), ∀ (k0_h13 : k0_cond13 v16 k0_t7 k0_t9 = 1#1), ∀ (k0_h14 : k0_cond14 k0_t9 = 1#1), ∀ a, (k0_off63 k0_t9 v144) a + S1x1024x1536.size a ≤ S32x7168x1536.size a := fun v16 k0_t7 k0_t9 v144 k0_hw9 k0_h13 k0_h14 => k0_hw9.1 k0_h13 k0_h14
theorem k0_off63_wordsfp8e4m3 : ∀ (v16 : BitVec 32) (k0_t7 : Fin (k0_t7_loop v16).trips) (k0_t9 : Fin k0_t9_loop.trips) (v144 : BitVec 32) (k0_hw9 : k0_chk9 v16 k0_t7 k0_t9 v144), ∀ (k0_h13 : k0_cond13 v16 k0_t7 k0_t9 = 1#1), ∀ (k0_h14 : k0_cond14 k0_t9 = 1#1), (Rect.unit (s := S32x7168x1536) (k0_off63 k0_t9 v144) S1x1024x1536.size (k0_off63_inb v16 k0_t7 k0_t9 v144 k0_hw9 k0_h13 k0_h14)).WholeWords (EltTy.packing .fp8e4m3) := fun v16 k0_t7 k0_t9 v144 k0_hw9 k0_h13 k0_h14 => k0_hw9.2.1 k0_h13 k0_h14 (k0_off63_inb v16 k0_t7 k0_t9 v144 k0_hw9 k0_h13 k0_h14)
theorem k0_off66_inb : ∀ (v16 : BitVec 32) (k0_t7 : Fin (k0_t7_loop v16).trips) (k0_t9 : Fin k0_t9_loop.trips) (v144 : BitVec 32) (k0_hw9 : k0_chk9 v16 k0_t7 k0_t9 v144), ∀ (k0_h13 : k0_cond13 v16 k0_t7 k0_t9 = 1#1), ∀ (k0_h15 : k0_cond15 k0_t9 = 1#1), ∀ a, (k0_off66 k0_t9 v144) a + S1x768x1792.size a ≤ S32x768x7168.size a := fun v16 k0_t7 k0_t9 v144 k0_hw9 k0_h13 k0_h15 => k0_hw9.2.2.1 k0_h13 k0_h15
theorem k0_off66_wordsfp8e4m3 : ∀ (v16 : BitVec 32) (k0_t7 : Fin (k0_t7_loop v16).trips) (k0_t9 : Fin k0_t9_loop.trips) (v144 : BitVec 32) (k0_hw9 : k0_chk9 v16 k0_t7 k0_t9 v144), ∀ (k0_h13 : k0_cond13 v16 k0_t7 k0_t9 = 1#1), ∀ (k0_h15 : k0_cond15 k0_t9 = 1#1), (Rect.unit (s := S32x768x7168) (k0_off66 k0_t9 v144) S1x768x1792.size (k0_off66_inb v16 k0_t7 k0_t9 v144 k0_hw9 k0_h13 k0_h15)).WholeWords (EltTy.packing .fp8e4m3) := fun v16 k0_t7 k0_t9 v144 k0_hw9 k0_h13 k0_h15 => k0_hw9.2.2.2 k0_h13 k0_h15 (k0_off66_inb v16 k0_t7 k0_t9 v144 k0_hw9 k0_h13 k0_h15)

def k0_mult19 (k0_t9 : Fin k0_t9_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  v111
def k0_off67 (v16 : BitVec 32) (k0_t7 : Fin (k0_t7_loop v16).trips) (k0_t9 : Fin k0_t9_loop.trips) : Fin 2 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  ![v61.toNat, v100.toNat]
def k0_off68 (v16 : BitVec 32) (k0_t7 : Fin (k0_t7_loop v16).trips) (k0_t9 : Fin k0_t9_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let c0_i32_81 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  let v112 : BitVec 32 := v111
  ![v61.toNat, 0, v112.toNat]
def k0_off69 (v63 : BitVec 32) (k0_t9 : Fin k0_t9_loop.trips) : Fin 3 → Nat :=
  let c0_i32_82 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32_80 : BitVec 32 := 1792#32
  let v111 : BitVec 32 := Scalar.muli v100 c1792_i32_80
  let v112 : BitVec 32 := v111
  ![v63.toNat, 0, v112.toNat]
def k0_off70 (v16 : BitVec 32) (k0_t7 : Fin (k0_t7_loop v16).trips) (k0_t9 : Fin k0_t9_loop.trips) : Fin 3 → Nat :=
  let c0_i32_40 : BitVec 32 := 0#32
  let c0_i32_41 : BitVec 32 := 0#32
  let c0_i32_35 : BitVec 32 := 0#32
  let v49 : BitVec 32 := Scalar.subi v16 c0_i32_35
  let c1_i32_36 : BitVec 32 := 1#32
  let c1_i32_37 : BitVec 32 := 1#32
  let v50 : BitVec 32 := Scalar.subi c1_i32_36 c1_i32_37
  let v51 : BitVec 32 := Scalar.addi v49 v50
  let c1_i32_38 : BitVec 32 := 1#32
  let v52 : BitVec 32 := Scalar.divsi v51 c1_i32_38
  let v53 : BitVec 32 := Scalar.subi v52 c0_i32_41
  let c1_i32_42 : BitVec 32 := 1#32
  let v55 : BitVec 32 := Scalar.divsi v53 c1_i32_42
  let v56 : BitVec 32 := Scalar.muli v55 c1_i32_42
  let v57 : BitVec 32 := Scalar.addi c0_i32_41 v56
  let c1_i32_44 : BitVec 32 := 1#32
  let arg28 : BitVec 32 := Scf.iv v57 c1_i32_44 k0_t7
  let c1_i32_39 : BitVec 32 := 1#32
  let v59 : BitVec 32 := Scalar.muli arg28 c1_i32_39
  let v60 : BitVec 32 := Scalar.addi c0_i32_40 v59
  let c2_i32_49 : BitVec 32 := 2#32
  let v61 : BitVec 32 := Scalar.remsi v60 c2_i32_49
  let v119 : Index := Scalar.indexCast v61
  let c0_83 : Index := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v120 : Index := Scalar.indexCast v102
  ![v119.toNat, 0, v120.toNat]

def k0_chk3_0 (v16 : BitVec 32) : Prop :=
  ((k0_t4_loop v16).OK) ∧
  (∀ k0_t4 : Fin (k0_t4_loop v16).trips, ∀ a, (k0_off16 v16 k0_t4) a + S1.size a ≤ S33.size a) ∧
  (∀ (k0_t4 : Fin (k0_t4_loop v16).trips) (k0_t5 : Fin k0_t5_loop.trips), ∀ (k0_h3 : k0_cond3 v16 k0_t4 k0_t5 = 1#1), ∀ a, (k0_off17 v16 k0_t4 k0_t5) a + S1.size a ≤ S33.size a) ∧
  (∀ (k0_t4 : Fin (k0_t4_loop v16).trips) (k0_t5 : Fin k0_t5_loop.trips), ∀ (k0_h3 : k0_cond3 v16 k0_t4 k0_t5 = 1#1), ∀ (k0_h4 : k0_cond4 k0_t5 = 1#1), ∀ a, (k0_off18 v16 k0_t4 k0_t5) a + S1x1.size a ≤ S2x7.size a) ∧
  (∀ (k0_t4 : Fin (k0_t4_loop v16).trips) (k0_t5 : Fin k0_t5_loop.trips), ∀ (k0_h3 : k0_cond3 v16 k0_t4 k0_t5 = 1#1), ∀ (k0_h4 : k0_cond4 k0_t5 = 1#1), ∀ a, (k0_off19 v16 k0_t4 k0_t5) a + S1x1024x1536.size a ≤ S2x7168x1536.size a) ∧
  (∀ (k0_t4 : Fin (k0_t4_loop v16).trips) (k0_t5 : Fin k0_t5_loop.trips), ∀ (k0_h3 : k0_cond3 v16 k0_t4 k0_t5 = 1#1), ∀ (k0_h4 : k0_cond4 k0_t5 = 1#1), ∀ (hinb : ∀ a, (k0_off19 v16 k0_t4 k0_t5) a + S1x1024x1536.size a ≤ S2x7168x1536.size a), (Rect.unit (s := S2x7168x1536) (k0_off19 v16 k0_t4 k0_t5) S1x1024x1536.size hinb).WholeWords (EltTy.packing .fp8e4m3)) ∧
  (∀ (k0_t4 : Fin (k0_t4_loop v16).trips) (k0_t5 : Fin k0_t5_loop.trips), ∀ (k0_h3 : k0_cond3 v16 k0_t4 k0_t5 = 1#1), ∀ (k0_h5 : k0_cond5 k0_t5 = 1#1), ∀ a, (k0_off21 v16 k0_t4 k0_t5) a + S1x1.size a ≤ S2x4.size a) ∧
  (∀ (k0_t4 : Fin (k0_t4_loop v16).trips) (k0_t5 : Fin k0_t5_loop.trips), ∀ (k0_h3 : k0_cond3 v16 k0_t4 k0_t5 = 1#1), ∀ (k0_h5 : k0_cond5 k0_t5 = 1#1), ∀ a, (k0_off22 v16 k0_t4 k0_t5) a + S1x768x1792.size a ≤ S2x768x7168.size a) ∧
  (∀ (k0_t4 : Fin (k0_t4_loop v16).trips) (k0_t5 : Fin k0_t5_loop.trips), ∀ (k0_h3 : k0_cond3 v16 k0_t4 k0_t5 = 1#1), ∀ (k0_h5 : k0_cond5 k0_t5 = 1#1), ∀ (hinb : ∀ a, (k0_off22 v16 k0_t4 k0_t5) a + S1x768x1792.size a ≤ S2x768x7168.size a), (Rect.unit (s := S2x768x7168) (k0_off22 v16 k0_t4 k0_t5) S1x768x1792.size hinb).WholeWords (EltTy.packing .fp8e4m3)) ∧
  (∀ (k0_t4 : Fin (k0_t4_loop v16).trips) (k0_t5 : Fin k0_t5_loop.trips), ∀ a, (k0_off24 v16 k0_t4 k0_t5) a + S1x1.size a ≤ S2x7.size a) ∧
  (∀ (k0_t4 : Fin (k0_t4_loop v16).trips) (k0_t5 : Fin k0_t5_loop.trips), ∀ a, (k0_off25 v16 k0_t4 k0_t5) a + S1x1024x1536.size a ≤ S2x7168x1536.size a) ∧
  (∀ (k0_t4 : Fin (k0_t4_loop v16).trips) (k0_t5 : Fin k0_t5_loop.trips), ∀ (hinb : ∀ a, (k0_off25 v16 k0_t4 k0_t5) a + S1x1024x1536.size a ≤ S2x7168x1536.size a), (Rect.unit (s := S2x7168x1536) (k0_off25 v16 k0_t4 k0_t5) S1x1024x1536.size hinb).WholeWords (EltTy.packing .fp8e4m3)) ∧
  (∀ (k0_t4 : Fin (k0_t4_loop v16).trips) (k0_t5 : Fin k0_t5_loop.trips), ∀ a, (k0_off28 v16 k0_t4 k0_t5) a + S1x1024x1536.size a ≤ S2x7168x1536.size a) ∧
  (∀ (k0_t4 : Fin (k0_t4_loop v16).trips) (k0_t6 : Fin k0_t6_loop.trips), ∀ (k0_h6 : k0_cond6 v16 k0_t4 k0_t6 = 1#1), ∀ a, (k0_off30 v16 k0_t4 k0_t6) a + S1.size a ≤ S33.size a) ∧
  (∀ (k0_t4 : Fin (k0_t4_loop v16).trips) (k0_t6 : Fin k0_t6_loop.trips), ∀ (k0_h6 : k0_cond6 v16 k0_t4 k0_t6 = 1#1), ∀ (k0_h7 : k0_cond7 k0_t6 = 1#1), ∀ a, (k0_off31 v16 k0_t4 k0_t6) a + S1x1.size a ≤ S2x7.size a) ∧
  (∀ (k0_t4 : Fin (k0_t4_loop v16).trips) (k0_t6 : Fin k0_t6_loop.trips), ∀ (k0_h6 : k0_cond6 v16 k0_t4 k0_t6 = 1#1), ∀ (k0_h7 : k0_cond7 k0_t6 = 1#1), ∀ a, (k0_off32 v16 k0_t4 k0_t6) a + S1x1024x1536.size a ≤ S2x7168x1536.size a) ∧
  (∀ (k0_t4 : Fin (k0_t4_loop v16).trips) (k0_t6 : Fin k0_t6_loop.trips), ∀ (k0_h6 : k0_cond6 v16 k0_t4 k0_t6 = 1#1), ∀ (k0_h7 : k0_cond7 k0_t6 = 1#1), ∀ (hinb : ∀ a, (k0_off32 v16 k0_t4 k0_t6) a + S1x1024x1536.size a ≤ S2x7168x1536.size a), (Rect.unit (s := S2x7168x1536) (k0_off32 v16 k0_t4 k0_t6) S1x1024x1536.size hinb).WholeWords (EltTy.packing .fp8e4m3)) ∧
  (∀ (k0_t4 : Fin (k0_t4_loop v16).trips) (k0_t6 : Fin k0_t6_loop.trips), ∀ (k0_h6 : k0_cond6 v16 k0_t4 k0_t6 = 1#1), ∀ (k0_h8 : k0_cond8 k0_t6 = 1#1), ∀ a, (k0_off34 v16 k0_t4 k0_t6) a + S1x1.size a ≤ S2x4.size a) ∧
  (∀ (k0_t4 : Fin (k0_t4_loop v16).trips) (k0_t6 : Fin k0_t6_loop.trips), ∀ (k0_h6 : k0_cond6 v16 k0_t4 k0_t6 = 1#1), ∀ (k0_h8 : k0_cond8 k0_t6 = 1#1), ∀ a, (k0_off35 v16 k0_t4 k0_t6) a + S1x768x1792.size a ≤ S2x768x7168.size a) ∧
  (∀ (k0_t4 : Fin (k0_t4_loop v16).trips) (k0_t6 : Fin k0_t6_loop.trips), ∀ (k0_h6 : k0_cond6 v16 k0_t4 k0_t6 = 1#1), ∀ (k0_h8 : k0_cond8 k0_t6 = 1#1), ∀ (hinb : ∀ a, (k0_off35 v16 k0_t4 k0_t6) a + S1x768x1792.size a ≤ S2x768x7168.size a), (Rect.unit (s := S2x768x7168) (k0_off35 v16 k0_t4 k0_t6) S1x768x1792.size hinb).WholeWords (EltTy.packing .fp8e4m3)) ∧
  (∀ (k0_t4 : Fin (k0_t4_loop v16).trips) (k0_t6 : Fin k0_t6_loop.trips), ∀ a, (k0_off37 v16 k0_t4 k0_t6) a + S1x1.size a ≤ S2x4.size a) ∧
  (∀ (k0_t4 : Fin (k0_t4_loop v16).trips) (k0_t6 : Fin k0_t6_loop.trips), ∀ a, (k0_off38 v16 k0_t4 k0_t6) a + S1x768x1792.size a ≤ S2x768x7168.size a) ∧
  (∀ (k0_t4 : Fin (k0_t4_loop v16).trips) (k0_t6 : Fin k0_t6_loop.trips), ∀ (hinb : ∀ a, (k0_off38 v16 k0_t4 k0_t6) a + S1x768x1792.size a ≤ S2x768x7168.size a), (Rect.unit (s := S2x768x7168) (k0_off38 v16 k0_t4 k0_t6) S1x768x1792.size hinb).WholeWords (EltTy.packing .fp8e4m3)) ∧
  (∀ (k0_t4 : Fin (k0_t4_loop v16).trips) (k0_t6 : Fin k0_t6_loop.trips), ∀ a, (k0_off40 v16 k0_t4 k0_t6) a + S1x768x1792.size a ≤ S2x768x7168.size a) ∧
  ((k0_t7_loop v16).OK) ∧
  (∀ k0_t7 : Fin (k0_t7_loop v16).trips, ∀ a, (k0_off46 v16 k0_t7) a + S1.size a ≤ S33.size a) ∧
  (∀ (k0_t7 : Fin (k0_t7_loop v16).trips) (k0_t8 : Fin k0_t8_loop.trips), ∀ (k0_h10 : k0_cond10 v16 k0_t7 k0_t8 = 1#1), ∀ a, (k0_off47 v16 k0_t7 k0_t8) a + S1.size a ≤ S33.size a) ∧
  (∀ (k0_t7 : Fin (k0_t7_loop v16).trips) (k0_t8 : Fin k0_t8_loop.trips), ∀ (k0_h10 : k0_cond10 v16 k0_t7 k0_t8 = 1#1), ∀ (k0_h11 : k0_cond11 k0_t8 = 1#1), ∀ a, (k0_off48 v16 k0_t7 k0_t8) a + S1x1.size a ≤ S2x7.size a) ∧
  (∀ (k0_t7 : Fin (k0_t7_loop v16).trips) (k0_t8 : Fin k0_t8_loop.trips), ∀ (k0_h10 : k0_cond10 v16 k0_t7 k0_t8 = 1#1), ∀ (k0_h11 : k0_cond11 k0_t8 = 1#1), ∀ a, (k0_off49 v16 k0_t7 k0_t8) a + S1x1024x1536.size a ≤ S2x7168x1536.size a) ∧
  (∀ (k0_t7 : Fin (k0_t7_loop v16).trips) (k0_t8 : Fin k0_t8_loop.trips), ∀ (k0_h10 : k0_cond10 v16 k0_t7 k0_t8 = 1#1), ∀ (k0_h11 : k0_cond11 k0_t8 = 1#1), ∀ (hinb : ∀ a, (k0_off49 v16 k0_t7 k0_t8) a + S1x1024x1536.size a ≤ S2x7168x1536.size a), (Rect.unit (s := S2x7168x1536) (k0_off49 v16 k0_t7 k0_t8) S1x1024x1536.size hinb).WholeWords (EltTy.packing .fp8e4m3)) ∧
  (∀ (k0_t7 : Fin (k0_t7_loop v16).trips) (k0_t8 : Fin k0_t8_loop.trips), ∀ (k0_h10 : k0_cond10 v16 k0_t7 k0_t8 = 1#1), ∀ (k0_h12 : k0_cond12 k0_t8 = 1#1), ∀ a, (k0_off51 v16 k0_t7 k0_t8) a + S1x1.size a ≤ S2x4.size a) ∧
  (∀ (k0_t7 : Fin (k0_t7_loop v16).trips) (k0_t8 : Fin k0_t8_loop.trips), ∀ (k0_h10 : k0_cond10 v16 k0_t7 k0_t8 = 1#1), ∀ (k0_h12 : k0_cond12 k0_t8 = 1#1), ∀ a, (k0_off52 v16 k0_t7 k0_t8) a + S1x768x1792.size a ≤ S2x768x7168.size a)
def k0_chk3_1 (v16 : BitVec 32) : Prop :=
  (∀ (k0_t7 : Fin (k0_t7_loop v16).trips) (k0_t8 : Fin k0_t8_loop.trips), ∀ (k0_h10 : k0_cond10 v16 k0_t7 k0_t8 = 1#1), ∀ (k0_h12 : k0_cond12 k0_t8 = 1#1), ∀ (hinb : ∀ a, (k0_off52 v16 k0_t7 k0_t8) a + S1x768x1792.size a ≤ S2x768x7168.size a), (Rect.unit (s := S2x768x7168) (k0_off52 v16 k0_t7 k0_t8) S1x768x1792.size hinb).WholeWords (EltTy.packing .fp8e4m3)) ∧
  (∀ (k0_t7 : Fin (k0_t7_loop v16).trips) (k0_t8 : Fin k0_t8_loop.trips), ∀ a, (k0_off54 v16 k0_t7 k0_t8) a + S1x1.size a ≤ S2x7.size a) ∧
  (∀ (k0_t7 : Fin (k0_t7_loop v16).trips) (k0_t8 : Fin k0_t8_loop.trips), ∀ a, (k0_off55 v16 k0_t7 k0_t8) a + S1x1024x1536.size a ≤ S2x7168x1536.size a) ∧
  (∀ (k0_t7 : Fin (k0_t7_loop v16).trips) (k0_t8 : Fin k0_t8_loop.trips), ∀ (hinb : ∀ a, (k0_off55 v16 k0_t7 k0_t8) a + S1x1024x1536.size a ≤ S2x7168x1536.size a), (Rect.unit (s := S2x7168x1536) (k0_off55 v16 k0_t7 k0_t8) S1x1024x1536.size hinb).WholeWords (EltTy.packing .fp8e4m3)) ∧
  (∀ (k0_t7 : Fin (k0_t7_loop v16).trips) (k0_t8 : Fin k0_t8_loop.trips), ∀ a, (k0_off58 v16 k0_t7 k0_t8) a + S1x1024x1536.size a ≤ S2x7168x1536.size a) ∧
  (∀ (k0_t7 : Fin (k0_t7_loop v16).trips) (k0_t9 : Fin k0_t9_loop.trips), ∀ (k0_h13 : k0_cond13 v16 k0_t7 k0_t9 = 1#1), ∀ a, (k0_off60 v16 k0_t7 k0_t9) a + S1.size a ≤ S33.size a) ∧
  (∀ (k0_t7 : Fin (k0_t7_loop v16).trips) (k0_t9 : Fin k0_t9_loop.trips), ∀ (k0_h13 : k0_cond13 v16 k0_t7 k0_t9 = 1#1), ∀ (k0_h14 : k0_cond14 k0_t9 = 1#1), ∀ a, (k0_off61 v16 k0_t7 k0_t9) a + S1x1.size a ≤ S2x7.size a) ∧
  (∀ (k0_t7 : Fin (k0_t7_loop v16).trips) (k0_t9 : Fin k0_t9_loop.trips), ∀ (k0_h13 : k0_cond13 v16 k0_t7 k0_t9 = 1#1), ∀ (k0_h14 : k0_cond14 k0_t9 = 1#1), ∀ a, (k0_off62 v16 k0_t7 k0_t9) a + S1x1024x1536.size a ≤ S2x7168x1536.size a) ∧
  (∀ (k0_t7 : Fin (k0_t7_loop v16).trips) (k0_t9 : Fin k0_t9_loop.trips), ∀ (k0_h13 : k0_cond13 v16 k0_t7 k0_t9 = 1#1), ∀ (k0_h14 : k0_cond14 k0_t9 = 1#1), ∀ (hinb : ∀ a, (k0_off62 v16 k0_t7 k0_t9) a + S1x1024x1536.size a ≤ S2x7168x1536.size a), (Rect.unit (s := S2x7168x1536) (k0_off62 v16 k0_t7 k0_t9) S1x1024x1536.size hinb).WholeWords (EltTy.packing .fp8e4m3)) ∧
  (∀ (k0_t7 : Fin (k0_t7_loop v16).trips) (k0_t9 : Fin k0_t9_loop.trips), ∀ (k0_h13 : k0_cond13 v16 k0_t7 k0_t9 = 1#1), ∀ (k0_h15 : k0_cond15 k0_t9 = 1#1), ∀ a, (k0_off64 v16 k0_t7 k0_t9) a + S1x1.size a ≤ S2x4.size a) ∧
  (∀ (k0_t7 : Fin (k0_t7_loop v16).trips) (k0_t9 : Fin k0_t9_loop.trips), ∀ (k0_h13 : k0_cond13 v16 k0_t7 k0_t9 = 1#1), ∀ (k0_h15 : k0_cond15 k0_t9 = 1#1), ∀ a, (k0_off65 v16 k0_t7 k0_t9) a + S1x768x1792.size a ≤ S2x768x7168.size a) ∧
  (∀ (k0_t7 : Fin (k0_t7_loop v16).trips) (k0_t9 : Fin k0_t9_loop.trips), ∀ (k0_h13 : k0_cond13 v16 k0_t7 k0_t9 = 1#1), ∀ (k0_h15 : k0_cond15 k0_t9 = 1#1), ∀ (hinb : ∀ a, (k0_off65 v16 k0_t7 k0_t9) a + S1x768x1792.size a ≤ S2x768x7168.size a), (Rect.unit (s := S2x768x7168) (k0_off65 v16 k0_t7 k0_t9) S1x768x1792.size hinb).WholeWords (EltTy.packing .fp8e4m3)) ∧
  (∀ (k0_t7 : Fin (k0_t7_loop v16).trips) (k0_t9 : Fin k0_t9_loop.trips), ∀ a, (k0_off67 v16 k0_t7 k0_t9) a + S1x1.size a ≤ S2x4.size a) ∧
  (∀ (k0_t7 : Fin (k0_t7_loop v16).trips) (k0_t9 : Fin k0_t9_loop.trips), ∀ a, (k0_off68 v16 k0_t7 k0_t9) a + S1x768x1792.size a ≤ S2x768x7168.size a) ∧
  (∀ (k0_t7 : Fin (k0_t7_loop v16).trips) (k0_t9 : Fin k0_t9_loop.trips), ∀ (hinb : ∀ a, (k0_off68 v16 k0_t7 k0_t9) a + S1x768x1792.size a ≤ S2x768x7168.size a), (Rect.unit (s := S2x768x7168) (k0_off68 v16 k0_t7 k0_t9) S1x768x1792.size hinb).WholeWords (EltTy.packing .fp8e4m3)) ∧
  (∀ (k0_t7 : Fin (k0_t7_loop v16).trips) (k0_t9 : Fin k0_t9_loop.trips), ∀ a, (k0_off70 v16 k0_t7 k0_t9) a + S1x768x1792.size a ≤ S2x768x7168.size a)
def k0_chk3 (v16 : BitVec 32) : Prop :=
  k0_chk3_0 v16 ∧
  k0_chk3_1 v16
theorem k0_t4_ok : ∀ (v16 : BitVec 32) (k0_hw3 : k0_chk3 v16), (k0_t4_loop v16).OK := fun v16 k0_hw3 => k0_hw3.1.1
theorem k0_off16_inb : ∀ (v16 : BitVec 32) (k0_hw3 : k0_chk3 v16) (k0_t4 : Fin (k0_t4_loop v16).trips), ∀ a, (k0_off16 v16 k0_t4) a + S1.size a ≤ S33.size a := fun v16 k0_hw3 k0_t4 => k0_hw3.1.2.1 k0_t4
theorem k0_off17_inb : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ a, (k0_off17 v16 k0_t4 k0_t5) a + S1.size a ≤ S33.size a := fun v16 k0_hw3 k0_t4 k0_t5 k0_h3 => k0_hw3.1.2.2.1 k0_t4 k0_t5 k0_h3
theorem k0_off18_inb : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h4 : k0_cond4 k0_t5 = 1#1), ∀ a, (k0_off18 v16 k0_t4 k0_t5) a + S1x1.size a ≤ S2x7.size a := fun v16 k0_hw3 k0_t4 k0_t5 k0_h3 k0_h4 => k0_hw3.1.2.2.2.1 k0_t4 k0_t5 k0_h3 k0_h4
theorem k0_off19_inb : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h4 : k0_cond4 k0_t5 = 1#1), ∀ a, (k0_off19 v16 k0_t4 k0_t5) a + S1x1024x1536.size a ≤ S2x7168x1536.size a := fun v16 k0_hw3 k0_t4 k0_t5 k0_h3 k0_h4 => k0_hw3.1.2.2.2.2.1 k0_t4 k0_t5 k0_h3 k0_h4
theorem k0_off19_wordsfp8e4m3 : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h4 : k0_cond4 k0_t5 = 1#1), (Rect.unit (s := S2x7168x1536) (k0_off19 v16 k0_t4 k0_t5) S1x1024x1536.size (k0_off19_inb v16 k0_hw3 k0_t4 k0_t5 k0_h3 k0_h4)).WholeWords (EltTy.packing .fp8e4m3) := fun v16 k0_hw3 k0_t4 k0_t5 k0_h3 k0_h4 => k0_hw3.1.2.2.2.2.2.1 k0_t4 k0_t5 k0_h3 k0_h4 (k0_off19_inb v16 k0_hw3 k0_t4 k0_t5 k0_h3 k0_h4)
theorem k0_off21_inb : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h5 : k0_cond5 k0_t5 = 1#1), ∀ a, (k0_off21 v16 k0_t4 k0_t5) a + S1x1.size a ≤ S2x4.size a := fun v16 k0_hw3 k0_t4 k0_t5 k0_h3 k0_h5 => k0_hw3.1.2.2.2.2.2.2.1 k0_t4 k0_t5 k0_h3 k0_h5
theorem k0_off22_inb : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h5 : k0_cond5 k0_t5 = 1#1), ∀ a, (k0_off22 v16 k0_t4 k0_t5) a + S1x768x1792.size a ≤ S2x768x7168.size a := fun v16 k0_hw3 k0_t4 k0_t5 k0_h3 k0_h5 => k0_hw3.1.2.2.2.2.2.2.2.1 k0_t4 k0_t5 k0_h3 k0_h5
theorem k0_off22_wordsfp8e4m3 : ∀ (v16 : BitVec 32) (k0_hw3 : k0_chk3 v16) (k0_t4 : Fin (k0_t4_loop v16).trips) (k0_t5 : Fin k0_t5_loop.trips), ∀ (k0_h3 : k0_cond3 v16 k0_t4 k0_t5 = 1#1), ∀ (k0_h5 : k0_cond5 k0_t5 = 1#1), (Rect.unit (s := S2x768x7168) (k0_off22 v16 k0_t4 k0_t5) S1x768x1792.size (k0_off22_inb v16 k0_hw3 k0_t4 k0_t5 k0_h3 k0_h5)).WholeWords (EltTy.packing .fp8e4m3) := fun v16 k0_hw3 k0_t4 k0_t5 k0_h3 k0_h5 => k0_hw3.1.2.2.2.2.2.2.2.2.1 k0_t4 k0_t5 k0_h3 k0_h5 (k0_off22_inb v16 k0_hw3 k0_t4 k0_t5 k0_h3 k0_h5)
theorem k0_off24_inb : ∀ (v16 : BitVec 32) (k0_hw3 : k0_chk3 v16) (k0_t4 : Fin (k0_t4_loop v16).trips) (k0_t5 : Fin k0_t5_loop.trips), ∀ a, (k0_off24 v16 k0_t4 k0_t5) a + S1x1.size a ≤ S2x7.size a := fun v16 k0_hw3 k0_t4 k0_t5 => k0_hw3.1.2.2.2.2.2.2.2.2.2.1 k0_t4 k0_t5
theorem k0_off25_inb : ∀ (v16 : BitVec 32) (k0_hw3 : k0_chk3 v16) (k0_t4 : Fin (k0_t4_loop v16).trips) (k0_t5 : Fin k0_t5_loop.trips), ∀ a, (k0_off25 v16 k0_t4 k0_t5) a + S1x1024x1536.size a ≤ S2x7168x1536.size a := fun v16 k0_hw3 k0_t4 k0_t5 => k0_hw3.1.2.2.2.2.2.2.2.2.2.2.1 k0_t4 k0_t5
theorem k0_off25_wordsfp8e4m3 : ∀ (v16 : BitVec 32) (k0_hw3 : k0_chk3 v16) (k0_t4 : Fin (k0_t4_loop v16).trips) (k0_t5 : Fin k0_t5_loop.trips), (Rect.unit (s := S2x7168x1536) (k0_off25 v16 k0_t4 k0_t5) S1x1024x1536.size (k0_off25_inb v16 k0_hw3 k0_t4 k0_t5)).WholeWords (EltTy.packing .fp8e4m3) := fun v16 k0_hw3 k0_t4 k0_t5 => k0_hw3.1.2.2.2.2.2.2.2.2.2.2.2.1 k0_t4 k0_t5 (k0_off25_inb v16 k0_hw3 k0_t4 k0_t5)
theorem k0_off28_inb : ∀ (v16 : BitVec 32) (k0_hw3 : k0_chk3 v16) (k0_t4 : Fin (k0_t4_loop v16).trips) (k0_t5 : Fin k0_t5_loop.trips), ∀ a, (k0_off28 v16 k0_t4 k0_t5) a + S1x1024x1536.size a ≤ S2x7168x1536.size a := fun v16 k0_hw3 k0_t4 k0_t5 => k0_hw3.1.2.2.2.2.2.2.2.2.2.2.2.2.1 k0_t4 k0_t5
theorem k0_off30_inb : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ a, (k0_off30 v16 k0_t4 k0_t6) a + S1.size a ≤ S33.size a := fun v16 k0_hw3 k0_t4 k0_t6 k0_h6 => k0_hw3.1.2.2.2.2.2.2.2.2.2.2.2.2.2.1 k0_t4 k0_t6 k0_h6
theorem k0_off31_inb : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h7 : k0_cond7 k0_t6 = 1#1), ∀ a, (k0_off31 v16 k0_t4 k0_t6) a + S1x1.size a ≤ S2x7.size a := fun v16 k0_hw3 k0_t4 k0_t6 k0_h6 k0_h7 => k0_hw3.1.2.2.2.2.2.2.2.2.2.2.2.2.2.2.1 k0_t4 k0_t6 k0_h6 k0_h7
theorem k0_off32_inb : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h7 : k0_cond7 k0_t6 = 1#1), ∀ a, (k0_off32 v16 k0_t4 k0_t6) a + S1x1024x1536.size a ≤ S2x7168x1536.size a := fun v16 k0_hw3 k0_t4 k0_t6 k0_h6 k0_h7 => k0_hw3.1.2.2.2.2.2.2.2.2.2.2.2.2.2.2.2.1 k0_t4 k0_t6 k0_h6 k0_h7
theorem k0_off32_wordsfp8e4m3 : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h7 : k0_cond7 k0_t6 = 1#1), (Rect.unit (s := S2x7168x1536) (k0_off32 v16 k0_t4 k0_t6) S1x1024x1536.size (k0_off32_inb v16 k0_hw3 k0_t4 k0_t6 k0_h6 k0_h7)).WholeWords (EltTy.packing .fp8e4m3) := fun v16 k0_hw3 k0_t4 k0_t6 k0_h6 k0_h7 => k0_hw3.1.2.2.2.2.2.2.2.2.2.2.2.2.2.2.2.2.1 k0_t4 k0_t6 k0_h6 k0_h7 (k0_off32_inb v16 k0_hw3 k0_t4 k0_t6 k0_h6 k0_h7)
theorem k0_off34_inb : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h8 : k0_cond8 k0_t6 = 1#1), ∀ a, (k0_off34 v16 k0_t4 k0_t6) a + S1x1.size a ≤ S2x4.size a := fun v16 k0_hw3 k0_t4 k0_t6 k0_h6 k0_h8 => k0_hw3.1.2.2.2.2.2.2.2.2.2.2.2.2.2.2.2.2.2.1 k0_t4 k0_t6 k0_h6 k0_h8
theorem k0_off35_inb : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h8 : k0_cond8 k0_t6 = 1#1), ∀ a, (k0_off35 v16 k0_t4 k0_t6) a + S1x768x1792.size a ≤ S2x768x7168.size a := fun v16 k0_hw3 k0_t4 k0_t6 k0_h6 k0_h8 => k0_hw3.1.2.2.2.2.2.2.2.2.2.2.2.2.2.2.2.2.2.2.1 k0_t4 k0_t6 k0_h6 k0_h8
theorem k0_off35_wordsfp8e4m3 : ∀ (v16 : BitVec 32) (k0_hw3 : k0_chk3 v16) (k0_t4 : Fin (k0_t4_loop v16).trips) (k0_t6 : Fin k0_t6_loop.trips), ∀ (k0_h6 : k0_cond6 v16 k0_t4 k0_t6 = 1#1), ∀ (k0_h8 : k0_cond8 k0_t6 = 1#1), (Rect.unit (s := S2x768x7168) (k0_off35 v16 k0_t4 k0_t6) S1x768x1792.size (k0_off35_inb v16 k0_hw3 k0_t4 k0_t6 k0_h6 k0_h8)).WholeWords (EltTy.packing .fp8e4m3) := fun v16 k0_hw3 k0_t4 k0_t6 k0_h6 k0_h8 => k0_hw3.1.2.2.2.2.2.2.2.2.2.2.2.2.2.2.2.2.2.2.2.1 k0_t4 k0_t6 k0_h6 k0_h8 (k0_off35_inb v16 k0_hw3 k0_t4 k0_t6 k0_h6 k0_h8)
theorem k0_off37_inb : ∀ (v16 : BitVec 32) (k0_hw3 : k0_chk3 v16) (k0_t4 : Fin (k0_t4_loop v16).trips) (k0_t6 : Fin k0_t6_loop.trips), ∀ a, (k0_off37 v16 k0_t4 k0_t6) a + S1x1.size a ≤ S2x4.size a := fun v16 k0_hw3 k0_t4 k0_t6 => k0_hw3.1.2.2.2.2.2.2.2.2.2.2.2.2.2.2.2.2.2.2.2.2.1 k0_t4 k0_t6
theorem k0_off38_inb : ∀ (v16 : BitVec 32) (k0_hw3 : k0_chk3 v16) (k0_t4 : Fin (k0_t4_loop v16).trips) (k0_t6 : Fin k0_t6_loop.trips), ∀ a, (k0_off38 v16 k0_t4 k0_t6) a + S1x768x1792.size a ≤ S2x768x7168.size a := fun v16 k0_hw3 k0_t4 k0_t6 => k0_hw3.1.2.2.2.2.2.2.2.2.2.2.2.2.2.2.2.2.2.2.2.2.2.1 k0_t4 k0_t6
theorem k0_off38_wordsfp8e4m3 : ∀ (v16 : BitVec 32) (k0_hw3 : k0_chk3 v16) (k0_t4 : Fin (k0_t4_loop v16).trips) (k0_t6 : Fin k0_t6_loop.trips), (Rect.unit (s := S2x768x7168) (k0_off38 v16 k0_t4 k0_t6) S1x768x1792.size (k0_off38_inb v16 k0_hw3 k0_t4 k0_t6)).WholeWords (EltTy.packing .fp8e4m3) := fun v16 k0_hw3 k0_t4 k0_t6 => k0_hw3.1.2.2.2.2.2.2.2.2.2.2.2.2.2.2.2.2.2.2.2.2.2.2.1 k0_t4 k0_t6 (k0_off38_inb v16 k0_hw3 k0_t4 k0_t6)
theorem k0_off40_inb : ∀ (v16 : BitVec 32) (k0_hw3 : k0_chk3 v16) (k0_t4 : Fin (k0_t4_loop v16).trips) (k0_t6 : Fin k0_t6_loop.trips), ∀ a, (k0_off40 v16 k0_t4 k0_t6) a + S1x768x1792.size a ≤ S2x768x7168.size a := fun v16 k0_hw3 k0_t4 k0_t6 => k0_hw3.1.2.2.2.2.2.2.2.2.2.2.2.2.2.2.2.2.2.2.2.2.2.2.2.1 k0_t4 k0_t6
theorem k0_t7_ok : ∀ (v16 : BitVec 32) (k0_hw3 : k0_chk3 v16), (k0_t7_loop v16).OK := fun v16 k0_hw3 => k0_hw3.1.2.2.2.2.2.2.2.2.2.2.2.2.2.2.2.2.2.2.2.2.2.2.2.2.1
theorem k0_off46_inb : ∀ (v16 : BitVec 32) (k0_hw3 : k0_chk3 v16) (k0_t7 : Fin (k0_t7_loop v16).trips), ∀ a, (k0_off46 v16 k0_t7) a + S1.size a ≤ S33.size a := fun v16 k0_hw3 k0_t7 => k0_hw3.1.2.2.2.2.2.2.2.2.2.2.2.2.2.2.2.2.2.2.2.2.2.2.2.2.2.1 k0_t7
theorem k0_off47_inb : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ a, (k0_off47 v16 k0_t7 k0_t8) a + S1.size a ≤ S33.size a := fun v16 k0_hw3 k0_t7 k0_t8 k0_h10 => k0_hw3.1.2.2.2.2.2.2.2.2.2.2.2.2.2.2.2.2.2.2.2.2.2.2.2.2.2.2.1 k0_t7 k0_t8 k0_h10
theorem k0_off48_inb : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h11 : k0_cond11 k0_t8 = 1#1), ∀ a, (k0_off48 v16 k0_t7 k0_t8) a + S1x1.size a ≤ S2x7.size a := fun v16 k0_hw3 k0_t7 k0_t8 k0_h10 k0_h11 => k0_hw3.1.2.2.2.2.2.2.2.2.2.2.2.2.2.2.2.2.2.2.2.2.2.2.2.2.2.2.2.1 k0_t7 k0_t8 k0_h10 k0_h11
theorem k0_off49_inb : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h11 : k0_cond11 k0_t8 = 1#1), ∀ a, (k0_off49 v16 k0_t7 k0_t8) a + S1x1024x1536.size a ≤ S2x7168x1536.size a := fun v16 k0_hw3 k0_t7 k0_t8 k0_h10 k0_h11 => k0_hw3.1.2.2.2.2.2.2.2.2.2.2.2.2.2.2.2.2.2.2.2.2.2.2.2.2.2.2.2.2.1 k0_t7 k0_t8 k0_h10 k0_h11
theorem k0_off49_wordsfp8e4m3 : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h11 : k0_cond11 k0_t8 = 1#1), (Rect.unit (s := S2x7168x1536) (k0_off49 v16 k0_t7 k0_t8) S1x1024x1536.size (k0_off49_inb v16 k0_hw3 k0_t7 k0_t8 k0_h10 k0_h11)).WholeWords (EltTy.packing .fp8e4m3) := fun v16 k0_hw3 k0_t7 k0_t8 k0_h10 k0_h11 => k0_hw3.1.2.2.2.2.2.2.2.2.2.2.2.2.2.2.2.2.2.2.2.2.2.2.2.2.2.2.2.2.2.1 k0_t7 k0_t8 k0_h10 k0_h11 (k0_off49_inb v16 k0_hw3 k0_t7 k0_t8 k0_h10 k0_h11)
theorem k0_off51_inb : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h12 : k0_cond12 k0_t8 = 1#1), ∀ a, (k0_off51 v16 k0_t7 k0_t8) a + S1x1.size a ≤ S2x4.size a := fun v16 k0_hw3 k0_t7 k0_t8 k0_h10 k0_h12 => k0_hw3.1.2.2.2.2.2.2.2.2.2.2.2.2.2.2.2.2.2.2.2.2.2.2.2.2.2.2.2.2.2.2.1 k0_t7 k0_t8 k0_h10 k0_h12
theorem k0_off52_inb : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h12 : k0_cond12 k0_t8 = 1#1), ∀ a, (k0_off52 v16 k0_t7 k0_t8) a + S1x768x1792.size a ≤ S2x768x7168.size a := fun v16 k0_hw3 k0_t7 k0_t8 k0_h10 k0_h12 => k0_hw3.1.2.2.2.2.2.2.2.2.2.2.2.2.2.2.2.2.2.2.2.2.2.2.2.2.2.2.2.2.2.2.2 k0_t7 k0_t8 k0_h10 k0_h12
theorem k0_off52_wordsfp8e4m3 : ∀ (v16 : BitVec 32) (k0_hw3 : k0_chk3 v16) (k0_t7 : Fin (k0_t7_loop v16).trips) (k0_t8 : Fin k0_t8_loop.trips), ∀ (k0_h10 : k0_cond10 v16 k0_t7 k0_t8 = 1#1), ∀ (k0_h12 : k0_cond12 k0_t8 = 1#1), (Rect.unit (s := S2x768x7168) (k0_off52 v16 k0_t7 k0_t8) S1x768x1792.size (k0_off52_inb v16 k0_hw3 k0_t7 k0_t8 k0_h10 k0_h12)).WholeWords (EltTy.packing .fp8e4m3) := fun v16 k0_hw3 k0_t7 k0_t8 k0_h10 k0_h12 => k0_hw3.2.1 k0_t7 k0_t8 k0_h10 k0_h12 (k0_off52_inb v16 k0_hw3 k0_t7 k0_t8 k0_h10 k0_h12)
theorem k0_off54_inb : ∀ (v16 : BitVec 32) (k0_hw3 : k0_chk3 v16) (k0_t7 : Fin (k0_t7_loop v16).trips) (k0_t8 : Fin k0_t8_loop.trips), ∀ a, (k0_off54 v16 k0_t7 k0_t8) a + S1x1.size a ≤ S2x7.size a := fun v16 k0_hw3 k0_t7 k0_t8 => k0_hw3.2.2.1 k0_t7 k0_t8
theorem k0_off55_inb : ∀ (v16 : BitVec 32) (k0_hw3 : k0_chk3 v16) (k0_t7 : Fin (k0_t7_loop v16).trips) (k0_t8 : Fin k0_t8_loop.trips), ∀ a, (k0_off55 v16 k0_t7 k0_t8) a + S1x1024x1536.size a ≤ S2x7168x1536.size a := fun v16 k0_hw3 k0_t7 k0_t8 => k0_hw3.2.2.2.1 k0_t7 k0_t8
theorem k0_off55_wordsfp8e4m3 : ∀ (v16 : BitVec 32) (k0_hw3 : k0_chk3 v16) (k0_t7 : Fin (k0_t7_loop v16).trips) (k0_t8 : Fin k0_t8_loop.trips), (Rect.unit (s := S2x7168x1536) (k0_off55 v16 k0_t7 k0_t8) S1x1024x1536.size (k0_off55_inb v16 k0_hw3 k0_t7 k0_t8)).WholeWords (EltTy.packing .fp8e4m3) := fun v16 k0_hw3 k0_t7 k0_t8 => k0_hw3.2.2.2.2.1 k0_t7 k0_t8 (k0_off55_inb v16 k0_hw3 k0_t7 k0_t8)
theorem k0_off58_inb : ∀ (v16 : BitVec 32) (k0_hw3 : k0_chk3 v16) (k0_t7 : Fin (k0_t7_loop v16).trips) (k0_t8 : Fin k0_t8_loop.trips), ∀ a, (k0_off58 v16 k0_t7 k0_t8) a + S1x1024x1536.size a ≤ S2x7168x1536.size a := fun v16 k0_hw3 k0_t7 k0_t8 => k0_hw3.2.2.2.2.2.1 k0_t7 k0_t8
theorem k0_off60_inb : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ a, (k0_off60 v16 k0_t7 k0_t9) a + S1.size a ≤ S33.size a := fun v16 k0_hw3 k0_t7 k0_t9 k0_h13 => k0_hw3.2.2.2.2.2.2.1 k0_t7 k0_t9 k0_h13
theorem k0_off61_inb : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h14 : k0_cond14 k0_t9 = 1#1), ∀ a, (k0_off61 v16 k0_t7 k0_t9) a + S1x1.size a ≤ S2x7.size a := fun v16 k0_hw3 k0_t7 k0_t9 k0_h13 k0_h14 => k0_hw3.2.2.2.2.2.2.2.1 k0_t7 k0_t9 k0_h13 k0_h14
theorem k0_off62_inb : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h14 : k0_cond14 k0_t9 = 1#1), ∀ a, (k0_off62 v16 k0_t7 k0_t9) a + S1x1024x1536.size a ≤ S2x7168x1536.size a := fun v16 k0_hw3 k0_t7 k0_t9 k0_h13 k0_h14 => k0_hw3.2.2.2.2.2.2.2.2.1 k0_t7 k0_t9 k0_h13 k0_h14
theorem k0_off62_wordsfp8e4m3 : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h14 : k0_cond14 k0_t9 = 1#1), (Rect.unit (s := S2x7168x1536) (k0_off62 v16 k0_t7 k0_t9) S1x1024x1536.size (k0_off62_inb v16 k0_hw3 k0_t7 k0_t9 k0_h13 k0_h14)).WholeWords (EltTy.packing .fp8e4m3) := fun v16 k0_hw3 k0_t7 k0_t9 k0_h13 k0_h14 => k0_hw3.2.2.2.2.2.2.2.2.2.1 k0_t7 k0_t9 k0_h13 k0_h14 (k0_off62_inb v16 k0_hw3 k0_t7 k0_t9 k0_h13 k0_h14)
theorem k0_off64_inb : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h15 : k0_cond15 k0_t9 = 1#1), ∀ a, (k0_off64 v16 k0_t7 k0_t9) a + S1x1.size a ≤ S2x4.size a := fun v16 k0_hw3 k0_t7 k0_t9 k0_h13 k0_h15 => k0_hw3.2.2.2.2.2.2.2.2.2.2.1 k0_t7 k0_t9 k0_h13 k0_h15
theorem k0_off65_inb : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h15 : k0_cond15 k0_t9 = 1#1), ∀ a, (k0_off65 v16 k0_t7 k0_t9) a + S1x768x1792.size a ≤ S2x768x7168.size a := fun v16 k0_hw3 k0_t7 k0_t9 k0_h13 k0_h15 => k0_hw3.2.2.2.2.2.2.2.2.2.2.2.1 k0_t7 k0_t9 k0_h13 k0_h15
theorem k0_off65_wordsfp8e4m3 : ∀ (v16 : BitVec 32) (k0_hw3 : k0_chk3 v16) (k0_t7 : Fin (k0_t7_loop v16).trips) (k0_t9 : Fin k0_t9_loop.trips), ∀ (k0_h13 : k0_cond13 v16 k0_t7 k0_t9 = 1#1), ∀ (k0_h15 : k0_cond15 k0_t9 = 1#1), (Rect.unit (s := S2x768x7168) (k0_off65 v16 k0_t7 k0_t9) S1x768x1792.size (k0_off65_inb v16 k0_hw3 k0_t7 k0_t9 k0_h13 k0_h15)).WholeWords (EltTy.packing .fp8e4m3) := fun v16 k0_hw3 k0_t7 k0_t9 k0_h13 k0_h15 => k0_hw3.2.2.2.2.2.2.2.2.2.2.2.2.1 k0_t7 k0_t9 k0_h13 k0_h15 (k0_off65_inb v16 k0_hw3 k0_t7 k0_t9 k0_h13 k0_h15)
theorem k0_off67_inb : ∀ (v16 : BitVec 32) (k0_hw3 : k0_chk3 v16) (k0_t7 : Fin (k0_t7_loop v16).trips) (k0_t9 : Fin k0_t9_loop.trips), ∀ a, (k0_off67 v16 k0_t7 k0_t9) a + S1x1.size a ≤ S2x4.size a := fun v16 k0_hw3 k0_t7 k0_t9 => k0_hw3.2.2.2.2.2.2.2.2.2.2.2.2.2.1 k0_t7 k0_t9
theorem k0_off68_inb : ∀ (v16 : BitVec 32) (k0_hw3 : k0_chk3 v16) (k0_t7 : Fin (k0_t7_loop v16).trips) (k0_t9 : Fin k0_t9_loop.trips), ∀ a, (k0_off68 v16 k0_t7 k0_t9) a + S1x768x1792.size a ≤ S2x768x7168.size a := fun v16 k0_hw3 k0_t7 k0_t9 => k0_hw3.2.2.2.2.2.2.2.2.2.2.2.2.2.2.1 k0_t7 k0_t9
theorem k0_off68_wordsfp8e4m3 : ∀ (v16 : BitVec 32) (k0_hw3 : k0_chk3 v16) (k0_t7 : Fin (k0_t7_loop v16).trips) (k0_t9 : Fin k0_t9_loop.trips), (Rect.unit (s := S2x768x7168) (k0_off68 v16 k0_t7 k0_t9) S1x768x1792.size (k0_off68_inb v16 k0_hw3 k0_t7 k0_t9)).WholeWords (EltTy.packing .fp8e4m3) := fun v16 k0_hw3 k0_t7 k0_t9 => k0_hw3.2.2.2.2.2.2.2.2.2.2.2.2.2.2.2.1 k0_t7 k0_t9 (k0_off68_inb v16 k0_hw3 k0_t7 k0_t9)
theorem k0_off70_inb : ∀ (v16 : BitVec 32) (k0_hw3 : k0_chk3 v16) (k0_t7 : Fin (k0_t7_loop v16).trips) (k0_t9 : Fin k0_t9_loop.trips), ∀ a, (k0_off70 v16 k0_t7 k0_t9) a + S1x768x1792.size a ≤ S2x768x7168.size a := fun v16 k0_hw3 k0_t7 k0_t9 => k0_hw3.2.2.2.2.2.2.2.2.2.2.2.2.2.2.2.2 k0_t7 k0_t9

def k0_off71 (k0_t9 : Fin k0_t9_loop.trips) : Fin 2 → Nat :=
  let c0_85 : Index := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v124 : Index := Scalar.indexCast v102
  ![0, v124.toNat]
def k0_off72 (v63 : BitVec 32) (k0_t9 : Fin k0_t9_loop.trips) : Fin 2 → Nat :=
  let v126 : Index := Scalar.indexCast v63
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v127 : Index := Scalar.indexCast v102
  ![v126.toNat, v127.toNat]

def k0_chk8 (v63 : BitVec 32) : Prop :=
  (∀ k0_t8 : Fin k0_t8_loop.trips, ∀ a, (k0_off56 v63 k0_t8) a + S1x1024x1536.size a ≤ S32x7168x1536.size a) ∧
  (∀ k0_t8 : Fin k0_t8_loop.trips, ∀ (hinb : ∀ a, (k0_off56 v63 k0_t8) a + S1x1024x1536.size a ≤ S32x7168x1536.size a), (Rect.unit (s := S32x7168x1536) (k0_off56 v63 k0_t8) S1x1024x1536.size hinb).WholeWords (EltTy.packing .fp8e4m3)) ∧
  (∀ a, (k0_off59 v63) a + S1x1536.size a ≤ S32x1536.size a) ∧
  (∀ k0_t9 : Fin k0_t9_loop.trips, ∀ a, (k0_off69 v63 k0_t9) a + S1x768x1792.size a ≤ S32x768x7168.size a) ∧
  (∀ k0_t9 : Fin k0_t9_loop.trips, ∀ (hinb : ∀ a, (k0_off69 v63 k0_t9) a + S1x768x1792.size a ≤ S32x768x7168.size a), (Rect.unit (s := S32x768x7168) (k0_off69 v63 k0_t9) S1x768x1792.size hinb).WholeWords (EltTy.packing .fp8e4m3)) ∧
  (∀ k0_t9 : Fin k0_t9_loop.trips, ∀ a, (k0_off72 v63 k0_t9) a + S1x1792.size a ≤ S32x7168.size a)
theorem k0_off56_inb : ∀ (v63 : BitVec 32) (k0_hw8 : k0_chk8 v63) (k0_t8 : Fin k0_t8_loop.trips), ∀ a, (k0_off56 v63 k0_t8) a + S1x1024x1536.size a ≤ S32x7168x1536.size a := fun v63 k0_hw8 k0_t8 => k0_hw8.1 k0_t8
theorem k0_off56_wordsfp8e4m3 : ∀ (v63 : BitVec 32) (k0_hw8 : k0_chk8 v63) (k0_t8 : Fin k0_t8_loop.trips), (Rect.unit (s := S32x7168x1536) (k0_off56 v63 k0_t8) S1x1024x1536.size (k0_off56_inb v63 k0_hw8 k0_t8)).WholeWords (EltTy.packing .fp8e4m3) := fun v63 k0_hw8 k0_t8 => k0_hw8.2.1 k0_t8 (k0_off56_inb v63 k0_hw8 k0_t8)
theorem k0_off59_inb : ∀ (v63 : BitVec 32) (k0_hw8 : k0_chk8 v63), ∀ a, (k0_off59 v63) a + S1x1536.size a ≤ S32x1536.size a := fun v63 k0_hw8 => k0_hw8.2.2.1
theorem k0_off69_inb : ∀ (v63 : BitVec 32) (k0_hw8 : k0_chk8 v63) (k0_t9 : Fin k0_t9_loop.trips), ∀ a, (k0_off69 v63 k0_t9) a + S1x768x1792.size a ≤ S32x768x7168.size a := fun v63 k0_hw8 k0_t9 => k0_hw8.2.2.2.1 k0_t9
theorem k0_off69_wordsfp8e4m3 : ∀ (v63 : BitVec 32) (k0_hw8 : k0_chk8 v63) (k0_t9 : Fin k0_t9_loop.trips), (Rect.unit (s := S32x768x7168) (k0_off69 v63 k0_t9) S1x768x1792.size (k0_off69_inb v63 k0_hw8 k0_t9)).WholeWords (EltTy.packing .fp8e4m3) := fun v63 k0_hw8 k0_t9 => k0_hw8.2.2.2.2.1 k0_t9 (k0_off69_inb v63 k0_hw8 k0_t9)
theorem k0_off72_inb : ∀ (v63 : BitVec 32) (k0_hw8 : k0_chk8 v63) (k0_t9 : Fin k0_t9_loop.trips), ∀ a, (k0_off72 v63 k0_t9) a + S1x1792.size a ≤ S32x7168.size a := fun v63 k0_hw8 k0_t9 => k0_hw8.2.2.2.2.2 k0_t9

def k0_off73 (k0_t9 : Fin k0_t9_loop.trips) : Fin 2 → Nat :=
  let c0_89 : Index := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32 : BitVec 32 := 1792#32
  let v101 : BitVec 32 := Scalar.muli v100 c1792_i32
  let v102 : BitVec 32 := v101
  let v142 : Index := Scalar.indexCast v102
  ![0, v142.toNat]
def k0_mult20 (k0_t9 : Fin k0_t9_loop.trips) : BitVec 32 :=
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32_91 : BitVec 32 := 1792#32
  let v149 : BitVec 32 := Scalar.muli v100 c1792_i32_91
  v149
def k0_off74 (k0_t9 : Fin k0_t9_loop.trips) : Fin 1 → Nat :=
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  ![v100.toNat]
def k0_off75 (k0_t9 : Fin k0_t9_loop.trips) : Fin 2 → Nat :=
  let c0_i32_92 : BitVec 32 := 0#32
  let c0_i32_73 : BitVec 32 := 0#32
  let c0_i32_68 : BitVec 32 := 0#32
  let c1_i32_70 : BitVec 32 := 1#32
  let arg29 : BitVec 32 := Scf.iv c0_i32_68 c1_i32_70 k0_t9
  let c1_i32_72 : BitVec 32 := 1#32
  let v99 : BitVec 32 := Scalar.muli arg29 c1_i32_72
  let v100 : BitVec 32 := Scalar.addi c0_i32_73 v99
  let c1792_i32_91 : BitVec 32 := 1792#32
  let v149 : BitVec 32 := Scalar.muli v100 c1792_i32_91
  let v150 : BitVec 32 := v149
  ![0, v150.toNat]
@[reducible] def k0_t10_loop : Scf.Loop 32 :=
  let c0_i32_45 : BitVec 32 := 0#32
  let c4_i32_46 : BitVec 32 := 4#32
  let v58 : BitVec 32 := Scalar.addi c0_i32_45 c4_i32_46
  let c1_i32_47 : BitVec 32 := 1#32
  ⟨c0_i32_45, v58, c1_i32_47⟩
def k0_mult21 (k0_t10 : Fin k0_t10_loop.trips) : BitVec 32 :=
  let c0_i32_50 : BitVec 32 := 0#32
  let c0_i32_45 : BitVec 32 := 0#32
  let c1_i32_47 : BitVec 32 := 1#32
  let arg28 : BitVec 32 := Scf.iv c0_i32_45 c1_i32_47 k0_t10
  let c1_i32_49 : BitVec 32 := 1#32
  let v59 : BitVec 32 := Scalar.muli arg28 c1_i32_49
  let v60 : BitVec 32 := Scalar.addi c0_i32_50 v59
  let c1792_i32 : BitVec 32 := 1792#32
  let v61 : BitVec 32 := Scalar.muli v60 c1792_i32
  v61
def k0_off76 (k0_t10 : Fin k0_t10_loop.trips) : Fin 1 → Nat :=
  let c0_i32_50 : BitVec 32 := 0#32
  let c0_i32_45 : BitVec 32 := 0#32
  let c1_i32_47 : BitVec 32 := 1#32
  let arg28 : BitVec 32 := Scf.iv c0_i32_45 c1_i32_47 k0_t10
  let c1_i32_49 : BitVec 32 := 1#32
  let v59 : BitVec 32 := Scalar.muli arg28 c1_i32_49
  let v60 : BitVec 32 := Scalar.addi c0_i32_50 v59
  ![v60.toNat]
def k0_off77 (k0_t10 : Fin k0_t10_loop.trips) : Fin 2 → Nat :=
  let c0_i32_51 : BitVec 32 := 0#32
  let c0_i32_50 : BitVec 32 := 0#32
  let c0_i32_45 : BitVec 32 := 0#32
  let c1_i32_47 : BitVec 32 := 1#32
  let arg28 : BitVec 32 := Scf.iv c0_i32_45 c1_i32_47 k0_t10
  let c1_i32_49 : BitVec 32 := 1#32
  let v59 : BitVec 32 := Scalar.muli arg28 c1_i32_49
  let v60 : BitVec 32 := Scalar.addi c0_i32_50 v59
  let c1792_i32 : BitVec 32 := 1792#32
  let v61 : BitVec 32 := Scalar.muli v60 c1792_i32
  let v62 : BitVec 32 := v61
  ![0, v62.toNat]
-- ==== ReferenceIdeal.lean ====
abbrev S33x1x7168 : Shape := ⟨3, ![33, 1, 7168]⟩
abbrev S33x1x8 : Shape := ⟨3, ![33, 1, 8]⟩
abbrev S32x7168x1536 : Shape := ⟨3, ![32, 7168, 1536]⟩
abbrev S32x1536 : Shape := ⟨2, ![32, 1536]⟩
abbrev S32x768x7168 : Shape := ⟨3, ![32, 768, 7168]⟩
abbrev S32x7168 : Shape := ⟨2, ![32, 7168]⟩
abbrev S33x7168 : Shape := ⟨2, ![33, 7168]⟩
abbrev S33x8 : Shape := ⟨2, ![33, 8]⟩
abbrev S1x33x7168 : Shape := ⟨3, ![1, 33, 7168]⟩
abbrev S32x33x7168 : Shape := ⟨3, ![32, 33, 7168]⟩
abbrev S32x33x1536 : Shape := ⟨3, ![32, 33, 1536]⟩
abbrev S32x1x1536 : Shape := ⟨3, ![32, 1, 1536]⟩
abbrev S32x33x768 : Shape := ⟨3, ![32, 33, 768]⟩
abbrev S32x1x7168 : Shape := ⟨3, ![32, 1, 7168]⟩
abbrev S33x1 : Shape := ⟨2, ![33, 1]⟩
abbrev S1x33x1 : Shape := ⟨3, ![1, 33, 1]⟩

abbrev nBuf : Space → Nat
  | .hbm => 11
  | .vmem => 8
  | .smem => 0
  | _ => 0

abbrev bufTy : (tb : Table) → Fin (tcTables nBuf tb) → BufTy
  | .hbm, ⟨0, _⟩ => ⟨S33x1x7168, .bf16⟩
  | .hbm, ⟨1, _⟩ => ⟨S33x1x8, .i32⟩
  | .hbm, ⟨2, _⟩ => ⟨S33x1x8, .f32⟩
  | .hbm, ⟨3, _⟩ => ⟨S32x7168x1536, .fp8e4m3⟩
  | .hbm, ⟨4, _⟩ => ⟨S32x1536, .f32⟩
  | .hbm, ⟨5, _⟩ => ⟨S32x768x7168, .fp8e4m3⟩
  | .hbm, ⟨6, _⟩ => ⟨S32x7168, .f32⟩
  | .hbm, ⟨7, _⟩ => ⟨S33x7168, .bf16⟩
  | .hbm, ⟨8, _⟩ => ⟨S33x8, .i32⟩
  | .hbm, ⟨9, _⟩ => ⟨S33x8, .f32⟩
  | .hbm, ⟨10, _⟩ => ⟨S33x7168, .bf16⟩
  | .local _ .vmem, ⟨0, _⟩ => ⟨S33x7168, .bf16⟩
  | .local _ .vmem, ⟨1, _⟩ => ⟨S33x8, .i32⟩
  | .local _ .vmem, ⟨2, _⟩ => ⟨S33x8, .f32⟩
  | .local _ .vmem, ⟨3, _⟩ => ⟨S32x7168x1536, .fp8e4m3⟩
  | .local _ .vmem, ⟨4, _⟩ => ⟨S32x1536, .f32⟩
  | .local _ .vmem, ⟨5, _⟩ => ⟨S32x768x7168, .fp8e4m3⟩
  | .local _ .vmem, ⟨6, _⟩ => ⟨S32x7168, .f32⟩
  | .local _ .vmem, ⟨7, _⟩ => ⟨S33x7168, .bf16⟩
  | _, _ => ⟨S33x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S33x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S33x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x7168x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x768x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S33x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Rules.lean ====
/-
  Hand-written, untrusted. The few program rules the kernel's walk is made of: a memref held by its
  own elements at contents that read a named vector (`Held`), one of its boxes held the same way
  (`Part`), and loads, stores, transfers and waits stated over those.
-/
module

public import Idealize.ShloMosaic.Lib.Pipeline.FrameValue
public import Idealize.ShloMosaic.Lib.Pipeline.FrameBody
public import Idealize.ShloMosaic.Lib.SparseCore.Scatter
public import Idealize.ShloMosaic.Lib.Ring
public import Idealize.ShloMosaic.Lib.Tactic
public import Idealize.ShloMosaic.Lib.Writes

@[expose] public section

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {nD : Nat} {τ : Topo} {sig : RefSig} {Val : EltTy → Type} {Λ : Labels}

/-- The counters every transfer's bookkeeping uses. -/
abbrev EC0 : UEmb Counters (MT nD τ sig Unit Val ℕ (Pipeline.UD sig nD τ) ℕ) :=
  countersEmb (U := Pipeline.UD sig nD τ)

/-- The box `r` of memref `m`, held by its own elements at contents that read `X`. -/
def Part (c : Thread nD τ) {sp : Space} {s : Shape} {e : EltTy} (m : Memref sig c.2.kind sp s e) (r : Rect s)
    (X : r.shape.Idx → Val e) : sProp (MT nD τ sig Unit Val ℕ (Pipeline.UD sig nD τ) ℕ) :=
  iprop(∃ f : Buf Val (m.view.loc c), (m.view.loc c ↦[(m.access r).set]{fullShare} f) ∗ ⌜(m.access r).read Val f = X⌝)

/-- The box `r` of memref `m`, held by its own elements at contents nothing is known of. -/
def PartAny (c : Thread nD τ) {sp : Space} {s : Shape} {e : EltTy} (m : Memref sig c.2.kind sp s e) (r : Rect s) : sProp (MT nD τ sig Unit Val ℕ (Pipeline.UD sig nD τ) ℕ) :=
  iprop(∃ f : Buf Val (m.view.loc c), (m.view.loc c ↦[(m.access r).set]{fullShare} f))

/-- The memref `m`, held by its own elements at contents that read `X`. -/
def Held (c : Thread nD τ) {sp : Space} {s : Shape} {e : EltTy} (m : Memref sig c.2.kind sp s e) (X : s.Idx → Val e) : sProp (MT nD τ sig Unit Val ℕ (Pipeline.UD sig nD τ) ℕ) :=
  iprop(∃ f : Buf Val (m.view.loc c), (m.view.loc c ↦[m.view.set]{fullShare} f) ∗ ⌜m.view.read Val f = X⌝)

/-- What reading a box gives is the box's part of what reading everything gives. -/
theorem read_access {κ : Kind} {sp : Space} {s : Shape} {e : EltTy} (m : Memref sig κ sp s e) (r : Rect s) (f : m.view.ty.Contents Val) :
    (m.access r).read Val f = ld (m.view.read Val f) r := rfl

/-- What is read after a store through a box: the box's part replaced. -/
theorem read_write_access {κ : Kind} {sp : Space} {s : Shape} {e : EltTy} (m : Memref sig κ sp s e) (r : Rect s) (f : m.view.ty.Contents Val)
    (w : r.shape.Idx → Val e) :
    m.view.read Val ((m.access r).write Val f w Finset.univ) = r.overlay (m.view.read Val f) w := by
  rw [← View.writes_singleton]
  funext y
  by_cases h : ∃ x, r.emb x = y
  · obtain ⟨x, rfl⟩ := h
    rw [Rect.overlay_emb]
    exact View.read_writes_cons_emb (v := m.view) (f := f) r w [] x
  · have hn : y ∉ r.set := by
      intro hm
      exact h (by rw [← Rect.map_emb_univ, Finset.mem_map] at hm; exact ⟨hm.choose, hm.choose_spec.2⟩)
    rw [Rect.overlay_of_not_mem _ _ _ hn]
    exact View.read_writes_cons_miss (v := m.view) (f := f) ⟨r, w⟩ [] y hn

section Steps

variable {defs : Defs nD τ sig Val Λ}
variable {𝒱 : Variants}
variable {c : Thread nD τ}
variable {bd : Option 𝒱.V}
variable {sp sp' : Space} {cs : CoreSpace} {s s' : Shape} {e e' : EltTy} {α : Type} {Q : α → sProp (MT nD τ sig Unit Val ℕ (Pipeline.UD sig nD τ) ℕ)}

variable (defs 𝒱 c bd) in
/-- The program's weakest precondition at every name. -/
abbrev W {α : Type}
    (p : Prog (TpuEff nD τ sig Val Λ c.2) α) (Q : α → sProp (MT nD τ sig Unit Val ℕ (Pipeline.UD sig nD τ) ℕ)) :
    sProp (MT nD τ sig Unit Val ℕ (Pipeline.UD sig nD τ) ℕ) :=
  wp frame (wpE defs 𝒱 c bd) Set.univ p Q

theorem W_pure (x : α) : Q x ⊢ W defs 𝒱 c bd (pure x) Q := by
  change Q x ⊢ W defs 𝒱 c bd (Prog.ret x) Q
  unfold W
  rw [wp_ret]
  iintro H
  imodintro
  iexact H

/-- A program met through a weaker post, at the head of a longer one. -/
theorem W_bind {β : Type} {p : Prog (TpuEff nD τ sig Val Λ c.2) β} {k : β → Prog (TpuEff nD τ sig Val Λ c.2) α} :
    W defs 𝒱 c bd p (fun x => W defs 𝒱 c bd (k x) Q) ⊢ W defs 𝒱 c bd (p >>= k) Q := by
  unfold W
  rw [wp_bind]

theorem W_bind_assoc {β γ : Type} {p : Prog (TpuEff nD τ sig Val Λ c.2) γ} {k' : γ → Prog (TpuEff nD τ sig Val Λ c.2) β}
    {k : β → Prog (TpuEff nD τ sig Val Λ c.2) α} :
    W defs 𝒱 c bd (p >>= fun x => k' x >>= k) Q ⊢ W defs 𝒱 c bd ((p >>= k') >>= k) Q := by
  rw [Prog.bind_assoc]

theorem W_wand {p : Prog (TpuEff nD τ sig Val Λ c.2) α} {Q' : α → sProp (MT nD τ sig Unit Val ℕ (Pipeline.UD sig nD τ) ℕ)} :
    iprop(W defs 𝒱 c bd p Q' ∗ (∀ x, Q' x -∗ Q x)) ⊢ W defs 𝒱 c bd p Q :=
  wp_wand_r _ _ _

/-- A load from a memref held whole. -/
theorem load_held {m : Memref sig c.2.kind cs s e} {r : Rect s} {hl : m.view.LoadsAt r.toLoadRect}
    {k : (r.shape.Idx → Val e) → Prog (TpuEff nD τ sig Val Λ c.2) α} {X : s.Idx → Val e} :
    Held c m X ⊢ iprop((Held c m X -∗ W defs 𝒱 c bd (k (ld X r)) Q)
      -∗ W defs 𝒱 c bd (Prog.lift (.load m r.toLoadRect hl) >>= k) Q) := by
  unfold Held
  iintro ⟨%f, Hf, %hX⟩ HK
  iapply (wp_load_rect 𝒱 c bd Set.univ (m := m) (r := r) (hl := hl) (k := k) (q := fullShare) (f := f) (View.set_slice_subset _ _)) $$ Hf
  iintro Hf
  subst hX
  iapply HK
  iexists f
  isplitl [Hf]
  · iexact Hf
  · ipureintro; rfl

/-- A load from a box held on its own. -/
theorem load_part {m : Memref sig c.2.kind cs s e} {r : Rect s} {hl : m.view.LoadsAt r.toLoadRect}
    {k : (r.shape.Idx → Val e) → Prog (TpuEff nD τ sig Val Λ c.2) α} {X : r.shape.Idx → Val e} :
    Part c m r X ⊢ iprop((Part c m r X -∗ W defs 𝒱 c bd (k X) Q)
      -∗ W defs 𝒱 c bd (Prog.lift (.load m r.toLoadRect hl) >>= k) Q) := by
  unfold Part
  iintro ⟨%f, Hf, %hX⟩ HK
  iapply (wp_load_rect 𝒱 c bd Set.univ (m := m) (r := r) (hl := hl) (k := k) (q := fullShare) (f := f) (Finset.Subset.refl _)) $$ Hf
  iintro Hf
  subst hX
  iapply HK
  iexists f
  isplitl [Hf]
  · iexact Hf
  · ipureintro; rfl

/-- A load from a box whose contents nothing is known of. -/
theorem load_part_any {m : Memref sig c.2.kind cs s e} {r : Rect s} {hl : m.view.LoadsAt r.toLoadRect}
    {k : (r.shape.Idx → Val e) → Prog (TpuEff nD τ sig Val Λ c.2) α} :
    PartAny c m r ⊢ iprop((∀ x, PartAny c m r -∗ W defs 𝒱 c bd (k x) Q)
      -∗ W defs 𝒱 c bd (Prog.lift (.load m r.toLoadRect hl) >>= k) Q) := by
  unfold PartAny
  iintro ⟨%f, Hf⟩ HK
  iapply (wp_load_rect 𝒱 c bd Set.univ (m := m) (r := r) (hl := hl) (k := k) (q := fullShare) (f := f) (Finset.Subset.refl _)) $$ Hf
  iintro Hf
  iapply HK
  iexists f
  iexact Hf

/-- A store into a memref held whole. -/
theorem store_held {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    Held c m X ⊢ iprop((Held c m (r.overlay X w) -∗ W defs 𝒱 c bd (k ⟨⟩) Q)
      -∗ W defs 𝒱 c bd (Prog.lift (.store m r w Finset.univ hx hm) >>= k) Q) := by
  unfold Held
  iintro ⟨%f, Hf, %hX⟩ HK
  iapply (wp_store 𝒱 c bd Set.univ (m := m) (r := r) (w := w) (hx := hx) (hm := hm) (k := k) (f := f)
    (by rw [View.setOn_univ]; exact View.set_slice_subset _ _)) $$ Hf
  iintro Hf
  subst hX
  iapply HK
  iexists ((m.access r).write Val f w Finset.univ)
  isplitl [Hf]
  · iexact Hf
  · ipureintro; exact read_write_access m r f w

/-- A store through exactly the box held. -/
theorem store_part {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    PartAny c m r ⊢ iprop((Part c m r w -∗ W defs 𝒱 c bd (k ⟨⟩) Q)
      -∗ W defs 𝒱 c bd (Prog.lift (.store m r w Finset.univ hx hm) >>= k) Q) := by
  unfold Part PartAny
  iintro ⟨%f, Hf⟩ HK
  iapply (wp_store 𝒱 c bd Set.univ (m := m) (r := r) (w := w) (hx := hx) (hm := hm) (k := k) (f := f)
    (by rw [View.setOn_univ])) $$ Hf
  iintro Hf
  iapply HK
  iexists ((m.access r).write Val f w Finset.univ)
  isplitl [Hf]
  · iexact Hf
  · ipureintro; exact View.read_write_univ _ _

/-- One word of scalar memory. -/
theorem smem_load {m : Memref sig c.2.kind .smem s e} {r : Rect s} {h1 : r.shape.numel = 1} {hp : e.packing = 1}
    {k : Val e → Prog (TpuEff nD τ sig Val Λ c.2) α} {X : s.Idx → Val e} :
    Held c m X ⊢ iprop((Held c m X -∗ W defs 𝒱 c bd (k (ld X r (Shape.Idx.first (h1.symm ▸ Nat.one_pos)))) Q)
      -∗ W defs 𝒱 c bd (smemLoad m r h1 hp >>= k) Q) := by
  unfold Held
  iintro ⟨%f, Hf, %hX⟩ HK
  iapply (wp_smemLoadElt 𝒱 c bd Set.univ (m := m) (r := r) (hw := View.loads_smem_one hp h1) (k := k)
    (x := Shape.Idx.first (h1.symm ▸ Nat.one_pos)) (q := fullShare) (f := f) (View.set_slice_subset _ _)) $$ Hf
  iintro Hf
  subst hX
  iapply HK
  iexists f
  isplitl [Hf]
  · iexact Hf
  · ipureintro; rfl

/-- A side condition the program states, met. -/
theorem assume_step {P : Prop} {d : Decidable P} {k : PLift P → Prog (TpuEff nD τ sig Val Λ c.2) α} (h : P) :
    W defs 𝒱 c bd (k ⟨h⟩) Q ⊢ W defs 𝒱 c bd (Prog.lift (.assume P d) >>= k) Q :=
  wp_assume 𝒱 c bd Set.univ h

/-- What the core owes: nothing, whatever it has waited for. -/
def Owes (Val : EltTy → Type) (c : Thread nD τ) : sProp (MT nD τ sig Unit Val ℕ (Pipeline.UD sig nD τ) ℕ) :=
  iprop(∃ w, owes c 0 w)

/-- A memref lent for reading, at a share `q` of its elements, its contents `f` known. -/
def Lent (c : Thread nD τ) (m : Memref sig c.2.kind sp s e) (q : PosShare TreeShare) (f : Buf Val (m.view.loc c)) :
    sProp (MT nD τ sig Unit Val ℕ (Pipeline.UD sig nD τ) ℕ) :=
  m.view.loc c ↦[m.view.set]{q} f

/-- A memref held at contents nothing is known of. -/
def HeldAny (Val : EltTy → Type) (c : Thread nD τ) (m : Memref sig c.2.kind sp s e) : sProp (MT nD τ sig Unit Val ℕ (Pipeline.UD sig nD τ) ℕ) :=
  iprop(∃ f : Buf Val (m.view.loc c), (m.view.loc c ↦[m.view.set]{fullShare} f))

theorem held_any {m : Memref sig c.2.kind sp s e} {X : s.Idx → Val e} : Held c m X ⊢ HeldAny Val c m := by
  unfold Held HeldAny
  iintro ⟨%f, Hf, -⟩
  iexists f
  iexact Hf

theorem any_held {m : Memref sig c.2.kind sp s e} : HeldAny Val c m ⊢ iprop(∃ X, Held c m X) := by
  unfold Held HeldAny
  iintro ⟨%f, Hf⟩
  iexists m.view.read Val f
  iexists f
  isplitl [Hf]
  · iexact Hf
  · ipureintro; rfl

theorem part_any {m : Memref sig c.2.kind sp s e} {r : Rect s} {X : r.shape.Idx → Val e} : Part c m r X ⊢ PartAny (Val := Val) c m r := by
  unfold Part PartAny
  iintro ⟨%f, Hf, -⟩
  iexists f
  iexact Hf

/-- A copy of a whole memref into another is issued. -/
theorem enqueue_whole {ms : Memref sig c.2.kind sp s e} {md : Memref sig c.2.kind sp' s e} {sm : DmaSem sig}
    {h1 : ms.view.WordExact} {h2 : md.view.WordExact} {h3 : DmaTarget.Typed (nD := nD) sp (.dma sm) (.here md)}
    {k : PUnit → Prog (TpuEff nD τ sig Val Λ c.2) α} {q : PosShare TreeShare} {f : Buf Val (ms.view.loc c)}
    (h0 : 0 < s.numel) :
    iprop(Lent c ms q f ∗ HeldAny Val c md ∗ semVal (c, SemLoc.dma sm) 0)
      ⊢ iprop((Transfers.Flight EC0 c (.dma sm) () (md.view.ref.dmaCredit s e) iprop(Held c md (ms.view.read Val f) ∗ Lent c ms q f)
            -∗ W defs 𝒱 c bd (k ⟨⟩) Q)
        -∗ W defs 𝒱 c bd (Prog.lift (.enqueueDma ms (.here md) (.dma sm) h1 h2 h3) >>= k) Q) := by
  unfold HeldAny
  iintro ⟨Hs, ⟨%g, Hd⟩, Hv⟩ HK
  iapply (Transfers.wp_dmaLocal EC0 𝒱 c bd (src := ms) (via := .same) (dst := md) (sm := .dma sm) (k := k) (q := q) (fs := f) (Sd := md.view.set) (fd := g)
    () (md.view.ref.dmaCredit s e) rfl (md.view.amount_pos (.dma sm) h0) (Finset.Subset.refl _)) $$ [Hs Hd Hv]
  · unfold Lent
    isplitl [Hs]
    · iexact Hs
    isplitl [Hd]
    · iexact Hd
    · iexact Hv
  iintro Hf
  iapply HK
  iapply (Transfers.Flight_mono EC0 c (D' := iprop(Held c md (ms.view.read Val f) ∗ Lent c ms q f)) ?_) $$ Hf
  iintro ⟨Hd, Hs⟩
  unfold Held Lent
  isplitl [Hd]
  · iexists _
    isplitl [Hd]
    · iexact Hd
    · ipureintro; exact View.read_write_univ _ _
  · iexact Hs

/-- A copy of one box of a memref into one box of another, each squeezed to the same shape, is issued; what it
    delivers reads `X`, the source's box. -/
theorem enqueue_box {s₁ : Shape} {ms : Memref sig c.2.kind sp s e} {md : Memref sig c.2.kind sp' s' e} {rs : Rect s} {rd : Rect s'}
    {hrs : ∀ a, rs.stride a = 1} {hrd : ∀ a, rd.stride a = 1} {hqs : rs.shape.Squeezes s₁} {hqd : rd.shape.Squeezes s₁} {sm : DmaSem sig}
    {h1 : ((ms.slice rs hrs).squeeze s₁ hqs).view.WordExact} {h2 : ((md.slice rd hrd).squeeze s₁ hqd).view.WordExact}
    {h3 : DmaTarget.Typed (nD := nD) sp (.dma sm) (.here ((md.slice rd hrd).squeeze s₁ hqd))}
    {k : PUnit → Prog (TpuEff nD τ sig Val Λ c.2) α} {q : PosShare TreeShare} {f : Buf Val (ms.view.loc c)}
    {X : rd.shape.Idx → Val e}
    (hX : ∀ x : s₁.Idx, X (Shape.reshapeEquiv hqd.numel_eq x) = ld (ms.view.read Val f) rs (Shape.reshapeEquiv hqs.numel_eq x))
    (h0 : 0 < s₁.numel) :
    iprop(Lent c ms q f ∗ PartAny (Val := Val) c md rd ∗ semVal (c, SemLoc.dma sm) 0)
      ⊢ iprop((Transfers.Flight EC0 c (.dma sm) () (md.view.ref.dmaCredit s₁ e) iprop(Part c md rd X ∗ Lent c ms q f)
            -∗ W defs 𝒱 c bd (k ⟨⟩) Q)
        -∗ W defs 𝒱 c bd (Prog.lift (.enqueueDma ((ms.slice rs hrs).squeeze s₁ hqs) (.here ((md.slice rd hrd).squeeze s₁ hqd)) (.dma sm) h1 h2 h3) >>= k) Q) := by
  unfold PartAny
  iintro ⟨Hs, ⟨%g, Hd⟩, Hv⟩ HK
  unfold Lent
  have hset : ((ms.slice rs hrs).squeeze s₁ hqs).view.set ⊆ ms.view.set :=
    (View.set_reshape (ms.view.slice rs) hqs.numel_eq).subset.trans (View.set_slice_subset _ _)
  have hsetd : ((md.slice rd hrd).squeeze s₁ hqd).view.set = (md.access rd).set :=
    View.set_reshape (md.view.slice rd) hqd.numel_eq
  have hj := pointsTo_split_subset (ℓ := ms.view.loc c) (q := q) (f := f) (Ix := Unit) (Name := ℕ) (U := Pipeline.UD sig nD τ) (Lvl := ℕ) hset
  icases hj.1 $$ Hs with ⟨Hs, Hrest⟩
  iapply (Transfers.wp_dmaLocal EC0 𝒱 c bd (src := ((ms.slice rs hrs).squeeze s₁ hqs)) (via := .same) (dst := ((md.slice rd hrd).squeeze s₁ hqd)) (sm := .dma sm) (k := k) (q := q) (fs := f) (Sd := (md.access rd).set) (fd := g)
    () (md.view.ref.dmaCredit s₁ e) rfl (View.amount_pos ((md.slice rd hrd).squeeze s₁ hqd).view (.dma sm) h0) hsetd.subset) $$ [Hs Hd Hv]
  · isplitl [Hs]
    · iexact Hs
    isplitl [Hd]
    · iexact Hd
    · iexact Hv
  iintro Hf
  icases (Transfers.Flight_frame EC0 c) $$ [Hrest Hf] with Hf
  · isplitl [Hrest]
    · iexact Hrest
    · iexact Hf
  iapply HK
  iapply (Transfers.Flight_mono EC0 c (D' := iprop(Part c md rd X ∗ (ms.view.loc c ↦[ms.view.set]{q} f))) ?_) $$ Hf
  iintro ⟨Hrest, Hd, Hs⟩
  isplitl [Hd]
  · unfold Part
    iexists _
    isplitl [Hd]
    · iexact Hd
    · ipureintro
      funext y
      obtain ⟨x, rfl⟩ := (Shape.reshapeEquiv hqd.numel_eq).surjective y
      rw [hX x]
      exact congrFun (View.read_write_univ (v := ((md.slice rd hrd).squeeze s₁ hqd).view) g _) x
  · icases hj.2 $$ [Hs Hrest] with H
    · isplitl [Hs]
      · iexact Hs
      · iexact Hrest
    iexact H

/-- A copy of one box of a memref into the like box of another is issued; what it delivers reads `X`, what the
    source's box reads. -/
theorem enqueue_part {ms : Memref sig c.2.kind sp s e} {md : Memref sig c.2.kind sp' s e} {rs : Rect s}
    {hrs : ∀ a, rs.stride a = 1} {sm : DmaSem sig}
    {h1 : (ms.slice rs hrs).view.WordExact} {h2 : (md.slice rs hrs).view.WordExact}
    {h3 : DmaTarget.Typed (nD := nD) sp (.dma sm) (.here (md.slice rs hrs))}
    {k : PUnit → Prog (TpuEff nD τ sig Val Λ c.2) α} {X : rs.shape.Idx → Val e} (h0 : 0 < rs.shape.numel) :
    iprop(Part c ms rs X ∗ PartAny (Val := Val) c md rs ∗ semVal (c, SemLoc.dma sm) 0)
      ⊢ iprop((Transfers.Flight EC0 c (.dma sm) () (md.view.ref.dmaCredit rs.shape e) iprop(Part c md rs X ∗ Part c ms rs X)
            -∗ W defs 𝒱 c bd (k ⟨⟩) Q)
        -∗ W defs 𝒱 c bd (Prog.lift (.enqueueDma (ms.slice rs hrs) (.here (md.slice rs hrs)) (.dma sm) h1 h2 h3) >>= k) Q) := by
  unfold PartAny Part
  iintro ⟨⟨%f, Hs, %hX⟩, ⟨%g, Hd⟩, Hv⟩ HK
  iapply (Transfers.wp_dmaLocal EC0 𝒱 c bd (src := ms.slice rs hrs) (via := .same) (dst := md.slice rs hrs) (sm := .dma sm) (k := k) (q := fullShare) (fs := f) (Sd := (md.access rs).set) (fd := g)
    () (md.view.ref.dmaCredit rs.shape e) rfl (View.amount_pos (md.slice rs hrs).view (.dma sm) h0) (Finset.Subset.refl _)) $$ [Hs Hd Hv]
  · isplitl [Hs]
    · iexact Hs
    isplitl [Hd]
    · iexact Hd
    · iexact Hv
  iintro Hf
  iapply HK
  iapply (Transfers.Flight_mono EC0 c ?_) $$ Hf
  iintro ⟨Hd, Hs⟩
  isplitl [Hd]
  · iexists _
    isplitl [Hd]
    · iexact Hd
    · ipureintro
      subst hX
      exact View.read_write_univ _ _
  · iexists f
    isplitl [Hs]
    · iexact Hs
    · ipureintro; exact hX

/-- The wait for a copy in flight. -/
theorem wait_step {κ' : Kind} {sm : DmaSem sig} {srcw : Memref sig c.2.kind sp' s' e'} {dstw : Memref sig κ' sp s e}
    {h1 : srcw.view.WordExact} {h2 : dstw.view.WordExact} {k : PUnit → Prog (TpuEff nD τ sig Val Λ c.2) α} {N : ℕ}
    (hN : dstw.view.dmaCredit = N) {D : sProp (MT nD τ sig Unit Val ℕ (Pipeline.UD sig nD τ) ℕ)} :
    iprop(Transfers.Flight EC0 c (.dma sm) () N D ∗ Owes Val c)
      ⊢ iprop((iprop(D ∗ semVal (c, SemLoc.dma sm) 0 ∗ Owes Val c) -∗ W defs 𝒱 c bd (k ⟨⟩) Q)
        -∗ W defs 𝒱 c bd (Prog.lift (.waitDma2 sm srcw dstw h1 h2) >>= k) Q) := by
  unfold Owes
  iintro ⟨Hf, ⟨%w, Ho⟩⟩ HK
  iapply (Transfers.wp_waitLocal EC0 𝒱 c bd (sem := sm) (srcw := srcw) (dstw := dstw) (hsrc := h1) (hdst := h2) (k := k) () hN) $$ [Hf Ho]
  · isplitl [Hf]
    · iexact Hf
    · iexact Ho
  iintro ⟨HD, Hv, Ho⟩
  iapply HK
  isplitl [HD]
  · iexact HD
  isplitl [Hv]
  · iexact Hv
  · iexists _
    iexact Ho

/-! ## The same at a box named by another, equal offset; and at the whole -/

theorem load_held_at {m : Memref sig c.2.kind cs s e} {off off' sz : Fin s.rank → ℕ} (h : off = off')
    {inb : ∀ a, off a + sz a ≤ s.size a} (inb' : ∀ a, off' a + sz a ≤ s.size a) {hl : m.view.LoadsAt (Rect.unit off sz inb).toLoadRect}
    {k : ((Rect.unit off sz inb).shape.Idx → Val e) → Prog (TpuEff nD τ sig Val Λ c.2) α} {X : s.Idx → Val e} :
    Held c m X ⊢ iprop((Held c m X -∗ W defs 𝒱 c bd (k (ld X (Rect.unit off' sz inb'))) Q)
      -∗ W defs 𝒱 c bd (Prog.lift (.load m (Rect.unit off sz inb).toLoadRect hl) >>= k) Q) := by
  subst h; exact load_held

theorem store_held_at {m : Memref sig c.2.kind cs s e} {off off' sz : Fin s.rank → ℕ} (h : off = off')
    {inb : ∀ a, off a + sz a ≤ s.size a} (inb' : ∀ a, off' a + sz a ≤ s.size a) {w : (Rect.unit off sz inb).shape.Idx → Val e}
    {hx : (m.access (Rect.unit off sz inb)).Stores Finset.univ} {hm : (Finset.univ : Finset (Rect.unit off sz inb).shape.Idx) = Finset.univ ∨ ∀ a, (Rect.unit off sz inb).stride a = 1}
    {k : PUnit → Prog (TpuEff nD τ sig Val Λ c.2) α} {X : s.Idx → Val e} :
    Held c m X ⊢ iprop((Held c m ((Rect.unit off' sz inb').overlay X w) -∗ W defs 𝒱 c bd (k ⟨⟩) Q)
      -∗ W defs 𝒱 c bd (Prog.lift (.store m (Rect.unit off sz inb) w Finset.univ hx hm) >>= k) Q) := by
  subst h; exact store_held

theorem load_part_at {m : Memref sig c.2.kind cs s e} {off off' sz : Fin s.rank → ℕ} (h : off = off')
    {inb : ∀ a, off a + sz a ≤ s.size a} (inb' : ∀ a, off' a + sz a ≤ s.size a) {hl : m.view.LoadsAt (Rect.unit off sz inb).toLoadRect}
    {k : ((Rect.unit off sz inb).shape.Idx → Val e) → Prog (TpuEff nD τ sig Val Λ c.2) α} {X : (Rect.unit off' sz inb').shape.Idx → Val e} :
    Part c m (Rect.unit off' sz inb') X ⊢ iprop((Part c m (Rect.unit off' sz inb') X -∗ W defs 𝒱 c bd (k X) Q)
      -∗ W defs 𝒱 c bd (Prog.lift (.load m (Rect.unit off sz inb).toLoadRect hl) >>= k) Q) := by
  subst h; exact load_part

theorem load_part_any_at {m : Memref sig c.2.kind cs s e} {off off' sz : Fin s.rank → ℕ} (h : off = off')
    {inb : ∀ a, off a + sz a ≤ s.size a} (inb' : ∀ a, off' a + sz a ≤ s.size a) {hl : m.view.LoadsAt (Rect.unit off sz inb).toLoadRect}
    {k : ((Rect.unit off sz inb).shape.Idx → Val e) → Prog (TpuEff nD τ sig Val Λ c.2) α} :
    PartAny c m (Rect.unit off' sz inb') ⊢ iprop((∀ x, PartAny c m (Rect.unit off' sz inb') -∗ W defs 𝒱 c bd (k x) Q)
      -∗ W defs 𝒱 c bd (Prog.lift (.load m (Rect.unit off sz inb).toLoadRect hl) >>= k) Q) := by
  subst h; exact load_part_any

theorem store_part_at {m : Memref sig c.2.kind cs s e} {off off' sz : Fin s.rank → ℕ} (h : off = off')
    {inb : ∀ a, off a + sz a ≤ s.size a} (inb' : ∀ a, off' a + sz a ≤ s.size a) {w : (Rect.unit off sz inb).shape.Idx → Val e}
    {hx : (m.access (Rect.unit off sz inb)).Stores Finset.univ} {hm : (Finset.univ : Finset (Rect.unit off sz inb).shape.Idx) = Finset.univ ∨ ∀ a, (Rect.unit off sz inb).stride a = 1}
    {k : PUnit → Prog (TpuEff nD τ sig Val Λ c.2) α} :
    PartAny c m (Rect.unit off' sz inb') ⊢ iprop((Part c m (Rect.unit off' sz inb') w -∗ W defs 𝒱 c bd (k ⟨⟩) Q)
      -∗ W defs 𝒱 c bd (Prog.lift (.store m (Rect.unit off sz inb) w Finset.univ hx hm) >>= k) Q) := by
  subst h; exact store_part

/-- Reading the whole of a vector gives the vector. -/
theorem ld_full {off : Fin s.rank → ℕ} {inb : ∀ a, off a + s.size a ≤ s.size a} (h : ∀ a, off a = 0) (X : s.Idx → Val e) :
    ld X (Rect.unit (s := s) off s.size inb) = X := by
  funext x
  refine congrArg X (funext fun a => Fin.ext ?_)
  change off a + 1 * (x a).val = (x a).val
  rw [h a]; omega

/-- Replacing the whole of a vector gives the replacement. -/
theorem overlay_full {off : Fin s.rank → ℕ} {inb : ∀ a, off a + s.size a ≤ s.size a} (h : ∀ a, off a = 0) (X w : s.Idx → Val e) :
    (Rect.unit (s := s) off s.size inb).overlay (α := Val e) X w = w := by
  funext x
  have hx : (Rect.unit (s := s) off s.size inb).emb x = x := funext fun a => Fin.ext (by
    rw [Rect.emb_apply]
    change off a + 1 * (x a).val = (x a).val
    rw [h a]; omega)
  exact (congrArg _ hx.symm).trans (Rect.overlay_emb (Rect.unit (s := s) off s.size inb) X w x)

theorem load_full {m : Memref sig c.2.kind cs s e} {off : Fin s.rank → ℕ} (h : ∀ a, off a = 0)
    {inb : ∀ a, off a + s.size a ≤ s.size a} {hl : m.view.LoadsAt (Rect.unit off s.size inb).toLoadRect}
    {k : ((Rect.unit off s.size inb).shape.Idx → Val e) → Prog (TpuEff nD τ sig Val Λ c.2) α} {X : s.Idx → Val e} :
    Held c m X ⊢ iprop((Held c m X -∗ W defs 𝒱 c bd (k X) Q)
      -∗ W defs 𝒱 c bd (Prog.lift (.load m (Rect.unit off s.size inb).toLoadRect hl) >>= k) Q) := by
  have H := load_held (defs := defs) (𝒱 := 𝒱) (bd := bd) (Q := Q) (m := m) (r := Rect.unit off s.size inb) (hl := hl) (k := k) (X := X)
  rwa [ld_full h X] at H

theorem store_full {m : Memref sig c.2.kind cs s e} {off : Fin s.rank → ℕ} (h : ∀ a, off a = 0)
    {inb : ∀ a, off a + s.size a ≤ s.size a} {w : (Rect.unit off s.size inb).shape.Idx → Val e}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    Held c m X ⊢ iprop((Held (s := s) c m w -∗ W defs 𝒱 c bd (k ⟨⟩) Q)
      -∗ W defs 𝒱 c bd (Prog.lift (.store m (Rect.unit off s.size inb) w Finset.univ hx hm) >>= k) Q) := by
  have H := store_held (defs := defs) (𝒱 := 𝒱) (bd := bd) (Q := Q) (m := m) (r := Rect.unit off s.size inb) (w := w) (hx := hx) (hm := hm) (k := k) (X := X)
  rwa [overlay_full h X w] at H

/-- A load from a memref held whole whose value nothing is made of. -/
theorem load_any {m : Memref sig c.2.kind cs s e} {r : Rect s} {hl : m.view.LoadsAt r.toLoadRect}
    {k : (r.shape.Idx → Val e) → Prog (TpuEff nD τ sig Val Λ c.2) α} :
    HeldAny Val c m ⊢ iprop((∀ x, HeldAny Val c m -∗ W defs 𝒱 c bd (k x) Q)
      -∗ W defs 𝒱 c bd (Prog.lift (.load m r.toLoadRect hl) >>= k) Q) := by
  iintro H HK
  icases any_held $$ H with ⟨%X, H⟩
  iapply load_held $$ H
  iintro H
  iapply HK
  iapply held_any $$ H

/-- A store over the whole of a memref whose contents nothing is known of. -/
theorem store_any {m : Memref sig c.2.kind cs s e} {off : Fin s.rank → ℕ} (h : ∀ a, off a = 0)
    {inb : ∀ a, off a + s.size a ≤ s.size a} {w : (Rect.unit off s.size inb).shape.Idx → Val e}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig Val Λ c.2) α} :
    HeldAny Val c m ⊢ iprop((Held (s := s) c m w -∗ W defs 𝒱 c bd (k ⟨⟩) Q)
      -∗ W defs 𝒱 c bd (Prog.lift (.store m (Rect.unit off s.size inb) w Finset.univ hx hm) >>= k) Q) := by
  iintro H HK
  icases any_held $$ H with ⟨%X, H⟩
  iapply (store_full h) $$ H
  iintro H
  iapply HK
  iexact H

/-- A counted loop at the head of a program, by what holds before each trip. -/
theorem loop_step {w : ℕ} {σ : Type} {L : Scf.Loop w} {hok : L.OK} {init : σ} {body : Fin L.trips → σ → Prog (TpuEff nD τ sig Val Λ c.2) σ}
    (I : ℕ → σ → sProp (MT nD τ sig Unit Val ℕ (Pipeline.UD sig nD τ) ℕ))
    (hbody : ∀ (k : Fin L.trips) (acc : σ), I k acc ⊢ W defs 𝒱 c bd (body k acc) (I (k.val + 1)))
    {k : σ → Prog (TpuEff nD τ sig Val Λ c.2) α} :
    I 0 init ⊢ iprop((∀ acc, I L.trips acc -∗ W defs 𝒱 c bd (k acc) Q) -∗ W defs 𝒱 c bd (Scf.Loop.for L hok init body >>= k) Q) :=
  Scf.wp_for_bind frame (wpE defs 𝒱 c bd) Set.univ L.lb L.ub L.st hok init body I hbody

/-- A piece that only hands its value on. -/
theorem pure_step {β : Type} {p : Prog (TpuEff nD τ sig Val Λ c.2) β} {k : β → Prog (TpuEff nD τ sig Val Λ c.2) α} {x : β} (h : p = pure x) :
    W defs 𝒱 c bd (k x) Q ⊢ W defs 𝒱 c bd (p >>= k) Q := by
  subst h; exact .rfl

/-- A loop that ends its piece of the program. -/
theorem loop_only {w : ℕ} {σ : Type} {L : Scf.Loop w} {hok : L.OK} {init : σ} {body : Fin L.trips → σ → Prog (TpuEff nD τ sig Val Λ c.2) σ}
    (I : ℕ → σ → sProp (MT nD τ sig Unit Val ℕ (Pipeline.UD sig nD τ) ℕ))
    (hbody : ∀ (k : Fin L.trips) (acc : σ), I k acc ⊢ W defs 𝒱 c bd (body k acc) (I (k.val + 1))) :
    I 0 init ⊢ W defs 𝒱 c bd (Scf.Loop.for L hok init body) (I L.trips) := by
  iintro H
  iapply (Scf.wp_for frame (wpE defs 𝒱 c bd) Set.univ L.lb L.ub L.st hok init body I hbody (Q := I L.trips))
  isplitl [H]
  · iexact H
  · iintro %_ H
    iexact H

/-- A piece of the program met on its own, at the head of the rest. -/
theorem piece {β : Type} {p : Prog (TpuEff nD τ sig Val Λ c.2) β} {k : β → Prog (TpuEff nD τ sig Val Λ c.2) α}
    {P : sProp (MT nD τ sig Unit Val ℕ (Pipeline.UD sig nD τ) ℕ)} {R : β → sProp (MT nD τ sig Unit Val ℕ (Pipeline.UD sig nD τ) ℕ)}
    (h : P ⊢ W defs 𝒱 c bd p R) :
    P ⊢ iprop((∀ x, R x -∗ W defs 𝒱 c bd (k x) Q) -∗ W defs 𝒱 c bd (p >>= k) Q) := by
  iintro H HK
  iapply W_bind
  iapply (W_wand (Q' := R))
  isplitl [H]
  · iapply h $$ H
  · iexact HK

/-- A vector memory's packed store: what is there is read, changed and written back. -/
theorem store_sub {m : Memref sig c.2.kind .vmem s e} {r : Rect s} {w : (r.shape.Idx → Val e) → (r.shape.Idx → Val e)}
    {hl : m.view.LoadsAt r.toLoadRect} {hs : (m.access r).Stores Finset.univ}
    {k : PUnit → Prog (TpuEff nD τ sig Val Λ c.2) α} {X : s.Idx → Val e} :
    Held c m X ⊢ iprop((Held c m (r.overlay X (w (ld X r))) -∗ W defs 𝒱 c bd (k ⟨⟩) Q)
      -∗ W defs 𝒱 c bd (storeSubelements m r w hl hs >>= k) Q) := by
  have hp : (storeSubelements m r w hl hs >>= k : Prog (TpuEff nD τ sig Val Λ c.2) α)
      = Prog.lift (.load m r.toLoadRect hl) >>= fun old => Prog.lift (.store m r (w old) Finset.univ hs (.inl rfl)) >>= k := rfl
  rw [hp]
  iintro H HK
  iapply load_held $$ H
  iintro H
  iapply store_held $$ H
  iexact HK

end Steps

end Cert.Walk
-- ==== Proof.Fam.lean ====
/-
  Hand-written, untrusted. A memref as a family of its boxes, and a lent memref as a family of shares: each
  split comes with the way back.
-/
module

public import proofs.«01_k».proof.Proof.Rules

@[expose] public section

noncomputable section

namespace Cert.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {nD : Nat} {τ : Topo} {sig : RefSig} {Val : EltTy → Type}
variable {c : Thread nD τ} {sp : Space} {s : Shape} {e : EltTy} {ι : Type} [Fintype ι] [DecidableEq ι]

/-- Boxes with no index in common have no element in common. -/
theorem access_disjoint {κ : Kind} (m : Memref sig κ sp s e) {r r' : Rect s} (h : Disjoint r.set r'.set) :
    Disjoint (m.access r).set (m.access r').set := by
  change Disjoint (m.view.slice r).set (m.view.slice r').set
  rw [View.set_slice, View.set_slice]
  exact (Finset.disjoint_map m.view.emb).mpr h

/-- A memref held at anything is its boxes, each held at anything, and they give it back. -/
theorem split_parts (m : Memref sig c.2.kind sp s e) (r : ι → Rect s) (hd : ∀ i j, i ≠ j → Disjoint (r i).set (r j).set) :
    HeldAny Val c m ⊢ iprop((bigSep Finset.univ fun i => PartAny (Val := Val) c m (r i))
      ∗ ((bigSep Finset.univ fun i => PartAny (Val := Val) c m (r i)) -∗ HeldAny Val c m)) := by
  unfold HeldAny
  have hdd : ∀ i ∈ (Finset.univ : Finset ι), ∀ j ∈ (Finset.univ : Finset ι), i ≠ j → Disjoint (m.access (r i)).set (m.access (r j)).set :=
    fun i _ j _ h => access_disjoint m (hd i j h)
  have hsub : (Finset.univ.biUnion fun i => (m.access (r i)).set) ⊆ m.view.set :=
    Finset.biUnion_subset.mpr fun i _ => View.set_slice_subset _ _
  iintro ⟨%f, Hf⟩
  have : Nonempty (Buf Val (m.view.loc c)) := ⟨f⟩
  have hs := pointsTo_split_subset (ℓ := m.view.loc c) (q := fullShare) (f := f) (Ix := Unit) (Name := ℕ) (U := Pipeline.UD sig nD τ) (Lvl := ℕ) hsub
  icases hs.1 $$ Hf with ⟨Hf, Hrest⟩
  have hb := pointsTo_biUnion (ℓ := m.view.loc c) (q := fullShare) (f := f) (Ix := Unit) (Name := ℕ) (U := Pipeline.UD sig nD τ) (Lvl := ℕ) Finset.univ (fun i => (m.access (r i)).set) hdd
  isplitl [Hf]
  · iapply (show ((m.view.loc c ↦[Finset.univ.biUnion fun i => (m.access (r i)).set]{fullShare} f) : sProp (MT nD τ sig Unit Val ℕ (Pipeline.UD sig nD τ) ℕ)) ⊢ _ from
      (Entails.of_eq hb).trans (bigSep_mono (Ψ := fun i => PartAny (Val := Val) c m (r i)) fun i _ => by
        change (m.view.loc c ↦[(m.access (r i)).set]{fullShare} f) ⊢ PartAny (Val := Val) c m (r i)
        unfold PartAny; iintro H; iexists f; iexact H))
    iexact Hf
  · iintro H
    unfold PartAny
    ihave H := (bigSep_exists_pi Finset.univ (fun i (f : Buf Val (m.view.loc c)) => (m.view.loc c ↦[(m.access (r i)).set]{fullShare} f : sProp (MT nD τ sig Unit Val ℕ (Pipeline.UD sig nD τ) ℕ)))) $$ H
    icases H with ⟨%fs, H⟩
    ihave H := (pointsTo_biUnion_join Finset.univ (fun i => (m.access (r i)).set) fs f hdd) $$ H
    icases H with ⟨%g, -, H⟩
    ihave H := (pointsTo_join (f := g) (g := f) Finset.disjoint_sdiff) $$ [H Hrest]
    · isplitl [H]
      · iexact H
      · iexact Hrest
    rw [Finset.union_sdiff_of_subset hsub]
    iexists _
    iexact H

/-- Boxes that cover a memref, each held at its part of `X`, are the memref held at `X`. -/
theorem join_parts [Nonempty ι] (m : Memref sig c.2.kind sp s e) (r : ι → Rect s) (hd : ∀ i j, i ≠ j → Disjoint (r i).set (r j).set)
    (hc : ∀ x : s.Idx, ∃ i, x ∈ (r i).set) (X : s.Idx → Val e) :
    (bigSep Finset.univ fun i => Part (Val := Val) c m (r i) (ld X (r i))) ⊢ Held c m X := by
  have hdd : ∀ i ∈ (Finset.univ : Finset ι), ∀ j ∈ (Finset.univ : Finset ι), i ≠ j → Disjoint (m.access (r i)).set (m.access (r j)).set :=
    fun i _ j _ h => access_disjoint m (hd i j h)
  have hset : (Finset.univ.biUnion fun i => (m.access (r i)).set) = m.view.set := by
    apply Finset.Subset.antisymm
    · exact Finset.biUnion_subset.mpr fun i _ => View.set_slice_subset _ _
    · intro y hy
      obtain ⟨x, -, rfl⟩ := Finset.mem_map.mp hy
      obtain ⟨i, hi⟩ := hc x
      refine Finset.mem_biUnion.mpr ⟨i, Finset.mem_univ _, ?_⟩
      change _ ∈ (m.view.slice (r i)).set
      rw [View.set_slice]
      exact Finset.mem_map.mpr ⟨x, hi, rfl⟩
  by_cases hne : Nonempty (Buf Val (m.view.loc c))
  swap
  · iintro H
    obtain ⟨i₀⟩ := ‹Nonempty ι›
    ihave H := (show (bigSep Finset.univ fun i => Part (Val := Val) c m (r i) (ld X (r i))) ⊢ Part (Val := Val) c m (r i₀) (ld X (r i₀)) from bigSep_elim (Finset.mem_univ i₀)) $$ H
    unfold Part
    icases H with ⟨%f, -, -⟩
    exact absurd ⟨f⟩ hne
  · obtain ⟨f₀⟩ := hne
    have : Nonempty (Buf Val (m.view.loc c)) := ⟨f₀⟩
    unfold Part Held
    iintro H
    ihave H := (bigSep_exists_pi Finset.univ (fun i (f : Buf Val (m.view.loc c)) => (iprop((m.view.loc c ↦[(m.access (r i)).set]{fullShare} f) ∗ ⌜(m.access (r i)).read Val f = ld X (r i)⌝) : sProp (MT nD τ sig Unit Val ℕ (Pipeline.UD sig nD τ) ℕ)))) $$ H
    icases H with ⟨%fs, H⟩
    ihave H := (show (bigSep Finset.univ fun i => (iprop((m.view.loc c ↦[(m.access (r i)).set]{fullShare} fs i) ∗ ⌜(m.access (r i)).read Val (fs i) = ld X (r i)⌝) : sProp (MT nD τ sig Unit Val ℕ (Pipeline.UD sig nD τ) ℕ)))
        ⊢ iprop(⌜∀ i ∈ (Finset.univ : Finset ι), (m.access (r i)).read Val (fs i) = ld X (r i)⌝ ∗ bigSep Finset.univ fun i => m.view.loc c ↦[(m.access (r i)).set]{fullShare} fs i) from
        (bigSep_mono fun i _ => show iprop((m.view.loc c ↦[(m.access (r i)).set]{fullShare} fs i) ∗ ⌜(m.access (r i)).read Val (fs i) = ld X (r i)⌝) ⊢ iprop(⌜(m.access (r i)).read Val (fs i) = ld X (r i)⌝ ∗ (m.view.loc c ↦[(m.access (r i)).set]{fullShare} fs i)) from by
          iintro ⟨H, %h⟩
          isplitr
          · ipureintro; exact h
          · iexact H).trans (bigSep_pure_sep Finset.univ _ _)) $$ H
    icases H with ⟨%hp, H⟩
    ihave H := (pointsTo_biUnion_join Finset.univ (fun i => (m.access (r i)).set) fs f₀ hdd) $$ H
    icases H with ⟨%g, %hg, H⟩
    rw [hset]
    iexists g
    isplitl [H]
    · iexact H
    · ipureintro
      funext x
      obtain ⟨i, hi⟩ := hc x
      rw [← Rect.map_emb_univ] at hi
      obtain ⟨y, -, rfl⟩ := Finset.mem_map.mp hi
      have h1 := congrFun (hp i (Finset.mem_univ _)) y
      refine Eq.trans ?_ h1
      change (m.access (r i)).read Val g y = (m.access (r i)).read Val (fs i) y
      rw [View.read_apply, View.read_apply]
      rw [hg i (Finset.mem_univ _) _ (Finset.mem_map.mpr ⟨y, Finset.mem_univ _, rfl⟩)]

/-- A lent memref is a family of `n` shares of it, and they give it back. -/
theorem split_shares (m : Memref sig c.2.kind sp s e) (q : PosShare TreeShare) (n : ℕ) (f : Buf Val (m.view.loc c)) :
    Lent c m q f ⊢ iprop((bigSep Finset.univ fun i : Fin n => Lent c m (Transfers.shareTok q n i) f)
      ∗ ((bigSep Finset.univ fun i : Fin n => Lent c m (Transfers.shareTok q n i) f) -∗ Lent c m q f)) := by
  unfold Lent
  iintro H
  icases (Transfers.pointsTo_toks_split (ℓ := m.view.loc c) (S := m.view.set) (f := f) (Ix := Unit) (Name := ℕ) (U := Pipeline.UD sig nD τ) (Lvl := ℕ) q n) $$ H with ⟨Hd, H⟩
  isplitl [H]
  · iexact H
  · iintro H
    iapply (Transfers.pointsTo_toks_join (ℓ := m.view.loc c) (S := m.view.set) (f := f) (Ix := Unit) (Name := ℕ) (U := Pipeline.UD sig nD τ) (Lvl := ℕ) q n)
    isplitl [Hd]
    · iexact Hd
    · iexact H

/-- A memref lent at a share is lent at the share's parts' parts, and they give it back. -/
theorem split_shares2 (m : Memref sig c.2.kind sp s e) (q : PosShare TreeShare) (n n' : ℕ) (f : Buf Val (m.view.loc c)) :
    Lent c m q f ⊢ iprop((bigSep Finset.univ fun i : Fin n => bigSep Finset.univ fun k : Fin n' => Lent c m (Transfers.shareTok (Transfers.shareTok q n i) n' k) f)
      ∗ ((bigSep Finset.univ fun i : Fin n => bigSep Finset.univ fun k : Fin n' => Lent c m (Transfers.shareTok (Transfers.shareTok q n i) n' k) f) -∗ Lent c m q f)) := by
  iintro H
  have h1 : (bigSep Finset.univ fun i : Fin n => Lent (Val := Val) c m (Transfers.shareTok q n i) f)
      ⊢ iprop((bigSep Finset.univ fun i : Fin n => bigSep Finset.univ fun k : Fin n' => Lent c m (Transfers.shareTok (Transfers.shareTok q n i) n' k) f)
        ∗ (bigSep Finset.univ fun i : Fin n => iprop((bigSep Finset.univ fun k : Fin n' => Lent c m (Transfers.shareTok (Transfers.shareTok q n i) n' k) f) -∗ Lent c m (Transfers.shareTok q n i) f))) :=
    (bigSep_mono fun i _ => split_shares m (Transfers.shareTok q n i) n' f).trans (Entails.of_eq (bigSep_sep _ _ _))
  have h0 : ∀ i : Fin n, iprop((bigSep Finset.univ fun k : Fin n' => Lent (Val := Val) c m (Transfers.shareTok (Transfers.shareTok q n i) n' k) f)
      ∗ ((bigSep Finset.univ fun k : Fin n' => Lent c m (Transfers.shareTok (Transfers.shareTok q n i) n' k) f) -∗ Lent c m (Transfers.shareTok q n i) f))
      ⊢ Lent c m (Transfers.shareTok q n i) f := fun i => by
    iintro ⟨H, HW⟩
    iapply HW
    iexact H
  have h2 : iprop((bigSep Finset.univ fun i : Fin n => bigSep Finset.univ fun k : Fin n' => Lent c m (Transfers.shareTok (Transfers.shareTok q n i) n' k) f)
        ∗ (bigSep Finset.univ fun i : Fin n => iprop((bigSep Finset.univ fun k : Fin n' => Lent c m (Transfers.shareTok (Transfers.shareTok q n i) n' k) f) -∗ Lent c m (Transfers.shareTok q n i) f)))
      ⊢ (bigSep Finset.univ fun i : Fin n => Lent (Val := Val) c m (Transfers.shareTok q n i) f) :=
    (Entails.of_eq (bigSep_sep _ _ _).symm).trans (bigSep_mono fun i _ => h0 i)
  icases (split_shares m q n f) $$ H with ⟨H, HB⟩
  icases h1 $$ H with ⟨H, HW⟩
  isplitl [H]
  · iexact H
  iintro H
  iapply HB
  iapply h2
  isplitl [H]
  · iexact H
  · iexact HW

end Cert.Walk

end
-- ==== Proof.KernelVals.lean ====
/-
  Hand-written, untrusted. What the kernel computes, as plain functions of the seven arrays it reads: the list of
  active experts, the first layer's sums chunk by chunk, the accumulator column by column, the result.
-/
module

public import proofs.«01_k».proof.Proof.Gen.Kernel.Skeleton
public import proofs.«01_k».proof.Proof.Fam

@[expose] public section

set_option maxRecDepth 16384

noncomputable section

namespace Cert.Kernel.Walk

open Cert.Kernel Cert.Kernel.Gen
open Idealize.ShloMosaic Idealize.ShloMosaic.TcCoe
open Idealize.ShloMosaic.View (ld)

variable {F : FTy → Type} [FloatOps F]

/-! ## The boxes the kernel moves and reads -/

theorem guDst_inb : ∀ (s : Fin 2) (k : Fin 7), ∀ a, (![s.val, 1024 * k.val, 0] : Fin 3 → ℕ) a + S1x1024x1536.size a ≤ S2x7168x1536.size a := by decide +kernel
theorem guSrc_inb : ∀ (e : Fin 32) (k : Fin 7), ∀ a, (![e.val, 1024 * k.val, 0] : Fin 3 → ℕ) a + S1x1024x1536.size a ≤ S32x7168x1536.size a := by decide +kernel
theorem dnDst_inb : ∀ (s : Fin 2) (k : Fin 4), ∀ a, (![s.val, 0, 1792 * k.val] : Fin 3 → ℕ) a + S1x768x1792.size a ≤ S2x768x7168.size a := by decide +kernel
theorem dnSrc_inb : ∀ (e : Fin 32) (k : Fin 4), ∀ a, (![e.val, 0, 1792 * k.val] : Fin 3 → ℕ) a + S1x768x1792.size a ≤ S32x768x7168.size a := by decide +kernel
theorem col_inb : ∀ (k : Fin 4), ∀ a, (![0, 1792 * k.val] : Fin 2 → ℕ) a + S33x1792.size a ≤ S33x7168.size a := by decide +kernel
theorem xcol_inb : ∀ (k : Fin 7), ∀ a, (![0, 1024 * k.val] : Fin 2 → ℕ) a + S48x1024.size a ≤ S48x7168.size a := by decide +kernel
theorem sguRow_inb : ∀ (e : Fin 32), ∀ a, (![e.val, 0] : Fin 2 → ℕ) a + S1x1536.size a ≤ S32x1536.size a := by decide +kernel
theorem sdnBox_inb : ∀ (e : Fin 32) (k : Fin 4), ∀ a, (![e.val, 1792 * k.val] : Fin 2 → ℕ) a + S1x1792.size a ≤ S32x7168.size a := by decide +kernel
theorem idBox_inb : ∀ (k : Fin 8) (t : Fin 33), ∀ a, (![k.val, t.val] : Fin 2 → ℕ) a + S1x1.size a ≤ S8x33.size a := by decide +kernel
theorem actBox_inb : ∀ (i : Fin 33), ∀ a, (![i.val] : Fin 1 → ℕ) a + S1.size a ≤ S33.size a := by decide +kernel

/-- Slot `s`, chunk `k` of the first layer's ring. -/
abbrev guDst (s : Fin 2) (k : Fin 7) : Rect S2x7168x1536 := Rect.unit (s := S2x7168x1536) ![s.val, 1024 * k.val, 0] S1x1024x1536.size (guDst_inb s k)
/-- Expert `e`, chunk `k` of the first layer's weights. -/
abbrev guSrc (e : Fin 32) (k : Fin 7) : Rect S32x7168x1536 := Rect.unit (s := S32x7168x1536) ![e.val, 1024 * k.val, 0] S1x1024x1536.size (guSrc_inb e k)
/-- Slot `s`, chunk `k` of the second layer's ring. -/
abbrev dnDst (s : Fin 2) (k : Fin 4) : Rect S2x768x7168 := Rect.unit (s := S2x768x7168) ![s.val, 0, 1792 * k.val] S1x768x1792.size (dnDst_inb s k)
/-- Expert `e`, chunk `k` of the second layer's weights. -/
abbrev dnSrc (e : Fin 32) (k : Fin 4) : Rect S32x768x7168 := Rect.unit (s := S32x768x7168) ![e.val, 0, 1792 * k.val] S1x768x1792.size (dnSrc_inb e k)
/-- Column chunk `k` of the result and of the accumulator. -/
abbrev col (k : Fin 4) : Rect S33x7168 := Rect.unit (s := S33x7168) ![0, 1792 * k.val] S33x1792.size (col_inb k)
/-- Column chunk `k` of the padded tokens. -/
abbrev xcol (k : Fin 7) : Rect S48x7168 := Rect.unit (s := S48x7168) ![0, 1024 * k.val] S48x1024.size (xcol_inb k)
/-- Expert `e`'s first-layer scales. -/
abbrev sguRow (e : Fin 32) : Rect S32x1536 := Rect.unit (s := S32x1536) ![e.val, 0] S1x1536.size (sguRow_inb e)
/-- Expert `e`'s second-layer scales at column chunk `k`. -/
abbrev sdnBox (e : Fin 32) (k : Fin 4) : Rect S32x7168 := Rect.unit (s := S32x7168) ![e.val, 1792 * k.val] S1x1792.size (sdnBox_inb e k)
/-- Routing slot `k` of token `t`. -/
abbrev idBox (k : Fin 8) (t : Fin 33) : Rect S8x33 := Rect.unit (s := S8x33) ![k.val, t.val] S1x1.size (idBox_inb k t)
/-- Entry `i` of the table of active experts. -/
abbrev actBox (i : Fin 33) : Rect S33 := Rect.unit (s := S33) ![i.val] S1.size (actBox_inb i)
/-- The first 34 rows of the padded tokens. -/
abbrev rows34 : Rect S48x7168 := Rect.unit (s := S48x7168) ![0, 0] S34x7168.size inb_S48x7168_S34x7168_0_0

/-! ## The arrays read, and what is computed of them -/

variable (F) in
/-- The seven arrays the kernel reads. -/
structure Vals where
  x : S33x7168.Idx → Elt F .bf16
  ids : S8x33.Idx → Elt F .i32
  rw : S8x33.Idx → Elt F .f32
  wgu : S32x7168x1536.Idx → Elt F .fp8e4m3
  sgu : S32x1536.Idx → Elt F .f32
  wdn : S32x768x7168.Idx → Elt F .fp8e4m3
  sdn : S32x7168.Idx → Elt F .f32

variable (V : Vals F)

/-- Expert `e`'s number as the word the kernel holds. -/
abbrev wd (e : Fin 32) : BitVec 32 := BitVec.ofNat 32 e.val

/-- The word at routing slot `k` of token `t`. -/
def idw (ids : S8x33.Idx → Elt F .i32) (k : Fin 8) (t : Fin 33) : BitVec 32 := ld (Val := Elt F) ids (idBox k t) (Shape.Idx.first (numel1_S1x1.symm ▸ Nat.one_pos))

/-- The first token's first expert, with which the active list starts. -/
def firstE : Fin 32 := ⟨(idw (F := F) V.ids 0 0).toNat % 32, Nat.mod_lt _ (by decide)⟩

/-- One token's eight experts put into the set of bits. -/
def bitsStep (acc : BitVec 32) (t : Fin 33) : BitVec 32 :=
  Scalar.ori (Scalar.ori (Scalar.ori (Scalar.ori (Scalar.ori (Scalar.ori (Scalar.ori (Scalar.ori acc
    (Scalar.shli 1#32 (idw (F := F) V.ids 0 t))) (Scalar.shli 1#32 (idw (F := F) V.ids 1 t))) (Scalar.shli 1#32 (idw (F := F) V.ids 2 t)))
    (Scalar.shli 1#32 (idw (F := F) V.ids 3 t))) (Scalar.shli 1#32 (idw (F := F) V.ids 4 t))) (Scalar.shli 1#32 (idw (F := F) V.ids 5 t)))
    (Scalar.shli 1#32 (idw (F := F) V.ids 6 t))) (Scalar.shli 1#32 (idw (F := F) V.ids 7 t))

/-- The set of bits after the first `t` tokens. -/
def bitsAt : ℕ → BitVec 32
  | 0 => 0#32
  | t + 1 => if h : t < 33 then bitsStep V (bitsAt t) ⟨t, h⟩ else bitsAt t

/-- Expert `e`'s bit, as the kernel reads it back. -/
def hasBit (e : Fin 32) : Prop := Scalar.andi (Scalar.shrsi (bitsAt V 33) (wd e)) 1#32 = 1#32
instance (e : Fin 32) : Decidable (hasBit V e) := inferInstanceAs (Decidable (_ = _))

/-- The active experts found among the first `j`. -/
def actl : ℕ → List (Fin 32)
  | 0 => [firstE V]
  | j + 1 => if h : j < 32 then (if hasBit V ⟨j, h⟩ ∧ (⟨j, h⟩ : Fin 32) ≠ firstE V then actl j ++ [⟨j, h⟩] else actl j) else actl j

/-- How many experts are active, and the `i`-th of them. -/
def nAct : ℕ := (actl V 32).length
def act (i : ℕ) : Fin 32 := (actl V 32).getD i (firstE V)

/-- The routing tables by token, and the padded tokens. -/
def idsT : Vec F S33x8 .i32 := k0_pay17 V.ids
def rwT : Vec F S33x8 .f32 := k0_pay18 V.rw
def xs : S48x7168.Idx → Elt F .bf16 :=
  rows34.overlay (k0_pay16 (F := F)) (updateSlice (ld (Val := Elt F) (e' := .bf16) (k0_pay16 (F := F)) rows34) (k0_pay19 V.x) ![0, 0] slices_S34x7168_S33x7168_0_0)

abbrev f7 (j : ℕ) : Fin 7 := ⟨j % 7, Nat.mod_lt _ (by decide)⟩
abbrev f4 (j : ℕ) : Fin 4 := ⟨j % 4, Nat.mod_lt _ (by decide)⟩
theorem f7_val (j : Fin 7) : f7 j.val = j := Fin.ext (Nat.mod_eq_of_lt j.isLt)
theorem f4_val (j : Fin 4) : f4 j.val = j := Fin.ext (Nat.mod_eq_of_lt j.isLt)

/-- The first layer's sums for expert `e` after `j` chunks. -/
def guMid (e : Fin 32) : ℕ → Vec F S48x1536 .f32
  | 0 => k0_pay3
  | j + 1 => k0_pay4 (guMid e j) (ld (Val := Elt F) (e' := .bf16) (xs V) (xcol (f7 j))) (ld (Val := Elt F) (e' := .fp8e4m3) V.wgu (guSrc e (f7 j)))

/-- Each token's weight for expert `e`, and its hidden layer there. -/
def rt (e : Fin 32) : FVec F S33x1 .f32 := k0_pay6 (wd e) (idsT V) (rwT V)
def hid (e : Fin 32) : FVec F S33x768 .bf16 := k0_pay7 (wd e) (idsT V) (guMid V e 7) (ld (Val := Elt F) (e' := .f32) V.sgu (sguRow e))

/-- The accumulator once expert `e`'s first `k` column chunks are added to `A`. -/
def accMid (e : Fin 32) (A : S33x7168.Idx → Elt F .f32) : ℕ → (S33x7168.Idx → Elt F .f32)
  | 0 => A
  | k + 1 => (col (f4 k)).overlay (accMid e A k) (k0_pay1 (rt V e) (hid V e) (ld (Val := Elt F) (e' := .fp8e4m3) V.wdn (dnSrc e (f4 k)))
      (ld (Val := Elt F) (e' := .f32) (accMid e A k) (col (f4 k))) (ld (Val := Elt F) (e' := .f32) V.sdn (sdnBox e (f4 k))))

/-- The accumulator after the first `i` active experts. -/
def accAt : ℕ → (S33x7168.Idx → Elt F .f32)
  | 0 => k0_pay15 (F := F)
  | i + 1 => accMid V (act V i) (accAt i) 4

/-- Column chunk `k` of the result. -/
def outCol (k : Fin 4) : S33x1792.Idx → Elt F .bf16 :=
  k0_pay2 (ld (Val := Elt F) (e' := .f32) (accMid V (act V (nAct V - 1)) (accAt V (nAct V - 1)) (k.val + 1)) (col k))

/-- The result. -/
def result : S33x7168.Idx → Elt F .bf16 :=
  (col 3).overlay ((col 2).overlay ((col 1).overlay ((col 0).overlay V.x (outCol V 0)) (outCol V 1)) (outCol V 2)) (outCol V 3)

/-! ## Facts about these -/

theorem col_disjoint : ∀ i j : Fin 4, i ≠ j → Disjoint (col i).set (col j).set := fun i j h =>
  Rect.unit_disjoint (s := S33x7168) (inb := col_inb i) (inb' := col_inb j) (1 : Fin 2)
    ((by decide +kernel : ∀ i j : Fin 4, i ≠ j → (![0, 1792 * i.val] : Fin 2 → ℕ) 1 + S33x1792.size 1 ≤ (![0, 1792 * j.val] : Fin 2 → ℕ) 1 ∨ (![0, 1792 * j.val] : Fin 2 → ℕ) 1 + S33x1792.size 1 ≤ (![0, 1792 * i.val] : Fin 2 → ℕ) 1) i j h)

theorem guDst_disjoint : ∀ p q : Fin 2 × Fin 7, p ≠ q → Disjoint (guDst p.1 p.2).set (guDst q.1 q.2).set := fun p q h => by
  by_cases h1 : p.1 = q.1
  · have h2 : p.2 ≠ q.2 := fun h2 => h (Prod.ext h1 h2)
    exact Rect.unit_disjoint (s := S2x7168x1536) (inb := guDst_inb p.1 p.2) (inb' := guDst_inb q.1 q.2) (1 : Fin 3)
      (by change 1024 * p.2.val + 1024 ≤ 1024 * q.2.val ∨ 1024 * q.2.val + 1024 ≤ 1024 * p.2.val
          have : p.2.val ≠ q.2.val := fun h => h2 (Fin.ext h)
          omega)
  · exact Rect.unit_disjoint (s := S2x7168x1536) (inb := guDst_inb p.1 p.2) (inb' := guDst_inb q.1 q.2) (0 : Fin 3)
      (by change p.1.val + 1 ≤ q.1.val ∨ q.1.val + 1 ≤ p.1.val
          have : p.1.val ≠ q.1.val := fun h => h1 (Fin.ext h)
          omega)

theorem dnDst_disjoint : ∀ p q : Fin 2 × Fin 4, p ≠ q → Disjoint (dnDst p.1 p.2).set (dnDst q.1 q.2).set := fun p q h => by
  by_cases h1 : p.1 = q.1
  · have h2 : p.2 ≠ q.2 := fun h2 => h (Prod.ext h1 h2)
    exact Rect.unit_disjoint (s := S2x768x7168) (inb := dnDst_inb p.1 p.2) (inb' := dnDst_inb q.1 q.2) (2 : Fin 3)
      (by change 1792 * p.2.val + 1792 ≤ 1792 * q.2.val ∨ 1792 * q.2.val + 1792 ≤ 1792 * p.2.val
          have : p.2.val ≠ q.2.val := fun h => h2 (Fin.ext h)
          omega)
  · exact Rect.unit_disjoint (s := S2x768x7168) (inb := dnDst_inb p.1 p.2) (inb' := dnDst_inb q.1 q.2) (0 : Fin 3)
      (by change p.1.val + 1 ≤ q.1.val ∨ q.1.val + 1 ≤ p.1.val
          have : p.1.val ≠ q.1.val := fun h => h1 (Fin.ext h)
          omega)

/-- Reading a box back just after it was replaced. -/
theorem ld_overlay {s : Shape} {α : EltTy → Type} {e : EltTy} (r : Rect s) (X : s.Idx → α e) (w : r.shape.Idx → α e) :
    ld (r.overlay X w) r = w := funext fun x => Rect.overlay_emb r X w x

/-- Replacing a box leaves a disjoint one as it was. -/
theorem ld_overlay_of_disjoint {s : Shape} {α : EltTy → Type} {e : EltTy} (r r' : Rect s) (h : Disjoint r.set r'.set) (X : s.Idx → α e) (w : r.shape.Idx → α e) :
    ld (r.overlay X w) r' = ld X r' := funext fun x => by
  refine Rect.overlay_of_not_mem r X w fun hm => ?_
  have hx : r'.emb x ∈ r'.set := by rw [← Rect.map_emb_univ]; exact Finset.mem_map_of_mem _ (Finset.mem_univ _)
  exact (Finset.disjoint_left.mp h) hm hx

theorem result_col (k : Fin 4) : ld (Val := Elt F) (e' := .bf16) (result V) (col k) = outCol V k := by
  unfold result
  fin_cases k
  · refine (ld_overlay_of_disjoint _ _ (col_disjoint 3 0 (by decide)) _ _).trans ((ld_overlay_of_disjoint _ _ (col_disjoint 2 0 (by decide)) _ _).trans
      ((ld_overlay_of_disjoint _ _ (col_disjoint 1 0 (by decide)) _ _).trans (ld_overlay _ _ _)))
  · refine (ld_overlay_of_disjoint _ _ (col_disjoint 3 1 (by decide)) _ _).trans ((ld_overlay_of_disjoint _ _ (col_disjoint 2 1 (by decide)) _ _).trans (ld_overlay _ _ _))
  · exact (ld_overlay_of_disjoint _ _ (col_disjoint 3 2 (by decide)) _ _).trans (ld_overlay _ _ _)
  · exact ld_overlay _ _ _

theorem col_cover (y : S33x7168.Idx) : ∃ k, y ∈ (col k).set := by
  have h1 : (y 1).val < 7168 := (y 1).isLt
  refine ⟨⟨(y 1).val / 1792, by omega⟩, ?_⟩
  rw [← Rect.map_emb_univ]
  refine Finset.mem_map.mpr ⟨fun a => ⟨![(y 0).val, (y 1).val % 1792] a, ?_⟩, Finset.mem_univ _, ?_⟩
  · fin_cases a
    · exact (y 0).isLt
    · exact Nat.mod_lt _ (by decide)
  · funext a
    apply Fin.ext
    rw [Rect.emb_apply]
    fin_cases a
    · change 0 + 1 * (y 0).val = (y 0).val; omega
    · change 1792 * ((y 1).val / 1792) + 1 * ((y 1).val % 1792) = (y 1).val; omega

/-- The active list holds no expert twice, and only its first and those below `j`. -/
theorem actl_nodup (j : ℕ) : (actl V j).Nodup ∧ ∀ e ∈ actl V j, e = firstE V ∨ e.val < j := by
  induction j with
  | zero => exact ⟨List.nodup_singleton _, fun e he => Or.inl (List.mem_singleton.mp he)⟩
  | succ j ih =>
    unfold actl
    split
    · split
      · rename_i h h2
        refine ⟨List.nodup_append.mpr ⟨ih.1, List.nodup_singleton _, fun a ha b hb => ?_⟩, fun e he => ?_⟩
        · rw [List.mem_singleton.mp hb]
          rintro rfl
          rcases ih.2 _ ha with h3 | h3
          · exact h2.2 h3
          · exact absurd h3 (lt_irrefl _)
        · rcases List.mem_append.mp he with he | he
          · exact (ih.2 e he).imp id (fun h => Nat.lt_succ_of_lt h)
          · rw [List.mem_singleton.mp he]; exact Or.inr (Nat.lt_succ_self _)
      · exact ⟨ih.1, fun e he => (ih.2 e he).imp id (fun h => Nat.lt_succ_of_lt h)⟩
    · exact ⟨ih.1, fun e he => (ih.2 e he).imp id (fun h => Nat.lt_succ_of_lt h)⟩

theorem actl_length_le (j : ℕ) : (actl V j).length ≤ 32 := by
  have := (actl_nodup V j).1.length_le_card
  rwa [Fintype.card_fin] at this

theorem actl_length_pos (j : ℕ) : 0 < (actl V j).length := by
  induction j with
  | zero => exact Nat.one_pos
  | succ j ih =>
    unfold actl
    split
    · split
      · rw [List.length_append]; omega
      · exact ih
    · exact ih

end Cert.Kernel.Walk

end
-- ==== Proof.KernelOffs.lean ====
/-
  Hand-written, untrusted. The kernel's offsets, branch conditions and loop bounds in closed form, at words that
  hold small numbers: `n` active experts, expert `e`, position `i` in the active list, chunk `j`.
-/
module

public import proofs.«01_k».proof.Proof.Gen.Kernel

@[expose] public section

set_option maxRecDepth 65536

noncomputable section

namespace Cert.Kernel.Walk

open Idealize.ShloMosaic Cert.Kernel

/-- An expert's number meets the side conditions its copies and loads need. -/
theorem chk1 : ∀ e : Fin 32, k0_chk1 (BitVec.ofNat 32 e) := by decide +kernel
theorem chk2 : ∀ n : Fin 33, k0_chk2 (BitVec.ofNat 32 n) := by decide +kernel
theorem chk5 : ∀ e : Fin 32, k0_chk5 (BitVec.ofNat 32 e) := by decide +kernel

/-- The main loop runs once per active expert; the remainder loop never. -/
theorem trips4 : ∀ n : Fin 33, (k0_t4_loop (BitVec.ofNat 32 n)).trips = n := by decide +kernel
theorem trips7 : ∀ n : Fin 33, (k0_t7_loop (BitVec.ofNat 32 n)).trips = 0 := by decide +kernel

theorem cond1 : ∀ t, k0_cond1 t = 1#1 ↔ t.val < 7 := by decide +kernel
theorem cond2 : ∀ t, k0_cond2 t = 1#1 ↔ 7 ≤ t.val := by decide +kernel
theorem cond3 : ∀ n : Fin 33, ∀ i : Fin (k0_t4_loop (BitVec.ofNat 32 n)).trips, ∀ j, k0_cond3 (BitVec.ofNat 32 n) i j = 1#1 ↔ i.val + 1 < n.val := by decide +kernel
theorem cond4 : ∀ j, k0_cond4 j = 1#1 := by decide +kernel
theorem cond5 : ∀ j, ¬ k0_cond5 j = 1#1 := by decide +kernel
theorem cond6 : ∀ n : Fin 33, ∀ i : Fin (k0_t4_loop (BitVec.ofNat 32 n)).trips, ∀ j, k0_cond6 (BitVec.ofNat 32 n) i j = 1#1 ↔ i.val + 1 < n.val := by decide +kernel
theorem cond7 : ∀ j, ¬ k0_cond7 j = 1#1 := by decide +kernel
theorem cond8 : ∀ j, k0_cond8 j = 1#1 := by decide +kernel

theorem last_cond : ∀ n : Fin 33, ∀ i : Fin n.val,
    Scalar.cmpi .ne ((Scalar.extui (Scalar.cmpi .eq (Scalar.addi 0#32 (Scalar.muli (Scf.iv 0#32 1#32 i.val) 1#32)) (Scalar.subi (BitVec.ofNat 32 n.val) 1#32)) : BitVec 32)) 0#32 = 1#1 ↔ i.val + 1 = n.val := by decide +kernel

theorem off3 : ∀ e : Fin 32, ∀ t, t.val < 7 → k0_off3 (BitVec.ofNat 32 e) t = ![e.val, 1024 * t.val, 0] := by decide +kernel
theorem off4 : ∀ t, 7 ≤ t.val → k0_off4 t = ![0, t.val - 7] := by decide +kernel
theorem off5 : ∀ t, 7 ≤ t.val → k0_off5 t = ![0, 0, 1792 * (t.val - 7)] := by decide +kernel
theorem off6 : ∀ e : Fin 32, ∀ t, 7 ≤ t.val → k0_off6 (BitVec.ofNat 32 e) t = ![e.val, 0, 1792 * (t.val - 7)] := by decide +kernel
theorem off15 : ∀ n : Fin 33, k0_off15 (BitVec.ofNat 32 n) = ![n.val] := by decide +kernel
theorem off20 : ∀ e : Fin 32, ∀ j, k0_off20 j (BitVec.ofNat 32 e) = ![e.val, 1024 * j.val, 0] := by decide +kernel
theorem off29 : ∀ e : Fin 32, k0_off29 (BitVec.ofNat 32 e) = ![e.val, 0] := by decide +kernel
theorem off36 : ∀ e : Fin 32, ∀ j, k0_off36 j (BitVec.ofNat 32 e) = ![e.val, 0, 1792 * j.val] := by decide +kernel
theorem off42 : ∀ e : Fin 32, ∀ j, k0_off42 (BitVec.ofNat 32 e) j = ![e.val, 1792 * j.val] := by decide +kernel

theorem off16 (v16 : BitVec 32) (i : Fin (k0_t4_loop v16).trips) (h : i.val < 33) : k0_off16 v16 i = ![i.val] := by
  unfold k0_off16
  dsimp only [Scf.iv]
  generalize i.val = x at *
  clear i
  revert x
  decide +kernel

theorem off17 (v16 : BitVec 32) (i : Fin (k0_t4_loop v16).trips) (j : Fin k0_t5_loop.trips) (h : i.val < 33) : k0_off17 v16 i j = ![i.val + 1] := by
  unfold k0_off17
  dsimp only [Scf.iv]
  generalize i.val = x at *
  clear i
  revert x j
  decide +kernel

theorem off18 (v16 : BitVec 32) (i : Fin (k0_t4_loop v16).trips) (j : Fin k0_t5_loop.trips) (h : i.val < 33) : k0_off18 v16 i j = ![(i.val + 1) % 2, j.val] := by
  unfold k0_off18
  dsimp only [Scf.iv]
  generalize i.val = x at *
  clear i
  revert x j
  decide +kernel

theorem off19 (v16 : BitVec 32) (i : Fin (k0_t4_loop v16).trips) (j : Fin k0_t5_loop.trips) (h : i.val < 33) : k0_off19 v16 i j = ![(i.val + 1) % 2, 1024 * j.val, 0] := by
  unfold k0_off19
  dsimp only [Scf.iv]
  generalize i.val = x at *
  clear i
  revert x j
  decide +kernel

theorem off24 (v16 : BitVec 32) (i : Fin (k0_t4_loop v16).trips) (j : Fin k0_t5_loop.trips) (h : i.val < 33) : k0_off24 v16 i j = ![i.val % 2, j.val] := by
  unfold k0_off24
  dsimp only [Scf.iv]
  generalize i.val = x at *
  clear i
  revert x j
  decide +kernel

theorem off25 (v16 : BitVec 32) (i : Fin (k0_t4_loop v16).trips) (j : Fin k0_t5_loop.trips) (h : i.val < 33) : k0_off25 v16 i j = ![i.val % 2, 1024 * j.val, 0] := by
  unfold k0_off25
  dsimp only [Scf.iv]
  generalize i.val = x at *
  clear i
  revert x j
  decide +kernel

theorem off28 (v16 : BitVec 32) (i : Fin (k0_t4_loop v16).trips) (j : Fin k0_t5_loop.trips) (h : i.val < 33) : k0_off28 v16 i j = ![i.val % 2, 1024 * j.val, 0] := by
  unfold k0_off28
  dsimp only [Scf.iv]
  generalize i.val = x at *
  clear i
  revert x j
  decide +kernel

theorem off30 (v16 : BitVec 32) (i : Fin (k0_t4_loop v16).trips) (j : Fin k0_t6_loop.trips) (h : i.val < 33) : k0_off30 v16 i j = ![i.val + 1] := by
  unfold k0_off30
  dsimp only [Scf.iv]
  generalize i.val = x at *
  clear i
  revert x j
  decide +kernel

theorem off34 (v16 : BitVec 32) (i : Fin (k0_t4_loop v16).trips) (j : Fin k0_t6_loop.trips) (h : i.val < 33) : k0_off34 v16 i j = ![(i.val + 1) % 2, j.val] := by
  unfold k0_off34
  dsimp only [Scf.iv]
  generalize i.val = x at *
  clear i
  revert x j
  decide +kernel

theorem off35 (v16 : BitVec 32) (i : Fin (k0_t4_loop v16).trips) (j : Fin k0_t6_loop.trips) (h : i.val < 33) : k0_off35 v16 i j = ![(i.val + 1) % 2, 0, 1792 * j.val] := by
  unfold k0_off35
  dsimp only [Scf.iv]
  generalize i.val = x at *
  clear i
  revert x j
  decide +kernel

theorem off37 (v16 : BitVec 32) (i : Fin (k0_t4_loop v16).trips) (j : Fin k0_t6_loop.trips) (h : i.val < 33) : k0_off37 v16 i j = ![i.val % 2, j.val] := by
  unfold k0_off37
  dsimp only [Scf.iv]
  generalize i.val = x at *
  clear i
  revert x j
  decide +kernel

theorem off38 (v16 : BitVec 32) (i : Fin (k0_t4_loop v16).trips) (j : Fin k0_t6_loop.trips) (h : i.val < 33) : k0_off38 v16 i j = ![i.val % 2, 0, 1792 * j.val] := by
  unfold k0_off38
  dsimp only [Scf.iv]
  generalize i.val = x at *
  clear i
  revert x j
  decide +kernel

theorem off40 (v16 : BitVec 32) (i : Fin (k0_t4_loop v16).trips) (j : Fin k0_t6_loop.trips) (h : i.val < 33) : k0_off40 v16 i j = ![i.val % 2, 0, 1792 * j.val] := by
  unfold k0_off40
  dsimp only [Scf.iv]
  generalize i.val = x at *
  clear i
  revert x j
  decide +kernel

theorem chk4_facts : ∀ e : Fin 32, ∀ j,
    (∀ a, (k0_off20 j (BitVec.ofNat 32 e)) a + S1x1024x1536.size a ≤ S32x7168x1536.size a) ∧
    (∀ (hinb : ∀ a, (k0_off20 j (BitVec.ofNat 32 e)) a + S1x1024x1536.size a ≤ S32x7168x1536.size a), (Rect.unit (s := S32x7168x1536) (k0_off20 j (BitVec.ofNat 32 e)) S1x1024x1536.size hinb).WholeWords (EltTy.packing .fp8e4m3)) := by decide +kernel

/-- The next expert's number meets the condition its first-layer copies need. -/
theorem chk4 (v16 : BitVec 32) (i : Fin (k0_t4_loop v16).trips) (j : Fin k0_t5_loop.trips) (e : Fin 32) : k0_chk4 v16 i j (BitVec.ofNat 32 e) :=
  ⟨fun _ _ => (chk4_facts e j).1, fun _ _ => (chk4_facts e j).2, fun _ h => absurd h (cond5 j), fun _ h => absurd h (cond5 j)⟩

theorem chk6_facts : ∀ e : Fin 32, ∀ j,
    (∀ a, (k0_off36 j (BitVec.ofNat 32 e)) a + S1x768x1792.size a ≤ S32x768x7168.size a) ∧
    (∀ (hinb : ∀ a, (k0_off36 j (BitVec.ofNat 32 e)) a + S1x768x1792.size a ≤ S32x768x7168.size a), (Rect.unit (s := S32x768x7168) (k0_off36 j (BitVec.ofNat 32 e)) S1x768x1792.size hinb).WholeWords (EltTy.packing .fp8e4m3)) := by decide +kernel

/-- The next expert's number meets the condition its second-layer copies need. -/
theorem chk6 (v16 : BitVec 32) (i : Fin (k0_t4_loop v16).trips) (j : Fin k0_t6_loop.trips) (e : Fin 32) : k0_chk6 v16 i j (BitVec.ofNat 32 e) :=
  ⟨fun _ h => absurd h (cond7 j), fun _ h => absurd h (cond7 j), fun _ _ => (chk6_facts e j).1, fun _ _ => (chk6_facts e j).2⟩

end Cert.Kernel.Walk

end
-- ==== Proof.KernelChecks.lean ====
/-
  Hand-written, untrusted. The side condition on the number of active experts, which the body assumes once it has
  counted them: met by every count up to 32.
-/
module

public import proofs.«01_k».proof.Proof.Gen.Kernel

@[expose] public section

set_option maxRecDepth 65536

noncomputable section

namespace Cert.Kernel.Walk

open Idealize.ShloMosaic Cert.Kernel

/-- Every count of active experts up to 32 meets the condition. -/
theorem chk3 : ∀ n : Fin 33, k0_chk3 (BitVec.ofNat 32 n) := by decide +kernel

end Cert.Kernel.Walk

end
-- ==== Proof.KernelMem.lean ====
/-
  Hand-written, untrusted. What the kernel's walk holds at each point: the buffers, the two rings' chunks (free, or
  being filled with a named expert's chunk) and the result's column chunks; and the kernel's transfers, waits and
  loads stated over those.
-/
module

public import proofs.«01_k».proof.Proof.KernelVals
public import proofs.«01_k».proof.Proof.KernelOffs
public import proofs.«01_k».proof.Proof.KernelChecks

@[expose] public section

set_option maxRecDepth 16384
set_option maxErrors 8

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

/-- The core of device `d`, as a thread. -/
abbrev tcT (d : Dev nD) : Thread nD τ := d.tc

/-- The kernel's memrefs and semaphores. -/
structure Mem where
  a0 : Memref sig .tc .hbm S33x7168 .bf16
  h0 : a0.IsWhole
  a1 : Memref sig .tc .hbm S8x33 .i32
  h1 : a1.IsWhole
  a2 : Memref sig .tc .hbm S8x33 .f32
  h2 : a2.IsWhole
  a3 : Memref sig .tc .hbm S32x7168x1536 .fp8e4m3
  h3 : a3.IsWhole
  a4 : Memref sig .tc .hbm S32x1536 .f32
  h4 : a4.IsWhole
  a5 : Memref sig .tc .hbm S32x768x7168 .fp8e4m3
  h5 : a5.IsWhole
  a6 : Memref sig .tc .hbm S32x7168 .f32
  h6 : a6.IsWhole
  a7 : Memref sig .tc .hbm S33x7168 .bf16
  h7 : a7.IsWhole
  a8 : Memref sig .tc .smem S8x33 .i32
  h8 : a8.IsWhole
  a9 : Memref sig .tc .smem S33 .i32
  h9 : a9.IsWhole
  a10 : Memref sig .tc .vmem S8x33 .i32
  h10 : a10.IsWhole
  a11 : Memref sig .tc .vmem S8x33 .f32
  h11 : a11.IsWhole
  a12 : Memref sig .tc .vmem S33x8 .i32
  h12 : a12.IsWhole
  a13 : Memref sig .tc .vmem S33x8 .f32
  h13 : a13.IsWhole
  a14 : Memref sig .tc .vmem S33x7168 .bf16
  h14 : a14.IsWhole
  a15 : Memref sig .tc .vmem S48x7168 .bf16
  h15 : a15.IsWhole
  a16 : Memref sig .tc .vmem S32x1536 .f32
  h16 : a16.IsWhole
  a17 : Memref sig .tc .vmem S32x7168 .f32
  h17 : a17.IsWhole
  a18 : Memref sig .tc .vmem S48x1536 .f32
  h18 : a18.IsWhole
  a19 : Memref sig .tc .vmem S33x7168 .f32
  h19 : a19.IsWhole
  a20 : Memref sig .tc .vmem S33x7168 .bf16
  h20 : a20.IsWhole
  a21 : Memref sig .tc .vmem S2x7168x1536 .fp8e4m3
  h21 : a21.IsWhole
  a22 : Memref sig .tc .vmem S2x768x7168 .fp8e4m3
  h22 : a22.IsWhole
  a23 : DmaSems sig S_
  a24 : DmaSems sig S5
  a25 : DmaSems sig S4
  a26 : DmaSems sig S2x7
  a27 : DmaSems sig S2x4

variable {F : FTy → Type} [FloatOps F]

local notation "𝕄" => MT nD τ sig Unit (Elt F) ℕ (Pipeline.UD sig nD τ) ℕ

variable (F) in
/-- The contents of the seven arrays the kernel reads, as buffers. -/
structure In (B : Mem) (d : Dev nD) where
  f0 : Buf (Elt F) (B.a0.view.loc (tcT d))
  f1 : Buf (Elt F) (B.a1.view.loc (tcT d))
  f2 : Buf (Elt F) (B.a2.view.loc (tcT d))
  f3 : Buf (Elt F) (B.a3.view.loc (tcT d))
  f4 : Buf (Elt F) (B.a4.view.loc (tcT d))
  f5 : Buf (Elt F) (B.a5.view.loc (tcT d))
  f6 : Buf (Elt F) (B.a6.view.loc (tcT d))

/-- The same, as the vectors read there. -/
@[reducible] def In.V {B : Mem} {d : Dev nD} (I : In F B d) : Vals F where
  x := B.a0.view.read (Elt F) I.f0
  ids := B.a1.view.read (Elt F) I.f1
  rw := B.a2.view.read (Elt F) I.f2
  wgu := B.a3.view.read (Elt F) I.f3
  sgu := B.a4.view.read (Elt F) I.f4
  wdn := B.a5.view.read (Elt F) I.f5
  sdn := B.a6.view.read (Elt F) I.f6

theorem sem27_inb : ∀ (s : Fin 2) (k : Fin 7), ∀ a, (![s.val, k.val] : Fin 2 → ℕ) a + S1x1.size a ≤ S2x7.size a := by decide +kernel
theorem sem24_inb : ∀ (s : Fin 2) (k : Fin 4), ∀ a, (![s.val, k.val] : Fin 2 → ℕ) a + S1x1.size a ≤ S2x4.size a := by decide +kernel
theorem sem4_inb : ∀ (k : Fin 4), ∀ a, (![k.val] : Fin 1 → ℕ) a + S1.size a ≤ S4.size a := by decide +kernel

abbrev guSem (B : Mem) (s : Fin 2) (k : Fin 7) : DmaSem sig := ((B.a26.slice (Rect.unit (s := S2x7) ![s.val, k.val] S1x1.size (sem27_inb s k))).squeeze S_ squeezes_S1x1_S_).sem
abbrev dnSem (B : Mem) (s : Fin 2) (k : Fin 4) : DmaSem sig := ((B.a27.slice (Rect.unit (s := S2x4) ![s.val, k.val] S1x1.size (sem24_inb s k))).squeeze S_ squeezes_S1x1_S_).sem
abbrev outSem (B : Mem) (k : Fin 4) : DmaSem sig := ((B.a25.slice (Rect.unit (s := S4) ![k.val] S1.size (sem4_inb k))).squeeze S_ squeezes_S1_S_).sem

/-- The share of the weights each chunk's transfer borrows. -/
abbrev guTok (s : Fin 2) (k : Fin 7) : PosShare TreeShare := Transfers.shareTok (Transfers.shareTok fullShare 2 s) 7 k
abbrev dnTok (s : Fin 2) (k : Fin 4) : PosShare TreeShare := Transfers.shareTok (Transfers.shareTok fullShare 2 s) 4 k

/-- Chunk `k` of slot `s` of the first layer's ring: free, or being filled with expert `e`'s chunk. -/
def guSt {B : Mem} {d : Dev nD} (I : In F B d) (s : Fin 2) (k : Fin 7) : Option (Fin 32) → sProp 𝕄
  | none => iprop(Lent (tcT d) B.a3 (guTok s k) I.f3 ∗ PartAny (Val := Elt F) (tcT d) B.a21 (guDst s k) ∗ semVal ((tcT d), SemLoc.dma (guSem B s k)) 0)
  | some e => Transfers.Flight EC0 (tcT d) (.dma (guSem B s k)) () (B.a21.view.ref.dmaCredit S1024x1536 .fp8e4m3)
      iprop(Part (Val := Elt F) (tcT d) B.a21 (guDst s k) (ld (Val := Elt F) (e' := .fp8e4m3) I.V.wgu (guSrc e k)) ∗ Lent (tcT d) B.a3 (guTok s k) I.f3)

/-- Chunk `k` of slot `s` of the second layer's ring. -/
def dnSt {B : Mem} {d : Dev nD} (I : In F B d) (s : Fin 2) (k : Fin 4) : Option (Fin 32) → sProp 𝕄
  | none => iprop(Lent (tcT d) B.a5 (dnTok s k) I.f5 ∗ PartAny (Val := Elt F) (tcT d) B.a22 (dnDst s k) ∗ semVal ((tcT d), SemLoc.dma (dnSem B s k)) 0)
  | some e => Transfers.Flight EC0 (tcT d) (.dma (dnSem B s k)) () (B.a22.view.ref.dmaCredit S768x1792 .fp8e4m3)
      iprop(Part (Val := Elt F) (tcT d) B.a22 (dnDst s k) (ld (Val := Elt F) (e' := .fp8e4m3) I.V.wdn (dnSrc e k)) ∗ Lent (tcT d) B.a5 (dnTok s k) I.f5)

/-- Column chunk `k` of the result: not yet written (0), on its way out (1), written (2). -/
def outSt {B : Mem} {d : Dev nD} (I : In F B d) (k : Fin 4) : ℕ → sProp 𝕄
  | 0 => iprop(PartAny (Val := Elt F) (tcT d) B.a20 (col k) ∗ PartAny (Val := Elt F) (tcT d) B.a7 (col k) ∗ semVal ((tcT d), SemLoc.dma (outSem B k)) 0)
  | 1 => Transfers.Flight EC0 (tcT d) (.dma (outSem B k)) () (B.a7.view.ref.dmaCredit S33x1792 .bf16)
      iprop(Part (Val := Elt F) (tcT d) B.a7 (col k) (outCol I.V k) ∗ Part (Val := Elt F) (tcT d) B.a20 (col k) (outCol I.V k))
  | _ => iprop(PartAny (Val := Elt F) (tcT d) B.a20 (col k) ∗ Part (Val := Elt F) (tcT d) B.a7 (col k) (outCol I.V k) ∗ semVal ((tcT d), SemLoc.dma (outSem B k)) 0)

def guAll {B : Mem} {d : Dev nD} (I : In F B d) (s : Fin 2) (φ : Fin 7 → Option (Fin 32)) : sProp 𝕄 := bigSep Finset.univ fun k => guSt I s k (φ k)
def dnAll {B : Mem} {d : Dev nD} (I : In F B d) (s : Fin 2) (φ : Fin 4 → Option (Fin 32)) : sProp 𝕄 := bigSep Finset.univ fun k => dnSt I s k (φ k)
def outAll {B : Mem} {d : Dev nD} (I : In F B d) (φ : Fin 4 → ℕ) : sProp 𝕄 := bigSep Finset.univ fun k => outSt I k (φ k)

section Turns
variable {B : Mem} {d : Dev nD} (I : In F B d)

theorem guSt_none (s : Fin 2) (k : Fin 7) : guSt I s k none = iprop(Lent (tcT d) B.a3 (guTok s k) I.f3 ∗ PartAny (Val := Elt F) (tcT d) B.a21 (guDst s k) ∗ semVal ((tcT d), SemLoc.dma (guSem B s k)) 0) := rfl
theorem dnSt_none (s : Fin 2) (k : Fin 4) : dnSt I s k none = iprop(Lent (tcT d) B.a5 (dnTok s k) I.f5 ∗ PartAny (Val := Elt F) (tcT d) B.a22 (dnDst s k) ∗ semVal ((tcT d), SemLoc.dma (dnSem B s k)) 0) := rfl
theorem outSt_zero (k : Fin 4) : outSt I k 0 = iprop(PartAny (Val := Elt F) (tcT d) B.a20 (col k) ∗ PartAny (Val := Elt F) (tcT d) B.a7 (col k) ∗ semVal ((tcT d), SemLoc.dma (outSem B k)) 0) := rfl
theorem outSt_open (k : Fin 4) : outSt I k 0 ⊢ iprop(PartAny (Val := Elt F) (tcT d) B.a20 (col k) ∗ PartAny (Val := Elt F) (tcT d) B.a7 (col k) ∗ semVal ((tcT d), SemLoc.dma (outSem B k)) 0) := .rfl
theorem outSt_one (k : Fin 4) : outSt I k 1 = Transfers.Flight EC0 (tcT d) (.dma (outSem B k)) () (B.a7.view.ref.dmaCredit S33x1792 .bf16)
      iprop(Part (Val := Elt F) (tcT d) B.a7 (col k) (outCol I.V k) ∗ Part (Val := Elt F) (tcT d) B.a20 (col k) (outCol I.V k)) := rfl
theorem outSt_two (k : Fin 4) : outSt I k 2 = iprop(PartAny (Val := Elt F) (tcT d) B.a20 (col k) ∗ Part (Val := Elt F) (tcT d) B.a7 (col k) (outCol I.V k) ∗ semVal ((tcT d), SemLoc.dma (outSem B k)) 0) := rfl

theorem guAll_turn (s : Fin 2) (k : Fin 7) (φ : Fin 7 → Option (Fin 32)) {o : Option (Fin 32)} (ho : φ k = o) :
    guAll I s φ ⊢ iprop(guSt I s k o ∗ (∀ o', guSt I s k o' -∗ guAll I s (Function.update φ k o'))) := by
  subst ho; exact bigSep_univ_turn (fun k o => guSt I s k o) φ k
theorem dnAll_turn (s : Fin 2) (k : Fin 4) (φ : Fin 4 → Option (Fin 32)) {o : Option (Fin 32)} (ho : φ k = o) :
    dnAll I s φ ⊢ iprop(dnSt I s k o ∗ (∀ o', dnSt I s k o' -∗ dnAll I s (Function.update φ k o'))) := by
  subst ho; exact bigSep_univ_turn (fun k o => dnSt I s k o) φ k
theorem outAll_turn (k : Fin 4) (φ : Fin 4 → ℕ) {o : ℕ} (ho : φ k = o) :
    outAll I φ ⊢ iprop(outSt I k o ∗ (∀ o', outSt I k o' -∗ outAll I (Function.update φ k o'))) := by
  subst ho; exact bigSep_univ_turn (fun k o => outSt I k o) φ k

end Turns

theorem zero2 : ∀ a : Fin 2, (![0, 0] : Fin 2 → ℕ) a = 0 := by decide

section Steps

variable {B : Mem} {d : Dev nD} (I : In F B d)
variable {defs : Defs nD τ sig (Elt F) Λ₀} {𝒱 : Variants} {bd : Option 𝒱.V}
variable {α : Type} {Q : α → sProp (MT nD τ sig Unit (Elt F) ℕ (Pipeline.UD sig nD τ) ℕ)}

/-- A transfer of expert `e`'s chunk `k` into slot `s` of the first ring. -/
theorem gu_enqueue {s : Fin 2} {k : Fin 7} {e : Fin 32} {oM : Fin 2 → ℕ} {oD oS : Fin 3 → ℕ}
    (hM : oM = ![s.val, k.val]) (hD : oD = ![s.val, 1024 * k.val, 0]) (hS : oS = ![e.val, 1024 * k.val, 0])
    {iM : ∀ a, oM a + S1x1.size a ≤ S2x7.size a} {iD : ∀ a, oD a + S1x1024x1536.size a ≤ S2x7168x1536.size a} {iS : ∀ a, oS a + S1x1024x1536.size a ≤ S32x7168x1536.size a}
    {hrs hrd h1 h2 h3} {K : PUnit → Prog (TpuEff nD τ sig (Elt F) Λ₀ .tc) α} :
    guSt I s k none ⊢ iprop((guSt I s k (some e) -∗ W defs 𝒱 (tcT d) bd (K ⟨⟩) Q)
      -∗ W defs 𝒱 (tcT d) bd (Prog.lift (.enqueueDma ((B.a3.slice (Rect.unit (s := S32x7168x1536) oS S1x1024x1536.size iS) hrs).squeeze S1024x1536 squeezes_S1x1024x1536_S1024x1536)
          (.here ((B.a21.slice (Rect.unit (s := S2x7168x1536) oD S1x1024x1536.size iD) hrd).squeeze S1024x1536 squeezes_S1x1024x1536_S1024x1536))
          (.dma ((B.a26.slice (Rect.unit (s := S2x7) oM S1x1.size iM)).squeeze S_ squeezes_S1x1_S_).sem) h1 h2 h3) >>= K) Q) := by
  subst hM hD hS
  exact enqueue_box (c := (tcT d)) (ms := B.a3) (md := B.a21) (rs := guSrc e k) (rd := guDst s k) (s₁ := S1024x1536) (fun _ => rfl) (show 0 < S1024x1536.numel by decide +kernel)

theorem dn_enqueue {s : Fin 2} {k : Fin 4} {e : Fin 32} {oM : Fin 2 → ℕ} {oD oS : Fin 3 → ℕ}
    (hM : oM = ![s.val, k.val]) (hD : oD = ![s.val, 0, 1792 * k.val]) (hS : oS = ![e.val, 0, 1792 * k.val])
    {iM : ∀ a, oM a + S1x1.size a ≤ S2x4.size a} {iD : ∀ a, oD a + S1x768x1792.size a ≤ S2x768x7168.size a} {iS : ∀ a, oS a + S1x768x1792.size a ≤ S32x768x7168.size a}
    {hrs hrd h1 h2 h3} {K : PUnit → Prog (TpuEff nD τ sig (Elt F) Λ₀ .tc) α} :
    dnSt I s k none ⊢ iprop((dnSt I s k (some e) -∗ W defs 𝒱 (tcT d) bd (K ⟨⟩) Q)
      -∗ W defs 𝒱 (tcT d) bd (Prog.lift (.enqueueDma ((B.a5.slice (Rect.unit (s := S32x768x7168) oS S1x768x1792.size iS) hrs).squeeze S768x1792 squeezes_S1x768x1792_S768x1792)
          (.here ((B.a22.slice (Rect.unit (s := S2x768x7168) oD S1x768x1792.size iD) hrd).squeeze S768x1792 squeezes_S1x768x1792_S768x1792))
          (.dma ((B.a27.slice (Rect.unit (s := S2x4) oM S1x1.size iM)).squeeze S_ squeezes_S1x1_S_).sem) h1 h2 h3) >>= K) Q) := by
  subst hM hD hS
  exact enqueue_box (c := (tcT d)) (ms := B.a5) (md := B.a22) (rs := dnSrc e k) (rd := dnDst s k) (s₁ := S768x1792) (fun _ => rfl) (show 0 < S768x1792.numel by decide +kernel)

/-- The wait for a chunk on its way: the chunk is there. -/
theorem gu_wait {s : Fin 2} {k : Fin 7} {e : Fin 32} {oM : Fin 2 → ℕ} (hM : oM = ![s.val, k.val])
    {iM : ∀ a, oM a + S1x1.size a ≤ S2x7.size a} {oD : Fin 3 → ℕ} {iD : ∀ a, oD a + S1x1024x1536.size a ≤ S2x7168x1536.size a} {hrd}
    {src : Memref sig .tc .hbm S1024x1536 .fp8e4m3} {h1 h2} {K : PUnit → Prog (TpuEff nD τ sig (Elt F) Λ₀ .tc) α} :
    iprop(guSt I s k (some e) ∗ Owes (Elt F) (tcT d))
      ⊢ iprop((iprop((Part (Val := Elt F) (tcT d) B.a21 (guDst s k) (ld (Val := Elt F) (e' := .fp8e4m3) I.V.wgu (guSrc e k)) ∗ Lent (tcT d) B.a3 (guTok s k) I.f3)
          ∗ semVal ((tcT d), SemLoc.dma (guSem B s k)) 0 ∗ Owes (Elt F) (tcT d)) -∗ W defs 𝒱 (tcT d) bd (K ⟨⟩) Q)
        -∗ W defs 𝒱 (tcT d) bd (Prog.lift (.waitDma2 ((B.a26.slice (Rect.unit (s := S2x7) oM S1x1.size iM)).squeeze S_ squeezes_S1x1_S_).sem src
          ((B.a21.slice (Rect.unit (s := S2x7168x1536) oD S1x1024x1536.size iD) hrd).squeeze S1024x1536 squeezes_S1x1024x1536_S1024x1536) h1 h2) >>= K) Q) := by
  subst hM
  exact wait_step (c := (tcT d)) rfl

theorem dn_wait {s : Fin 2} {k : Fin 4} {e : Fin 32} {oM : Fin 2 → ℕ} (hM : oM = ![s.val, k.val])
    {iM : ∀ a, oM a + S1x1.size a ≤ S2x4.size a} {oD : Fin 3 → ℕ} {iD : ∀ a, oD a + S1x768x1792.size a ≤ S2x768x7168.size a} {hrd}
    {src : Memref sig .tc .hbm S768x1792 .fp8e4m3} {h1 h2} {K : PUnit → Prog (TpuEff nD τ sig (Elt F) Λ₀ .tc) α} :
    iprop(dnSt I s k (some e) ∗ Owes (Elt F) (tcT d))
      ⊢ iprop((iprop((Part (Val := Elt F) (tcT d) B.a22 (dnDst s k) (ld (Val := Elt F) (e' := .fp8e4m3) I.V.wdn (dnSrc e k)) ∗ Lent (tcT d) B.a5 (dnTok s k) I.f5)
          ∗ semVal ((tcT d), SemLoc.dma (dnSem B s k)) 0 ∗ Owes (Elt F) (tcT d)) -∗ W defs 𝒱 (tcT d) bd (K ⟨⟩) Q)
        -∗ W defs 𝒱 (tcT d) bd (Prog.lift (.waitDma2 ((B.a27.slice (Rect.unit (s := S2x4) oM S1x1.size iM)).squeeze S_ squeezes_S1x1_S_).sem src
          ((B.a22.slice (Rect.unit (s := S2x768x7168) oD S1x768x1792.size iD) hrd).squeeze S768x1792 squeezes_S1x768x1792_S768x1792) h1 h2) >>= K) Q) := by
  subst hM
  exact wait_step (c := (tcT d)) rfl

/-- A column chunk of the result sent out. -/
theorem out_enqueue {k : Fin 4} {oM : Fin 1 → ℕ} {oD : Fin 2 → ℕ} (hM : oM = ![k.val]) (hD : oD = ![0, 1792 * k.val])
    {iM : ∀ a, oM a + S1.size a ≤ S4.size a} {iD : ∀ a, oD a + S33x1792.size a ≤ S33x7168.size a}
    {hrs h1 h2 h3} {K : PUnit → Prog (TpuEff nD τ sig (Elt F) Λ₀ .tc) α} :
    iprop(Part (Val := Elt F) (tcT d) B.a20 (col k) (outCol I.V k) ∗ PartAny (Val := Elt F) (tcT d) B.a7 (col k) ∗ semVal ((tcT d), SemLoc.dma (outSem B k)) 0)
      ⊢ iprop((outSt I k 1 -∗ W defs 𝒱 (tcT d) bd (K ⟨⟩) Q)
        -∗ W defs 𝒱 (tcT d) bd (Prog.lift (.enqueueDma (B.a20.slice (Rect.unit (s := S33x7168) oD S33x1792.size iD) hrs)
          (.here (B.a7.slice (Rect.unit (s := S33x7168) oD S33x1792.size iD) hrs))
          (.dma ((B.a25.slice (Rect.unit (s := S4) oM S1.size iM)).squeeze S_ squeezes_S1_S_).sem) h1 h2 h3) >>= K) Q) := by
  subst hM hD
  exact enqueue_part (c := (tcT d)) (ms := B.a20) (md := B.a7) (rs := col k) (show 0 < S33x1792.numel by decide +kernel)

theorem out_wait {k : Fin 4} {oM : Fin 1 → ℕ} {oD : Fin 2 → ℕ} (hM : oM = ![k.val])
    {iM : ∀ a, oM a + S1.size a ≤ S4.size a} {iD : ∀ a, oD a + S33x1792.size a ≤ S33x7168.size a} {hrd}
    {src : Memref sig .tc .vmem S33x1792 .bf16} {h1 h2} {K : PUnit → Prog (TpuEff nD τ sig (Elt F) Λ₀ .tc) α} :
    iprop(outSt I k 1 ∗ Owes (Elt F) (tcT d))
      ⊢ iprop((iprop(outSt I k 2 ∗ Owes (Elt F) (tcT d)) -∗ W defs 𝒱 (tcT d) bd (K ⟨⟩) Q)
        -∗ W defs 𝒱 (tcT d) bd (Prog.lift (.waitDma2 ((B.a25.slice (Rect.unit (s := S4) oM S1.size iM)).squeeze S_ squeezes_S1_S_).sem src
          (B.a7.slice (Rect.unit (s := S33x7168) oD S33x1792.size iD) hrd) h1 h2) >>= K) Q) := by
  subst hM
  rw [outSt_one, outSt_two]
  iintro H HK
  iapply (wait_step (c := (tcT d)) (sm := outSem B k) (N := B.a7.view.ref.dmaCredit S33x1792 .bf16)
    (D := iprop(Part (Val := Elt F) (tcT d) B.a7 (col k) (outCol I.V k) ∗ Part (Val := Elt F) (tcT d) B.a20 (col k) (outCol I.V k))) rfl) $$ H
  iintro ⟨⟨H7, H20⟩, Hv, Ho⟩
  iapply HK
  isplitr [Ho]
  · isplitl [H20]
    · iapply (part_any (Val := Elt F)) $$ H20
    isplitl [H7]
    · iexact H7
    · iexact Hv
  · iexact Ho

/-- The `i`-th entry of a table of active experts. -/
abbrev tab (T : S33.Idx → Elt F .i32) (i : Fin 33) : BitVec 32 := ld (Val := Elt F) (e' := .i32) T (actBox i) (Shape.Idx.first (numel1_S1.symm ▸ Nat.one_pos))

theorem tab_load {T : S33.Idx → Elt F .i32} {i : Fin 33} {w : BitVec 32} {off : Fin 1 → ℕ} (ho : off = ![i.val]) (hw : tab (F := F) T i = w)
    {inb : ∀ a, off a + S1.size a ≤ S33.size a} {h1 hp} {K : BitVec 32 → Prog (TpuEff nD τ sig (Elt F) Λ₀ .tc) α} :
    Held (Val := Elt F) (tcT d) B.a9 T ⊢ iprop((Held (Val := Elt F) (tcT d) B.a9 T -∗ W defs 𝒱 (tcT d) bd (K w) Q)
      -∗ W defs 𝒱 (tcT d) bd (smemLoad (nD := nD) (τ := τ) (p := Proc.tc) (Val := Elt F) (Λ := Λ₀) B.a9 (Rect.unit (s := S33) off S1.size inb) h1 hp >>= K) Q) := by
  subst ho hw
  exact smem_load (c := (tcT d))

end Steps

end Cert.Kernel.Walk

end
-- ==== Proof.KernelT5.lean ====
/-
  Hand-written, untrusted. One active expert's first layer: seven chunks, each waited for, multiplied and added, while
  the next expert's chunks are sent for.
-/
module

public import proofs.«01_k».proof.Proof.KernelMem

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

section
variable {m : ℕ}

/-- A ring slot at chunk `j`: the chunks from `j` on are `o`, those before free. -/
def curφ (o : Option (Fin 32)) (j : ℕ) : Fin m → Option (Fin 32) := fun k => if j ≤ k.val then o else none
/-- A ring slot at chunk `j`: the chunks before `j` are `o`, the rest free. -/
def nxtφ (o : Option (Fin 32)) (j : ℕ) : Fin m → Option (Fin 32) := fun k => if k.val < j then o else none

theorem cur_at (o : Option (Fin 32)) (j : Fin m) : curφ o j.val j = o := if_pos (le_refl _)
theorem nxt_at (o : Option (Fin 32)) (j : Fin m) : nxtφ o j.val j = none := if_neg (lt_irrefl _)
theorem cur_upd (o : Option (Fin 32)) (j : Fin m) : Function.update (curφ o j.val) j none = curφ o (j.val + 1) := by
  funext k
  by_cases h : k = j
  · subst h; rw [Function.update_self]; exact (if_neg (by omega)).symm
  · rw [Function.update_of_ne h]
    have : k.val ≠ j.val := fun h' => h (Fin.ext h')
    unfold curφ; congr 1; apply propext; omega
theorem nxt_upd (o : Option (Fin 32)) (j : Fin m) : Function.update (nxtφ o j.val) j o = nxtφ o (j.val + 1) := by
  funext k
  by_cases h : k = j
  · subst h; rw [Function.update_self]; exact (if_pos (by omega)).symm
  · rw [Function.update_of_ne h]
    have : k.val ≠ j.val := fun h' => h (Fin.ext h')
    unfold nxtφ; congr 1; apply propext; omega
theorem nxt_none (j j' : ℕ) : (nxtφ none j : Fin m → _) = nxtφ none j' := by
  funext k; unfold nxtφ; simp only [ite_self]
end

/-- The ring slot of the `i`-th active expert. -/
def sl (i : ℕ) : Fin 2 := ⟨i % 2, Nat.mod_lt _ (by decide)⟩

variable {B : Mem} {d : Dev nD} (I : In F B d)

/-- What the experts' loop reads and leaves as it is. -/
def Stat (T : S33.Idx → Elt F .i32) : sProp 𝕄 :=
  iprop(Held (Val := Elt F) (tcT d) B.a9 T ∗ Held (Val := Elt F) (tcT d) B.a12 (idsT I.V) ∗ Held (Val := Elt F) (tcT d) B.a13 (rwT I.V)
    ∗ Held (Val := Elt F) (tcT d) B.a15 (xs I.V) ∗ Held (Val := Elt F) (tcT d) B.a16 I.V.sgu ∗ Held (Val := Elt F) (tcT d) B.a17 I.V.sdn ∗ Owes (Elt F) (tcT d))

/-- The table holds the active experts. -/
def Tab (n : Fin 33) (T : S33.Idx → Elt F .i32) : Prop := ∀ i : Fin 33, i.val < n.val → tab (F := F) T i = wd (act I.V i.val)

/-- The expert after the `i`-th, if there is one. -/
def nxt (n : Fin 33) (i : ℕ) : Option (Fin 32) := if i + 1 < n.val then some (act I.V (i + 1)) else none

/-- Before chunk `j` of the `i`-th active expert's first layer. -/
def T5 (T : S33.Idx → Elt F .i32) (n : Fin 33) (i j : ℕ) : sProp 𝕄 :=
  iprop(Stat I T ∗ Held (Val := Elt F) (tcT d) B.a18 (guMid I.V (act I.V i) j) ∗ guAll I (sl i) (curφ (some (act I.V i)) j) ∗ guAll I (sl (i + 1)) (nxtφ (nxt I n i) j))

variable {defs : Defs nD τ sig (Elt F) Λ₀} {𝒱 : Variants} {bd : Option 𝒱.V}

theorem trips5 : k0_t5_loop.trips = 7 := by decide +kernel
theorem off27 (j : Fin k0_t5_loop.trips) : k0_off27 j = ![0, 1024 * j.val] := k0_off27_eq j

/-- The chunk waited for, multiplied and added. -/
theorem t5_tail {n : Fin 33} (k0_hw3) (i : Fin (k0_t4_loop (BitVec.ofNat 32 n.val)).trips) (v63 : Elt F .i32) (k0_hw5)
    (j : Fin k0_t5_loop.trips) :
    iprop(Held (Val := Elt F) (tcT d) B.a18 (guMid I.V (act I.V i.val) j.val) ∗ Held (Val := Elt F) (tcT d) B.a15 (xs I.V)
        ∗ guSt I (sl i.val) ⟨j.val, lt_of_lt_of_eq j.isLt trips5⟩ (some (act I.V i.val)) ∗ Owes (Elt F) (tcT d))
      ⊢ W (α := Unit) defs 𝒱 (tcT d) bd (do
      let v112 : DmaSems sig S1x1 := B.a26.slice (Rect.unit (s := S2x7) (k0_off24 (BitVec.ofNat 32 n.val) i j) S1x1.size (k0_off24_inb (BitVec.ofNat 32 n.val) k0_hw3 i j))
      let v113 : DmaSems sig S_ := v112.squeeze S_ squeezes_S1x1_S_
      let v114 : Memref sig .tc .vmem S1x1024x1536 .fp8e4m3 := B.a21.slice (Rect.unit (s := S2x7168x1536) (k0_off25 (BitVec.ofNat 32 n.val) i j) S1x1024x1536.size (k0_off25_inb (BitVec.ofNat 32 n.val) k0_hw3 i j)) (fun _ => rfl)
      let v115 : Memref sig .tc .vmem S1024x1536 .fp8e4m3 := v114.squeeze S1024x1536 squeezes_S1x1024x1536_S1024x1536
      let v116 : Memref sig .tc .hbm S1x1024x1536 .fp8e4m3 := B.a3.slice (Rect.unit (s := S32x7168x1536) (k0_off26 v63 j) S1x1024x1536.size (k0_off26_inb v63 k0_hw5 j)) (fun _ => rfl)
      let v117 : Memref sig .tc .hbm S1024x1536 .fp8e4m3 := v116.squeeze S1024x1536 squeezes_S1x1024x1536_S1024x1536
      Prog.lift (.waitDma2 v113.sem v117 v115 ((B.h3.wordExact_slice rfl _ (k0_off26_wordsfp8e4m3 v63 k0_hw5 j)).reshape _ _) ((B.h21.wordExact_slice rfl _ (k0_off25_wordsfp8e4m3 (BitVec.ofNat 32 n.val) k0_hw3 i j)).reshape _ _))
      let v118 : Vec F S48x1536 .f32 ← Prog.lift (.load B.a18 (Rect.unit (s := S48x1536) ![0, 0] S48x1536.size inb_S48x1536_S48x1536_0_0).toLoadRect (View.loadsAt_vmem h_S48x1536))
      let v120 : Vec F S48x1024 .bf16 ← Prog.lift (.load B.a15 (Rect.unit (s := S48x7168) (k0_off27 j) S48x1024.size (k0_off27_inb j)).toLoadRect (View.loadsAt_vmem h_S48x1024))
      let v123 : Vec F S1x1024x1536 .fp8e4m3 ← Prog.lift (.load B.a21 (Rect.unit (s := S2x7168x1536) (k0_off28 (BitVec.ofNat 32 n.val) i j) S1x1024x1536.size (k0_off28_inb (BitVec.ofNat 32 n.val) k0_hw3 i j)).toLoadRect (View.loadsAt_vmem h_S1x1024x1536))
      let v127 : Vec F S48x1536 .f32 ← Prog.lift (.load B.a18 (Rect.unit (s := S48x1536) ![0, 0] S48x1536.size inb_S48x1536_S48x1536_0_0).toLoadRect (View.loadsAt_vmem h_S48x1536))
      Prog.lift (.store B.a18 (Rect.unit (s := S48x1536) ![0, 0] S48x1536.size inb_S48x1536_S48x1536_0_0) (k0_pay4 v118 v120 v123) Finset.univ (View.stores_vmem_bits_univ h_S48x1536 rfl) (.inl rfl))
      pure ⟨⟩)
        (fun _ => iprop(Held (Val := Elt F) (tcT d) B.a18 (guMid I.V (act I.V i.val) (j.val + 1)) ∗ Held (Val := Elt F) (tcT d) B.a15 (xs I.V)
          ∗ guSt I (sl i.val) ⟨j.val, lt_of_lt_of_eq j.isLt trips5⟩ none ∗ Owes (Elt F) (tcT d))) := by
  have hi : i.val < n.val := lt_of_lt_of_eq i.isLt (trips4 n)
  have hi33 : i.val < 33 := by have := n.isLt; omega
  have hj : j.val < 7 := lt_of_lt_of_eq j.isLt trips5
  dsimp only
  iintro ⟨H18, H15, Hc, HO⟩
  iapply (gu_wait I (s := sl i.val) (k := ⟨j.val, hj⟩) (e := act I.V i.val) (off24 _ i j hi33)) $$ [Hc HO]
  · isplitl [Hc]
    · iexact Hc
    · iexact HO
  iintro ⟨⟨HP, HL⟩, Hv, HO⟩
  iapply (load_full zero2) $$ H18
  iintro H18
  iapply (load_held_at (off27 j) (xcol_inb ⟨j.val, hj⟩)) $$ H15
  iintro H15
  iapply (load_part_at (off28 _ i j hi33) (guDst_inb (sl i.val) ⟨j.val, hj⟩)) $$ HP
  iintro HP
  iapply (load_full zero2) $$ H18
  iintro H18
  iapply (store_full zero2) $$ H18
  iintro H18
  iapply W_pure
  isplitl [H18]
  · have hg : guMid I.V (act I.V i.val) (j.val + 1) = k0_pay4 (guMid I.V (act I.V i.val) j.val) (ld (Val := Elt F) (e' := .bf16) (xs I.V) (xcol ⟨j.val, hj⟩)) (ld (Val := Elt F) (e' := .fp8e4m3) I.V.wgu (guSrc (act I.V i.val) ⟨j.val, hj⟩)) := by
      change k0_pay4 _ _ _ = _
      rw [show f7 j.val = ⟨j.val, hj⟩ from f7_val ⟨j.val, hj⟩]
    rw [hg]
    iexact H18
  isplitl [H15]
  · iexact H15
  isplitr [HO]
  · rw [guSt_none]
    isplitl [HL]
    · iexact HL
    isplitl [HP]
    · iapply (part_any (Val := Elt F)) $$ HP
    · iexact Hv
  · iexact HO

/-- One trip of the first layer's loop. -/
theorem t5_trip {T : S33.Idx → Elt F .i32} {n : Fin 33} (hT : Tab I n T) (hw3) (i : Fin (k0_t4_loop (BitVec.ofNat 32 n.val)).trips) (v60 v61 v63 hw5 c0 c1)
    (j : Fin k0_t5_loop.trips) (u : Unit) :
    T5 I T n i.val j.val ⊢ W defs 𝒱 (tcT d) bd (k0_t5_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 v61 v63 hw5 c0 c1 j u) (fun _ => T5 I T n i.val (j.val + 1)) := by
  have hi : i.val < n.val := lt_of_lt_of_eq i.isLt (trips4 n)
  have hi33 : i.val < 33 := by have := n.isLt; omega
  have hj : j.val < 7 := lt_of_lt_of_eq j.isLt trips5
  have htail := t5_tail (F := F) I (defs := defs) (𝒱 := 𝒱) (bd := bd) hw3 i v63 hw5 j
  unfold k0_t5_body T5 Stat
  dsimp only at htail ⊢
  iintro ⟨⟨H9, H12, H13, H15, H16, H17, HO⟩, H18, HC, HN⟩
  icases (guAll_turn I (sl i.val) ⟨j.val, hj⟩ _ (cur_at _ (⟨j.val, hj⟩ : Fin 7))) $$ HC with ⟨Hc, HCk⟩
  by_cases hlt : i.val + 1 < n.val
  · have hnx : nxt I n i.val = some (act I.V (i.val + 1)) := if_pos hlt
    rw [dif_pos ((cond3 n i j).mpr hlt), hnx]
    iapply (tab_load (i := ⟨i.val + 1, by omega⟩) (off17 _ i j hi33) (hT ⟨i.val + 1, by omega⟩ hlt)) $$ H9
    iintro H9
    iapply (assume_step (chk4 _ i j (act I.V (i.val + 1))))
    rw [dif_pos (cond4 j), dif_neg (cond5 j)]
    icases (guAll_turn I (sl (i.val + 1)) ⟨j.val, hj⟩ _ (nxt_at _ (⟨j.val, hj⟩ : Fin 7))) $$ HN with ⟨Hn, HNk⟩
    iapply (gu_enqueue I (s := sl (i.val + 1)) (k := ⟨j.val, hj⟩) (e := act I.V (i.val + 1)) (off18 _ i j hi33) (off19 _ i j hi33) (off20 _ j)) $$ Hn
    iintro Hn
    iapply (W_wand (Q' := fun _ => _))
    isplitl [H18 H15 Hc HO]
    · iapply htail
      isplitl [H18]
      · iexact H18
      isplitl [H15]
      · iexact H15
      isplitl [Hc]
      · iexact Hc
      · iexact HO
    iintro %_ ⟨H18, H15, Hc, HO⟩
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      · iexact HO
    isplitl [H18]
    · iexact H18
    isplitl [HCk Hc]
    · rw [← cur_upd _ (⟨j.val, hj⟩ : Fin 7)]
      iapply HCk
      iexact Hc
    · rw [← nxt_upd _ (⟨j.val, hj⟩ : Fin 7)]
      iapply HNk
      iexact Hn
  · have hnx : nxt I n i.val = none := if_neg hlt
    rw [dif_neg (fun h => hlt ((cond3 n i j).mp h)), hnx, nxt_none (j.val + 1) j.val]
    iapply (W_wand (Q' := fun _ => _))
    isplitl [H18 H15 Hc HO]
    · iapply htail
      isplitl [H18]
      · iexact H18
      isplitl [H15]
      · iexact H15
      isplitl [Hc]
      · iexact Hc
      · iexact HO
    iintro %_ ⟨H18, H15, Hc, HO⟩
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      · iexact HO
    isplitl [H18]
    · iexact H18
    isplitl [HCk Hc]
    · rw [← cur_upd _ (⟨j.val, hj⟩ : Fin 7)]
      iapply HCk
      iexact Hc
    · iexact HN

end Cert.Kernel.Walk

end
-- ==== Proof.KernelT6.lean ====
/-
  Hand-written, untrusted. One active expert: its two layers, the second's column chunks each waited for, multiplied
  and added to the accumulator, the next expert's chunks sent for meanwhile; after the last expert each finished
  column chunk is sent out.
-/
module

public import proofs.«01_k».proof.Proof.KernelT5

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

variable {B : Mem} {d : Dev nD} (I : In F B d)
variable {defs : Defs nD τ sig (Elt F) Λ₀} {𝒱 : Variants} {bd : Option 𝒱.V}

theorem trips6 : k0_t6_loop.trips = 4 := by decide +kernel
theorem trips10 : k0_t10_loop.trips = 4 := by decide +kernel

/-- The result's column chunks before chunk `j` of the `i`-th expert's second layer. -/
def outφ (n : Fin 33) (i j : ℕ) : Fin 4 → ℕ := fun k => if i + 1 = n.val ∧ k.val < j then 1 else 0

theorem out_at (n : Fin 33) (i : ℕ) (j : Fin 4) : outφ n i j.val j = 0 := if_neg (fun h => lt_irrefl _ h.2)
theorem out_upd (n : Fin 33) (i : ℕ) (j : Fin 4) (h : i + 1 = n.val) : Function.update (outφ n i j.val) j 1 = outφ n i (j.val + 1) := by
  funext k
  by_cases hk : k = j
  · subst hk; rw [Function.update_self]; exact (if_pos ⟨h, by omega⟩).symm
  · rw [Function.update_of_ne hk]
    have : k.val ≠ j.val := fun h' => hk (Fin.ext h')
    unfold outφ; congr 1; apply propext
    exact ⟨fun h => ⟨h.1, by omega⟩, fun h => ⟨h.1, by omega⟩⟩
theorem out_stay (n : Fin 33) (i j j' : ℕ) (h : ¬ i + 1 = n.val) : outφ n i j = outφ n i j' := by
  funext k; unfold outφ; rw [if_neg (fun h' => h h'.1), if_neg (fun h' => h h'.1)]

/-- The word that says which trip of the experts' loop this is. -/
abbrev tripW (i : ℕ) : BitVec 32 := Scalar.addi 0#32 (Scalar.muli (Scf.iv 0#32 1#32 i) 1#32)
/-- Whether the `i`-th of `n` experts is the last, as the kernel finds it. -/
abbrev isLast (n i : ℕ) : BitVec 1 := Scalar.cmpi .ne ((Scalar.extui (Scalar.cmpi .eq (tripW i) (Scalar.subi (BitVec.ofNat 32 n) 1#32)) : BitVec 32)) 0#32

/-- The next expert's column chunk `j` sent for. -/
theorem part2_W {T : S33.Idx → Elt F .i32} {n : Fin 33} (hT : Tab I n T) (hw3) (i : Fin (k0_t4_loop (BitVec.ofNat 32 n.val)).trips) (v60)
    (j : Fin k0_t6_loop.trips) (v104 v106) :
    iprop(Held (Val := Elt F) (tcT d) B.a9 T ∗ dnAll I (sl (i.val + 1)) (nxtφ (nxt I n i.val) j.val))
      ⊢ W defs 𝒱 (tcT d) bd (k0_part2 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 j v104 v106)
        (fun _ => iprop(Held (Val := Elt F) (tcT d) B.a9 T ∗ dnAll I (sl (i.val + 1)) (nxtφ (nxt I n i.val) (j.val + 1)))) := by
  have hi : i.val < n.val := lt_of_lt_of_eq i.isLt (trips4 n)
  have hi33 : i.val < 33 := by have := n.isLt; omega
  have hj : j.val < 4 := lt_of_lt_of_eq j.isLt trips6
  rw [k0_part2_eq_skeleton]
  unfold k0_part2_skel
  dsimp only
  iintro ⟨H9, HN⟩
  by_cases hlt : i.val + 1 < n.val
  · have hnx : nxt I n i.val = some (act I.V (i.val + 1)) := if_pos hlt
    rw [dif_pos ((cond6 n i j).mpr hlt), hnx]
    iapply (tab_load (i := ⟨i.val + 1, by omega⟩) (off30 _ i j hi33) (hT ⟨i.val + 1, by omega⟩ hlt)) $$ H9
    iintro H9
    iapply (assume_step (chk6 _ i j (act I.V (i.val + 1))))
    rw [dif_neg (cond7 j), dif_pos (cond8 j)]
    icases (dnAll_turn I (sl (i.val + 1)) ⟨j.val, hj⟩ _ (nxt_at _ (⟨j.val, hj⟩ : Fin 4))) $$ HN with ⟨Hn, HNk⟩
    iapply (dn_enqueue I (s := sl (i.val + 1)) (k := ⟨j.val, hj⟩) (e := act I.V (i.val + 1)) (off34 _ i j hi33) (off35 _ i j hi33) (off36 _ j)) $$ Hn
    iintro Hn
    iapply W_pure
    isplitl [H9]
    · iexact H9
    · rw [← nxt_upd _ (⟨j.val, hj⟩ : Fin 4)]
      iapply HNk
      iexact Hn
  · have hnx : nxt I n i.val = none := if_neg hlt
    rw [dif_neg (fun h => hlt ((cond6 n i j).mp h)), hnx, nxt_none (j.val + 1) j.val]
    iapply W_pure
    isplitl [H9]
    · iexact H9
    · iexact HN

/-- The column chunk waited for, multiplied and added. -/
theorem part3_W {n : Fin 33} (hw3) (i : Fin (k0_t4_loop (BitVec.ofNat 32 n.val)).trips) (v61) (hw5)
    (j : Fin k0_t6_loop.trips) (v100 v102) (A : S33x7168.Idx → Elt F .f32) :
    iprop(Held (Val := Elt F) (tcT d) B.a19 (accMid I.V (act I.V i.val) A j.val) ∗ Held (Val := Elt F) (tcT d) B.a17 I.V.sdn
        ∗ dnSt I (sl i.val) ⟨j.val, lt_of_lt_of_eq j.isLt trips6⟩ (some (act I.V i.val)) ∗ Owes (Elt F) (tcT d))
      ⊢ W defs 𝒱 (tcT d) bd (k0_part3 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) j v100 v102)
        (fun r => iprop((Held (Val := Elt F) (tcT d) B.a19 (accMid I.V (act I.V i.val) A (j.val + 1)) ∗ Held (Val := Elt F) (tcT d) B.a17 I.V.sdn
          ∗ dnSt I (sl i.val) ⟨j.val, lt_of_lt_of_eq j.isLt trips6⟩ none ∗ Owes (Elt F) (tcT d)) ∗ ⌜r = isLast n.val i.val⌝)) := by
  have hi : i.val < n.val := lt_of_lt_of_eq i.isLt (trips4 n)
  have hi33 : i.val < 33 := by have := n.isLt; omega
  have hj : j.val < 4 := lt_of_lt_of_eq j.isLt trips6
  rw [k0_part3_eq_skeleton]
  unfold k0_part3_skel
  dsimp only
  iintro ⟨H19, H17, Hc, HO⟩
  iapply (dn_wait I (s := sl i.val) (k := ⟨j.val, hj⟩) (e := act I.V i.val) (off37 _ i j hi33)) $$ [Hc HO]
  · isplitl [Hc]
    · iexact Hc
    · iexact HO
  iintro ⟨⟨HP, HL⟩, Hv, HO⟩
  iapply (load_part_at (off40 _ i j hi33) (dnDst_inb (sl i.val) ⟨j.val, hj⟩)) $$ HP
  iintro HP
  iapply (load_held_at (k0_off41_eq j) (col_inb ⟨j.val, hj⟩)) $$ H19
  iintro H19
  iapply (load_held_at (off42 (act I.V i.val) j) (sdnBox_inb (act I.V i.val) ⟨j.val, hj⟩)) $$ H17
  iintro H17
  iapply (load_held_at (k0_off41_eq j) (col_inb ⟨j.val, hj⟩)) $$ H19
  iintro H19
  iapply (store_held_at (k0_off41_eq j) (col_inb ⟨j.val, hj⟩)) $$ H19
  iintro H19
  iapply W_pure
  isplitl
  · isplitl [H19]
    · have hg : accMid I.V (act I.V i.val) A (j.val + 1) = (col ⟨j.val, hj⟩).overlay (accMid I.V (act I.V i.val) A j.val)
          (k0_pay1 (rt I.V (act I.V i.val)) (hid I.V (act I.V i.val)) (ld (Val := Elt F) (e' := .fp8e4m3) I.V.wdn (dnSrc (act I.V i.val) ⟨j.val, hj⟩))
            (ld (Val := Elt F) (e' := .f32) (accMid I.V (act I.V i.val) A j.val) (col ⟨j.val, hj⟩)) (ld (Val := Elt F) (e' := .f32) I.V.sdn (sdnBox (act I.V i.val) ⟨j.val, hj⟩))) := by
        change (col (f4 j.val)).overlay _ _ = _
        rw [show f4 j.val = ⟨j.val, hj⟩ from f4_val ⟨j.val, hj⟩]
      rw [hg]
      iexact H19
    isplitl [H17]
    · iexact H17
    isplitr [HO]
    · rw [dnSt_none]
      isplitl [HL]
      · iexact HL
      isplitl [HP]
      · iapply (part_any (Val := Elt F)) $$ HP
      · iexact Hv
    · iexact HO
  · ipureintro; rfl

/-- After the last expert, the finished column chunk narrowed and sent out. -/
theorem part4_W {n : Fin 33} (hn : n.val = nAct I.V) (i : Fin n.val) (j : Fin k0_t6_loop.trips) (v100 v102) :
    iprop(Held (Val := Elt F) (tcT d) B.a19 (accMid I.V (act I.V i.val) (accAt I.V i.val) (j.val + 1)) ∗ outAll I (outφ n i.val j.val))
      ⊢ W defs 𝒱 (tcT d) bd (k0_part4 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 j v100 v102 (isLast n.val i.val))
        (fun _ => iprop(Held (Val := Elt F) (tcT d) B.a19 (accMid I.V (act I.V i.val) (accAt I.V i.val) (j.val + 1)) ∗ outAll I (outφ n i.val (j.val + 1)))) := by
  have hj : j.val < 4 := lt_of_lt_of_eq j.isLt trips6
  rw [k0_part4_eq_skeleton]
  unfold k0_part4_skel
  dsimp only
  iintro ⟨H19, HF⟩
  by_cases hl : i.val + 1 = n.val
  · rw [if_pos ((last_cond n i).mpr hl)]
    icases (outAll_turn I ⟨j.val, hj⟩ _ (out_at n i.val (⟨j.val, hj⟩ : Fin 4))) $$ HF with ⟨Hf, HFk⟩
    icases (outSt_open I _) $$ Hf with ⟨H20, H7, Hv⟩
    iapply (load_held_at (k0_off43_eq j) (col_inb ⟨j.val, hj⟩)) $$ H19
    iintro H19
    iapply (load_part_any_at (k0_off43_eq j) (col_inb ⟨j.val, hj⟩)) $$ H20
    iintro %_ H20
    iapply (store_part_at (k0_off43_eq j) (col_inb ⟨j.val, hj⟩)) $$ H20
    iintro H20
    iapply (out_enqueue I (k := ⟨j.val, hj⟩) (k0_off44_eq j) (k0_off45_eq j)) $$ [H20 H7 Hv]
    · isplitl [H20]
      · have hg : outCol I.V ⟨j.val, hj⟩ = k0_pay2 (ld (Val := Elt F) (e' := .f32) (accMid I.V (act I.V i.val) (accAt I.V i.val) (j.val + 1)) (col ⟨j.val, hj⟩)) := by
          unfold outCol
          rw [show nAct I.V - 1 = i.val by omega]
        rw [hg]
        iexact H20
      isplitl [H7]
      · iexact H7
      · iexact Hv
    iintro Hf
    iapply W_pure
    isplitl [H19]
    · iexact H19
    · rw [← out_upd n i.val (⟨j.val, hj⟩ : Fin 4) hl]
      iapply HFk
      iexact Hf
  · rw [if_neg (fun h => hl ((last_cond n i).mp h)), out_stay n i.val (j.val + 1) j.val hl]
    iapply W_pure
    isplitl [H19]
    · iexact H19
    · iexact HF

/-- Before column chunk `j` of the `i`-th active expert's second layer. -/
def T6 (T : S33.Idx → Elt F .i32) (n : Fin 33) (i j : ℕ) : sProp 𝕄 :=
  iprop(Stat I T ∗ Held (Val := Elt F) (tcT d) B.a19 (accMid I.V (act I.V i) (accAt I.V i) j) ∗ dnAll I (sl i) (curφ (some (act I.V i)) j)
    ∗ dnAll I (sl (i + 1)) (nxtφ (nxt I n i) j) ∗ outAll I (outφ n i j))

/-- One trip of the second layer's loop. -/
theorem t6_trip {T : S33.Idx → Elt F .i32} {n : Fin 33} (hn : n.val = nAct I.V) (hT : Tab I n T) (hw3) (i : Fin (k0_t4_loop (BitVec.ofNat 32 n.val)).trips) (v61) (hw5)
    (j : Fin k0_t6_loop.trips) (u : Unit) :
    T6 I T n i.val j.val ⊢ W defs 𝒱 (tcT d) bd (k0_t6_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) 0#32 1#32 j u)
      (fun _ => T6 I T n i.val (j.val + 1)) := by
  have hi : i.val < n.val := lt_of_lt_of_eq i.isLt (trips4 n)
  have hj : j.val < 4 := lt_of_lt_of_eq j.isLt trips6
  unfold k0_t6_body T6 Stat
  dsimp only
  rw [k0_part1_eq_skeleton]
  unfold k0_part1_skel
  dsimp only
  iintro ⟨⟨H9, H12, H13, H15, H16, H17, HO⟩, H19, HC, HN, HF⟩
  icases (dnAll_turn I (sl i.val) ⟨j.val, hj⟩ _ (cur_at _ (⟨j.val, hj⟩ : Fin 4))) $$ HC with ⟨Hc, HCk⟩
  iapply W_bind
  iapply W_pure
  dsimp only
  iapply (piece (part2_W I hT hw3 i _ j _ _)) $$ [H9 HN]
  · isplitl [H9]
    · iexact H9
    · iexact HN
  iintro %_ ⟨H9, HN⟩
  iapply (piece (part3_W I hw3 i v61 hw5 j _ _ (accAt I.V i.val))) $$ [H19 H17 Hc HO]
  · isplitl [H19]
    · iexact H19
    isplitl [H17]
    · iexact H17
    isplitl [Hc]
    · iexact Hc
    · iexact HO
  iintro %r ⟨⟨H19, H17, Hc, HO⟩, %hr⟩
  subst hr
  iapply (piece (part4_W I hn ⟨i.val, hi⟩ j _ _)) $$ [H19 HF]
  · isplitl [H19]
    · iexact H19
    · iexact HF
  iintro %_ ⟨H19, HF⟩
  iapply W_pure
  isplitl [H9 H12 H13 H15 H16 H17 HO]
  · isplitl [H9]
    · iexact H9
    isplitl [H12]
    · iexact H12
    isplitl [H13]
    · iexact H13
    isplitl [H15]
    · iexact H15
    isplitl [H16]
    · iexact H16
    isplitl [H17]
    · iexact H17
    · iexact HO
  isplitl [H19]
  · iexact H19
  isplitl [HCk Hc]
  · rw [← cur_upd _ (⟨j.val, hj⟩ : Fin 4)]
    iapply HCk
    iexact Hc
  isplitl [HN]
  · iexact HN
  · iexact HF

/-- The `i`-th active expert, if there is one. -/
def curE (n : Fin 33) (i : ℕ) : Option (Fin 32) := if i < n.val then some (act I.V i) else none

/-- Before the `i`-th active expert. -/
def T4 (T : S33.Idx → Elt F .i32) (n : Fin 33) (i : ℕ) : sProp 𝕄 :=
  iprop(Stat I T ∗ HeldAny (Elt F) (tcT d) B.a18 ∗ Held (Val := Elt F) (tcT d) B.a19 (accAt I.V i)
    ∗ guAll I (sl i) (fun _ => curE I n i) ∗ guAll I (sl (i + 1)) (fun _ => none)
    ∗ dnAll I (sl i) (fun _ => curE I n i) ∗ dnAll I (sl (i + 1)) (fun _ => none) ∗ outAll I (fun _ => if i = n.val then 1 else 0))

theorem part6_W {T : S33.Idx → Elt F .i32} {n : Fin 33} (hT : Tab I n T) (hw3) (i : Fin (k0_t4_loop (BitVec.ofNat 32 n.val)).trips) (v60 v61 v63 hw5 c0 c1) :
    T5 I T n i.val 0 ⊢ W defs 𝒱 (tcT d) bd (k0_part6 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 v61 v63 hw5 c0 c1) (fun _ => T5 I T n i.val 7) := by
  rw [k0_part6_eq_skeleton]
  unfold k0_part6_skel
  iintro H
  iapply (loop_step (fun j _ => T5 I T n i.val j) (fun j u => t5_trip I hT hw3 i v60 v61 v63 hw5 c0 c1 j u)) $$ H
  iintro %_ H
  iapply W_pure
  rw [trips5]
  iexact H

theorem part8_W {T : S33.Idx → Elt F .i32} {n : Fin 33} (hn : n.val = nAct I.V) (hT : Tab I n T) (hw3) (i : Fin (k0_t4_loop (BitVec.ofNat 32 n.val)).trips) (v61) (hw5) :
    T6 I T n i.val 0 ⊢ W defs 𝒱 (tcT d) bd (k0_part8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) 0#32 1#32)
      (fun _ => T6 I T n i.val 4) := by
  rw [k0_part8_eq_skeleton]
  unfold k0_part8_skel
  iintro H
  iapply (loop_step (fun j _ => T6 I T n i.val j) (fun j u => t6_trip I hn hT hw3 i v61 hw5 j u)) $$ H
  iintro %_ H
  iapply W_pure
  rw [trips6]
  iexact H

theorem part5_W {T : S33.Idx → Elt F .i32} {n : Fin 33} (hT : Tab I n T) (hw3) (i : Fin (k0_t4_loop (BitVec.ofNat 32 n.val)).trips) :
    iprop(Stat I T ∗ HeldAny (Elt F) (tcT d) B.a18)
      ⊢ W defs 𝒱 (tcT d) bd (k0_part5 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32 i)
      (fun r => iprop((Stat I T ∗ Held (Val := Elt F) (tcT d) B.a18 (guMid I.V (act I.V i.val) 0)) ∗ ⌜∃ v61 hw5, r = ⟨tripW i.val, v61, wd (act I.V i.val), hw5, 0#32, 1#32⟩⌝)) := by
  have hi : i.val < n.val := lt_of_lt_of_eq i.isLt (trips4 n)
  have hi33 : i.val < 33 := by have := n.isLt; omega
  rw [k0_part5_eq_skeleton]
  unfold k0_part5_skel Stat
  dsimp only
  iintro ⟨⟨H9, H12, H13, H15, H16, H17, HO⟩, H18⟩
  iapply (tab_load (i := ⟨i.val, hi33⟩) (off16 _ i hi33) (hT ⟨i.val, hi33⟩ hi)) $$ H9
  iintro H9
  iapply (assume_step (chk5 (act I.V i.val)))
  iapply load_any $$ H18
  iintro %_ H18
  iapply (store_any zero2) $$ H18
  iintro H18
  iapply W_pure
  isplitl
  · isplitr [H18]
    · isplitl [H9]
      · iexact H9
      isplitl [H12]
      · iexact H12
      isplitl [H13]
      · iexact H13
      isplitl [H15]
      · iexact H15
      isplitl [H16]
      · iexact H16
      isplitl [H17]
      · iexact H17
      · iexact HO
    · iexact H18
  · ipureintro; exact ⟨_, _, rfl⟩

theorem part7_W {T : S33.Idx → Elt F .i32} (e : Fin 32) (hw5) :
    iprop(Stat I T ∗ Held (Val := Elt F) (tcT d) B.a18 (guMid I.V e 7))
      ⊢ W defs 𝒱 (tcT d) bd (k0_part7 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw5)
      (fun r => iprop((Stat I T ∗ Held (Val := Elt F) (tcT d) B.a18 (guMid I.V e 7)) ∗ ⌜r = ⟨rt I.V e, hid I.V e, 0#32, 1#32⟩⌝)) := by
  rw [k0_part7_eq_skeleton]
  unfold k0_part7_skel Stat
  dsimp only
  iintro ⟨⟨H9, H12, H13, H15, H16, H17, HO⟩, H18⟩
  iapply (load_full zero2) $$ H12
  iintro H12
  iapply (load_full zero2) $$ H13
  iintro H13
  iapply (load_full zero2) $$ H18
  iintro H18
  iapply (load_held_at (off29 e) (sguRow_inb e)) $$ H16
  iintro H16
  iapply W_pure
  isplitl
  · isplitr [H18]
    · isplitl [H9]
      · iexact H9
      isplitl [H12]
      · iexact H12
      isplitl [H13]
      · iexact H13
      isplitl [H15]
      · iexact H15
      isplitl [H16]
      · iexact H16
      isplitl [H17]
      · iexact H17
      · iexact HO
    · iexact H18
  · ipureintro; rfl

theorem cur_zero {m : ℕ} (o : Option (Fin 32)) : (curφ o 0 : Fin m → _) = fun _ => o := by
  funext k; exact if_pos (Nat.zero_le _)
theorem cur_end {m : ℕ} (o : Option (Fin 32)) : (curφ o m : Fin m → _) = fun _ => none := by
  funext k; exact if_neg (Nat.not_le.mpr k.isLt)
theorem nxt_zero {m : ℕ} (o : Option (Fin 32)) : (nxtφ o 0 : Fin m → _) = fun _ => none := by
  funext k; exact if_neg (Nat.not_lt_zero _)
theorem nxt_end {m : ℕ} (o : Option (Fin 32)) : (nxtφ o m : Fin m → _) = fun _ => o := by
  funext k; exact if_pos k.isLt
theorem out_zero (n : Fin 33) (i : ℕ) : outφ n i 0 = fun _ => 0 := by
  funext k; exact if_neg (fun h => absurd h.2 (Nat.not_lt_zero _))
theorem out_end (n : Fin 33) (i : ℕ) : outφ n i 4 = fun _ => if i + 1 = n.val then 1 else 0 := by
  funext k; unfold outφ; congr 1; apply propext; exact ⟨fun h => h.1, fun h => ⟨h, k.isLt⟩⟩
theorem sl_two (i : ℕ) : sl (i + 1 + 1) = sl i := Fin.ext (by change (i + 1 + 1) % 2 = i % 2; omega)

/-- One active expert. -/
theorem t4_trip {T : S33.Idx → Elt F .i32} {n : Fin 33} (hn : n.val = nAct I.V) (hT : Tab I n T) (hw3) (i : Fin (k0_t4_loop (BitVec.ofNat 32 n.val)).trips) (u : Unit) :
    T4 I T n i.val ⊢ W defs 𝒱 (tcT d) bd (k0_t4_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32 i u) (fun _ => T4 I T n (i.val + 1)) := by
  have hi : i.val < n.val := lt_of_lt_of_eq i.isLt (trips4 n)
  unfold k0_t4_body T4
  dsimp only
  have hc : curE I n i.val = some (act I.V i.val) := if_pos hi
  rw [hc, if_neg (show ¬ i.val = n.val by omega)]
  iintro ⟨HS, H18, H19, HC, HN, HDC, HDN, HF⟩
  iapply (piece (part5_W I hT hw3 i)) $$ [HS H18]
  · isplitl [HS]
    · iexact HS
    · iexact H18
  iintro %r ⟨⟨HS, H18⟩, %hr⟩
  obtain ⟨v61, hw5, rfl⟩ := hr
  dsimp only
  iapply (piece (part6_W I hT hw3 i _ _ _ _ _ _)) $$ [HS H18 HC HN]
  · unfold T5
    rw [cur_zero, nxt_zero]
    isplitl [HS]
    · iexact HS
    isplitl [H18]
    · iexact H18
    isplitl [HC]
    · iexact HC
    · iexact HN
  unfold T5
  rw [cur_end, nxt_end]
  iintro %_ ⟨HS, H18, HC, HN⟩
  iapply (piece (part7_W I (act I.V i.val) hw5)) $$ [HS H18]
  · isplitl [HS]
    · iexact HS
    · iexact H18
  iintro %r ⟨⟨HS, H18⟩, %hr⟩
  subst hr
  dsimp only
  iapply (piece (part8_W I hn hT hw3 i _ _)) $$ [HS H19 HDC HDN HF]
  · unfold T6
    rw [cur_zero, nxt_zero, out_zero]
    isplitl [HS]
    · iexact HS
    isplitl [H19]
    · iexact H19
    isplitl [HDC]
    · iexact HDC
    isplitl [HDN]
    · iexact HDN
    · iexact HF
  unfold T6
  rw [cur_end, nxt_end, out_end]
  iintro %_ ⟨HS, H19, HDC, HDN, HF⟩
  iapply W_pure
  rw [sl_two]
  isplitl [HS]
  · iexact HS
  isplitl [H18]
  · iapply (held_any (Val := Elt F)) $$ H18
  isplitl [H19]
  · iexact H19
  isplitl [HN]
  · iexact HN
  isplitl [HC]
  · iexact HC
  isplitl [HDN]
  · iexact HDN
  isplitl [HDC]
  · iexact HDC
  · iexact HF

/-- All the active experts, in order. -/
theorem part25_W {T : S33.Idx → Elt F .i32} {n : Fin 33} (hn : n.val = nAct I.V) (hT : Tab I n T) (hw3) :
    T4 I T n 0 ⊢ W defs 𝒱 (tcT d) bd (k0_part25 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32) (fun _ => T4 I T n n.val) := by
  rw [k0_part25_eq_skeleton]
  unfold k0_part25_skel
  iintro H
  iapply (loop_step (fun i _ => T4 I T n i) (fun i u => t4_trip I hn hT hw3 i u)) $$ H
  iintro %_ H
  iapply W_pure
  rw [trips4 n]
  iexact H

/-- The remainder loop, which has no trips. -/
theorem part27_W {P : sProp 𝕄} {n : Fin 33} (hw3 c1 c0 v57 c1') :
    P ⊢ W defs 𝒱 (tcT d) bd (k0_part27 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 c1 c0 v57 c1') (fun _ => P) := by
  rw [k0_part27_eq_skeleton]
  unfold k0_part27_skel
  iintro H
  iapply (loop_step (fun _ _ => P) (fun i u => absurd (lt_of_lt_of_eq i.isLt (trips7 n)) (Nat.not_lt_zero _))) $$ H
  iintro %_ H
  iapply W_pure
  iexact H

/-- The result's column chunks before the `j`-th wait. -/
def doneφ (j : ℕ) : Fin 4 → ℕ := fun k => if k.val < j then 2 else 1

theorem done_at (j : Fin 4) : doneφ j.val j = 1 := if_neg (lt_irrefl _)
theorem done_upd (j : Fin 4) : Function.update (doneφ j.val) j 2 = doneφ (j.val + 1) := by
  funext k
  by_cases hk : k = j
  · subst hk; rw [Function.update_self]; exact (if_pos (by omega)).symm
  · rw [Function.update_of_ne hk]
    have : k.val ≠ j.val := fun h' => hk (Fin.ext h')
    unfold doneφ; congr 1; apply propext; omega

theorem t10_trip (c0 c1) (j : Fin k0_t10_loop.trips) (u : Unit) :
    iprop(outAll I (doneφ j.val) ∗ Owes (Elt F) (tcT d)) ⊢ W defs 𝒱 (tcT d) bd (k0_t10_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c0 c1 j u)
      (fun _ => iprop(outAll I (doneφ (j.val + 1)) ∗ Owes (Elt F) (tcT d))) := by
  have hj : j.val < 4 := lt_of_lt_of_eq j.isLt trips10
  unfold k0_t10_body
  dsimp only
  iintro ⟨HF, HO⟩
  icases (outAll_turn I ⟨j.val, hj⟩ _ (done_at (⟨j.val, hj⟩ : Fin 4))) $$ HF with ⟨Hf, HFk⟩
  iapply (out_wait I (k := ⟨j.val, hj⟩) (k0_off76_eq j)) $$ [Hf HO]
  · isplitl [Hf]
    · iexact Hf
    · iexact HO
  iintro ⟨Hf, HO⟩
  iapply W_pure
  isplitr [HO]
  · rw [← done_upd (⟨j.val, hj⟩ : Fin 4)]
    iapply HFk
    iexact Hf
  · iexact HO

/-- The result's column chunks, all waited for. -/
theorem part29_W (c0 c1) :
    iprop(outAll I (fun _ => 1) ∗ Owes (Elt F) (tcT d)) ⊢ W defs 𝒱 (tcT d) bd (k0_part29 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c0 c1)
      (fun _ => iprop(outAll I (fun _ => 2) ∗ Owes (Elt F) (tcT d))) := by
  rw [k0_part29_eq_skeleton]
  unfold k0_part29_skel
  iintro H
  iapply (loop_step (fun j _ => iprop(outAll I (doneφ j) ∗ Owes (Elt F) (tcT d))) (fun j u => t10_trip I c0 c1 j u)) $$ [H]
  · rw [show doneφ 0 = fun _ => 1 from funext fun k => if_neg (Nat.not_lt_zero _)]
    iexact H
  rw [trips10, show doneφ 4 = fun _ => 2 from funext fun k => if_pos k.isLt]
  iintro %_ H
  iapply W_pure
  iexact H

end Cert.Kernel.Walk

end
-- ==== Proof.KernelRings.lean ====
module

public import proofs.«01_k».proof.Proof.KernelT6

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The rings opened before the loops and closed after them -/

section Rings

variable {B : Mem} {d : Dev nD} (I : In F B d)

theorem guAll_free (s : Fin 2) : guAll I s (fun _ => none) = iprop((bigSep Finset.univ fun k : Fin 7 => Lent (tcT d) B.a3 (guTok s k) I.f3)
    ∗ (bigSep Finset.univ fun k : Fin 7 => PartAny (Val := Elt F) (tcT d) B.a21 (guDst s k)) ∗ (bigSep Finset.univ fun k : Fin 7 => semVal ((tcT d), SemLoc.dma (guSem B s k)) 0)) :=
  (bigSep_sep Finset.univ _ _).trans (congrArg (fun x => iprop((bigSep Finset.univ fun k : Fin 7 => Lent (tcT d) B.a3 (guTok s k) I.f3) ∗ x)) (bigSep_sep Finset.univ _ _))
theorem dnAll_free (s : Fin 2) : dnAll I s (fun _ => none) = iprop((bigSep Finset.univ fun k : Fin 4 => Lent (tcT d) B.a5 (dnTok s k) I.f5)
    ∗ (bigSep Finset.univ fun k : Fin 4 => PartAny (Val := Elt F) (tcT d) B.a22 (dnDst s k)) ∗ (bigSep Finset.univ fun k : Fin 4 => semVal ((tcT d), SemLoc.dma (dnSem B s k)) 0)) :=
  (bigSep_sep Finset.univ _ _).trans (congrArg (fun x => iprop((bigSep Finset.univ fun k : Fin 4 => Lent (tcT d) B.a5 (dnTok s k) I.f5) ∗ x)) (bigSep_sep Finset.univ _ _))

variable (F) in
/-- The first ring's semaphores, all at zero; the second ring's; the result's. -/
abbrev guSems (B : Mem) (d : Dev nD) : sProp 𝕄 := bigSep Finset.univ fun s : Fin 2 => bigSep Finset.univ fun k : Fin 7 => semVal ((tcT d), SemLoc.dma (guSem B s k)) 0
variable (F) in
abbrev dnSems (B : Mem) (d : Dev nD) : sProp 𝕄 := bigSep Finset.univ fun s : Fin 2 => bigSep Finset.univ fun k : Fin 4 => semVal ((tcT d), SemLoc.dma (dnSem B s k)) 0
variable (F) in
abbrev outSems (B : Mem) (d : Dev nD) : sProp 𝕄 := bigSep Finset.univ fun k : Fin 4 => semVal ((tcT d), SemLoc.dma (outSem B k)) 0

theorem gu_open : iprop(Lent (tcT d) B.a3 fullShare I.f3 ∗ HeldAny (Elt F) (tcT d) B.a21 ∗ guSems F B d)
    ⊢ iprop((guAll I 0 (fun _ => none) ∗ guAll I 1 (fun _ => none))
      ∗ ((guAll I 0 (fun _ => none) ∗ guAll I 1 (fun _ => none)) -∗ (Lent (tcT d) B.a3 fullShare I.f3 ∗ HeldAny (Elt F) (tcT d) B.a21 ∗ guSems F B d))) := by
  have hP : HeldAny (Elt F) (tcT d) B.a21 ⊢ iprop(((bigSep Finset.univ fun k : Fin 7 => PartAny (Val := Elt F) (tcT d) B.a21 (guDst 0 k)) ∗ (bigSep Finset.univ fun k : Fin 7 => PartAny (Val := Elt F) (tcT d) B.a21 (guDst 1 k)))
      ∗ (((bigSep Finset.univ fun k : Fin 7 => PartAny (Val := Elt F) (tcT d) B.a21 (guDst 0 k)) ∗ (bigSep Finset.univ fun k : Fin 7 => PartAny (Val := Elt F) (tcT d) B.a21 (guDst 1 k))) -∗ HeldAny (Elt F) (tcT d) B.a21)) := by
    have h := split_parts (Val := Elt F) (c := (tcT d)) B.a21 (fun p : Fin 2 × Fin 7 => guDst p.1 p.2) guDst_disjoint
    rw [bigSep_univ_prod, bigSep_fin_two] at h
    exact h
  have hL : Lent (tcT d) B.a3 fullShare I.f3 ⊢ iprop(((bigSep Finset.univ fun k : Fin 7 => Lent (tcT d) B.a3 (guTok 0 k) I.f3) ∗ (bigSep Finset.univ fun k : Fin 7 => Lent (tcT d) B.a3 (guTok 1 k) I.f3))
      ∗ (((bigSep Finset.univ fun k : Fin 7 => Lent (tcT d) B.a3 (guTok 0 k) I.f3) ∗ (bigSep Finset.univ fun k : Fin 7 => Lent (tcT d) B.a3 (guTok 1 k) I.f3)) -∗ Lent (tcT d) B.a3 fullShare I.f3)) := by
    have h := split_shares2 (c := (tcT d)) B.a3 fullShare 2 7 I.f3
    rw [bigSep_fin_two] at h
    exact h
  have hS : guSems F B d = iprop((bigSep Finset.univ fun k : Fin 7 => semVal ((tcT d), SemLoc.dma (guSem B 0 k)) 0)
      ∗ (bigSep Finset.univ fun k : Fin 7 => semVal ((tcT d), SemLoc.dma (guSem B 1 k)) 0)) := bigSep_fin_two _
  rw [guAll_free, guAll_free, hS]
  iintro ⟨HL, HP, ⟨HS0, HS1⟩⟩
  icases hL $$ HL with ⟨⟨HL0, HL1⟩, HLk⟩
  icases hP $$ HP with ⟨⟨HP0, HP1⟩, HPk⟩
  isplitl [HL0 HL1 HP0 HP1 HS0 HS1]
  · isplitl [HL0 HP0 HS0]
    · isplitl [HL0]
      · iexact HL0
      isplitl [HP0]
      · iexact HP0
      · iexact HS0
    · isplitl [HL1]
      · iexact HL1
      isplitl [HP1]
      · iexact HP1
      · iexact HS1
  · iintro ⟨⟨HL0, HP0, HS0⟩, ⟨HL1, HP1, HS1⟩⟩
    isplitl [HL0 HL1 HLk]
    · iapply HLk
      isplitl [HL0]
      · iexact HL0
      · iexact HL1
    isplitl [HP0 HP1 HPk]
    · iapply HPk
      isplitl [HP0]
      · iexact HP0
      · iexact HP1
    · isplitl [HS0]
      · iexact HS0
      · iexact HS1

theorem dn_open : iprop(Lent (tcT d) B.a5 fullShare I.f5 ∗ HeldAny (Elt F) (tcT d) B.a22 ∗ dnSems F B d)
    ⊢ iprop((dnAll I 0 (fun _ => none) ∗ dnAll I 1 (fun _ => none))
      ∗ ((dnAll I 0 (fun _ => none) ∗ dnAll I 1 (fun _ => none)) -∗ (Lent (tcT d) B.a5 fullShare I.f5 ∗ HeldAny (Elt F) (tcT d) B.a22 ∗ dnSems F B d))) := by
  have hP : HeldAny (Elt F) (tcT d) B.a22 ⊢ iprop(((bigSep Finset.univ fun k : Fin 4 => PartAny (Val := Elt F) (tcT d) B.a22 (dnDst 0 k)) ∗ (bigSep Finset.univ fun k : Fin 4 => PartAny (Val := Elt F) (tcT d) B.a22 (dnDst 1 k)))
      ∗ (((bigSep Finset.univ fun k : Fin 4 => PartAny (Val := Elt F) (tcT d) B.a22 (dnDst 0 k)) ∗ (bigSep Finset.univ fun k : Fin 4 => PartAny (Val := Elt F) (tcT d) B.a22 (dnDst 1 k))) -∗ HeldAny (Elt F) (tcT d) B.a22)) := by
    have h := split_parts (Val := Elt F) (c := (tcT d)) B.a22 (fun p : Fin 2 × Fin 4 => dnDst p.1 p.2) dnDst_disjoint
    rw [bigSep_univ_prod, bigSep_fin_two] at h
    exact h
  have hL : Lent (tcT d) B.a5 fullShare I.f5 ⊢ iprop(((bigSep Finset.univ fun k : Fin 4 => Lent (tcT d) B.a5 (dnTok 0 k) I.f5) ∗ (bigSep Finset.univ fun k : Fin 4 => Lent (tcT d) B.a5 (dnTok 1 k) I.f5))
      ∗ (((bigSep Finset.univ fun k : Fin 4 => Lent (tcT d) B.a5 (dnTok 0 k) I.f5) ∗ (bigSep Finset.univ fun k : Fin 4 => Lent (tcT d) B.a5 (dnTok 1 k) I.f5)) -∗ Lent (tcT d) B.a5 fullShare I.f5)) := by
    have h := split_shares2 (c := (tcT d)) B.a5 fullShare 2 4 I.f5
    rw [bigSep_fin_two] at h
    exact h
  have hS : dnSems F B d = iprop((bigSep Finset.univ fun k : Fin 4 => semVal ((tcT d), SemLoc.dma (dnSem B 0 k)) 0)
      ∗ (bigSep Finset.univ fun k : Fin 4 => semVal ((tcT d), SemLoc.dma (dnSem B 1 k)) 0)) := bigSep_fin_two _
  rw [dnAll_free, dnAll_free, hS]
  iintro ⟨HL, HP, ⟨HS0, HS1⟩⟩
  icases hL $$ HL with ⟨⟨HL0, HL1⟩, HLk⟩
  icases hP $$ HP with ⟨⟨HP0, HP1⟩, HPk⟩
  isplitl [HL0 HL1 HP0 HP1 HS0 HS1]
  · isplitl [HL0 HP0 HS0]
    · isplitl [HL0]
      · iexact HL0
      isplitl [HP0]
      · iexact HP0
      · iexact HS0
    · isplitl [HL1]
      · iexact HL1
      isplitl [HP1]
      · iexact HP1
      · iexact HS1
  · iintro ⟨⟨HL0, HP0, HS0⟩, ⟨HL1, HP1, HS1⟩⟩
    isplitl [HL0 HL1 HLk]
    · iapply HLk
      isplitl [HL0]
      · iexact HL0
      · iexact HL1
    isplitl [HP0 HP1 HPk]
    · iapply HPk
      isplitl [HP0]
      · iexact HP0
      · iexact HP1
    · isplitl [HS0]
      · iexact HS0
      · iexact HS1

theorem outAll_free : outAll I (fun _ => 0) = iprop((bigSep Finset.univ fun k : Fin 4 => PartAny (Val := Elt F) (tcT d) B.a20 (col k))
    ∗ (bigSep Finset.univ fun k : Fin 4 => PartAny (Val := Elt F) (tcT d) B.a7 (col k)) ∗ outSems F B d) :=
  (bigSep_sep Finset.univ _ _).trans (congrArg (fun x => iprop((bigSep Finset.univ fun k : Fin 4 => PartAny (Val := Elt F) (tcT d) B.a20 (col k)) ∗ x)) (bigSep_sep Finset.univ _ _))
theorem outAll_done : outAll I (fun _ => 2) = iprop((bigSep Finset.univ fun k : Fin 4 => PartAny (Val := Elt F) (tcT d) B.a20 (col k))
    ∗ (bigSep Finset.univ fun k : Fin 4 => Part (Val := Elt F) (tcT d) B.a7 (col k) (outCol I.V k)) ∗ outSems F B d) :=
  (bigSep_sep Finset.univ _ _).trans (congrArg (fun x => iprop((bigSep Finset.univ fun k : Fin 4 => PartAny (Val := Elt F) (tcT d) B.a20 (col k)) ∗ x)) (bigSep_sep Finset.univ _ _))

theorem out_open : iprop(HeldAny (Elt F) (tcT d) B.a20 ∗ HeldAny (Elt F) (tcT d) B.a7 ∗ outSems F B d)
    ⊢ iprop(outAll I (fun _ => 0)
      ∗ (outAll I (fun _ => 2) -∗ (HeldAny (Elt F) (tcT d) B.a20 ∗ Held (Val := Elt F) (tcT d) B.a7 (result I.V) ∗ outSems F B d))) := by
  have h20 := split_parts (Val := Elt F) (c := (tcT d)) B.a20 col col_disjoint
  have h7 := split_parts (Val := Elt F) (c := (tcT d)) B.a7 col col_disjoint
  have hj := join_parts (Val := Elt F) (c := (tcT d)) B.a7 col col_disjoint col_cover (result I.V)
  rw [bigSep_congr (Ψ := fun k : Fin 4 => Part (Val := Elt F) (tcT d) B.a7 (col k) (outCol I.V k)) (fun k _ => by rw [result_col])] at hj
  rw [outAll_free, outAll_done]
  iintro ⟨H20, H7, HS⟩
  icases h20 $$ H20 with ⟨H20, H20k⟩
  icases h7 $$ H7 with ⟨H7, -⟩
  isplitl [H20 H7 HS]
  · isplitl [H20]
    · iexact H20
    isplitl [H7]
    · iexact H7
    · iexact HS
  · iintro ⟨H20, H7, HS⟩
    isplitl [H20 H20k]
    · iapply H20k
      iexact H20
    isplitl [H7]
    · iapply hj
      iexact H7
    · iexact HS

end Rings

end Cert.Kernel.Walk

end
-- ==== Proof.KernelStart.lean ====
module

public import proofs.«01_k».proof.Proof.KernelRings
public import proofs.«01_k».proof.Proof.KernelChecks

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The kernel before its loop over the experts -/

theorem inSem_inb : ∀ (k : Fin 5), ∀ a, (![k.val] : Fin 1 → ℕ) a + S1.size a ≤ S5.size a := by decide +kernel

/-- The semaphore of the `k`-th array read whole. -/
abbrev inSem (B : Mem) (k : Fin 5) : DmaSem sig := ((B.a24.slice (Rect.unit (s := S5) ![k.val] S1.size (inSem_inb k))).squeeze S_ squeezes_S1_S_).sem

section Start

variable {B : Mem} {d : Dev nD} (I : In F B d)
variable {defs : Defs nD τ sig (Elt F) Λ₀} {𝒱 : Variants} {bd : Option 𝒱.V}
variable {α : Type} {Q : α → sProp (MT nD τ sig Unit (Elt F) ℕ (Pipeline.UD sig nD τ) ℕ)}

/-- One of the two shares at which the routing table is read. -/
abbrev idTok (i : Fin 2) : PosShare TreeShare := Transfers.shareTok fullShare 2 i

/-- Array 0 of those read whole, on its way. -/
abbrev fl0 : sProp 𝕄 := Transfers.Flight EC0 (tcT d) (.dma (inSem B 0)) () (B.a14.view.ref.dmaCredit S33x7168 .bf16)
  iprop(Held (Val := Elt F) (tcT d) B.a14 I.V.x ∗ Lent (tcT d) B.a0 fullShare I.f0)
/-- Array 1 of those read whole, on its way. -/
abbrev fl1 : sProp 𝕄 := Transfers.Flight EC0 (tcT d) (.dma (inSem B 1)) () (B.a10.view.ref.dmaCredit S8x33 .i32)
  iprop(Held (Val := Elt F) (tcT d) B.a10 I.V.ids ∗ Lent (tcT d) B.a1 (idTok 1) I.f1)
/-- Array 2 of those read whole, on its way. -/
abbrev fl2 : sProp 𝕄 := Transfers.Flight EC0 (tcT d) (.dma (inSem B 2)) () (B.a11.view.ref.dmaCredit S8x33 .f32)
  iprop(Held (Val := Elt F) (tcT d) B.a11 I.V.rw ∗ Lent (tcT d) B.a2 fullShare I.f2)
/-- Array 3 of those read whole, on its way. -/
abbrev fl3 : sProp 𝕄 := Transfers.Flight EC0 (tcT d) (.dma (inSem B 3)) () (B.a16.view.ref.dmaCredit S32x1536 .f32)
  iprop(Held (Val := Elt F) (tcT d) B.a16 I.V.sgu ∗ Lent (tcT d) B.a4 fullShare I.f4)
/-- Array 4 of those read whole, on its way. -/
abbrev fl4 : sProp 𝕄 := Transfers.Flight EC0 (tcT d) (.dma (inSem B 4)) () (B.a17.view.ref.dmaCredit S32x7168 .f32)
  iprop(Held (Val := Elt F) (tcT d) B.a17 I.V.sdn ∗ Lent (tcT d) B.a6 fullShare I.f6)

theorem id_load {X : S8x33.Idx → Elt F .i32} (k : Fin 8) (t : Fin 33) {off : Fin 2 → ℕ} (ho : off = ![k.val, t.val])
    {inb : ∀ a, off a + S1x1.size a ≤ S8x33.size a} {h1 hp} {K : BitVec 32 → Prog (TpuEff nD τ sig (Elt F) Λ₀ .tc) α} :
    Held (Val := Elt F) (tcT d) B.a8 X ⊢ iprop((Held (Val := Elt F) (tcT d) B.a8 X -∗ W defs 𝒱 (tcT d) bd (K (idw (F := F) X k t)) Q)
      -∗ W defs 𝒱 (tcT d) bd (smemLoad (nD := nD) (τ := τ) (p := Proc.tc) (Val := Elt F) (Λ := Λ₀) B.a8 (Rect.unit (s := S8x33) off S1x1.size inb) h1 hp >>= K) Q) := by
  subst ho
  exact smem_load (c := (tcT d))

/-- The routing table read into scalar memory, the other arrays sent for, and the first expert. -/
theorem part17_W (h0 : (idw (F := F) I.V.ids 0 0).toNat < 32) :
    iprop(Lent (tcT d) B.a1 (idTok 0) I.f1 ∗ HeldAny (Elt F) (tcT d) B.a8 ∗ semVal ((tcT d), SemLoc.dma B.a23.sem) 0
      ∗ Lent (tcT d) B.a0 fullShare I.f0 ∗ HeldAny (Elt F) (tcT d) B.a14 ∗ semVal ((tcT d), SemLoc.dma (inSem B 0)) 0
      ∗ Lent (tcT d) B.a1 (idTok 1) I.f1 ∗ HeldAny (Elt F) (tcT d) B.a10 ∗ semVal ((tcT d), SemLoc.dma (inSem B 1)) 0
      ∗ Lent (tcT d) B.a2 fullShare I.f2 ∗ HeldAny (Elt F) (tcT d) B.a11 ∗ semVal ((tcT d), SemLoc.dma (inSem B 2)) 0
      ∗ Lent (tcT d) B.a4 fullShare I.f4 ∗ HeldAny (Elt F) (tcT d) B.a16 ∗ semVal ((tcT d), SemLoc.dma (inSem B 3)) 0
      ∗ Lent (tcT d) B.a6 fullShare I.f6 ∗ HeldAny (Elt F) (tcT d) B.a17 ∗ semVal ((tcT d), SemLoc.dma (inSem B 4)) 0
      ∗ Owes (Elt F) (tcT d))
    ⊢ W defs 𝒱 (tcT d) bd (k0_part17 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun r => iprop(⌜r.1 = wd (firstE I.V) ∧ r.2.2.1 = 0#32 ∧ r.2.2.2 = 1#32⌝
      ∗ Held (Val := Elt F) (tcT d) B.a8 I.V.ids ∗ Lent (tcT d) B.a1 (idTok 0) I.f1 ∗ semVal ((tcT d), SemLoc.dma B.a23.sem) 0
      ∗ fl0 I ∗ fl1 I ∗ fl2 I ∗ fl3 I ∗ fl4 I ∗ Owes (Elt F) (tcT d))) := by
  have hw : idw (F := F) I.V.ids 0 0 = wd (firstE I.V) := by
    apply BitVec.eq_of_toNat_eq
    rw [BitVec.toNat_ofNat]
    change _ = ((idw (F := F) I.V.ids 0 0).toNat % 32) % 2 ^ 32
    omega
  rw [k0_part17_eq_skeleton]
  unfold k0_part17_skel
  iintro ⟨HL, H8, HS, HL0, HB0, HS0, HL1, HB1, HS1, HL2, HB2, HS2, HL3, HB3, HS3, HL4, HB4, HS4, HO⟩
  iapply (enqueue_whole (c := (tcT d)) (show 0 < S8x33.numel by decide +kernel)) $$ [HL H8 HS]
  · isplitl [HL]
    · iexact HL
    isplitl [H8]
    · iexact H8
    iexact HS
  iintro HF
  iapply (enqueue_whole (c := (tcT d)) (sm := inSem B 0) (show 0 < S33x7168.numel by decide +kernel)) $$ [HL0 HB0 HS0]
  · isplitl [HL0]
    · iexact HL0
    isplitl [HB0]
    · iexact HB0
    iexact HS0
  iintro HF0
  iapply (enqueue_whole (c := (tcT d)) (sm := inSem B 1) (show 0 < S8x33.numel by decide +kernel)) $$ [HL1 HB1 HS1]
  · isplitl [HL1]
    · iexact HL1
    isplitl [HB1]
    · iexact HB1
    iexact HS1
  iintro HF1
  iapply (enqueue_whole (c := (tcT d)) (sm := inSem B 2) (show 0 < S8x33.numel by decide +kernel)) $$ [HL2 HB2 HS2]
  · isplitl [HL2]
    · iexact HL2
    isplitl [HB2]
    · iexact HB2
    iexact HS2
  iintro HF2
  iapply (enqueue_whole (c := (tcT d)) (sm := inSem B 3) (show 0 < S32x1536.numel by decide +kernel)) $$ [HL3 HB3 HS3]
  · isplitl [HL3]
    · iexact HL3
    isplitl [HB3]
    · iexact HB3
    iexact HS3
  iintro HF3
  iapply (enqueue_whole (c := (tcT d)) (sm := inSem B 4) (show 0 < S32x7168.numel by decide +kernel)) $$ [HL4 HB4 HS4]
  · isplitl [HL4]
    · iexact HL4
    isplitl [HB4]
    · iexact HB4
    iexact HS4
  iintro HF4
  iapply (wait_step (c := (tcT d)) (sm := B.a23.sem) rfl) $$ [HF HO]
  · isplitl [HF]
    · iexact HF
    iexact HO
  iintro ⟨⟨H8, HL⟩, HS, HO⟩
  iapply (id_load (X := I.V.ids) 0 0 rfl) $$ H8
  iintro H8
  rw [hw]
  iapply (assume_step (chk1 (firstE I.V)))
  iapply W_pure
  isplitr
  · ipureintro; exact ⟨rfl, rfl, rfl⟩
  isplitl [H8]
  · iexact H8
  isplitl [HL]
  · iexact HL
  isplitl [HS]
  · iexact HS
  isplitl [HF0]
  · iexact HF0
  isplitl [HF1]
  · iexact HF1
  isplitl [HF2]
  · iexact HF2
  isplitl [HF3]
  · iexact HF3
  isplitl [HF4]
  · iexact HF4
  iexact HO

theorem trips1 : k0_t1_loop.trips = 11 := by decide +kernel
theorem trips2 : k0_t2_loop.trips = 33 := by decide +kernel
theorem trips3 : k0_t3_loop.trips = 32 := by decide +kernel

theorem nxt_past {m : ℕ} (o : Option (Fin 32)) {j : ℕ} (h : m ≤ j) : (nxtφ o j : Fin m → _) = fun _ => o := by
  funext k; exact if_pos (lt_of_lt_of_le k.isLt h)

/-- One chunk of the first expert's weights sent for. -/
theorem t1_trip (e : Fin 32) (hw1 c0 c1) (t : Fin k0_t1_loop.trips) (u : Unit) :
    iprop(guAll I 0 (nxtφ (some e) t.val) ∗ dnAll I 0 (nxtφ (some e) (t.val - 7)))
      ⊢ W defs 𝒱 (tcT d) bd (k0_t1_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw1 c0 c1 t u)
        (fun _ => iprop(guAll I 0 (nxtφ (some e) (t.val + 1)) ∗ dnAll I 0 (nxtφ (some e) (t.val + 1 - 7)))) := by
  have ht : t.val < 11 := lt_of_lt_of_eq t.isLt trips1
  unfold k0_t1_body
  dsimp only
  iintro ⟨HG, HD⟩
  by_cases h : t.val < 7
  · rw [dif_pos ((cond1 t).mpr h), dif_neg (fun h' => absurd ((cond2 t).mp h') (by omega)), show t.val + 1 - 7 = t.val - 7 by omega]
    icases (guAll_turn I 0 ⟨t.val, h⟩ _ (nxt_at _ (⟨t.val, h⟩ : Fin 7))) $$ HG with ⟨Hg, HGk⟩
    iapply (gu_enqueue I (s := 0) (k := ⟨t.val, h⟩) (e := e) (k0_off1_eq t) (k0_off2_eq t) (off3 e t h)) $$ Hg
    iintro Hg
    iapply W_pure
    isplitl [HGk Hg]
    · rw [← nxt_upd _ (⟨t.val, h⟩ : Fin 7)]
      iapply HGk
      iexact Hg
    · iexact HD
  · have h7 : t.val - 7 < 4 := by omega
    rw [dif_neg (fun h' => absurd ((cond1 t).mp h') h), dif_pos ((cond2 t).mpr (by omega)), show t.val + 1 - 7 = t.val - 7 + 1 by omega,
      nxt_past (j := t.val) _ (by omega), nxt_past (j := t.val + 1) _ (by omega)]
    icases (dnAll_turn I 0 ⟨t.val - 7, h7⟩ _ (nxt_at _ (⟨t.val - 7, h7⟩ : Fin 4))) $$ HD with ⟨Hd, HDk⟩
    iapply (dn_enqueue I (s := 0) (k := ⟨t.val - 7, h7⟩) (e := e) (off4 t (by omega)) (off5 t (by omega)) (off6 e t (by omega))) $$ Hd
    iintro Hd
    iapply W_pure
    isplitl [HG]
    · iexact HG
    · rw [← nxt_upd _ (⟨t.val - 7, h7⟩ : Fin 4)]
      iapply HDk
      iexact Hd

theorem part18_W (e : Fin 32) (hw1 c0 c1) :
    iprop(guAll I 0 (fun _ => none) ∗ dnAll I 0 (fun _ => none))
      ⊢ W defs 𝒱 (tcT d) bd (k0_part18 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw1 c0 c1) (fun _ => iprop(guAll I 0 (fun _ => some e) ∗ dnAll I 0 (fun _ => some e))) := by
  rw [k0_part18_eq_skeleton]
  unfold k0_part18_skel
  have hL := loop_step (defs := defs) (𝒱 := 𝒱) (bd := bd) (Q := fun _ : PUnit => iprop(guAll I 0 (fun _ => some e) ∗ dnAll I 0 (fun _ => some e))) (L := k0_t1_loop) (hok := k0_t1_ok) (init := ())
    (k := fun _ => pure ⟨⟩)
    (fun t _ => iprop(guAll I 0 (nxtφ (some e) t) ∗ dnAll I 0 (nxtφ (some e) (t - 7)))) (fun t u => t1_trip I e hw1 c0 c1 t u)
  rw [trips1, nxt_past (m := 7) (j := 11) _ (by decide), nxt_past (m := 4) (j := 11 - 7) _ (by decide), nxt_zero, nxt_zero] at hL
  iintro H
  iapply hL $$ H
  iintro %_ H
  iapply W_pure
  iexact H

/-- One token's experts put into the set of bits. -/
theorem t2_trip (c2 c0 c1) (t : Fin k0_t2_loop.trips) (acc : BitVec 32) :
    iprop(Held (Val := Elt F) (tcT d) B.a8 I.V.ids ∗ ⌜acc = bitsAt I.V t.val⌝)
      ⊢ W defs 𝒱 (tcT d) bd (k0_t2_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c2 c0 c1 t acc)
        (fun acc' => iprop(Held (Val := Elt F) (tcT d) B.a8 I.V.ids ∗ ⌜acc' = bitsAt I.V (t.val + 1)⌝)) := by
  have ht : t.val < 33 := lt_of_lt_of_eq t.isLt trips2
  unfold k0_t2_body
  dsimp only
  iintro ⟨H8, %hacc⟩
  iapply (id_load (X := I.V.ids) 0 ⟨t.val, ht⟩ (k0_off7_eq t)) $$ H8
  iintro H8
  iapply (id_load (X := I.V.ids) 1 ⟨t.val, ht⟩ (k0_off8_eq t)) $$ H8
  iintro H8
  iapply (id_load (X := I.V.ids) 2 ⟨t.val, ht⟩ (k0_off9_eq t)) $$ H8
  iintro H8
  iapply (id_load (X := I.V.ids) 3 ⟨t.val, ht⟩ (k0_off10_eq t)) $$ H8
  iintro H8
  iapply (id_load (X := I.V.ids) 4 ⟨t.val, ht⟩ (k0_off11_eq t)) $$ H8
  iintro H8
  iapply (id_load (X := I.V.ids) 5 ⟨t.val, ht⟩ (k0_off12_eq t)) $$ H8
  iintro H8
  iapply (id_load (X := I.V.ids) 6 ⟨t.val, ht⟩ (k0_off13_eq t)) $$ H8
  iintro H8
  iapply (id_load (X := I.V.ids) 7 ⟨t.val, ht⟩ (k0_off14_eq t)) $$ H8
  iintro H8
  iapply W_pure
  isplitl [H8]
  · iexact H8
  · ipureintro
    subst hacc
    have h : bitsAt I.V (t.val + 1) = bitsStep I.V (bitsAt I.V t.val) ⟨t.val, ht⟩ := dif_pos ht
    rw [h]; rfl

theorem part20_W (c0 c1) :
    Held (Val := Elt F) (tcT d) B.a8 I.V.ids ⊢ W defs 𝒱 (tcT d) bd (k0_part20 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 0#32 c0 c1)
      (fun b => iprop(Held (Val := Elt F) (tcT d) B.a8 I.V.ids ∗ ⌜b = bitsAt I.V 33⌝)) := by
  rw [k0_part20_eq_skeleton]
  unfold k0_part20_skel
  have hL := loop_only (defs := defs) (𝒱 := 𝒱) (bd := bd) (c := (tcT d)) (L := k0_t2_loop) (hok := k0_t2_ok)
    (init := 0#32)
    (fun t acc => iprop(Held (Val := Elt F) (tcT d) B.a8 I.V.ids ∗ ⌜acc = bitsAt I.V t⌝)) (fun t u => t2_trip I 0#32 c0 c1 t u)
  rw [trips2] at hL
  iintro H
  iapply hL $$ [H]
  · isplitl [H]
    · iexact H
    · ipureintro; rfl

/-- The table's first entry written. -/
theorem part21_W (e : Fin 32) :
    HeldAny (Elt F) (tcT d) B.a9 ⊢ W defs 𝒱 (tcT d) bd (k0_part21 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e))
      (fun r => iprop(⌜r = ⟨1#32, 0#32, 1#32⟩⌝ ∗ ∃ T, Held (Val := Elt F) (tcT d) B.a9 T ∗ ⌜tab (F := F) T 0 = wd e⌝)) := by
  rw [k0_part21_eq_skeleton]
  unfold k0_part21_skel
  iintro H
  icases any_held $$ H with ⟨%T, H⟩
  iapply (tab_load (i := 0) (w := tab (F := F) T 0) rfl rfl) $$ H
  iintro H
  iapply (store_held (c := (tcT d))) $$ H
  iintro H
  iapply W_pure
  isplitr
  · ipureintro; rfl
  iexists _
  isplitl [H]
  · iexact H
  · ipureintro
    exact congrFun (ld_overlay (α := Elt F) (e := .i32) (actBox 0) T (fun _ => wd e)) _

theorem iv3 : ∀ j : Fin k0_t3_loop.trips, Scf.iv 0#32 1#32 j.val = BitVec.ofNat 32 j.val := by decide +kernel
theorem one_bit (x : BitVec 32) : Scalar.andi x 1#32 = 0#32 ∨ Scalar.andi x 1#32 = 1#32 := by
  have h : (Scalar.andi x 1#32).toNat = x.toNat % 2 := by
    change (x &&& 1#32).toNat = _
    rw [BitVec.toNat_and]
    exact Nat.and_one_is_mod _
  rcases Nat.mod_two_eq_zero_or_one x.toNat with h' | h'
  · left; apply BitVec.eq_of_toNat_eq; rw [h, h']; rfl
  · right; apply BitVec.eq_of_toNat_eq; rw [h, h']; rfl
theorem ne_word : ∀ f e : Fin 32, (Scalar.extui (Scalar.cmpi .ne (wd f) (wd e)) : BitVec 32) = if e = f then 0#32 else 1#32 := by decide +kernel
theorem count_zero : ∀ n : Fin 33, ∀ b : Bool, ∀ c : Bool, Scalar.addi (BitVec.ofNat 32 n.val) (Scalar.muli (if b then 1#32 else 0#32) (if c then 0#32 else 1#32)) = BitVec.ofNat 32 (if b && !c then n.val + 1 else n.val) := by decide +kernel

theorem count_next (V : Vals F) (j : ℕ) (hj : j < 32) :
    Scalar.addi (BitVec.ofNat 32 (actl V j).length) (Scalar.muli (Scalar.andi (Scalar.shrsi (bitsAt V 33) (wd ⟨j, hj⟩)) 1#32)
      (Scalar.extui (Scalar.cmpi .ne (wd (firstE V)) (wd ⟨j, hj⟩)))) = BitVec.ofNat 32 (actl V (j + 1)).length := by
  rw [ne_word]
  have hs : actl V (j + 1) = if hasBit V ⟨j, hj⟩ ∧ (⟨j, hj⟩ : Fin 32) ≠ firstE V then actl V j ++ [⟨j, hj⟩] else actl V j := dif_pos hj
  have hl := actl_length_le V j
  have hb : Scalar.andi (Scalar.shrsi (bitsAt V 33) (wd ⟨j, hj⟩)) 1#32 = if decide (hasBit V ⟨j, hj⟩) then 1#32 else 0#32 := by
    by_cases h : hasBit V ⟨j, hj⟩
    · rw [decide_eq_true h]; exact h
    · rw [decide_eq_false h]; exact (one_bit _).resolve_right h
  have hc := count_zero ⟨(actl V j).length, by omega⟩ (decide (hasBit V ⟨j, hj⟩)) (decide ((⟨j, hj⟩ : Fin 32) = firstE V))
  rw [hb, hs]
  simp only [decide_eq_true_eq, Bool.and_eq_true, Bool.not_eq_true', decide_eq_false_iff_not] at hc ⊢
  rw [hc]
  congr 1
  by_cases h : hasBit V ⟨j, hj⟩ ∧ ¬ (⟨j, hj⟩ : Fin 32) = firstE V
  · rw [if_pos h, if_pos h, List.length_append]; rfl
  · rw [if_neg h, if_neg h]

theorem actBox_disjoint (i j : Fin 33) (h : i ≠ j) : Disjoint (actBox i).set (actBox j).set :=
  Rect.unit_disjoint (s := S33) (inb := actBox_inb i) (inb' := actBox_inb j) (0 : Fin 1)
    (by change i.val + 1 ≤ j.val ∨ j.val + 1 ≤ i.val
        have : i.val ≠ j.val := fun h' => h (Fin.ext h')
        omega)

/-- The table holds the first entries of a list. -/
def TabL (l : List (Fin 32)) (T : S33.Idx → Elt F .i32) : Prop := ∀ i : Fin 33, ∀ h : i.val < l.length, tab (F := F) T i = wd (l[i.val]'h)

theorem tab_next (V : Vals F) (j : ℕ) (hj : j < 32) (n : Fin 33) (hn : n.val = (actl V j).length) {T : S33.Idx → Elt F .i32} (hT : TabL (actl V j) T) :
    TabL (actl V (j + 1)) ((actBox n).overlay (α := Elt F .i32) T (fun _ => wd ⟨j, hj⟩)) := by
  have hs : actl V (j + 1) = if hasBit V ⟨j, hj⟩ ∧ (⟨j, hj⟩ : Fin 32) ≠ firstE V then actl V j ++ [⟨j, hj⟩] else actl V j := dif_pos hj
  have hold : ∀ i : Fin 33, i.val < (actl V j).length → tab (F := F) ((actBox n).overlay (α := Elt F .i32) T (fun _ => wd ⟨j, hj⟩)) i = tab (F := F) T i := fun i hi =>
    congrFun (ld_overlay_of_disjoint (α := Elt F) (e := .i32) (actBox n) (actBox i) (actBox_disjoint n i (fun h => by rw [← h, hn] at hi; exact lt_irrefl _ hi)) T (fun _ => wd ⟨j, hj⟩)) _
  have hnew : tab (F := F) ((actBox n).overlay (α := Elt F .i32) T (fun _ => wd ⟨j, hj⟩)) n = wd ⟨j, hj⟩ :=
    congrFun (ld_overlay (α := Elt F) (e := .i32) (actBox n) T (fun _ => wd ⟨j, hj⟩)) _
  rw [hs]
  split
  · intro i hi
    rw [List.length_append] at hi
    by_cases h : i.val < (actl V j).length
    · rw [hold i h, hT i h, List.getElem_append_left h]
    · have hin : i = n := Fin.ext (by simp only [List.length_singleton] at hi; omega)
      subst hin
      rw [hnew, List.getElem_append_right (by omega)]
      simp only [List.getElem_singleton]
  · intro i hi
    rw [hold i hi, hT i hi]

/-- One expert appended to the table if it is active. -/
theorem t3_trip (c1) (j : Fin k0_t3_loop.trips) (acc : BitVec 32) :
    iprop(∃ T, Held (Val := Elt F) (tcT d) B.a9 T ∗ ⌜acc = BitVec.ofNat 32 (actl I.V j.val).length ∧ TabL (actl I.V j.val) T⌝)
      ⊢ W defs 𝒱 (tcT d) bd (k0_t3_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd (firstE I.V)) (bitsAt I.V 33) c1 0#32 1#32 j acc)
        (fun acc' => iprop(∃ T, Held (Val := Elt F) (tcT d) B.a9 T ∗ ⌜acc' = BitVec.ofNat 32 (actl I.V (j.val + 1)).length ∧ TabL (actl I.V (j.val + 1)) T⌝)) := by
  have hj : j.val < 32 := lt_of_lt_of_eq j.isLt trips3
  have hl := actl_length_le I.V j.val
  unfold k0_t3_body
  dsimp only
  rw [iv3 j]
  iintro ⟨%T, H, %hT⟩
  obtain ⟨rfl, hT⟩ := hT
  iapply (assume_step (chk2 ⟨(actl I.V j.val).length, by omega⟩))
  iapply (tab_load (i := ⟨(actl I.V j.val).length, by omega⟩) (T := T) (off15 ⟨(actl I.V j.val).length, by omega⟩) rfl) $$ H
  iintro H
  iapply (store_held_at (c := (tcT d)) (off15 ⟨(actl I.V j.val).length, by omega⟩) (actBox_inb ⟨(actl I.V j.val).length, by omega⟩)) $$ H
  iintro H
  iapply W_pure
  iexists _
  isplitl [H]
  · iexact H
  · ipureintro
    exact ⟨count_next I.V j.val hj, tab_next I.V j.val hj _ rfl hT⟩

theorem part22_W :
    iprop(∃ T, Held (Val := Elt F) (tcT d) B.a9 T ∗ ⌜tab (F := F) T 0 = wd (firstE I.V)⌝)
      ⊢ W defs 𝒱 (tcT d) bd (k0_part22 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd (firstE I.V)) (bitsAt I.V 33) 1#32 0#32 1#32)
        (fun n => iprop(∃ T, Held (Val := Elt F) (tcT d) B.a9 T ∗ ⌜n = BitVec.ofNat 32 (nAct I.V) ∧ TabL (actl I.V 32) T⌝)) := by
  rw [k0_part22_eq_skeleton]
  unfold k0_part22_skel
  have hL := loop_only (defs := defs) (𝒱 := 𝒱) (bd := bd) (c := (tcT d)) (L := k0_t3_loop) (hok := k0_t3_ok)
    (init := 1#32)
    (fun j acc => iprop(∃ T, Held (Val := Elt F) (tcT d) B.a9 T ∗ ⌜acc = BitVec.ofNat 32 (actl I.V j).length ∧ TabL (actl I.V j) T⌝)) (fun j u => t3_trip I 1#32 j u)
  rw [trips3] at hL
  iintro ⟨%T, H, %hT⟩
  iapply hL $$ [H]
  · iexists T
    isplitl [H]
    · iexact H
    · ipureintro
      refine ⟨rfl, fun i h => ?_⟩
      have h' : i.val < 1 := h
      have hi : i = 0 := Fin.ext (by change i.val = 0; omega)
      subst hi
      exact hT

/-- The arrays arrive; the accumulator is cleared and the routing tables turned. -/
theorem part23_W (n : Fin 33) :
    iprop(fl0 I ∗ fl1 I ∗ fl2 I ∗ fl3 I ∗ fl4 I ∗ Owes (Elt F) (tcT d) ∗ HeldAny (Elt F) (tcT d) B.a19 ∗ HeldAny (Elt F) (tcT d) B.a15
      ∗ HeldAny (Elt F) (tcT d) B.a12 ∗ HeldAny (Elt F) (tcT d) B.a13)
    ⊢ W defs 𝒱 (tcT d) bd (k0_part23 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val)) (fun _ => iprop(Held (Val := Elt F) (tcT d) B.a19 (k0_pay15 (F := F))
      ∗ Held (Val := Elt F) (tcT d) B.a15 (k0_pay16 (F := F)) ∗ Held (Val := Elt F) (tcT d) B.a12 (idsT I.V) ∗ Held (Val := Elt F) (tcT d) B.a13 (rwT I.V)
      ∗ Held (Val := Elt F) (tcT d) B.a14 I.V.x ∗ Lent (tcT d) B.a0 fullShare I.f0 ∗ semVal ((tcT d), SemLoc.dma (inSem B 0)) 0
      ∗ Held (Val := Elt F) (tcT d) B.a10 I.V.ids ∗ Lent (tcT d) B.a1 (idTok 1) I.f1 ∗ semVal ((tcT d), SemLoc.dma (inSem B 1)) 0
      ∗ Held (Val := Elt F) (tcT d) B.a11 I.V.rw ∗ Lent (tcT d) B.a2 fullShare I.f2 ∗ semVal ((tcT d), SemLoc.dma (inSem B 2)) 0
      ∗ Held (Val := Elt F) (tcT d) B.a16 I.V.sgu ∗ Lent (tcT d) B.a4 fullShare I.f4 ∗ semVal ((tcT d), SemLoc.dma (inSem B 3)) 0
      ∗ Held (Val := Elt F) (tcT d) B.a17 I.V.sdn ∗ Lent (tcT d) B.a6 fullShare I.f6 ∗ semVal ((tcT d), SemLoc.dma (inSem B 4)) 0
      ∗ Owes (Elt F) (tcT d))) := by
  rw [k0_part23_eq_skeleton]
  unfold k0_part23_skel
  iintro ⟨HF0, HF1, HF2, HF3, HF4, HO, H19, H15, H12, H13⟩
  iapply (assume_step (chk3 n))
  iapply (load_any (c := (tcT d))) $$ H19
  iintro %_ H19
  iapply (store_any (c := (tcT d)) zero2) $$ H19
  iintro H19
  iapply (load_any (c := (tcT d))) $$ H15
  iintro %_ H15
  iapply (store_any (c := (tcT d)) zero2) $$ H15
  iintro H15
  iapply (wait_step (c := (tcT d)) (sm := inSem B 0) rfl) $$ [HF0 HO]
  · isplitl [HF0]
    · iexact HF0
    iexact HO
  iintro ⟨⟨HB0, HL0⟩, HS0, HO⟩
  iapply (wait_step (c := (tcT d)) (sm := inSem B 1) rfl) $$ [HF1 HO]
  · isplitl [HF1]
    · iexact HF1
    iexact HO
  iintro ⟨⟨HB1, HL1⟩, HS1, HO⟩
  iapply (wait_step (c := (tcT d)) (sm := inSem B 2) rfl) $$ [HF2 HO]
  · isplitl [HF2]
    · iexact HF2
    iexact HO
  iintro ⟨⟨HB2, HL2⟩, HS2, HO⟩
  iapply (wait_step (c := (tcT d)) (sm := inSem B 3) rfl) $$ [HF3 HO]
  · isplitl [HF3]
    · iexact HF3
    iexact HO
  iintro ⟨⟨HB3, HL3⟩, HS3, HO⟩
  iapply (wait_step (c := (tcT d)) (sm := inSem B 4) rfl) $$ [HF4 HO]
  · isplitl [HF4]
    · iexact HF4
    iexact HO
  iintro ⟨⟨HB4, HL4⟩, HS4, HO⟩
  iapply (load_full (c := (tcT d)) zero2) $$ HB1
  iintro HB1
  iapply (load_any (c := (tcT d))) $$ H12
  iintro %_ H12
  iapply (store_any (c := (tcT d)) zero2) $$ H12
  iintro H12
  iapply (load_full (c := (tcT d)) zero2) $$ HB2
  iintro HB2
  iapply (load_any (c := (tcT d))) $$ H13
  iintro %_ H13
  iapply (store_any (c := (tcT d)) zero2) $$ H13
  iintro H13
  iapply W_pure
  isplitl [H19]
  · iexact H19
  isplitl [H15]
  · iexact H15
  isplitl [H12]
  · iexact H12
  isplitl [H13]
  · iexact H13
  isplitl [HB0]
  · iexact HB0
  isplitl [HL0]
  · iexact HL0
  isplitl [HS0]
  · iexact HS0
  isplitl [HB1]
  · iexact HB1
  isplitl [HL1]
  · iexact HL1
  isplitl [HS1]
  · iexact HS1
  isplitl [HB2]
  · iexact HB2
  isplitl [HL2]
  · iexact HL2
  isplitl [HS2]
  · iexact HS2
  isplitl [HB3]
  · iexact HB3
  isplitl [HL3]
  · iexact HL3
  isplitl [HS3]
  · iexact HS3
  isplitl [HB4]
  · iexact HB4
  isplitl [HL4]
  · iexact HL4
  isplitl [HS4]
  · iexact HS4
  iexact HO

/-- The tokens put above the padding rows. -/
theorem part24_W (w : BitVec 32) :
    iprop(Held (Val := Elt F) (tcT d) B.a14 I.V.x ∗ Held (Val := Elt F) (tcT d) B.a15 (k0_pay16 (F := F)))
    ⊢ W defs 𝒱 (tcT d) bd (k0_part24 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 w) (fun r => iprop(⌜r.1 = 1#32 ∧ r.2.1 = 0#32 ∧ r.2.2.1 = 0#32 ∧ r.2.2.2.2 = 1#32⌝
      ∗ Held (Val := Elt F) (tcT d) B.a14 I.V.x ∗ Held (Val := Elt F) (tcT d) B.a15 (xs I.V))) := by
  rw [k0_part24_eq_skeleton]
  unfold k0_part24_skel
  iintro ⟨H14, H15⟩
  iapply (load_full (c := (tcT d)) zero2) $$ H14
  iintro H14
  iapply (load_held (c := (tcT d))) $$ H15
  iintro H15
  iapply (store_sub (c := (tcT d))) $$ H15
  iintro H15
  iapply W_pure
  isplitr
  · ipureintro; exact ⟨rfl, rfl, rfl, rfl⟩
  isplitl [H14]
  · iexact H14
  · iexact H15

end Start

end Cert.Kernel.Walk

end
-- ==== Proof.KernelBody.lean ====
module

public import proofs.«01_k».proof.Proof.KernelStart

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The whole kernel -/

section Body

variable {B : Mem} {d : Dev nD} (I : In F B d)
variable {defs : Defs nD τ sig (Elt F) Λ₀} {𝒱 : Variants} {bd : Option 𝒱.V}

/-- What the kernel starts from: the arrays it reads, everything it writes at any contents, its semaphores at zero. -/
def Pre : sProp 𝕄 :=
  iprop(Lent (tcT d) B.a0 fullShare I.f0 ∗ Lent (tcT d) B.a1 fullShare I.f1 ∗ Lent (tcT d) B.a2 fullShare I.f2 ∗ Lent (tcT d) B.a3 fullShare I.f3 ∗ Lent (tcT d) B.a4 fullShare I.f4 ∗ Lent (tcT d) B.a5 fullShare I.f5 ∗ Lent (tcT d) B.a6 fullShare I.f6
    ∗ HeldAny (Elt F) (tcT d) B.a7 ∗ HeldAny (Elt F) (tcT d) B.a8 ∗ HeldAny (Elt F) (tcT d) B.a9 ∗ HeldAny (Elt F) (tcT d) B.a10 ∗ HeldAny (Elt F) (tcT d) B.a11 ∗ HeldAny (Elt F) (tcT d) B.a12 ∗ HeldAny (Elt F) (tcT d) B.a13 ∗ HeldAny (Elt F) (tcT d) B.a14 ∗ HeldAny (Elt F) (tcT d) B.a15 ∗ HeldAny (Elt F) (tcT d) B.a16 ∗ HeldAny (Elt F) (tcT d) B.a17 ∗ HeldAny (Elt F) (tcT d) B.a18 ∗ HeldAny (Elt F) (tcT d) B.a19 ∗ HeldAny (Elt F) (tcT d) B.a20 ∗ HeldAny (Elt F) (tcT d) B.a21 ∗ HeldAny (Elt F) (tcT d) B.a22
    ∗ semVal ((tcT d), SemLoc.dma B.a23.sem) 0 ∗ semVal ((tcT d), SemLoc.dma (inSem B 0)) 0 ∗ semVal ((tcT d), SemLoc.dma (inSem B 1)) 0 ∗ semVal ((tcT d), SemLoc.dma (inSem B 2)) 0 ∗ semVal ((tcT d), SemLoc.dma (inSem B 3)) 0 ∗ semVal ((tcT d), SemLoc.dma (inSem B 4)) 0 ∗ outSems F B d ∗ guSems F B d ∗ dnSems F B d ∗ Owes (Elt F) (tcT d))

/-- What it ends with: the same, the result written. -/
def Post : sProp 𝕄 :=
  iprop(Lent (tcT d) B.a0 fullShare I.f0 ∗ Lent (tcT d) B.a1 fullShare I.f1 ∗ Lent (tcT d) B.a2 fullShare I.f2 ∗ Lent (tcT d) B.a3 fullShare I.f3 ∗ Lent (tcT d) B.a4 fullShare I.f4 ∗ Lent (tcT d) B.a5 fullShare I.f5 ∗ Lent (tcT d) B.a6 fullShare I.f6
    ∗ Held (Val := Elt F) (tcT d) B.a7 (result I.V) ∗ HeldAny (Elt F) (tcT d) B.a8 ∗ HeldAny (Elt F) (tcT d) B.a9 ∗ HeldAny (Elt F) (tcT d) B.a10 ∗ HeldAny (Elt F) (tcT d) B.a11 ∗ HeldAny (Elt F) (tcT d) B.a12 ∗ HeldAny (Elt F) (tcT d) B.a13 ∗ HeldAny (Elt F) (tcT d) B.a14 ∗ HeldAny (Elt F) (tcT d) B.a15 ∗ HeldAny (Elt F) (tcT d) B.a16 ∗ HeldAny (Elt F) (tcT d) B.a17 ∗ HeldAny (Elt F) (tcT d) B.a18 ∗ HeldAny (Elt F) (tcT d) B.a19 ∗ HeldAny (Elt F) (tcT d) B.a20 ∗ HeldAny (Elt F) (tcT d) B.a21 ∗ HeldAny (Elt F) (tcT d) B.a22
    ∗ semVal ((tcT d), SemLoc.dma B.a23.sem) 0 ∗ semVal ((tcT d), SemLoc.dma (inSem B 0)) 0 ∗ semVal ((tcT d), SemLoc.dma (inSem B 1)) 0 ∗ semVal ((tcT d), SemLoc.dma (inSem B 2)) 0 ∗ semVal ((tcT d), SemLoc.dma (inSem B 3)) 0 ∗ semVal ((tcT d), SemLoc.dma (inSem B 4)) 0 ∗ outSems F B d ∗ guSems F B d ∗ dnSems F B d ∗ Owes (Elt F) (tcT d))

theorem gu_both (i : ℕ) : iprop(guAll I (sl i) (fun _ => none) ∗ guAll I (sl (i + 1)) (fun _ => none)) ⊢ iprop(guAll I 0 (fun _ => none) ∗ guAll I 1 (fun _ => none)) := by
  rcases Nat.mod_two_eq_zero_or_one i with h | h
  · rw [show sl i = 0 from Fin.ext h, show sl (i + 1) = 1 from Fin.ext (by change (i + 1) % 2 = 1; omega)]
  · rw [show sl i = 1 from Fin.ext h, show sl (i + 1) = 0 from Fin.ext (by change (i + 1) % 2 = 0; omega)]
    iintro ⟨H1, H0⟩
    isplitl [H0]
    · iexact H0
    · iexact H1

theorem dn_both (i : ℕ) : iprop(dnAll I (sl i) (fun _ => none) ∗ dnAll I (sl (i + 1)) (fun _ => none)) ⊢ iprop(dnAll I 0 (fun _ => none) ∗ dnAll I 1 (fun _ => none)) := by
  rcases Nat.mod_two_eq_zero_or_one i with h | h
  · rw [show sl i = 0 from Fin.ext h, show sl (i + 1) = 1 from Fin.ext (by change (i + 1) % 2 = 1; omega)]
  · rw [show sl i = 1 from Fin.ext h, show sl (i + 1) = 0 from Fin.ext (by change (i + 1) % 2 = 0; omega)]
    iintro ⟨H1, H0⟩
    isplitl [H0]
    · iexact H0
    · iexact H1

/-- Once every active expert is done, both rings are free. -/
theorem T4_end {T : S33.Idx → Elt F .i32} {n : Fin 33} (hcn : curE I n n.val = none) (hon : (fun _ : Fin 4 => if n.val = n.val then 1 else 0) = fun _ => 1) :
    T4 I T n n.val ⊢ iprop(Held (Val := Elt F) (tcT d) B.a9 T ∗ Held (Val := Elt F) (tcT d) B.a12 (idsT I.V) ∗ Held (Val := Elt F) (tcT d) B.a13 (rwT I.V)
      ∗ Held (Val := Elt F) (tcT d) B.a15 (xs I.V) ∗ Held (Val := Elt F) (tcT d) B.a16 I.V.sgu ∗ Held (Val := Elt F) (tcT d) B.a17 I.V.sdn ∗ Owes (Elt F) (tcT d)
      ∗ HeldAny (Elt F) (tcT d) B.a18 ∗ Held (Val := Elt F) (tcT d) B.a19 (accAt I.V n.val)
      ∗ (guAll I 0 (fun _ => none) ∗ guAll I 1 (fun _ => none)) ∗ (dnAll I 0 (fun _ => none) ∗ dnAll I 1 (fun _ => none)) ∗ outAll I (fun _ => 1)) := by
  unfold T4 Stat
  rw [hcn, hon]
  iintro ⟨⟨H9, H12, H13, H15, H16, H17, HO⟩, H18, H19, HG0, HG1, HD0, HD1, HU⟩
  isplitl [H9]
  · iexact H9
  isplitl [H12]
  · iexact H12
  isplitl [H13]
  · iexact H13
  isplitl [H15]
  · iexact H15
  isplitl [H16]
  · iexact H16
  isplitl [H17]
  · iexact H17
  isplitl [HO]
  · iexact HO
  isplitl [H18]
  · iexact H18
  isplitl [H19]
  · iexact H19
  isplitl [HG0 HG1]
  · iapply (gu_both I n.val)
    isplitl [HG0]
    · iexact HG0
    · iexact HG1
  isplitl [HD0 HD1]
  · iapply (dn_both I n.val)
    isplitl [HD0]
    · iexact HD0
    · iexact HD1
  iexact HU

theorem tab_active {T : S33.Idx → Elt F .i32} (V : Vals F) (hT : TabL (actl V 32) T) (n : Fin 33) (hn : n.val = nAct V) (i : Fin 33) (hi : i.val < n.val) :
    tab (F := F) T i = wd (act V i.val) := by
  have h : i.val < (actl V 32).length := by rw [hn] at hi; exact hi
  rw [hT i h]
  unfold act
  rw [List.getD_eq_getElem?_getD, List.getElem?_eq_getElem h]
  rfl

theorem act_zero (V : Vals F) : act V 0 = firstE V := by
  have h : ∀ j, (actl V j).head? = some (firstE V) := by
    intro j
    induction j with
    | zero => rfl
    | succ j ih =>
      unfold actl
      split
      · split
        · rw [List.head?_append, ih]; rfl
        · exact ih
      · exact ih
  have h' := h 32
  unfold act
  rw [List.head?_eq_getElem?] at h'
  rw [List.getD_eq_getElem?_getD, h']
  rfl

theorem body_W (h0 : (idw (F := F) I.V.ids 0 0).toNat < 32) :
    Pre I ⊢ W defs 𝒱 (tcT d) bd (cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun _ => Post I) := by
  have hsh : Lent (tcT d) B.a1 fullShare I.f1 ⊢ iprop((Lent (tcT d) B.a1 (idTok 0) I.f1 ∗ Lent (tcT d) B.a1 (idTok 1) I.f1)
      ∗ ((Lent (tcT d) B.a1 (idTok 0) I.f1 ∗ Lent (tcT d) B.a1 (idTok 1) I.f1) -∗ Lent (tcT d) B.a1 fullShare I.f1)) := by
    have h := split_shares (c := (tcT d)) B.a1 fullShare 2 I.f1
    rw [bigSep_fin_two] at h
    exact h
  have hpos : 0 < nAct I.V := actl_length_pos I.V 32
  obtain ⟨n, hn⟩ : ∃ n : Fin 33, n.val = nAct I.V := ⟨⟨nAct I.V, Nat.lt_succ_of_le (actl_length_le I.V 32)⟩, rfl⟩
  have hc0 : curE I n 0 = some (firstE I.V) := by unfold curE; rw [if_pos (by omega), act_zero]
  have hcn : curE I n n.val = none := if_neg (lt_irrefl _)
  have ho0 : (fun _ : Fin 4 => if 0 = n.val then 1 else 0) = fun _ => 0 := funext fun _ => if_neg (by omega)
  have hon : (fun _ : Fin 4 => if n.val = n.val then 1 else 0) = fun _ => 1 := funext fun _ => if_pos rfl
  rw [cc0_moe_swiglu_fp8_eq_skeleton]
  unfold cc0_moe_swiglu_fp8_skel Pre
  iintro ⟨L0, L1, L2, L3, L4, L5, L6, H7, H8, H9, H10, H11, H12, H13, H14, H15, H16, H17, H18, H19, H20, H21, H22, S23, S0, S1, S2, S3, S4, SO, SG, SD, HO⟩
  icases hsh $$ L1 with ⟨⟨L1a, L1b⟩, L1k⟩
  icases (gu_open I) $$ [L3 H21 SG] with ⟨⟨HG0, HG1⟩, HGk⟩
  · isplitl [L3]
    · iexact L3
    isplitl [H21]
    · iexact H21
    iexact SG
  icases (dn_open I) $$ [L5 H22 SD] with ⟨⟨HD0, HD1⟩, HDk⟩
  · isplitl [L5]
    · iexact L5
    isplitl [H22]
    · iexact H22
    iexact SD
  icases (out_open I) $$ [H20 H7 SO] with ⟨HU, HUk⟩
  · isplitl [H20]
    · iexact H20
    isplitl [H7]
    · iexact H7
    iexact SO
  iapply (Cert.Walk.piece (part17_W I h0)) $$ [L1a H8 S23 L0 H14 S0 L1b H10 S1 L2 H11 S2 L4 H16 S3 L6 H17 S4 HO]
  · isplitl [L1a]
    · iexact L1a
    isplitl [H8]
    · iexact H8
    isplitl [S23]
    · iexact S23
    isplitl [L0]
    · iexact L0
    isplitl [H14]
    · iexact H14
    isplitl [S0]
    · iexact S0
    isplitl [L1b]
    · iexact L1b
    isplitl [H10]
    · iexact H10
    isplitl [S1]
    · iexact S1
    isplitl [L2]
    · iexact L2
    isplitl [H11]
    · iexact H11
    isplitl [S2]
    · iexact S2
    isplitl [L4]
    · iexact L4
    isplitl [H16]
    · iexact H16
    isplitl [S3]
    · iexact S3
    isplitl [L6]
    · iexact L6
    isplitl [H17]
    · iexact H17
    isplitl [S4]
    · iexact S4
    iexact HO
  iintro %r ⟨%hr, H8, L1a, S23, F0, F1, F2, F3, F4, HO⟩
  obtain ⟨v10, hw1, c0, c1⟩ := r
  obtain ⟨rfl, rfl, rfl⟩ := hr
  dsimp only
  iapply (Cert.Walk.piece (part18_W I (firstE I.V) hw1 0#32 1#32)) $$ [HG0 HD0]
  · isplitl [HG0]
    · iexact HG0
    iexact HD0
  iintro %_ ⟨HG0, HD0⟩
  iapply (pure_step (p := k0_part19 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := ⟨0#32, 0#32, 1#32⟩) rfl)
  dsimp only
  iapply (Cert.Walk.piece (part20_W I 0#32 1#32)) $$ H8
  iintro %b ⟨H8, %hb⟩
  subst hb
  iapply (Cert.Walk.piece (part21_W (B := B) (d := d) (firstE I.V))) $$ H9
  iintro %r ⟨%hr, H9⟩
  subst hr
  iapply (Cert.Walk.piece (part22_W I)) $$ H9
  iintro %m ⟨%T, H9, %hT⟩
  obtain ⟨rfl, hT⟩ := hT
  have hTab : Tab I n T := fun i hi => tab_active I.V hT n hn i hi
  rw [← hn]
  iapply (Cert.Walk.piece (part23_W I n)) $$ [F0 F1 F2 F3 F4 HO H19 H15 H12 H13]
  · isplitl [F0]
    · iexact F0
    isplitl [F1]
    · iexact F1
    isplitl [F2]
    · iexact F2
    isplitl [F3]
    · iexact F3
    isplitl [F4]
    · iexact F4
    isplitl [HO]
    · iexact HO
    isplitl [H19]
    · iexact H19
    isplitl [H15]
    · iexact H15
    isplitl [H12]
    · iexact H12
    iexact H13
  iintro %r ⟨H19, H15, H12, H13, H14, L0, S0, H10, L1b, S1, H11, L2, S2, H16, L4, S3, H17, L6, S4, HO⟩
  obtain ⟨hw3⟩ := r
  iapply (Cert.Walk.piece (part24_W I _)) $$ [H14 H15]
  · isplitl [H14]
    · iexact H14
    iexact H15
  iintro %r ⟨%hr, H14, H15⟩
  obtain ⟨a1, a2, a3, v57, a4⟩ := r
  obtain ⟨rfl, rfl, rfl, rfl⟩ := hr
  dsimp only
  iapply (Cert.Walk.piece (part25_W I hn hTab hw3)) $$ [H9 H12 H13 H15 H16 H17 HO H18 H19 HG0 HG1 HD0 HD1 HU]
  · unfold T4 Stat
    rw [hc0, ho0]
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      iexact HO
    isplitl [H18]
    · iexact H18
    isplitl [H19]
    · iexact H19
    isplitl [HG0]
    · iexact HG0
    isplitl [HG1]
    · iexact HG1
    isplitl [HD0]
    · iexact HD0
    isplitl [HD1]
    · iexact HD1
    iexact HU
  iintro %_ H
  iapply (pure_step (p := k0_part26 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := 1#32) rfl)
  iapply (Cert.Walk.piece (part27_W (n := n) hw3 _ _ _ _)) $$ H
  iintro %_ H
  iapply (pure_step (p := k0_part28 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := ⟨0#32, 1#32⟩) rfl)
  dsimp only
  icases (T4_end I hcn hon) $$ H with ⟨H9, H12, H13, H15, H16, H17, HO, H18, H19, HG, HD, HU⟩
  iapply (Cert.Walk.piece (part29_W I _ _)) $$ [HU HO]
  · isplitl [HU]
    · iexact HU
    iexact HO
  iintro %_ ⟨HU, HO⟩
  icases HGk $$ HG with ⟨L3, H21, SG⟩
  icases HDk $$ HD with ⟨L5, H22, SD⟩
  icases HUk $$ HU with ⟨H20, H7, SO⟩
  iapply W_pure
  unfold Post
  isplitl [L0]
  · iexact L0
  isplitl [L1a L1b L1k]
  · iapply L1k
    isplitl [L1a]
    · iexact L1a
    · iexact L1b
  isplitl [L2]
  · iexact L2
  isplitl [L3]
  · iexact L3
  isplitl [L4]
  · iexact L4
  isplitl [L5]
  · iexact L5
  isplitl [L6]
  · iexact L6
  isplitl [H7]
  · iexact H7
  isplitl [H8]
  · iapply held_any $$ H8
  isplitl [H9]
  · iapply held_any $$ H9
  isplitl [H10]
  · iapply held_any $$ H10
  isplitl [H11]
  · iapply held_any $$ H11
  isplitl [H12]
  · iapply held_any $$ H12
  isplitl [H13]
  · iapply held_any $$ H13
  isplitl [H14]
  · iapply held_any $$ H14
  isplitl [H15]
  · iapply held_any $$ H15
  isplitl [H16]
  · iapply held_any $$ H16
  isplitl [H17]
  · iapply held_any $$ H17
  isplitl [H18]
  · iexact H18
  isplitl [H19]
  · iapply held_any $$ H19
  isplitl [H20]
  · iexact H20
  isplitl [H21]
  · iexact H21
  isplitl [H22]
  · iexact H22
  isplitl [S23]
  · iexact S23
  isplitl [S0]
  · iexact S0
  isplitl [S1]
  · iexact S1
  isplitl [S2]
  · iexact S2
  isplitl [S3]
  · iexact S3
  isplitl [S4]
  · iexact S4
  isplitl [SO]
  · iexact SO
  isplitl [SG]
  · iexact SG
  isplitl [SD]
  · iexact SD
  iexact HO

end Body

end Cert.Kernel.Walk

end
-- ==== Proof.KernelLaunch.lean ====
/-
  Hand-written, untrusted. The launch: the kernel's triple read on the program's own buffers and semaphores, and what a
  run of the whole program then ends in: the result's array, the arguments, the semaphores.
-/
module

public import proofs.«01_k».proof.Proof.KernelBody
public import proofs.«01_k».proof.Proof.Gen.Kernel.Frame
public import proofs.«01_k».proof.Proof.Gen.Kernel.Points
public import Idealize.ShloMosaic.Lib.Pipeline.FrameBody
public import Idealize.ShloMosaic.Lib.Pipeline.FrameValue

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)
open Idealize.ShloMosaic.Pipeline (Dat Cfg Window BodyObligation cellOf)

variable {F : FTy → Type} [FloatOps F]

local notation "𝕄" => MT nD τ sig Unit (Elt F) ℕ (Pipeline.UD sig nD τ) ℕ

/-! # The program's buffers as the kernel's -/

/-- The kernel's operands in this program. -/
abbrev B0 : Mem := ⟨Memref.whole main_v4, Memref.isWhole_whole _, Memref.whole main_v1, Memref.isWhole_whole _, Memref.whole main_v3, Memref.isWhole_whole _, Memref.whole main_arg3, Memref.isWhole_whole _, Memref.whole main_arg4, Memref.isWhole_whole _, Memref.whole main_arg5, Memref.isWhole_whole _, Memref.whole main_arg6, Memref.isWhole_whole _, Memref.whole main_v5, Memref.isWhole_whole _, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _, cc0_scratch15, cc0_scratch16, cc0_scratch17, cc0_scratch18, cc0_scratch19⟩

theorem bodyAt0_B0 (t : Fin grid0.N) : bodyAt0 (F := F) t = (let B := B0; cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) := rfl

section Whole

theorem held_whole (d : Dev nD) (b : Ref sig .tc) (X : Buf (Elt F) ((tcT d).loc b)) :
    (Held (Val := Elt F) (tcT d) (Memref.whole b) X : sProp 𝕄) ⊢ ((tcT d).loc b ↦{fullShare} X) := by
  unfold Held; rw [Memref.view_whole, View.set_whole]
  iintro ⟨%f, H, %h⟩
  have h' : f = X := h
  subst h'
  iexact H

end Whole

/-! # The semaphores -/

/-- The kernel's thirty-two transfer semaphores. -/
abbrev osem0 : Fin 32 → SemLoc sig := fun j => SemLoc.dma j
theorem ownSemFacts0 : Pipeline.OwnSemFacts cfg0.spec osem0 := by decide +kernel

theorem inSem0 : ∀ k : Fin 5, inSem B0 k = ⟨1 + k.val, show _ < 32 by omega⟩ := by decide +kernel
theorem outSem0 : ∀ k : Fin 4, outSem B0 k = ⟨6 + k.val, show _ < 32 by omega⟩ := by decide +kernel
theorem guSem0 : ∀ (s : Fin 2) (k : Fin 7), guSem B0 s k = ⟨10 + 7 * s.val + k.val, show _ < 32 by omega⟩ := by decide +kernel
theorem dnSem0 : ∀ (s : Fin 2) (k : Fin 4), dnSem B0 s k = ⟨24 + 4 * s.val + k.val, show _ < 32 by omega⟩ := by decide +kernel

variable (F) in
theorem ownSems00_eq (d : Dev nD) : (Pipeline.ownSems0 osem0 d : sProp 𝕄) = iprop(semVal ((tcT d), SemLoc.dma (0 : DmaSem sig)) 0 ∗ semVal ((tcT d), SemLoc.dma (1 : DmaSem sig)) 0 ∗ semVal ((tcT d), SemLoc.dma (2 : DmaSem sig)) 0 ∗ semVal ((tcT d), SemLoc.dma (3 : DmaSem sig)) 0 ∗ semVal ((tcT d), SemLoc.dma (4 : DmaSem sig)) 0 ∗ semVal ((tcT d), SemLoc.dma (5 : DmaSem sig)) 0 ∗ semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0 ∗ semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0 ∗ semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0 ∗ semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0 ∗ semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0) := by
  rw [Pipeline.ownSems0_eq_of_list d osem0 [0, 1, 2, 3, 4, 5, 6, 7, 8, 9, 10, 11, 12, 13, 14, 15, 16, 17, 18, 19, 20, 21, 22, 23, 24, 25, 26, 27, 28, 29, 30, 31] (by decide +kernel) (by decide +kernel)]; rfl

variable (F) in
theorem outSems0_eq (d : Dev nD) : (outSems F B0 d : sProp 𝕄) = iprop(semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0) := by
  have h : (outSems F B0 d : sProp 𝕄) = bigSep Finset.univ fun k : Fin 4 => semVal ((tcT d), SemLoc.dma (⟨6 + k.val, show _ < 32 by omega⟩ : DmaSem sig)) 0 :=
    bigSep_congr fun k _ => by rw [outSem0 k]
  rw [h, BI.bigSep_univ_eq_bigSepL [0, 1, 2, 3] (by decide) (by decide)]
  rfl

variable (F) in
theorem guSems0_eq (d : Dev nD) : (guSems F B0 d : sProp 𝕄) = iprop((semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0) ∗ (semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0)) := by
  have h : (guSems F B0 d : sProp 𝕄) = bigSep Finset.univ fun s : Fin 2 => bigSep Finset.univ fun k : Fin 7 => semVal ((tcT d), SemLoc.dma (⟨10 + 7 * s.val + k.val, show _ < 32 by omega⟩ : DmaSem sig)) 0 :=
    bigSep_congr fun s _ => bigSep_congr fun k _ => by rw [guSem0 s k]
  rw [h, bigSep_fin_two, BI.bigSep_univ_eq_bigSepL [0, 1, 2, 3, 4, 5, 6] (by decide) (by decide), BI.bigSep_univ_eq_bigSepL [0, 1, 2, 3, 4, 5, 6] (by decide) (by decide)]
  rfl

variable (F) in
theorem dnSems0_eq (d : Dev nD) : (dnSems F B0 d : sProp 𝕄) = iprop((semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0) ∗ (semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0)) := by
  have h : (dnSems F B0 d : sProp 𝕄) = bigSep Finset.univ fun s : Fin 2 => bigSep Finset.univ fun k : Fin 4 => semVal ((tcT d), SemLoc.dma (⟨24 + 4 * s.val + k.val, show _ < 32 by omega⟩ : DmaSem sig)) 0 :=
    bigSep_congr fun s _ => bigSep_congr fun k _ => by rw [dnSem0 s k]
  rw [h, bigSep_fin_two, BI.bigSep_univ_eq_bigSepL [0, 1, 2, 3] (by decide) (by decide), BI.bigSep_univ_eq_bigSepL [0, 1, 2, 3] (by decide) (by decide)]
  rfl

variable (F) in
/-- The semaphores as the kernel's triple groups them. -/
abbrev semsK (d : Dev nD) : sProp 𝕄 :=
  iprop(semVal ((tcT d), SemLoc.dma B0.a23.sem) 0 ∗ semVal ((tcT d), SemLoc.dma (inSem B0 0)) 0 ∗ semVal ((tcT d), SemLoc.dma (inSem B0 1)) 0 ∗ semVal ((tcT d), SemLoc.dma (inSem B0 2)) 0 ∗ semVal ((tcT d), SemLoc.dma (inSem B0 3)) 0 ∗ semVal ((tcT d), SemLoc.dma (inSem B0 4)) 0 ∗ outSems F B0 d ∗ guSems F B0 d ∗ dnSems F B0 d)

variable (F) in
theorem semsK_eq (d : Dev nD) : (semsK F d : sProp 𝕄) = iprop(semVal ((tcT d), SemLoc.dma (0 : DmaSem sig)) 0 ∗ semVal ((tcT d), SemLoc.dma (1 : DmaSem sig)) 0 ∗ semVal ((tcT d), SemLoc.dma (2 : DmaSem sig)) 0 ∗ semVal ((tcT d), SemLoc.dma (3 : DmaSem sig)) 0 ∗ semVal ((tcT d), SemLoc.dma (4 : DmaSem sig)) 0 ∗ semVal ((tcT d), SemLoc.dma (5 : DmaSem sig)) 0 ∗ (semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0) ∗ ((semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0) ∗ (semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0)) ∗ ((semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0) ∗ (semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0))) := by
  unfold semsK
  rw [outSems0_eq, guSems0_eq, dnSems0_eq, inSem0, inSem0, inSem0, inSem0, inSem0]; rfl

variable (F) in
theorem sems_in (d : Dev nD) : (Pipeline.ownSems0 osem0 d : sProp 𝕄) ⊢ semsK F d := by
  rw [semsK_eq, ownSems00_eq]
  iintro ⟨S0, S1, S2, S3, S4, S5, S6, S7, S8, S9, S10, S11, S12, S13, S14, S15, S16, S17, S18, S19, S20, S21, S22, S23, S24, S25, S26, S27, S28, S29, S30, S31⟩
  isplitl [S0]
  · iexact S0
  isplitl [S1]
  · iexact S1
  isplitl [S2]
  · iexact S2
  isplitl [S3]
  · iexact S3
  isplitl [S4]
  · iexact S4
  isplitl [S5]
  · iexact S5
  isplitl [S6 S7 S8 S9]
  · isplitl [S6]
    · iexact S6
    isplitl [S7]
    · iexact S7
    isplitl [S8]
    · iexact S8
    iexact S9
  isplitl [S10 S11 S12 S13 S14 S15 S16 S17 S18 S19 S20 S21 S22 S23]
  · isplitl [S10 S11 S12 S13 S14 S15 S16]
    · isplitl [S10]
      · iexact S10
      isplitl [S11]
      · iexact S11
      isplitl [S12]
      · iexact S12
      isplitl [S13]
      · iexact S13
      isplitl [S14]
      · iexact S14
      isplitl [S15]
      · iexact S15
      iexact S16
    isplitl [S17]
    · iexact S17
    isplitl [S18]
    · iexact S18
    isplitl [S19]
    · iexact S19
    isplitl [S20]
    · iexact S20
    isplitl [S21]
    · iexact S21
    isplitl [S22]
    · iexact S22
    iexact S23
  isplitl [S24 S25 S26 S27]
  · isplitl [S24]
    · iexact S24
    isplitl [S25]
    · iexact S25
    isplitl [S26]
    · iexact S26
    iexact S27
  isplitl [S28]
  · iexact S28
  isplitl [S29]
  · iexact S29
  isplitl [S30]
  · iexact S30
  iexact S31

variable (F) in
theorem sems_out (d : Dev nD) : (semsK F d : sProp 𝕄) ⊢ Pipeline.ownSems0 osem0 d := by
  rw [semsK_eq, ownSems00_eq]
  iintro ⟨S0, S1, S2, S3, S4, S5, ⟨S6, S7, S8, S9⟩, ⟨⟨S10, S11, S12, S13, S14, S15, S16⟩, ⟨S17, S18, S19, S20, S21, S22, S23⟩⟩, ⟨⟨S24, S25, S26, S27⟩, ⟨S28, S29, S30, S31⟩⟩⟩
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S10]
  · iexact S10
  isplitl [S11]
  · iexact S11
  isplitl [S12]
  · iexact S12
  isplitl [S13]
  · iexact S13
  isplitl [S14]
  · iexact S14
  isplitl [S15]
  · iexact S15
  isplitl [S16]
  · iexact S16
  isplitl [S17]
  · iexact S17
  isplitl [S18]
  · iexact S18
  isplitl [S19]
  · iexact S19
  isplitl [S20]
  · iexact S20
  isplitl [S21]
  · iexact S21
  isplitl [S22]
  · iexact S22
  isplitl [S23]
  · iexact S23
  isplitl [S24]
  · iexact S24
  isplitl [S25]
  · iexact S25
  isplitl [S26]
  · iexact S26
  isplitl [S27]
  · iexact S27
  isplitl [S28]
  · iexact S28
  isplitl [S29]
  · iexact S29
  isplitl [S30]
  · iexact S30
  iexact S31

/-! # The arrays -/

/-- The arrays the kernel reads. -/
abbrev H0 : Finset (Ref sig .tc) := {main_v4, main_v1, main_v3, main_arg3, main_arg4, main_arg5, main_arg6}
/-- The array it writes. -/
abbrev R0 : Finset (Ref sig .tc) := {main_v5}
theorem H0_sub : H0 ⊆ Pipeline.restRefs sig spec0 := by decide +kernel
theorem R0_sub : R0 ⊆ Pipeline.restRefs sig spec0 \ H0 := by decide +kernel

variable (m : (ℓ : Loc nD τ sig) → Buf (Elt F) ℓ)

/-- What the kernel's arrays hold when it starts. -/
abbrev I0 (d : Dev nD) : In F B0 d :=
  ⟨V m d main_v4, V m d main_v1, V m d main_v3, V m d main_arg3, V m d main_arg4, V m d main_arg5, V m d main_arg6⟩

/-- What the arrays hold once it is done: the result written, the others as they were. -/
abbrev G0 (d : Dev nD) : (b : Ref sig .tc) → Buf (Elt F) ((d.tc : Thread nD τ).loc b) := Function.update (V m d) main_v5 (result (I0 m d).V)

theorem hbm_eq (d : Dev nD) : (bigSep H0 fun b => ((d.tc : Thread nD τ).loc b) ↦{fullShare} V m d b : sProp 𝕄)
    = iprop(((tcT d).loc main_v4 ↦{fullShare} V m d main_v4) ∗ ((tcT d).loc main_v1 ↦{fullShare} V m d main_v1) ∗ ((tcT d).loc main_v3 ↦{fullShare} V m d main_v3) ∗ ((tcT d).loc main_arg3 ↦{fullShare} V m d main_arg3) ∗ ((tcT d).loc main_arg4 ↦{fullShare} V m d main_arg4) ∗ ((tcT d).loc main_arg5 ↦{fullShare} V m d main_arg5) ∗ ((tcT d).loc main_arg6 ↦{fullShare} V m d main_arg6)) := by
  rw [BI.bigSep_eq_bigSepL_of_eq [main_v4, main_v1, main_v3, main_arg3, main_arg4, main_arg5, main_arg6] (by decide +kernel) (by decide +kernel)]; rfl

theorem routed_eq (d : Dev nD) (W : (b : Ref sig .tc) → Buf (Elt F) ((d.tc : Thread nD τ).loc b)) :
    (Pipeline.routed R0 d W : sProp 𝕄) = ((tcT d).loc main_v5 ↦{fullShare} W main_v5) := by
  unfold Pipeline.routed; rw [BI.bigSep_eq_bigSepL_of_eq [main_v5] (by decide +kernel) (by decide +kernel)]; rfl

theorem enter (d : Dev nD) : iprop(Pipeline.ΦDRG osem0 spec0 H0 R0 (V m) (V m) d ∗ (∃ w, owes (tcT d) 0 w)) ⊢ iprop(Pre (I0 m d) ∗ (∃ r, prngReg d r)) := by
  rw [Pipeline.ΦDRG_eq, hbm_eq, routed_eq, show Pipeline.scopedRest spec0 d = Pipeline.scopedRest cfg0.spec d from rfl, scopedRest0_eq]
  unfold Pre Lent HeldAny Cert.Walk.Owes
  simp only [Memref.view_whole, View.set_whole]
  iintro ⟨⟨⟨R2, R3, R4, R5, R6, R7, R8, R9, R10, R11, R12, R13, R14, R0, R1⟩, HP, HS, ⟨H0, H1, H2, H3, H4, H5, H6⟩, HO⟩, HW⟩
  isplitr [HP]
  swap
  · iexact HP
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [HO]
  · iexists _; iexact HO
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  isplitl [R11]
  · iexact R11
  isplitl [R12]
  · iexact R12
  isplitl [R13]
  · iexact R13
  isplitl [R14]
  · iexact R14
  icases (sems_in F d) $$ HS with ⟨T0, T1, T2, T3, T4, T5, TU, TG, TD⟩
  isplitl [T0]
  · iexact T0
  isplitl [T1]
  · iexact T1
  isplitl [T2]
  · iexact T2
  isplitl [T3]
  · iexact T3
  isplitl [T4]
  · iexact T4
  isplitl [T5]
  · iexact T5
  isplitl [TU]
  · iexact TU
  isplitl [TG]
  · iexact TG
  isplitl [TD]
  · iexact TD
  iexact HW

theorem leave (d : Dev nD) : iprop(Post (I0 m d) ∗ (∃ r, prngReg d r)) ⊢ iprop(Pipeline.ΦDRG osem0 spec0 H0 R0 (V m) (G0 m) d ∗ (∃ w, owes (tcT d) 0 w)) := by
  rw [Pipeline.ΦDRG_eq, hbm_eq, routed_eq, show G0 m d main_v5 = result (I0 m d).V from Function.update_self .., show Pipeline.scopedRest spec0 d = Pipeline.scopedRest cfg0.spec d from rfl, scopedRest0_eq]
  unfold Post Lent HeldAny Cert.Walk.Owes
  simp only [Memref.view_whole, View.set_whole]
  iintro ⟨⟨H0, H1, H2, H3, H4, H5, H6, HO, R0, R1, R2, R3, R4, R5, R6, R7, R8, R9, R10, R11, R12, R13, R14, T0, T1, T2, T3, T4, T5, TU, TG, TD, HW⟩, HP⟩
  isplitr [HW]
  swap
  · iexact HW
  isplitl [R2 R3 R4 R5 R6 R7 R8 R9 R10 R11 R12 R13 R14 R0 R1]
  · isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R0]
    · iexact R0
    iexact R1
  isplitl [HP]
  · iexact HP
  isplitl [T0 T1 T2 T3 T4 T5 TU TG TD]
  · iapply (sems_out F d)
    isplitl [T0]
    · iexact T0
    isplitl [T1]
    · iexact T1
    isplitl [T2]
    · iexact T2
    isplitl [T3]
    · iexact T3
    isplitl [T4]
    · iexact T4
    isplitl [T5]
    · iexact T5
    isplitl [TU]
    · iexact TU
    isplitl [TG]
    · iexact TG
    iexact TD
  isplitl [H0 H1 H2 H3 H4 H5 H6]
  · isplitl [H0]
    · iexact H0
    isplitl [H1]
    · iexact H1
    isplitl [H2]
    · iexact H2
    isplitl [H3]
    · iexact H3
    isplitl [H4]
    · iexact H4
    isplitl [H5]
    · iexact H5
    iexact H6
  iapply (held_whole d main_v5 (result (I0 m d).V)) $$ HO

/-! # The launch -/

/-- What the core holds before the region's one point, and after it. -/
def PhiAt (c : Dev nD) : ℕ → sProp 𝕄
  | 0 => Pipeline.ΦDRG osem0 spec0 H0 R0 (V m) (V m) c
  | _ + 1 => Pipeline.ΦDRG osem0 spec0 H0 R0 (V m) (G0 m) c

/-- The region's data: no window, the arrays' state before and after its one point, nothing owed. -/
def dats (_ : Fin 1) (c : Dev nD) : Dat τ (Elt F) Unit ℕ (Pipeline.UD sig nD τ) ℕ cfg0 c where
  A w := (show Fin 0 from w).elim0
  after w t := (show Fin 0 from w).elim0
  Φ t := PhiAt m c t.val
  q _ := fullShare
  owed _ := 0

theorem A_eq (c : Dev nD) (w : Fin cfg0.W) : (dats m 0 c).A w = V m c (Pipeline.arrRef cfg0.spec w) := (show Fin 0 from w).elim0

theorem phi_in (c : Dev nD) (t : Fin cfg0.N) : (dats m 0 c).Φ t.castSucc = Pipeline.ΦDRG osem0 spec0 H0 R0 (V m) (V m) c := by
  rw [show t = t0_0 from fin_N0 t]; rfl

theorem phi_out (c : Dev nD) (t : Fin cfg0.N) : (dats m 0 c).Φ t.succ = Pipeline.ΦDRG osem0 spec0 H0 R0 (V m) (G0 m) c := by
  rw [show t = t0_0 from fin_N0 t]; rfl

theorem sound_body (h0 : ∀ d : Dev nD, (idw (F := F) (I0 m d).V.ids 0 0).toNat < 32) (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [phi_in, phi_out, bodyAt0_B0]
  unfold Dat.owesAt Pipeline.owesWithin
  rw [show (dats m 0 c).owed t.castSucc = 0 from rfl, show (dats m 0 c).owed t.succ = 0 from rfl]
  have hb : Pre (I0 m c) ⊢ wp frame (wpE (defs₀ (F := F)) Variants.none c none) Set.univ (let B := B0; cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun _ => Post (I0 m c)) :=
    body_W (bd := none) (I0 m c) (h0 c)
  have hl := leave m c
  iintro ⟨HΦ, %W, -, HW⟩
  icases (enter m c) $$ [HΦ HW] with ⟨HQ, HP⟩
  · isplitl [HΦ]
    · iexact HΦ
    · iexists W; iexact HW
  iapply (W_wand (defs := defs₀ (F := F)) (𝒱 := Variants.none) (c := tcT c) (bd := none) (Q' := fun _ => Post (I0 m c)))
  isplitl [HQ]
  · iapply hb $$ HQ
  iintro %u HQ
  icases hl $$ [HQ HP] with ⟨HΦ, %W', HW⟩
  · isplitl [HQ]
    · iexact HQ
    · iexact HP
  isplitl [HΦ]
  · iexact HΦ
  iexists W'
  isplitr
  · ipureintro; exact fun _ _ => Or.inl trivial
  iexact HW

theorem bigSep_W0 (Φ : Fin cfg0.W → sProp 𝕄) : bigSep Finset.univ Φ = iprop(emp) := by
  rw [show (Finset.univ : Finset (Fin cfg0.W)) = ∅ from rfl]; exact bigSep_empty

theorem defs₀_row (t : Fin cfg0.N) : defs₀ (F := F) .tc cfg0.body (cfg0.bodyArgs t (cfg0.slots t)) = bodyAt0 t := by
  unfold defs₀; rw [Defs.onTc_tc]

theorem body_obligation (h0 : ∀ d : Dev nD, (idw (F := F) (I0 m d).V.ids 0 0).toNat < 32) (c : Dev nD) :
    BodyObligation (dats (F := F) m 0 c) (defs₀ (F := F)) Variants.none () Set.univ := fun t => by
  rw [bigSep_W0, bigSep_W0, defs₀_row]
  refine BIBase.Entails.trans ?_ ((sound_body m h0 c t).trans (wp_mono _ _ _ fun _ => ?_))
  · iintro ⟨H1, H2, -⟩
    isplitl [H1]
    · iexact H1
    · iexact H2
  · iintro ⟨H1, H2⟩
    isplitl [H1]
    · iexact H1
    isplitl [H2]
    · iexact H2
    · itrivial

theorem phi_first (c : Dev nD) : Pipeline.ΦDRG osem0 cfg0.spec H0 R0 (V m) (V m) c ⊢ (dats m 0 c).Φ 0 := Entails.of_eq rfl
theorem phi_last (c : Dev nD) : (dats m 0 c).Φ (Fin.last cfg0.N) ⊢ Pipeline.ΦDRG osem0 cfg0.spec H0 R0 (V m) (G0 m) c := Entails.of_eq rfl

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of the program ends, its arrays but the result as they were before the kernel, the result at what the
    kernel's triple says, every semaphore at zero. -/
theorem run_main (h0 : ∀ d : Dev nD, (idw (F := F) (I0 m d).V.ids 0 0).toNat < 32) (ρ : Dev nD → PrngReg) :
    θ_run (defs (F := F)) (onTc (τ := τ) (main (F := F))) ⟨m, fun _ => 0, ρ⟩
      (fun r => Pipeline.FramePostRG cfgs (dats m) 0 R0 (V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m h0 c).loose) (hshare := fun c w => (show Fin 0 from w).elim0) (howed := fun _ _ => rfl)
    (V := V m) (hmain := hmainD m Variants.none) (hA := A_eq m) (G := G0 m)
    (hin := fun c => phi_first m c) (hout := fun c => phi_last m c)
    (hQ' := fun _ h => h)

set_option maxHeartbeats 800000 in
/-- What a run leaves: the arguments unchanged, the result, the semaphores at zero. -/
theorem run_end (h0 : ∀ d : Dev nD, (idw (F := F) (I0 m d).V.ids 0 0).toNat < 32) (ρ : Dev nD → PrngReg) :
    θ_run (defs (F := F)) (onTc (τ := τ) (main (F := F))) ⟨m, fun _ => 0, ρ⟩
      (fun r => (∀ c : Dev nD,
          r.2.mem ((c : Thread nD τ).loc main_v5) = result (I0 m c).V
          ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r h => ⟨fun c => ⟨by
      rw [h.1.2 c main_v5 (by decide)]; exact Function.update_self .., ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩) (run_main m h0 ρ)

end Cert.Kernel.Walk

end
-- ==== Proof.KernelPre.lean ====
/-
  Hand-written, untrusted. The arrays the kernel is handed, read at the program's arguments, and what the precondition
  says of the expert numbers.
-/
module

public import proofs.«01_k».proof.Proof.KernelLaunch
public import proofs.«01_k».proof.Proof.Gen.Pre_experts_exist
public import Idealize.ShloMosaic.Lib.StableHlo.RunRead
public import Idealize.ShloMosaic.Lib.ValueLayout
public import Idealize.ShloMosaic.Lib.WordCmp
public import Idealize.ShloMosaic.Lib.Pipeline.Value

@[expose] public section

set_option maxRecDepth 16384
set_option maxErrors 6

noncomputable section

namespace Cert.Kernel.Walk

open Cert.Kernel Cert.Kernel.Gen Cert.Walk
open Idealize.ShloMosaic Idealize.ShloMosaic.TcCoe Idealize.ShloMosaic.Tactic
open Idealize.ShloMosaic.WordCmp
open Idealize.ShloMosaic.View (ld)
open Idealize.ShloMosaic.ValueIdx (ix1 ix2 ix3 ix4)

variable {F : FTy → Type} [FloatOps F]

/-! # The host's rearrangements -/

section Host

variable (m : (ℓ : Loc nD τ sig) → Buf (Elt F) ℓ)

theorem V_main_v1 (c : Dev nD) (k : Fin 8) (t : Fin 33) :
    V m c main_v1 (ix2 k t) = m ((c : Thread nD τ).loc main_arg1) (ix3 t 0 k) := by
  have h : V m c main_v1 = transpose S8x33 [1, 0] (shapeCast S33x8 (m ((c : Thread nD τ).loc main_arg1)) shapeCasts_S33x1x8_S33x8) transposes_S33x8_S8x33_1_0 := by
    unfold V hostOps0; after_reads_simp; rfl
  rw [h]
  refine (ValueIdx.transpose_ix2_apply _ _ k t).trans ?_
  exact shapeCast_apply _ _ _ _ (by
    refine (Shape.rowMajor_val_three _).trans (Eq.trans ?_ (Shape.rowMajor_val_two _).symm)
    show (t.val * 1 + 0) * 8 + k.val = t.val * 8 + k.val
    omega)

theorem V_main_v3 (c : Dev nD) (k : Fin 8) (t : Fin 33) :
    V m c main_v3 (ix2 k t) = m ((c : Thread nD τ).loc main_arg2) (ix3 t 0 k) := by
  have h : V m c main_v3 = transpose S8x33 [1, 0] (shapeCast S33x8 (m ((c : Thread nD τ).loc main_arg2)) shapeCasts_S33x1x8_S33x8) transposes_S33x8_S8x33_1_0 := by
    unfold V hostOps0; after_reads_simp; rfl
  rw [h]
  refine (ValueIdx.transpose_ix2_apply _ _ k t).trans ?_
  exact shapeCast_apply _ _ _ _ (by
    refine (Shape.rowMajor_val_three _).trans (Eq.trans ?_ (Shape.rowMajor_val_two _).symm)
    show (t.val * 1 + 0) * 8 + k.val = t.val * 8 + k.val
    omega)

theorem V_main_v4 (c : Dev nD) (t : Fin 33) (d : Fin 7168) :
    V m c main_v4 (ix2 t d) = m ((c : Thread nD τ).loc main_arg0) (ix3 t 0 d) := by
  have h : V m c main_v4 = shapeCast S33x7168 (m ((c : Thread nD τ).loc main_arg0)) shapeCasts_S33x1x7168_S33x7168 := by
    unfold V hostOps0; after_reads_simp; rfl
  rw [h]
  exact shapeCast_apply _ _ _ _ (by
    refine (Shape.rowMajor_val_three _).trans (Eq.trans ?_ (Shape.rowMajor_val_two _).symm)
    show (t.val * 1 + 0) * 7168 + d.val = t.val * 7168 + d.val
    omega)

end Host

theorem idw_eq (ids : S8x33.Idx → Elt F .i32) (k : Fin 8) (t : Fin 33) : idw (F := F) ids k t = ids (ix2 k t) := by
  unfold idw
  refine congrArg ids (funext fun a => Fin.ext ?_)
  change _ + 1 * _ = _
  fin_cases a
  · show k.val + 1 * 0 = k.val; omega
  · show t.val + 1 * 0 = t.val; omega

/-! # What the precondition says -/

theorem and1 {a b : BitVec 1} (h : a &&& b = 1#1) : a = 1#1 ∧ b = 1#1 := by
  revert a b; decide

theorem word_range (w : BitVec 32) (h : IntOp.andi (IntOp.cmpi .sge w 0#32) (IntOp.cmpi .slt w 32#32) = 1#1) : w.toNat < 32 := by
  obtain ⟨h1, h2⟩ := and1 h
  rw [cmpi_sge_eq] at h1; rw [cmpi_slt_eq] at h2
  have h1' : (0#32).toInt ≤ w.toInt := by
    by_contra hc; rw [decide_eq_false hc] at h1; exact absurd h1 (by decide)
  have h2' : w.toInt < (32#32).toInt := by
    by_contra hc; rw [decide_eq_false hc] at h2; exact absurd h2 (by decide)
  have e0 : (0#32).toInt = 0 := by decide
  have e1 : (32#32).toInt = 32 := by decide
  rw [e0] at h1'; rw [e1] at h2'
  rw [BitVec.toInt_eq_toNat_cond] at h1' h2'
  have := w.isLt
  split at h1' <;> omega

theorem range_of_pre (a0 a1 a2 a3 a4 a5 a6) (h : Cert.Pre_experts_exist.fn (F := F) a0 a1 a2 a3 a4 a5 a6 = fun _ => 1#1) (t : Fin 33) (k : Fin 8) :
    (a1 (ix3 t 0 k)).toNat < 32 :=
  word_range _ (congrFun h (ix3 t 0 k))

/-! # The run, of memories the precondition holds of -/

section Start

variable (m : (ℓ : Loc nD τ sig) → Buf (Elt F) ℓ)

/-- The arrays the kernel reads, at the program's arguments. -/
theorem I0_ids (c : Dev nD) (k : Fin 8) (t : Fin 33) : idw (F := F) (I0 m c).V.ids k t = m ((c : Thread nD τ).loc main_arg1) (ix3 t 0 k) :=
  (idw_eq _ k t).trans (V_main_v1 m c k t)

theorem start_of_range (h : ∀ (c : Dev nD) (t : Fin 33) (k : Fin 8), (m ((c : Thread nD τ).loc main_arg1) (ix3 t 0 k)).toNat < 32) :
    ∀ d : Dev nD, (idw (F := F) (I0 m d).V.ids 0 0).toNat < 32 := fun d => by
  rw [I0_ids]; exact h d 0 0

end Start

end Cert.Kernel.Walk

end
-- ==== Proof.KernelIdealVals.lean ====
/-
  Hand-written, untrusted. What the kernel computes, as plain functions of the seven arrays it reads: the list of
  active experts, the first layer's sums chunk by chunk, the accumulator column by column, the result.
-/
module

public import proofs.«01_k».proof.Proof.Gen.KernelIdeal.Skeleton
public import proofs.«01_k».proof.Proof.Fam

@[expose] public section

set_option maxRecDepth 16384

noncomputable section

namespace Cert.KernelIdeal.Walk

open Cert.KernelIdeal Cert.KernelIdeal.Gen
open Idealize.ShloMosaic Idealize.ShloMosaic.TcCoe
open Idealize.ShloMosaic.View (ld)

variable {F : FTy → Type} [FloatOps F]

/-! ## The boxes the kernel moves and reads -/

theorem guDst_inb : ∀ (s : Fin 2) (k : Fin 7), ∀ a, (![s.val, 1024 * k.val, 0] : Fin 3 → ℕ) a + S1x1024x1536.size a ≤ S2x7168x1536.size a := by decide +kernel
theorem guSrc_inb : ∀ (e : Fin 32) (k : Fin 7), ∀ a, (![e.val, 1024 * k.val, 0] : Fin 3 → ℕ) a + S1x1024x1536.size a ≤ S32x7168x1536.size a := by decide +kernel
theorem dnDst_inb : ∀ (s : Fin 2) (k : Fin 4), ∀ a, (![s.val, 0, 1792 * k.val] : Fin 3 → ℕ) a + S1x768x1792.size a ≤ S2x768x7168.size a := by decide +kernel
theorem dnSrc_inb : ∀ (e : Fin 32) (k : Fin 4), ∀ a, (![e.val, 0, 1792 * k.val] : Fin 3 → ℕ) a + S1x768x1792.size a ≤ S32x768x7168.size a := by decide +kernel
theorem col_inb : ∀ (k : Fin 4), ∀ a, (![0, 1792 * k.val] : Fin 2 → ℕ) a + S33x1792.size a ≤ S33x7168.size a := by decide +kernel
theorem xcol_inb : ∀ (k : Fin 7), ∀ a, (![0, 1024 * k.val] : Fin 2 → ℕ) a + S48x1024.size a ≤ S48x7168.size a := by decide +kernel
theorem sguRow_inb : ∀ (e : Fin 32), ∀ a, (![e.val, 0] : Fin 2 → ℕ) a + S1x1536.size a ≤ S32x1536.size a := by decide +kernel
theorem sdnBox_inb : ∀ (e : Fin 32) (k : Fin 4), ∀ a, (![e.val, 1792 * k.val] : Fin 2 → ℕ) a + S1x1792.size a ≤ S32x7168.size a := by decide +kernel
theorem idBox_inb : ∀ (k : Fin 8) (t : Fin 33), ∀ a, (![k.val, t.val] : Fin 2 → ℕ) a + S1x1.size a ≤ S8x33.size a := by decide +kernel
theorem actBox_inb : ∀ (i : Fin 33), ∀ a, (![i.val] : Fin 1 → ℕ) a + S1.size a ≤ S33.size a := by decide +kernel

/-- Slot `s`, chunk `k` of the first layer's ring. -/
abbrev guDst (s : Fin 2) (k : Fin 7) : Rect S2x7168x1536 := Rect.unit (s := S2x7168x1536) ![s.val, 1024 * k.val, 0] S1x1024x1536.size (guDst_inb s k)
/-- Expert `e`, chunk `k` of the first layer's weights. -/
abbrev guSrc (e : Fin 32) (k : Fin 7) : Rect S32x7168x1536 := Rect.unit (s := S32x7168x1536) ![e.val, 1024 * k.val, 0] S1x1024x1536.size (guSrc_inb e k)
/-- Slot `s`, chunk `k` of the second layer's ring. -/
abbrev dnDst (s : Fin 2) (k : Fin 4) : Rect S2x768x7168 := Rect.unit (s := S2x768x7168) ![s.val, 0, 1792 * k.val] S1x768x1792.size (dnDst_inb s k)
/-- Expert `e`, chunk `k` of the second layer's weights. -/
abbrev dnSrc (e : Fin 32) (k : Fin 4) : Rect S32x768x7168 := Rect.unit (s := S32x768x7168) ![e.val, 0, 1792 * k.val] S1x768x1792.size (dnSrc_inb e k)
/-- Column chunk `k` of the result and of the accumulator. -/
abbrev col (k : Fin 4) : Rect S33x7168 := Rect.unit (s := S33x7168) ![0, 1792 * k.val] S33x1792.size (col_inb k)
/-- Column chunk `k` of the padded tokens. -/
abbrev xcol (k : Fin 7) : Rect S48x7168 := Rect.unit (s := S48x7168) ![0, 1024 * k.val] S48x1024.size (xcol_inb k)
/-- Expert `e`'s first-layer scales. -/
abbrev sguRow (e : Fin 32) : Rect S32x1536 := Rect.unit (s := S32x1536) ![e.val, 0] S1x1536.size (sguRow_inb e)
/-- Expert `e`'s second-layer scales at column chunk `k`. -/
abbrev sdnBox (e : Fin 32) (k : Fin 4) : Rect S32x7168 := Rect.unit (s := S32x7168) ![e.val, 1792 * k.val] S1x1792.size (sdnBox_inb e k)
/-- Routing slot `k` of token `t`. -/
abbrev idBox (k : Fin 8) (t : Fin 33) : Rect S8x33 := Rect.unit (s := S8x33) ![k.val, t.val] S1x1.size (idBox_inb k t)
/-- Entry `i` of the table of active experts. -/
abbrev actBox (i : Fin 33) : Rect S33 := Rect.unit (s := S33) ![i.val] S1.size (actBox_inb i)
/-- The first 34 rows of the padded tokens. -/
abbrev rows34 : Rect S48x7168 := Rect.unit (s := S48x7168) ![0, 0] S34x7168.size inb_S48x7168_S34x7168_0_0

/-! ## The arrays read, and what is computed of them -/

variable (F) in
/-- The seven arrays the kernel reads. -/
structure Vals where
  x : S33x7168.Idx → Elt F .bf16
  ids : S8x33.Idx → Elt F .i32
  rw : S8x33.Idx → Elt F .f32
  wgu : S32x7168x1536.Idx → Elt F .fp8e4m3
  sgu : S32x1536.Idx → Elt F .f32
  wdn : S32x768x7168.Idx → Elt F .fp8e4m3
  sdn : S32x7168.Idx → Elt F .f32

variable (V : Vals F)

/-- Expert `e`'s number as the word the kernel holds. -/
abbrev wd (e : Fin 32) : BitVec 32 := BitVec.ofNat 32 e.val

/-- The word at routing slot `k` of token `t`. -/
def idw (ids : S8x33.Idx → Elt F .i32) (k : Fin 8) (t : Fin 33) : BitVec 32 := ld (Val := Elt F) ids (idBox k t) (Shape.Idx.first (numel1_S1x1.symm ▸ Nat.one_pos))

/-- The first token's first expert, with which the active list starts. -/
def firstE : Fin 32 := ⟨(idw (F := F) V.ids 0 0).toNat % 32, Nat.mod_lt _ (by decide)⟩

/-- One token's eight experts put into the set of bits. -/
def bitsStep (acc : BitVec 32) (t : Fin 33) : BitVec 32 :=
  Scalar.ori (Scalar.ori (Scalar.ori (Scalar.ori (Scalar.ori (Scalar.ori (Scalar.ori (Scalar.ori acc
    (Scalar.shli 1#32 (idw (F := F) V.ids 0 t))) (Scalar.shli 1#32 (idw (F := F) V.ids 1 t))) (Scalar.shli 1#32 (idw (F := F) V.ids 2 t)))
    (Scalar.shli 1#32 (idw (F := F) V.ids 3 t))) (Scalar.shli 1#32 (idw (F := F) V.ids 4 t))) (Scalar.shli 1#32 (idw (F := F) V.ids 5 t)))
    (Scalar.shli 1#32 (idw (F := F) V.ids 6 t))) (Scalar.shli 1#32 (idw (F := F) V.ids 7 t))

/-- The set of bits after the first `t` tokens. -/
def bitsAt : ℕ → BitVec 32
  | 0 => 0#32
  | t + 1 => if h : t < 33 then bitsStep V (bitsAt t) ⟨t, h⟩ else bitsAt t

/-- Expert `e`'s bit, as the kernel reads it back. -/
def hasBit (e : Fin 32) : Prop := Scalar.andi (Scalar.shrsi (bitsAt V 33) (wd e)) 1#32 = 1#32
instance (e : Fin 32) : Decidable (hasBit V e) := inferInstanceAs (Decidable (_ = _))

/-- The active experts found among the first `j`. -/
def actl : ℕ → List (Fin 32)
  | 0 => [firstE V]
  | j + 1 => if h : j < 32 then (if hasBit V ⟨j, h⟩ ∧ (⟨j, h⟩ : Fin 32) ≠ firstE V then actl j ++ [⟨j, h⟩] else actl j) else actl j

/-- How many experts are active, and the `i`-th of them. -/
def nAct : ℕ := (actl V 32).length
def act (i : ℕ) : Fin 32 := (actl V 32).getD i (firstE V)

/-- The routing tables by token, and the padded tokens. -/
def idsT : Vec F S33x8 .i32 := k0_pay17 V.ids
def rwT : Vec F S33x8 .f32 := k0_pay18 V.rw
def xs : S48x7168.Idx → Elt F .bf16 :=
  rows34.overlay (k0_pay16 (F := F)) (updateSlice (ld (Val := Elt F) (e' := .bf16) (k0_pay16 (F := F)) rows34) (k0_pay19 V.x) ![0, 0] slices_S34x7168_S33x7168_0_0)

abbrev f7 (j : ℕ) : Fin 7 := ⟨j % 7, Nat.mod_lt _ (by decide)⟩
abbrev f4 (j : ℕ) : Fin 4 := ⟨j % 4, Nat.mod_lt _ (by decide)⟩
theorem f7_val (j : Fin 7) : f7 j.val = j := Fin.ext (Nat.mod_eq_of_lt j.isLt)
theorem f4_val (j : Fin 4) : f4 j.val = j := Fin.ext (Nat.mod_eq_of_lt j.isLt)

/-- The first layer's sums for expert `e` after `j` chunks. -/
def guMid (e : Fin 32) : ℕ → Vec F S48x1536 .f32
  | 0 => k0_pay3
  | j + 1 => k0_pay4 (guMid e j) (ld (Val := Elt F) (e' := .bf16) (xs V) (xcol (f7 j))) (ld (Val := Elt F) (e' := .fp8e4m3) V.wgu (guSrc e (f7 j)))

/-- Each token's weight for expert `e`, and its hidden layer there. -/
def rt (e : Fin 32) : FVec F S33x1 .f32 := k0_pay6 (wd e) (idsT V) (rwT V)
def hid (e : Fin 32) : FVec F S33x768 .bf16 := k0_pay7 (wd e) (idsT V) (guMid V e 7) (ld (Val := Elt F) (e' := .f32) V.sgu (sguRow e))

/-- The accumulator once expert `e`'s first `k` column chunks are added to `A`. -/
def accMid (e : Fin 32) (A : S33x7168.Idx → Elt F .f32) : ℕ → (S33x7168.Idx → Elt F .f32)
  | 0 => A
  | k + 1 => (col (f4 k)).overlay (accMid e A k) (k0_pay1 (rt V e) (hid V e) (ld (Val := Elt F) (e' := .fp8e4m3) V.wdn (dnSrc e (f4 k)))
      (ld (Val := Elt F) (e' := .f32) (accMid e A k) (col (f4 k))) (ld (Val := Elt F) (e' := .f32) V.sdn (sdnBox e (f4 k))))

/-- The accumulator after the first `i` active experts. -/
def accAt : ℕ → (S33x7168.Idx → Elt F .f32)
  | 0 => k0_pay15 (F := F)
  | i + 1 => accMid V (act V i) (accAt i) 4

/-- Column chunk `k` of the result. -/
def outCol (k : Fin 4) : S33x1792.Idx → Elt F .bf16 :=
  k0_pay2 (ld (Val := Elt F) (e' := .f32) (accMid V (act V (nAct V - 1)) (accAt V (nAct V - 1)) (k.val + 1)) (col k))

/-- The result. -/
def result : S33x7168.Idx → Elt F .bf16 :=
  (col 3).overlay ((col 2).overlay ((col 1).overlay ((col 0).overlay V.x (outCol V 0)) (outCol V 1)) (outCol V 2)) (outCol V 3)

/-! ## Facts about these -/

theorem col_disjoint : ∀ i j : Fin 4, i ≠ j → Disjoint (col i).set (col j).set := fun i j h =>
  Rect.unit_disjoint (s := S33x7168) (inb := col_inb i) (inb' := col_inb j) (1 : Fin 2)
    ((by decide +kernel : ∀ i j : Fin 4, i ≠ j → (![0, 1792 * i.val] : Fin 2 → ℕ) 1 + S33x1792.size 1 ≤ (![0, 1792 * j.val] : Fin 2 → ℕ) 1 ∨ (![0, 1792 * j.val] : Fin 2 → ℕ) 1 + S33x1792.size 1 ≤ (![0, 1792 * i.val] : Fin 2 → ℕ) 1) i j h)

theorem guDst_disjoint : ∀ p q : Fin 2 × Fin 7, p ≠ q → Disjoint (guDst p.1 p.2).set (guDst q.1 q.2).set := fun p q h => by
  by_cases h1 : p.1 = q.1
  · have h2 : p.2 ≠ q.2 := fun h2 => h (Prod.ext h1 h2)
    exact Rect.unit_disjoint (s := S2x7168x1536) (inb := guDst_inb p.1 p.2) (inb' := guDst_inb q.1 q.2) (1 : Fin 3)
      (by change 1024 * p.2.val + 1024 ≤ 1024 * q.2.val ∨ 1024 * q.2.val + 1024 ≤ 1024 * p.2.val
          have : p.2.val ≠ q.2.val := fun h => h2 (Fin.ext h)
          omega)
  · exact Rect.unit_disjoint (s := S2x7168x1536) (inb := guDst_inb p.1 p.2) (inb' := guDst_inb q.1 q.2) (0 : Fin 3)
      (by change p.1.val + 1 ≤ q.1.val ∨ q.1.val + 1 ≤ p.1.val
          have : p.1.val ≠ q.1.val := fun h => h1 (Fin.ext h)
          omega)

theorem dnDst_disjoint : ∀ p q : Fin 2 × Fin 4, p ≠ q → Disjoint (dnDst p.1 p.2).set (dnDst q.1 q.2).set := fun p q h => by
  by_cases h1 : p.1 = q.1
  · have h2 : p.2 ≠ q.2 := fun h2 => h (Prod.ext h1 h2)
    exact Rect.unit_disjoint (s := S2x768x7168) (inb := dnDst_inb p.1 p.2) (inb' := dnDst_inb q.1 q.2) (2 : Fin 3)
      (by change 1792 * p.2.val + 1792 ≤ 1792 * q.2.val ∨ 1792 * q.2.val + 1792 ≤ 1792 * p.2.val
          have : p.2.val ≠ q.2.val := fun h => h2 (Fin.ext h)
          omega)
  · exact Rect.unit_disjoint (s := S2x768x7168) (inb := dnDst_inb p.1 p.2) (inb' := dnDst_inb q.1 q.2) (0 : Fin 3)
      (by change p.1.val + 1 ≤ q.1.val ∨ q.1.val + 1 ≤ p.1.val
          have : p.1.val ≠ q.1.val := fun h => h1 (Fin.ext h)
          omega)

/-- Reading a box back just after it was replaced. -/
theorem ld_overlay {s : Shape} {α : EltTy → Type} {e : EltTy} (r : Rect s) (X : s.Idx → α e) (w : r.shape.Idx → α e) :
    ld (r.overlay X w) r = w := funext fun x => Rect.overlay_emb r X w x

/-- Replacing a box leaves a disjoint one as it was. -/
theorem ld_overlay_of_disjoint {s : Shape} {α : EltTy → Type} {e : EltTy} (r r' : Rect s) (h : Disjoint r.set r'.set) (X : s.Idx → α e) (w : r.shape.Idx → α e) :
    ld (r.overlay X w) r' = ld X r' := funext fun x => by
  refine Rect.overlay_of_not_mem r X w fun hm => ?_
  have hx : r'.emb x ∈ r'.set := by rw [← Rect.map_emb_univ]; exact Finset.mem_map_of_mem _ (Finset.mem_univ _)
  exact (Finset.disjoint_left.mp h) hm hx

theorem result_col (k : Fin 4) : ld (Val := Elt F) (e' := .bf16) (result V) (col k) = outCol V k := by
  unfold result
  fin_cases k
  · refine (ld_overlay_of_disjoint _ _ (col_disjoint 3 0 (by decide)) _ _).trans ((ld_overlay_of_disjoint _ _ (col_disjoint 2 0 (by decide)) _ _).trans
      ((ld_overlay_of_disjoint _ _ (col_disjoint 1 0 (by decide)) _ _).trans (ld_overlay _ _ _)))
  · refine (ld_overlay_of_disjoint _ _ (col_disjoint 3 1 (by decide)) _ _).trans ((ld_overlay_of_disjoint _ _ (col_disjoint 2 1 (by decide)) _ _).trans (ld_overlay _ _ _))
  · exact (ld_overlay_of_disjoint _ _ (col_disjoint 3 2 (by decide)) _ _).trans (ld_overlay _ _ _)
  · exact ld_overlay _ _ _

theorem col_cover (y : S33x7168.Idx) : ∃ k, y ∈ (col k).set := by
  have h1 : (y 1).val < 7168 := (y 1).isLt
  refine ⟨⟨(y 1).val / 1792, by omega⟩, ?_⟩
  rw [← Rect.map_emb_univ]
  refine Finset.mem_map.mpr ⟨fun a => ⟨![(y 0).val, (y 1).val % 1792] a, ?_⟩, Finset.mem_univ _, ?_⟩
  · fin_cases a
    · exact (y 0).isLt
    · exact Nat.mod_lt _ (by decide)
  · funext a
    apply Fin.ext
    rw [Rect.emb_apply]
    fin_cases a
    · change 0 + 1 * (y 0).val = (y 0).val; omega
    · change 1792 * ((y 1).val / 1792) + 1 * ((y 1).val % 1792) = (y 1).val; omega

/-- The active list holds no expert twice, and only its first and those below `j`. -/
theorem actl_nodup (j : ℕ) : (actl V j).Nodup ∧ ∀ e ∈ actl V j, e = firstE V ∨ e.val < j := by
  induction j with
  | zero => exact ⟨List.nodup_singleton _, fun e he => Or.inl (List.mem_singleton.mp he)⟩
  | succ j ih =>
    unfold actl
    split
    · split
      · rename_i h h2
        refine ⟨List.nodup_append.mpr ⟨ih.1, List.nodup_singleton _, fun a ha b hb => ?_⟩, fun e he => ?_⟩
        · rw [List.mem_singleton.mp hb]
          rintro rfl
          rcases ih.2 _ ha with h3 | h3
          · exact h2.2 h3
          · exact absurd h3 (lt_irrefl _)
        · rcases List.mem_append.mp he with he | he
          · exact (ih.2 e he).imp id (fun h => Nat.lt_succ_of_lt h)
          · rw [List.mem_singleton.mp he]; exact Or.inr (Nat.lt_succ_self _)
      · exact ⟨ih.1, fun e he => (ih.2 e he).imp id (fun h => Nat.lt_succ_of_lt h)⟩
    · exact ⟨ih.1, fun e he => (ih.2 e he).imp id (fun h => Nat.lt_succ_of_lt h)⟩

theorem actl_length_le (j : ℕ) : (actl V j).length ≤ 32 := by
  have := (actl_nodup V j).1.length_le_card
  rwa [Fintype.card_fin] at this

theorem actl_length_pos (j : ℕ) : 0 < (actl V j).length := by
  induction j with
  | zero => exact Nat.one_pos
  | succ j ih =>
    unfold actl
    split
    · split
      · rw [List.length_append]; omega
      · exact ih
    · exact ih

end Cert.KernelIdeal.Walk

end
-- ==== Proof.KernelIdealOffs.lean ====
/-
  Hand-written, untrusted. The kernel's offsets, branch conditions and loop bounds in closed form, at words that
  hold small numbers: `n` active experts, expert `e`, position `i` in the active list, chunk `j`.
-/
module

public import proofs.«01_k».proof.Proof.Gen.KernelIdeal

@[expose] public section

set_option maxRecDepth 65536

noncomputable section

namespace Cert.KernelIdeal.Walk

open Idealize.ShloMosaic Cert.KernelIdeal

/-- An expert's number meets the side conditions its copies and loads need. -/
theorem chk1 : ∀ e : Fin 32, k0_chk1 (BitVec.ofNat 32 e) := by decide +kernel
theorem chk2 : ∀ n : Fin 33, k0_chk2 (BitVec.ofNat 32 n) := by decide +kernel
theorem chk5 : ∀ e : Fin 32, k0_chk5 (BitVec.ofNat 32 e) := by decide +kernel

/-- The main loop runs once per active expert; the remainder loop never. -/
theorem trips4 : ∀ n : Fin 33, (k0_t4_loop (BitVec.ofNat 32 n)).trips = n := by decide +kernel
theorem trips7 : ∀ n : Fin 33, (k0_t7_loop (BitVec.ofNat 32 n)).trips = 0 := by decide +kernel

theorem cond1 : ∀ t, k0_cond1 t = 1#1 ↔ t.val < 7 := by decide +kernel
theorem cond2 : ∀ t, k0_cond2 t = 1#1 ↔ 7 ≤ t.val := by decide +kernel
theorem cond3 : ∀ n : Fin 33, ∀ i : Fin (k0_t4_loop (BitVec.ofNat 32 n)).trips, ∀ j, k0_cond3 (BitVec.ofNat 32 n) i j = 1#1 ↔ i.val + 1 < n.val := by decide +kernel
theorem cond4 : ∀ j, k0_cond4 j = 1#1 := by decide +kernel
theorem cond5 : ∀ j, ¬ k0_cond5 j = 1#1 := by decide +kernel
theorem cond6 : ∀ n : Fin 33, ∀ i : Fin (k0_t4_loop (BitVec.ofNat 32 n)).trips, ∀ j, k0_cond6 (BitVec.ofNat 32 n) i j = 1#1 ↔ i.val + 1 < n.val := by decide +kernel
theorem cond7 : ∀ j, ¬ k0_cond7 j = 1#1 := by decide +kernel
theorem cond8 : ∀ j, k0_cond8 j = 1#1 := by decide +kernel

theorem last_cond : ∀ n : Fin 33, ∀ i : Fin n.val,
    Scalar.cmpi .ne ((Scalar.extui (Scalar.cmpi .eq (Scalar.addi 0#32 (Scalar.muli (Scf.iv 0#32 1#32 i.val) 1#32)) (Scalar.subi (BitVec.ofNat 32 n.val) 1#32)) : BitVec 32)) 0#32 = 1#1 ↔ i.val + 1 = n.val := by decide +kernel

theorem off3 : ∀ e : Fin 32, ∀ t, t.val < 7 → k0_off3 (BitVec.ofNat 32 e) t = ![e.val, 1024 * t.val, 0] := by decide +kernel
theorem off4 : ∀ t, 7 ≤ t.val → k0_off4 t = ![0, t.val - 7] := by decide +kernel
theorem off5 : ∀ t, 7 ≤ t.val → k0_off5 t = ![0, 0, 1792 * (t.val - 7)] := by decide +kernel
theorem off6 : ∀ e : Fin 32, ∀ t, 7 ≤ t.val → k0_off6 (BitVec.ofNat 32 e) t = ![e.val, 0, 1792 * (t.val - 7)] := by decide +kernel
theorem off15 : ∀ n : Fin 33, k0_off15 (BitVec.ofNat 32 n) = ![n.val] := by decide +kernel
theorem off20 : ∀ e : Fin 32, ∀ j, k0_off20 j (BitVec.ofNat 32 e) = ![e.val, 1024 * j.val, 0] := by decide +kernel
theorem off29 : ∀ e : Fin 32, k0_off29 (BitVec.ofNat 32 e) = ![e.val, 0] := by decide +kernel
theorem off36 : ∀ e : Fin 32, ∀ j, k0_off36 j (BitVec.ofNat 32 e) = ![e.val, 0, 1792 * j.val] := by decide +kernel
theorem off42 : ∀ e : Fin 32, ∀ j, k0_off42 (BitVec.ofNat 32 e) j = ![e.val, 1792 * j.val] := by decide +kernel

theorem off16 (v16 : BitVec 32) (i : Fin (k0_t4_loop v16).trips) (h : i.val < 33) : k0_off16 v16 i = ![i.val] := by
  unfold k0_off16
  dsimp only [Scf.iv]
  generalize i.val = x at *
  clear i
  revert x
  decide +kernel

theorem off17 (v16 : BitVec 32) (i : Fin (k0_t4_loop v16).trips) (j : Fin k0_t5_loop.trips) (h : i.val < 33) : k0_off17 v16 i j = ![i.val + 1] := by
  unfold k0_off17
  dsimp only [Scf.iv]
  generalize i.val = x at *
  clear i
  revert x j
  decide +kernel

theorem off18 (v16 : BitVec 32) (i : Fin (k0_t4_loop v16).trips) (j : Fin k0_t5_loop.trips) (h : i.val < 33) : k0_off18 v16 i j = ![(i.val + 1) % 2, j.val] := by
  unfold k0_off18
  dsimp only [Scf.iv]
  generalize i.val = x at *
  clear i
  revert x j
  decide +kernel

theorem off19 (v16 : BitVec 32) (i : Fin (k0_t4_loop v16).trips) (j : Fin k0_t5_loop.trips) (h : i.val < 33) : k0_off19 v16 i j = ![(i.val + 1) % 2, 1024 * j.val, 0] := by
  unfold k0_off19
  dsimp only [Scf.iv]
  generalize i.val = x at *
  clear i
  revert x j
  decide +kernel

theorem off24 (v16 : BitVec 32) (i : Fin (k0_t4_loop v16).trips) (j : Fin k0_t5_loop.trips) (h : i.val < 33) : k0_off24 v16 i j = ![i.val % 2, j.val] := by
  unfold k0_off24
  dsimp only [Scf.iv]
  generalize i.val = x at *
  clear i
  revert x j
  decide +kernel

theorem off25 (v16 : BitVec 32) (i : Fin (k0_t4_loop v16).trips) (j : Fin k0_t5_loop.trips) (h : i.val < 33) : k0_off25 v16 i j = ![i.val % 2, 1024 * j.val, 0] := by
  unfold k0_off25
  dsimp only [Scf.iv]
  generalize i.val = x at *
  clear i
  revert x j
  decide +kernel

theorem off28 (v16 : BitVec 32) (i : Fin (k0_t4_loop v16).trips) (j : Fin k0_t5_loop.trips) (h : i.val < 33) : k0_off28 v16 i j = ![i.val % 2, 1024 * j.val, 0] := by
  unfold k0_off28
  dsimp only [Scf.iv]
  generalize i.val = x at *
  clear i
  revert x j
  decide +kernel

theorem off30 (v16 : BitVec 32) (i : Fin (k0_t4_loop v16).trips) (j : Fin k0_t6_loop.trips) (h : i.val < 33) : k0_off30 v16 i j = ![i.val + 1] := by
  unfold k0_off30
  dsimp only [Scf.iv]
  generalize i.val = x at *
  clear i
  revert x j
  decide +kernel

theorem off34 (v16 : BitVec 32) (i : Fin (k0_t4_loop v16).trips) (j : Fin k0_t6_loop.trips) (h : i.val < 33) : k0_off34 v16 i j = ![(i.val + 1) % 2, j.val] := by
  unfold k0_off34
  dsimp only [Scf.iv]
  generalize i.val = x at *
  clear i
  revert x j
  decide +kernel

theorem off35 (v16 : BitVec 32) (i : Fin (k0_t4_loop v16).trips) (j : Fin k0_t6_loop.trips) (h : i.val < 33) : k0_off35 v16 i j = ![(i.val + 1) % 2, 0, 1792 * j.val] := by
  unfold k0_off35
  dsimp only [Scf.iv]
  generalize i.val = x at *
  clear i
  revert x j
  decide +kernel

theorem off37 (v16 : BitVec 32) (i : Fin (k0_t4_loop v16).trips) (j : Fin k0_t6_loop.trips) (h : i.val < 33) : k0_off37 v16 i j = ![i.val % 2, j.val] := by
  unfold k0_off37
  dsimp only [Scf.iv]
  generalize i.val = x at *
  clear i
  revert x j
  decide +kernel

theorem off38 (v16 : BitVec 32) (i : Fin (k0_t4_loop v16).trips) (j : Fin k0_t6_loop.trips) (h : i.val < 33) : k0_off38 v16 i j = ![i.val % 2, 0, 1792 * j.val] := by
  unfold k0_off38
  dsimp only [Scf.iv]
  generalize i.val = x at *
  clear i
  revert x j
  decide +kernel

theorem off40 (v16 : BitVec 32) (i : Fin (k0_t4_loop v16).trips) (j : Fin k0_t6_loop.trips) (h : i.val < 33) : k0_off40 v16 i j = ![i.val % 2, 0, 1792 * j.val] := by
  unfold k0_off40
  dsimp only [Scf.iv]
  generalize i.val = x at *
  clear i
  revert x j
  decide +kernel

theorem chk4_facts : ∀ e : Fin 32, ∀ j,
    (∀ a, (k0_off20 j (BitVec.ofNat 32 e)) a + S1x1024x1536.size a ≤ S32x7168x1536.size a) ∧
    (∀ (hinb : ∀ a, (k0_off20 j (BitVec.ofNat 32 e)) a + S1x1024x1536.size a ≤ S32x7168x1536.size a), (Rect.unit (s := S32x7168x1536) (k0_off20 j (BitVec.ofNat 32 e)) S1x1024x1536.size hinb).WholeWords (EltTy.packing .fp8e4m3)) := by decide +kernel

/-- The next expert's number meets the condition its first-layer copies need. -/
theorem chk4 (v16 : BitVec 32) (i : Fin (k0_t4_loop v16).trips) (j : Fin k0_t5_loop.trips) (e : Fin 32) : k0_chk4 v16 i j (BitVec.ofNat 32 e) :=
  ⟨fun _ _ => (chk4_facts e j).1, fun _ _ => (chk4_facts e j).2, fun _ h => absurd h (cond5 j), fun _ h => absurd h (cond5 j)⟩

theorem chk6_facts : ∀ e : Fin 32, ∀ j,
    (∀ a, (k0_off36 j (BitVec.ofNat 32 e)) a + S1x768x1792.size a ≤ S32x768x7168.size a) ∧
    (∀ (hinb : ∀ a, (k0_off36 j (BitVec.ofNat 32 e)) a + S1x768x1792.size a ≤ S32x768x7168.size a), (Rect.unit (s := S32x768x7168) (k0_off36 j (BitVec.ofNat 32 e)) S1x768x1792.size hinb).WholeWords (EltTy.packing .fp8e4m3)) := by decide +kernel

/-- The next expert's number meets the condition its second-layer copies need. -/
theorem chk6 (v16 : BitVec 32) (i : Fin (k0_t4_loop v16).trips) (j : Fin k0_t6_loop.trips) (e : Fin 32) : k0_chk6 v16 i j (BitVec.ofNat 32 e) :=
  ⟨fun _ h => absurd h (cond7 j), fun _ h => absurd h (cond7 j), fun _ _ => (chk6_facts e j).1, fun _ _ => (chk6_facts e j).2⟩

end Cert.KernelIdeal.Walk

end
-- ==== Proof.KernelIdealChecks.lean ====
/-
  Hand-written, untrusted. The side condition on the number of active experts, which the body assumes once it has
  counted them: met by every count up to 32.
-/
module

public import proofs.«01_k».proof.Proof.Gen.KernelIdeal

@[expose] public section

set_option maxRecDepth 65536

noncomputable section

namespace Cert.KernelIdeal.Walk

open Idealize.ShloMosaic Cert.KernelIdeal

/-- Every count of active experts up to 32 meets the condition. -/
theorem chk3 : ∀ n : Fin 33, k0_chk3 (BitVec.ofNat 32 n) := by decide +kernel

end Cert.KernelIdeal.Walk

end
-- ==== Proof.KernelIdealMem.lean ====
/-
  Hand-written, untrusted. What the kernel's walk holds at each point: the buffers, the two rings' chunks (free, or
  being filled with a named expert's chunk) and the result's column chunks; and the kernel's transfers, waits and
  loads stated over those.
-/
module

public import proofs.«01_k».proof.Proof.KernelIdealVals
public import proofs.«01_k».proof.Proof.KernelIdealOffs
public import proofs.«01_k».proof.Proof.KernelIdealChecks

@[expose] public section

set_option maxRecDepth 16384
set_option maxErrors 8

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

/-- The core of device `d`, as a thread. -/
abbrev tcT (d : Dev nD) : Thread nD τ := d.tc

/-- The kernel's memrefs and semaphores. -/
structure Mem where
  a0 : Memref sig .tc .hbm S33x7168 .bf16
  h0 : a0.IsWhole
  a1 : Memref sig .tc .hbm S8x33 .i32
  h1 : a1.IsWhole
  a2 : Memref sig .tc .hbm S8x33 .f32
  h2 : a2.IsWhole
  a3 : Memref sig .tc .hbm S32x7168x1536 .fp8e4m3
  h3 : a3.IsWhole
  a4 : Memref sig .tc .hbm S32x1536 .f32
  h4 : a4.IsWhole
  a5 : Memref sig .tc .hbm S32x768x7168 .fp8e4m3
  h5 : a5.IsWhole
  a6 : Memref sig .tc .hbm S32x7168 .f32
  h6 : a6.IsWhole
  a7 : Memref sig .tc .hbm S33x7168 .bf16
  h7 : a7.IsWhole
  a8 : Memref sig .tc .smem S8x33 .i32
  h8 : a8.IsWhole
  a9 : Memref sig .tc .smem S33 .i32
  h9 : a9.IsWhole
  a10 : Memref sig .tc .vmem S8x33 .i32
  h10 : a10.IsWhole
  a11 : Memref sig .tc .vmem S8x33 .f32
  h11 : a11.IsWhole
  a12 : Memref sig .tc .vmem S33x8 .i32
  h12 : a12.IsWhole
  a13 : Memref sig .tc .vmem S33x8 .f32
  h13 : a13.IsWhole
  a14 : Memref sig .tc .vmem S33x7168 .bf16
  h14 : a14.IsWhole
  a15 : Memref sig .tc .vmem S48x7168 .bf16
  h15 : a15.IsWhole
  a16 : Memref sig .tc .vmem S32x1536 .f32
  h16 : a16.IsWhole
  a17 : Memref sig .tc .vmem S32x7168 .f32
  h17 : a17.IsWhole
  a18 : Memref sig .tc .vmem S48x1536 .f32
  h18 : a18.IsWhole
  a19 : Memref sig .tc .vmem S33x7168 .f32
  h19 : a19.IsWhole
  a20 : Memref sig .tc .vmem S33x7168 .bf16
  h20 : a20.IsWhole
  a21 : Memref sig .tc .vmem S2x7168x1536 .fp8e4m3
  h21 : a21.IsWhole
  a22 : Memref sig .tc .vmem S2x768x7168 .fp8e4m3
  h22 : a22.IsWhole
  a23 : DmaSems sig S_
  a24 : DmaSems sig S5
  a25 : DmaSems sig S4
  a26 : DmaSems sig S2x7
  a27 : DmaSems sig S2x4

variable {F : FTy → Type} [FloatOps F]

local notation "𝕄" => MT nD τ sig Unit (Elt F) ℕ (Pipeline.UD sig nD τ) ℕ

variable (F) in
/-- The contents of the seven arrays the kernel reads, as buffers. -/
structure In (B : Mem) (d : Dev nD) where
  f0 : Buf (Elt F) (B.a0.view.loc (tcT d))
  f1 : Buf (Elt F) (B.a1.view.loc (tcT d))
  f2 : Buf (Elt F) (B.a2.view.loc (tcT d))
  f3 : Buf (Elt F) (B.a3.view.loc (tcT d))
  f4 : Buf (Elt F) (B.a4.view.loc (tcT d))
  f5 : Buf (Elt F) (B.a5.view.loc (tcT d))
  f6 : Buf (Elt F) (B.a6.view.loc (tcT d))

/-- The same, as the vectors read there. -/
@[reducible] def In.V {B : Mem} {d : Dev nD} (I : In F B d) : Vals F where
  x := B.a0.view.read (Elt F) I.f0
  ids := B.a1.view.read (Elt F) I.f1
  rw := B.a2.view.read (Elt F) I.f2
  wgu := B.a3.view.read (Elt F) I.f3
  sgu := B.a4.view.read (Elt F) I.f4
  wdn := B.a5.view.read (Elt F) I.f5
  sdn := B.a6.view.read (Elt F) I.f6

theorem sem27_inb : ∀ (s : Fin 2) (k : Fin 7), ∀ a, (![s.val, k.val] : Fin 2 → ℕ) a + S1x1.size a ≤ S2x7.size a := by decide +kernel
theorem sem24_inb : ∀ (s : Fin 2) (k : Fin 4), ∀ a, (![s.val, k.val] : Fin 2 → ℕ) a + S1x1.size a ≤ S2x4.size a := by decide +kernel
theorem sem4_inb : ∀ (k : Fin 4), ∀ a, (![k.val] : Fin 1 → ℕ) a + S1.size a ≤ S4.size a := by decide +kernel

abbrev guSem (B : Mem) (s : Fin 2) (k : Fin 7) : DmaSem sig := ((B.a26.slice (Rect.unit (s := S2x7) ![s.val, k.val] S1x1.size (sem27_inb s k))).squeeze S_ squeezes_S1x1_S_).sem
abbrev dnSem (B : Mem) (s : Fin 2) (k : Fin 4) : DmaSem sig := ((B.a27.slice (Rect.unit (s := S2x4) ![s.val, k.val] S1x1.size (sem24_inb s k))).squeeze S_ squeezes_S1x1_S_).sem
abbrev outSem (B : Mem) (k : Fin 4) : DmaSem sig := ((B.a25.slice (Rect.unit (s := S4) ![k.val] S1.size (sem4_inb k))).squeeze S_ squeezes_S1_S_).sem

/-- The share of the weights each chunk's transfer borrows. -/
abbrev guTok (s : Fin 2) (k : Fin 7) : PosShare TreeShare := Transfers.shareTok (Transfers.shareTok fullShare 2 s) 7 k
abbrev dnTok (s : Fin 2) (k : Fin 4) : PosShare TreeShare := Transfers.shareTok (Transfers.shareTok fullShare 2 s) 4 k

/-- Chunk `k` of slot `s` of the first layer's ring: free, or being filled with expert `e`'s chunk. -/
def guSt {B : Mem} {d : Dev nD} (I : In F B d) (s : Fin 2) (k : Fin 7) : Option (Fin 32) → sProp 𝕄
  | none => iprop(Lent (tcT d) B.a3 (guTok s k) I.f3 ∗ PartAny (Val := Elt F) (tcT d) B.a21 (guDst s k) ∗ semVal ((tcT d), SemLoc.dma (guSem B s k)) 0)
  | some e => Transfers.Flight EC0 (tcT d) (.dma (guSem B s k)) () (B.a21.view.ref.dmaCredit S1024x1536 .fp8e4m3)
      iprop(Part (Val := Elt F) (tcT d) B.a21 (guDst s k) (ld (Val := Elt F) (e' := .fp8e4m3) I.V.wgu (guSrc e k)) ∗ Lent (tcT d) B.a3 (guTok s k) I.f3)

/-- Chunk `k` of slot `s` of the second layer's ring. -/
def dnSt {B : Mem} {d : Dev nD} (I : In F B d) (s : Fin 2) (k : Fin 4) : Option (Fin 32) → sProp 𝕄
  | none => iprop(Lent (tcT d) B.a5 (dnTok s k) I.f5 ∗ PartAny (Val := Elt F) (tcT d) B.a22 (dnDst s k) ∗ semVal ((tcT d), SemLoc.dma (dnSem B s k)) 0)
  | some e => Transfers.Flight EC0 (tcT d) (.dma (dnSem B s k)) () (B.a22.view.ref.dmaCredit S768x1792 .fp8e4m3)
      iprop(Part (Val := Elt F) (tcT d) B.a22 (dnDst s k) (ld (Val := Elt F) (e' := .fp8e4m3) I.V.wdn (dnSrc e k)) ∗ Lent (tcT d) B.a5 (dnTok s k) I.f5)

/-- Column chunk `k` of the result: not yet written (0), on its way out (1), written (2). -/
def outSt {B : Mem} {d : Dev nD} (I : In F B d) (k : Fin 4) : ℕ → sProp 𝕄
  | 0 => iprop(PartAny (Val := Elt F) (tcT d) B.a20 (col k) ∗ PartAny (Val := Elt F) (tcT d) B.a7 (col k) ∗ semVal ((tcT d), SemLoc.dma (outSem B k)) 0)
  | 1 => Transfers.Flight EC0 (tcT d) (.dma (outSem B k)) () (B.a7.view.ref.dmaCredit S33x1792 .bf16)
      iprop(Part (Val := Elt F) (tcT d) B.a7 (col k) (outCol I.V k) ∗ Part (Val := Elt F) (tcT d) B.a20 (col k) (outCol I.V k))
  | _ => iprop(PartAny (Val := Elt F) (tcT d) B.a20 (col k) ∗ Part (Val := Elt F) (tcT d) B.a7 (col k) (outCol I.V k) ∗ semVal ((tcT d), SemLoc.dma (outSem B k)) 0)

def guAll {B : Mem} {d : Dev nD} (I : In F B d) (s : Fin 2) (φ : Fin 7 → Option (Fin 32)) : sProp 𝕄 := bigSep Finset.univ fun k => guSt I s k (φ k)
def dnAll {B : Mem} {d : Dev nD} (I : In F B d) (s : Fin 2) (φ : Fin 4 → Option (Fin 32)) : sProp 𝕄 := bigSep Finset.univ fun k => dnSt I s k (φ k)
def outAll {B : Mem} {d : Dev nD} (I : In F B d) (φ : Fin 4 → ℕ) : sProp 𝕄 := bigSep Finset.univ fun k => outSt I k (φ k)

section Turns
variable {B : Mem} {d : Dev nD} (I : In F B d)

theorem guSt_none (s : Fin 2) (k : Fin 7) : guSt I s k none = iprop(Lent (tcT d) B.a3 (guTok s k) I.f3 ∗ PartAny (Val := Elt F) (tcT d) B.a21 (guDst s k) ∗ semVal ((tcT d), SemLoc.dma (guSem B s k)) 0) := rfl
theorem dnSt_none (s : Fin 2) (k : Fin 4) : dnSt I s k none = iprop(Lent (tcT d) B.a5 (dnTok s k) I.f5 ∗ PartAny (Val := Elt F) (tcT d) B.a22 (dnDst s k) ∗ semVal ((tcT d), SemLoc.dma (dnSem B s k)) 0) := rfl
theorem outSt_zero (k : Fin 4) : outSt I k 0 = iprop(PartAny (Val := Elt F) (tcT d) B.a20 (col k) ∗ PartAny (Val := Elt F) (tcT d) B.a7 (col k) ∗ semVal ((tcT d), SemLoc.dma (outSem B k)) 0) := rfl
theorem outSt_open (k : Fin 4) : outSt I k 0 ⊢ iprop(PartAny (Val := Elt F) (tcT d) B.a20 (col k) ∗ PartAny (Val := Elt F) (tcT d) B.a7 (col k) ∗ semVal ((tcT d), SemLoc.dma (outSem B k)) 0) := .rfl
theorem outSt_one (k : Fin 4) : outSt I k 1 = Transfers.Flight EC0 (tcT d) (.dma (outSem B k)) () (B.a7.view.ref.dmaCredit S33x1792 .bf16)
      iprop(Part (Val := Elt F) (tcT d) B.a7 (col k) (outCol I.V k) ∗ Part (Val := Elt F) (tcT d) B.a20 (col k) (outCol I.V k)) := rfl
theorem outSt_two (k : Fin 4) : outSt I k 2 = iprop(PartAny (Val := Elt F) (tcT d) B.a20 (col k) ∗ Part (Val := Elt F) (tcT d) B.a7 (col k) (outCol I.V k) ∗ semVal ((tcT d), SemLoc.dma (outSem B k)) 0) := rfl

theorem guAll_turn (s : Fin 2) (k : Fin 7) (φ : Fin 7 → Option (Fin 32)) {o : Option (Fin 32)} (ho : φ k = o) :
    guAll I s φ ⊢ iprop(guSt I s k o ∗ (∀ o', guSt I s k o' -∗ guAll I s (Function.update φ k o'))) := by
  subst ho; exact bigSep_univ_turn (fun k o => guSt I s k o) φ k
theorem dnAll_turn (s : Fin 2) (k : Fin 4) (φ : Fin 4 → Option (Fin 32)) {o : Option (Fin 32)} (ho : φ k = o) :
    dnAll I s φ ⊢ iprop(dnSt I s k o ∗ (∀ o', dnSt I s k o' -∗ dnAll I s (Function.update φ k o'))) := by
  subst ho; exact bigSep_univ_turn (fun k o => dnSt I s k o) φ k
theorem outAll_turn (k : Fin 4) (φ : Fin 4 → ℕ) {o : ℕ} (ho : φ k = o) :
    outAll I φ ⊢ iprop(outSt I k o ∗ (∀ o', outSt I k o' -∗ outAll I (Function.update φ k o'))) := by
  subst ho; exact bigSep_univ_turn (fun k o => outSt I k o) φ k

end Turns

theorem zero2 : ∀ a : Fin 2, (![0, 0] : Fin 2 → ℕ) a = 0 := by decide

section Steps

variable {B : Mem} {d : Dev nD} (I : In F B d)
variable {defs : Defs nD τ sig (Elt F) Λ₀} {𝒱 : Variants} {bd : Option 𝒱.V}
variable {α : Type} {Q : α → sProp (MT nD τ sig Unit (Elt F) ℕ (Pipeline.UD sig nD τ) ℕ)}

/-- A transfer of expert `e`'s chunk `k` into slot `s` of the first ring. -/
theorem gu_enqueue {s : Fin 2} {k : Fin 7} {e : Fin 32} {oM : Fin 2 → ℕ} {oD oS : Fin 3 → ℕ}
    (hM : oM = ![s.val, k.val]) (hD : oD = ![s.val, 1024 * k.val, 0]) (hS : oS = ![e.val, 1024 * k.val, 0])
    {iM : ∀ a, oM a + S1x1.size a ≤ S2x7.size a} {iD : ∀ a, oD a + S1x1024x1536.size a ≤ S2x7168x1536.size a} {iS : ∀ a, oS a + S1x1024x1536.size a ≤ S32x7168x1536.size a}
    {hrs hrd h1 h2 h3} {K : PUnit → Prog (TpuEff nD τ sig (Elt F) Λ₀ .tc) α} :
    guSt I s k none ⊢ iprop((guSt I s k (some e) -∗ W defs 𝒱 (tcT d) bd (K ⟨⟩) Q)
      -∗ W defs 𝒱 (tcT d) bd (Prog.lift (.enqueueDma ((B.a3.slice (Rect.unit (s := S32x7168x1536) oS S1x1024x1536.size iS) hrs).squeeze S1024x1536 squeezes_S1x1024x1536_S1024x1536)
          (.here ((B.a21.slice (Rect.unit (s := S2x7168x1536) oD S1x1024x1536.size iD) hrd).squeeze S1024x1536 squeezes_S1x1024x1536_S1024x1536))
          (.dma ((B.a26.slice (Rect.unit (s := S2x7) oM S1x1.size iM)).squeeze S_ squeezes_S1x1_S_).sem) h1 h2 h3) >>= K) Q) := by
  subst hM hD hS
  exact enqueue_box (c := (tcT d)) (ms := B.a3) (md := B.a21) (rs := guSrc e k) (rd := guDst s k) (s₁ := S1024x1536) (fun _ => rfl) (show 0 < S1024x1536.numel by decide +kernel)

theorem dn_enqueue {s : Fin 2} {k : Fin 4} {e : Fin 32} {oM : Fin 2 → ℕ} {oD oS : Fin 3 → ℕ}
    (hM : oM = ![s.val, k.val]) (hD : oD = ![s.val, 0, 1792 * k.val]) (hS : oS = ![e.val, 0, 1792 * k.val])
    {iM : ∀ a, oM a + S1x1.size a ≤ S2x4.size a} {iD : ∀ a, oD a + S1x768x1792.size a ≤ S2x768x7168.size a} {iS : ∀ a, oS a + S1x768x1792.size a ≤ S32x768x7168.size a}
    {hrs hrd h1 h2 h3} {K : PUnit → Prog (TpuEff nD τ sig (Elt F) Λ₀ .tc) α} :
    dnSt I s k none ⊢ iprop((dnSt I s k (some e) -∗ W defs 𝒱 (tcT d) bd (K ⟨⟩) Q)
      -∗ W defs 𝒱 (tcT d) bd (Prog.lift (.enqueueDma ((B.a5.slice (Rect.unit (s := S32x768x7168) oS S1x768x1792.size iS) hrs).squeeze S768x1792 squeezes_S1x768x1792_S768x1792)
          (.here ((B.a22.slice (Rect.unit (s := S2x768x7168) oD S1x768x1792.size iD) hrd).squeeze S768x1792 squeezes_S1x768x1792_S768x1792))
          (.dma ((B.a27.slice (Rect.unit (s := S2x4) oM S1x1.size iM)).squeeze S_ squeezes_S1x1_S_).sem) h1 h2 h3) >>= K) Q) := by
  subst hM hD hS
  exact enqueue_box (c := (tcT d)) (ms := B.a5) (md := B.a22) (rs := dnSrc e k) (rd := dnDst s k) (s₁ := S768x1792) (fun _ => rfl) (show 0 < S768x1792.numel by decide +kernel)

/-- The wait for a chunk on its way: the chunk is there. -/
theorem gu_wait {s : Fin 2} {k : Fin 7} {e : Fin 32} {oM : Fin 2 → ℕ} (hM : oM = ![s.val, k.val])
    {iM : ∀ a, oM a + S1x1.size a ≤ S2x7.size a} {oD : Fin 3 → ℕ} {iD : ∀ a, oD a + S1x1024x1536.size a ≤ S2x7168x1536.size a} {hrd}
    {src : Memref sig .tc .hbm S1024x1536 .fp8e4m3} {h1 h2} {K : PUnit → Prog (TpuEff nD τ sig (Elt F) Λ₀ .tc) α} :
    iprop(guSt I s k (some e) ∗ Owes (Elt F) (tcT d))
      ⊢ iprop((iprop((Part (Val := Elt F) (tcT d) B.a21 (guDst s k) (ld (Val := Elt F) (e' := .fp8e4m3) I.V.wgu (guSrc e k)) ∗ Lent (tcT d) B.a3 (guTok s k) I.f3)
          ∗ semVal ((tcT d), SemLoc.dma (guSem B s k)) 0 ∗ Owes (Elt F) (tcT d)) -∗ W defs 𝒱 (tcT d) bd (K ⟨⟩) Q)
        -∗ W defs 𝒱 (tcT d) bd (Prog.lift (.waitDma2 ((B.a26.slice (Rect.unit (s := S2x7) oM S1x1.size iM)).squeeze S_ squeezes_S1x1_S_).sem src
          ((B.a21.slice (Rect.unit (s := S2x7168x1536) oD S1x1024x1536.size iD) hrd).squeeze S1024x1536 squeezes_S1x1024x1536_S1024x1536) h1 h2) >>= K) Q) := by
  subst hM
  exact wait_step (c := (tcT d)) rfl

theorem dn_wait {s : Fin 2} {k : Fin 4} {e : Fin 32} {oM : Fin 2 → ℕ} (hM : oM = ![s.val, k.val])
    {iM : ∀ a, oM a + S1x1.size a ≤ S2x4.size a} {oD : Fin 3 → ℕ} {iD : ∀ a, oD a + S1x768x1792.size a ≤ S2x768x7168.size a} {hrd}
    {src : Memref sig .tc .hbm S768x1792 .fp8e4m3} {h1 h2} {K : PUnit → Prog (TpuEff nD τ sig (Elt F) Λ₀ .tc) α} :
    iprop(dnSt I s k (some e) ∗ Owes (Elt F) (tcT d))
      ⊢ iprop((iprop((Part (Val := Elt F) (tcT d) B.a22 (dnDst s k) (ld (Val := Elt F) (e' := .fp8e4m3) I.V.wdn (dnSrc e k)) ∗ Lent (tcT d) B.a5 (dnTok s k) I.f5)
          ∗ semVal ((tcT d), SemLoc.dma (dnSem B s k)) 0 ∗ Owes (Elt F) (tcT d)) -∗ W defs 𝒱 (tcT d) bd (K ⟨⟩) Q)
        -∗ W defs 𝒱 (tcT d) bd (Prog.lift (.waitDma2 ((B.a27.slice (Rect.unit (s := S2x4) oM S1x1.size iM)).squeeze S_ squeezes_S1x1_S_).sem src
          ((B.a22.slice (Rect.unit (s := S2x768x7168) oD S1x768x1792.size iD) hrd).squeeze S768x1792 squeezes_S1x768x1792_S768x1792) h1 h2) >>= K) Q) := by
  subst hM
  exact wait_step (c := (tcT d)) rfl

/-- A column chunk of the result sent out. -/
theorem out_enqueue {k : Fin 4} {oM : Fin 1 → ℕ} {oD : Fin 2 → ℕ} (hM : oM = ![k.val]) (hD : oD = ![0, 1792 * k.val])
    {iM : ∀ a, oM a + S1.size a ≤ S4.size a} {iD : ∀ a, oD a + S33x1792.size a ≤ S33x7168.size a}
    {hrs h1 h2 h3} {K : PUnit → Prog (TpuEff nD τ sig (Elt F) Λ₀ .tc) α} :
    iprop(Part (Val := Elt F) (tcT d) B.a20 (col k) (outCol I.V k) ∗ PartAny (Val := Elt F) (tcT d) B.a7 (col k) ∗ semVal ((tcT d), SemLoc.dma (outSem B k)) 0)
      ⊢ iprop((outSt I k 1 -∗ W defs 𝒱 (tcT d) bd (K ⟨⟩) Q)
        -∗ W defs 𝒱 (tcT d) bd (Prog.lift (.enqueueDma (B.a20.slice (Rect.unit (s := S33x7168) oD S33x1792.size iD) hrs)
          (.here (B.a7.slice (Rect.unit (s := S33x7168) oD S33x1792.size iD) hrs))
          (.dma ((B.a25.slice (Rect.unit (s := S4) oM S1.size iM)).squeeze S_ squeezes_S1_S_).sem) h1 h2 h3) >>= K) Q) := by
  subst hM hD
  exact enqueue_part (c := (tcT d)) (ms := B.a20) (md := B.a7) (rs := col k) (show 0 < S33x1792.numel by decide +kernel)

theorem out_wait {k : Fin 4} {oM : Fin 1 → ℕ} {oD : Fin 2 → ℕ} (hM : oM = ![k.val])
    {iM : ∀ a, oM a + S1.size a ≤ S4.size a} {iD : ∀ a, oD a + S33x1792.size a ≤ S33x7168.size a} {hrd}
    {src : Memref sig .tc .vmem S33x1792 .bf16} {h1 h2} {K : PUnit → Prog (TpuEff nD τ sig (Elt F) Λ₀ .tc) α} :
    iprop(outSt I k 1 ∗ Owes (Elt F) (tcT d))
      ⊢ iprop((iprop(outSt I k 2 ∗ Owes (Elt F) (tcT d)) -∗ W defs 𝒱 (tcT d) bd (K ⟨⟩) Q)
        -∗ W defs 𝒱 (tcT d) bd (Prog.lift (.waitDma2 ((B.a25.slice (Rect.unit (s := S4) oM S1.size iM)).squeeze S_ squeezes_S1_S_).sem src
          (B.a7.slice (Rect.unit (s := S33x7168) oD S33x1792.size iD) hrd) h1 h2) >>= K) Q) := by
  subst hM
  rw [outSt_one, outSt_two]
  iintro H HK
  iapply (wait_step (c := (tcT d)) (sm := outSem B k) (N := B.a7.view.ref.dmaCredit S33x1792 .bf16)
    (D := iprop(Part (Val := Elt F) (tcT d) B.a7 (col k) (outCol I.V k) ∗ Part (Val := Elt F) (tcT d) B.a20 (col k) (outCol I.V k))) rfl) $$ H
  iintro ⟨⟨H7, H20⟩, Hv, Ho⟩
  iapply HK
  isplitr [Ho]
  · isplitl [H20]
    · iapply (part_any (Val := Elt F)) $$ H20
    isplitl [H7]
    · iexact H7
    · iexact Hv
  · iexact Ho

/-- The `i`-th entry of a table of active experts. -/
abbrev tab (T : S33.Idx → Elt F .i32) (i : Fin 33) : BitVec 32 := ld (Val := Elt F) (e' := .i32) T (actBox i) (Shape.Idx.first (numel1_S1.symm ▸ Nat.one_pos))

theorem tab_load {T : S33.Idx → Elt F .i32} {i : Fin 33} {w : BitVec 32} {off : Fin 1 → ℕ} (ho : off = ![i.val]) (hw : tab (F := F) T i = w)
    {inb : ∀ a, off a + S1.size a ≤ S33.size a} {h1 hp} {K : BitVec 32 → Prog (TpuEff nD τ sig (Elt F) Λ₀ .tc) α} :
    Held (Val := Elt F) (tcT d) B.a9 T ⊢ iprop((Held (Val := Elt F) (tcT d) B.a9 T -∗ W defs 𝒱 (tcT d) bd (K w) Q)
      -∗ W defs 𝒱 (tcT d) bd (smemLoad (nD := nD) (τ := τ) (p := Proc.tc) (Val := Elt F) (Λ := Λ₀) B.a9 (Rect.unit (s := S33) off S1.size inb) h1 hp >>= K) Q) := by
  subst ho hw
  exact smem_load (c := (tcT d))

end Steps

end Cert.KernelIdeal.Walk

end
-- ==== Proof.KernelIdealT5.lean ====
/-
  Hand-written, untrusted. One active expert's first layer: seven chunks, each waited for, multiplied and added, while
  the next expert's chunks are sent for.
-/
module

public import proofs.«01_k».proof.Proof.KernelIdealMem

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

section
variable {m : ℕ}

/-- A ring slot at chunk `j`: the chunks from `j` on are `o`, those before free. -/
def curφ (o : Option (Fin 32)) (j : ℕ) : Fin m → Option (Fin 32) := fun k => if j ≤ k.val then o else none
/-- A ring slot at chunk `j`: the chunks before `j` are `o`, the rest free. -/
def nxtφ (o : Option (Fin 32)) (j : ℕ) : Fin m → Option (Fin 32) := fun k => if k.val < j then o else none

theorem cur_at (o : Option (Fin 32)) (j : Fin m) : curφ o j.val j = o := if_pos (le_refl _)
theorem nxt_at (o : Option (Fin 32)) (j : Fin m) : nxtφ o j.val j = none := if_neg (lt_irrefl _)
theorem cur_upd (o : Option (Fin 32)) (j : Fin m) : Function.update (curφ o j.val) j none = curφ o (j.val + 1) := by
  funext k
  by_cases h : k = j
  · subst h; rw [Function.update_self]; exact (if_neg (by omega)).symm
  · rw [Function.update_of_ne h]
    have : k.val ≠ j.val := fun h' => h (Fin.ext h')
    unfold curφ; congr 1; apply propext; omega
theorem nxt_upd (o : Option (Fin 32)) (j : Fin m) : Function.update (nxtφ o j.val) j o = nxtφ o (j.val + 1) := by
  funext k
  by_cases h : k = j
  · subst h; rw [Function.update_self]; exact (if_pos (by omega)).symm
  · rw [Function.update_of_ne h]
    have : k.val ≠ j.val := fun h' => h (Fin.ext h')
    unfold nxtφ; congr 1; apply propext; omega
theorem nxt_none (j j' : ℕ) : (nxtφ none j : Fin m → _) = nxtφ none j' := by
  funext k; unfold nxtφ; simp only [ite_self]
end

/-- The ring slot of the `i`-th active expert. -/
def sl (i : ℕ) : Fin 2 := ⟨i % 2, Nat.mod_lt _ (by decide)⟩

variable {B : Mem} {d : Dev nD} (I : In F B d)

/-- What the experts' loop reads and leaves as it is. -/
def Stat (T : S33.Idx → Elt F .i32) : sProp 𝕄 :=
  iprop(Held (Val := Elt F) (tcT d) B.a9 T ∗ Held (Val := Elt F) (tcT d) B.a12 (idsT I.V) ∗ Held (Val := Elt F) (tcT d) B.a13 (rwT I.V)
    ∗ Held (Val := Elt F) (tcT d) B.a15 (xs I.V) ∗ Held (Val := Elt F) (tcT d) B.a16 I.V.sgu ∗ Held (Val := Elt F) (tcT d) B.a17 I.V.sdn ∗ Owes (Elt F) (tcT d))

/-- The table holds the active experts. -/
def Tab (n : Fin 33) (T : S33.Idx → Elt F .i32) : Prop := ∀ i : Fin 33, i.val < n.val → tab (F := F) T i = wd (act I.V i.val)

/-- The expert after the `i`-th, if there is one. -/
def nxt (n : Fin 33) (i : ℕ) : Option (Fin 32) := if i + 1 < n.val then some (act I.V (i + 1)) else none

/-- Before chunk `j` of the `i`-th active expert's first layer. -/
def T5 (T : S33.Idx → Elt F .i32) (n : Fin 33) (i j : ℕ) : sProp 𝕄 :=
  iprop(Stat I T ∗ Held (Val := Elt F) (tcT d) B.a18 (guMid I.V (act I.V i) j) ∗ guAll I (sl i) (curφ (some (act I.V i)) j) ∗ guAll I (sl (i + 1)) (nxtφ (nxt I n i) j))

variable {defs : Defs nD τ sig (Elt F) Λ₀} {𝒱 : Variants} {bd : Option 𝒱.V}

theorem trips5 : k0_t5_loop.trips = 7 := by decide +kernel
theorem off27 (j : Fin k0_t5_loop.trips) : k0_off27 j = ![0, 1024 * j.val] := k0_off27_eq j

/-- The chunk waited for, multiplied and added. -/
theorem t5_tail {n : Fin 33} (k0_hw3) (i : Fin (k0_t4_loop (BitVec.ofNat 32 n.val)).trips) (v63 : Elt F .i32) (k0_hw5)
    (j : Fin k0_t5_loop.trips) :
    iprop(Held (Val := Elt F) (tcT d) B.a18 (guMid I.V (act I.V i.val) j.val) ∗ Held (Val := Elt F) (tcT d) B.a15 (xs I.V)
        ∗ guSt I (sl i.val) ⟨j.val, lt_of_lt_of_eq j.isLt trips5⟩ (some (act I.V i.val)) ∗ Owes (Elt F) (tcT d))
      ⊢ W (α := Unit) defs 𝒱 (tcT d) bd (do
      let v112 : DmaSems sig S1x1 := B.a26.slice (Rect.unit (s := S2x7) (k0_off24 (BitVec.ofNat 32 n.val) i j) S1x1.size (k0_off24_inb (BitVec.ofNat 32 n.val) k0_hw3 i j))
      let v113 : DmaSems sig S_ := v112.squeeze S_ squeezes_S1x1_S_
      let v114 : Memref sig .tc .vmem S1x1024x1536 .fp8e4m3 := B.a21.slice (Rect.unit (s := S2x7168x1536) (k0_off25 (BitVec.ofNat 32 n.val) i j) S1x1024x1536.size (k0_off25_inb (BitVec.ofNat 32 n.val) k0_hw3 i j)) (fun _ => rfl)
      let v115 : Memref sig .tc .vmem S1024x1536 .fp8e4m3 := v114.squeeze S1024x1536 squeezes_S1x1024x1536_S1024x1536
      let v116 : Memref sig .tc .hbm S1x1024x1536 .fp8e4m3 := B.a3.slice (Rect.unit (s := S32x7168x1536) (k0_off26 v63 j) S1x1024x1536.size (k0_off26_inb v63 k0_hw5 j)) (fun _ => rfl)
      let v117 : Memref sig .tc .hbm S1024x1536 .fp8e4m3 := v116.squeeze S1024x1536 squeezes_S1x1024x1536_S1024x1536
      Prog.lift (.waitDma2 v113.sem v117 v115 ((B.h3.wordExact_slice rfl _ (k0_off26_wordsfp8e4m3 v63 k0_hw5 j)).reshape _ _) ((B.h21.wordExact_slice rfl _ (k0_off25_wordsfp8e4m3 (BitVec.ofNat 32 n.val) k0_hw3 i j)).reshape _ _))
      let v118 : Vec F S48x1536 .f32 ← Prog.lift (.load B.a18 (Rect.unit (s := S48x1536) ![0, 0] S48x1536.size inb_S48x1536_S48x1536_0_0).toLoadRect (View.loadsAt_vmem h_S48x1536))
      let v120 : Vec F S48x1024 .bf16 ← Prog.lift (.load B.a15 (Rect.unit (s := S48x7168) (k0_off27 j) S48x1024.size (k0_off27_inb j)).toLoadRect (View.loadsAt_vmem h_S48x1024))
      let v123 : Vec F S1x1024x1536 .fp8e4m3 ← Prog.lift (.load B.a21 (Rect.unit (s := S2x7168x1536) (k0_off28 (BitVec.ofNat 32 n.val) i j) S1x1024x1536.size (k0_off28_inb (BitVec.ofNat 32 n.val) k0_hw3 i j)).toLoadRect (View.loadsAt_vmem h_S1x1024x1536))
      let v127 : Vec F S48x1536 .f32 ← Prog.lift (.load B.a18 (Rect.unit (s := S48x1536) ![0, 0] S48x1536.size inb_S48x1536_S48x1536_0_0).toLoadRect (View.loadsAt_vmem h_S48x1536))
      Prog.lift (.store B.a18 (Rect.unit (s := S48x1536) ![0, 0] S48x1536.size inb_S48x1536_S48x1536_0_0) (k0_pay4 v118 v120 v123) Finset.univ (View.stores_vmem_bits_univ h_S48x1536 rfl) (.inl rfl))
      pure ⟨⟩)
        (fun _ => iprop(Held (Val := Elt F) (tcT d) B.a18 (guMid I.V (act I.V i.val) (j.val + 1)) ∗ Held (Val := Elt F) (tcT d) B.a15 (xs I.V)
          ∗ guSt I (sl i.val) ⟨j.val, lt_of_lt_of_eq j.isLt trips5⟩ none ∗ Owes (Elt F) (tcT d))) := by
  have hi : i.val < n.val := lt_of_lt_of_eq i.isLt (trips4 n)
  have hi33 : i.val < 33 := by have := n.isLt; omega
  have hj : j.val < 7 := lt_of_lt_of_eq j.isLt trips5
  dsimp only
  iintro ⟨H18, H15, Hc, HO⟩
  iapply (gu_wait I (s := sl i.val) (k := ⟨j.val, hj⟩) (e := act I.V i.val) (off24 _ i j hi33)) $$ [Hc HO]
  · isplitl [Hc]
    · iexact Hc
    · iexact HO
  iintro ⟨⟨HP, HL⟩, Hv, HO⟩
  iapply (load_full zero2) $$ H18
  iintro H18
  iapply (load_held_at (off27 j) (xcol_inb ⟨j.val, hj⟩)) $$ H15
  iintro H15
  iapply (load_part_at (off28 _ i j hi33) (guDst_inb (sl i.val) ⟨j.val, hj⟩)) $$ HP
  iintro HP
  iapply (load_full zero2) $$ H18
  iintro H18
  iapply (store_full zero2) $$ H18
  iintro H18
  iapply W_pure
  isplitl [H18]
  · have hg : guMid I.V (act I.V i.val) (j.val + 1) = k0_pay4 (guMid I.V (act I.V i.val) j.val) (ld (Val := Elt F) (e' := .bf16) (xs I.V) (xcol ⟨j.val, hj⟩)) (ld (Val := Elt F) (e' := .fp8e4m3) I.V.wgu (guSrc (act I.V i.val) ⟨j.val, hj⟩)) := by
      change k0_pay4 _ _ _ = _
      rw [show f7 j.val = ⟨j.val, hj⟩ from f7_val ⟨j.val, hj⟩]
    rw [hg]
    iexact H18
  isplitl [H15]
  · iexact H15
  isplitr [HO]
  · rw [guSt_none]
    isplitl [HL]
    · iexact HL
    isplitl [HP]
    · iapply (part_any (Val := Elt F)) $$ HP
    · iexact Hv
  · iexact HO

/-- One trip of the first layer's loop. -/
theorem t5_trip {T : S33.Idx → Elt F .i32} {n : Fin 33} (hT : Tab I n T) (hw3) (i : Fin (k0_t4_loop (BitVec.ofNat 32 n.val)).trips) (v60 v61 v63 hw5 c0 c1)
    (j : Fin k0_t5_loop.trips) (u : Unit) :
    T5 I T n i.val j.val ⊢ W defs 𝒱 (tcT d) bd (k0_t5_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 v61 v63 hw5 c0 c1 j u) (fun _ => T5 I T n i.val (j.val + 1)) := by
  have hi : i.val < n.val := lt_of_lt_of_eq i.isLt (trips4 n)
  have hi33 : i.val < 33 := by have := n.isLt; omega
  have hj : j.val < 7 := lt_of_lt_of_eq j.isLt trips5
  have htail := t5_tail (F := F) I (defs := defs) (𝒱 := 𝒱) (bd := bd) hw3 i v63 hw5 j
  unfold k0_t5_body T5 Stat
  dsimp only at htail ⊢
  iintro ⟨⟨H9, H12, H13, H15, H16, H17, HO⟩, H18, HC, HN⟩
  icases (guAll_turn I (sl i.val) ⟨j.val, hj⟩ _ (cur_at _ (⟨j.val, hj⟩ : Fin 7))) $$ HC with ⟨Hc, HCk⟩
  by_cases hlt : i.val + 1 < n.val
  · have hnx : nxt I n i.val = some (act I.V (i.val + 1)) := if_pos hlt
    rw [dif_pos ((cond3 n i j).mpr hlt), hnx]
    iapply (tab_load (i := ⟨i.val + 1, by omega⟩) (off17 _ i j hi33) (hT ⟨i.val + 1, by omega⟩ hlt)) $$ H9
    iintro H9
    iapply (assume_step (chk4 _ i j (act I.V (i.val + 1))))
    rw [dif_pos (cond4 j), dif_neg (cond5 j)]
    icases (guAll_turn I (sl (i.val + 1)) ⟨j.val, hj⟩ _ (nxt_at _ (⟨j.val, hj⟩ : Fin 7))) $$ HN with ⟨Hn, HNk⟩
    iapply (gu_enqueue I (s := sl (i.val + 1)) (k := ⟨j.val, hj⟩) (e := act I.V (i.val + 1)) (off18 _ i j hi33) (off19 _ i j hi33) (off20 _ j)) $$ Hn
    iintro Hn
    iapply (W_wand (Q' := fun _ => _))
    isplitl [H18 H15 Hc HO]
    · iapply htail
      isplitl [H18]
      · iexact H18
      isplitl [H15]
      · iexact H15
      isplitl [Hc]
      · iexact Hc
      · iexact HO
    iintro %_ ⟨H18, H15, Hc, HO⟩
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      · iexact HO
    isplitl [H18]
    · iexact H18
    isplitl [HCk Hc]
    · rw [← cur_upd _ (⟨j.val, hj⟩ : Fin 7)]
      iapply HCk
      iexact Hc
    · rw [← nxt_upd _ (⟨j.val, hj⟩ : Fin 7)]
      iapply HNk
      iexact Hn
  · have hnx : nxt I n i.val = none := if_neg hlt
    rw [dif_neg (fun h => hlt ((cond3 n i j).mp h)), hnx, nxt_none (j.val + 1) j.val]
    iapply (W_wand (Q' := fun _ => _))
    isplitl [H18 H15 Hc HO]
    · iapply htail
      isplitl [H18]
      · iexact H18
      isplitl [H15]
      · iexact H15
      isplitl [Hc]
      · iexact Hc
      · iexact HO
    iintro %_ ⟨H18, H15, Hc, HO⟩
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      · iexact HO
    isplitl [H18]
    · iexact H18
    isplitl [HCk Hc]
    · rw [← cur_upd _ (⟨j.val, hj⟩ : Fin 7)]
      iapply HCk
      iexact Hc
    · iexact HN

end Cert.KernelIdeal.Walk

end
-- ==== Proof.KernelIdealT6.lean ====
/-
  Hand-written, untrusted. One active expert: its two layers, the second's column chunks each waited for, multiplied
  and added to the accumulator, the next expert's chunks sent for meanwhile; after the last expert each finished
  column chunk is sent out.
-/
module

public import proofs.«01_k».proof.Proof.KernelIdealT5

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

variable {B : Mem} {d : Dev nD} (I : In F B d)
variable {defs : Defs nD τ sig (Elt F) Λ₀} {𝒱 : Variants} {bd : Option 𝒱.V}

theorem trips6 : k0_t6_loop.trips = 4 := by decide +kernel
theorem trips10 : k0_t10_loop.trips = 4 := by decide +kernel

/-- The result's column chunks before chunk `j` of the `i`-th expert's second layer. -/
def outφ (n : Fin 33) (i j : ℕ) : Fin 4 → ℕ := fun k => if i + 1 = n.val ∧ k.val < j then 1 else 0

theorem out_at (n : Fin 33) (i : ℕ) (j : Fin 4) : outφ n i j.val j = 0 := if_neg (fun h => lt_irrefl _ h.2)
theorem out_upd (n : Fin 33) (i : ℕ) (j : Fin 4) (h : i + 1 = n.val) : Function.update (outφ n i j.val) j 1 = outφ n i (j.val + 1) := by
  funext k
  by_cases hk : k = j
  · subst hk; rw [Function.update_self]; exact (if_pos ⟨h, by omega⟩).symm
  · rw [Function.update_of_ne hk]
    have : k.val ≠ j.val := fun h' => hk (Fin.ext h')
    unfold outφ; congr 1; apply propext
    exact ⟨fun h => ⟨h.1, by omega⟩, fun h => ⟨h.1, by omega⟩⟩
theorem out_stay (n : Fin 33) (i j j' : ℕ) (h : ¬ i + 1 = n.val) : outφ n i j = outφ n i j' := by
  funext k; unfold outφ; rw [if_neg (fun h' => h h'.1), if_neg (fun h' => h h'.1)]

/-- The word that says which trip of the experts' loop this is. -/
abbrev tripW (i : ℕ) : BitVec 32 := Scalar.addi 0#32 (Scalar.muli (Scf.iv 0#32 1#32 i) 1#32)
/-- Whether the `i`-th of `n` experts is the last, as the kernel finds it. -/
abbrev isLast (n i : ℕ) : BitVec 1 := Scalar.cmpi .ne ((Scalar.extui (Scalar.cmpi .eq (tripW i) (Scalar.subi (BitVec.ofNat 32 n) 1#32)) : BitVec 32)) 0#32

/-- The next expert's column chunk `j` sent for. -/
theorem part2_W {T : S33.Idx → Elt F .i32} {n : Fin 33} (hT : Tab I n T) (hw3) (i : Fin (k0_t4_loop (BitVec.ofNat 32 n.val)).trips) (v60)
    (j : Fin k0_t6_loop.trips) (v104 v106) :
    iprop(Held (Val := Elt F) (tcT d) B.a9 T ∗ dnAll I (sl (i.val + 1)) (nxtφ (nxt I n i.val) j.val))
      ⊢ W defs 𝒱 (tcT d) bd (k0_part2 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 j v104 v106)
        (fun _ => iprop(Held (Val := Elt F) (tcT d) B.a9 T ∗ dnAll I (sl (i.val + 1)) (nxtφ (nxt I n i.val) (j.val + 1)))) := by
  have hi : i.val < n.val := lt_of_lt_of_eq i.isLt (trips4 n)
  have hi33 : i.val < 33 := by have := n.isLt; omega
  have hj : j.val < 4 := lt_of_lt_of_eq j.isLt trips6
  rw [k0_part2_eq_skeleton]
  unfold k0_part2_skel
  dsimp only
  iintro ⟨H9, HN⟩
  by_cases hlt : i.val + 1 < n.val
  · have hnx : nxt I n i.val = some (act I.V (i.val + 1)) := if_pos hlt
    rw [dif_pos ((cond6 n i j).mpr hlt), hnx]
    iapply (tab_load (i := ⟨i.val + 1, by omega⟩) (off30 _ i j hi33) (hT ⟨i.val + 1, by omega⟩ hlt)) $$ H9
    iintro H9
    iapply (assume_step (chk6 _ i j (act I.V (i.val + 1))))
    rw [dif_neg (cond7 j), dif_pos (cond8 j)]
    icases (dnAll_turn I (sl (i.val + 1)) ⟨j.val, hj⟩ _ (nxt_at _ (⟨j.val, hj⟩ : Fin 4))) $$ HN with ⟨Hn, HNk⟩
    iapply (dn_enqueue I (s := sl (i.val + 1)) (k := ⟨j.val, hj⟩) (e := act I.V (i.val + 1)) (off34 _ i j hi33) (off35 _ i j hi33) (off36 _ j)) $$ Hn
    iintro Hn
    iapply W_pure
    isplitl [H9]
    · iexact H9
    · rw [← nxt_upd _ (⟨j.val, hj⟩ : Fin 4)]
      iapply HNk
      iexact Hn
  · have hnx : nxt I n i.val = none := if_neg hlt
    rw [dif_neg (fun h => hlt ((cond6 n i j).mp h)), hnx, nxt_none (j.val + 1) j.val]
    iapply W_pure
    isplitl [H9]
    · iexact H9
    · iexact HN

/-- The column chunk waited for, multiplied and added. -/
theorem part3_W {n : Fin 33} (hw3) (i : Fin (k0_t4_loop (BitVec.ofNat 32 n.val)).trips) (v61) (hw5)
    (j : Fin k0_t6_loop.trips) (v100 v102) (A : S33x7168.Idx → Elt F .f32) :
    iprop(Held (Val := Elt F) (tcT d) B.a19 (accMid I.V (act I.V i.val) A j.val) ∗ Held (Val := Elt F) (tcT d) B.a17 I.V.sdn
        ∗ dnSt I (sl i.val) ⟨j.val, lt_of_lt_of_eq j.isLt trips6⟩ (some (act I.V i.val)) ∗ Owes (Elt F) (tcT d))
      ⊢ W defs 𝒱 (tcT d) bd (k0_part3 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) j v100 v102)
        (fun r => iprop((Held (Val := Elt F) (tcT d) B.a19 (accMid I.V (act I.V i.val) A (j.val + 1)) ∗ Held (Val := Elt F) (tcT d) B.a17 I.V.sdn
          ∗ dnSt I (sl i.val) ⟨j.val, lt_of_lt_of_eq j.isLt trips6⟩ none ∗ Owes (Elt F) (tcT d)) ∗ ⌜r = isLast n.val i.val⌝)) := by
  have hi : i.val < n.val := lt_of_lt_of_eq i.isLt (trips4 n)
  have hi33 : i.val < 33 := by have := n.isLt; omega
  have hj : j.val < 4 := lt_of_lt_of_eq j.isLt trips6
  rw [k0_part3_eq_skeleton]
  unfold k0_part3_skel
  dsimp only
  iintro ⟨H19, H17, Hc, HO⟩
  iapply (dn_wait I (s := sl i.val) (k := ⟨j.val, hj⟩) (e := act I.V i.val) (off37 _ i j hi33)) $$ [Hc HO]
  · isplitl [Hc]
    · iexact Hc
    · iexact HO
  iintro ⟨⟨HP, HL⟩, Hv, HO⟩
  iapply (load_part_at (off40 _ i j hi33) (dnDst_inb (sl i.val) ⟨j.val, hj⟩)) $$ HP
  iintro HP
  iapply (load_held_at (k0_off41_eq j) (col_inb ⟨j.val, hj⟩)) $$ H19
  iintro H19
  iapply (load_held_at (off42 (act I.V i.val) j) (sdnBox_inb (act I.V i.val) ⟨j.val, hj⟩)) $$ H17
  iintro H17
  iapply (load_held_at (k0_off41_eq j) (col_inb ⟨j.val, hj⟩)) $$ H19
  iintro H19
  iapply (store_held_at (k0_off41_eq j) (col_inb ⟨j.val, hj⟩)) $$ H19
  iintro H19
  iapply W_pure
  isplitl
  · isplitl [H19]
    · have hg : accMid I.V (act I.V i.val) A (j.val + 1) = (col ⟨j.val, hj⟩).overlay (accMid I.V (act I.V i.val) A j.val)
          (k0_pay1 (rt I.V (act I.V i.val)) (hid I.V (act I.V i.val)) (ld (Val := Elt F) (e' := .fp8e4m3) I.V.wdn (dnSrc (act I.V i.val) ⟨j.val, hj⟩))
            (ld (Val := Elt F) (e' := .f32) (accMid I.V (act I.V i.val) A j.val) (col ⟨j.val, hj⟩)) (ld (Val := Elt F) (e' := .f32) I.V.sdn (sdnBox (act I.V i.val) ⟨j.val, hj⟩))) := by
        change (col (f4 j.val)).overlay _ _ = _
        rw [show f4 j.val = ⟨j.val, hj⟩ from f4_val ⟨j.val, hj⟩]
      rw [hg]
      iexact H19
    isplitl [H17]
    · iexact H17
    isplitr [HO]
    · rw [dnSt_none]
      isplitl [HL]
      · iexact HL
      isplitl [HP]
      · iapply (part_any (Val := Elt F)) $$ HP
      · iexact Hv
    · iexact HO
  · ipureintro; rfl

/-- After the last expert, the finished column chunk narrowed and sent out. -/
theorem part4_W {n : Fin 33} (hn : n.val = nAct I.V) (i : Fin n.val) (j : Fin k0_t6_loop.trips) (v100 v102) :
    iprop(Held (Val := Elt F) (tcT d) B.a19 (accMid I.V (act I.V i.val) (accAt I.V i.val) (j.val + 1)) ∗ outAll I (outφ n i.val j.val))
      ⊢ W defs 𝒱 (tcT d) bd (k0_part4 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 j v100 v102 (isLast n.val i.val))
        (fun _ => iprop(Held (Val := Elt F) (tcT d) B.a19 (accMid I.V (act I.V i.val) (accAt I.V i.val) (j.val + 1)) ∗ outAll I (outφ n i.val (j.val + 1)))) := by
  have hj : j.val < 4 := lt_of_lt_of_eq j.isLt trips6
  rw [k0_part4_eq_skeleton]
  unfold k0_part4_skel
  dsimp only
  iintro ⟨H19, HF⟩
  by_cases hl : i.val + 1 = n.val
  · rw [if_pos ((last_cond n i).mpr hl)]
    icases (outAll_turn I ⟨j.val, hj⟩ _ (out_at n i.val (⟨j.val, hj⟩ : Fin 4))) $$ HF with ⟨Hf, HFk⟩
    icases (outSt_open I _) $$ Hf with ⟨H20, H7, Hv⟩
    iapply (load_held_at (k0_off43_eq j) (col_inb ⟨j.val, hj⟩)) $$ H19
    iintro H19
    iapply (load_part_any_at (k0_off43_eq j) (col_inb ⟨j.val, hj⟩)) $$ H20
    iintro %_ H20
    iapply (store_part_at (k0_off43_eq j) (col_inb ⟨j.val, hj⟩)) $$ H20
    iintro H20
    iapply (out_enqueue I (k := ⟨j.val, hj⟩) (k0_off44_eq j) (k0_off45_eq j)) $$ [H20 H7 Hv]
    · isplitl [H20]
      · have hg : outCol I.V ⟨j.val, hj⟩ = k0_pay2 (ld (Val := Elt F) (e' := .f32) (accMid I.V (act I.V i.val) (accAt I.V i.val) (j.val + 1)) (col ⟨j.val, hj⟩)) := by
          unfold outCol
          rw [show nAct I.V - 1 = i.val by omega]
        rw [hg]
        iexact H20
      isplitl [H7]
      · iexact H7
      · iexact Hv
    iintro Hf
    iapply W_pure
    isplitl [H19]
    · iexact H19
    · rw [← out_upd n i.val (⟨j.val, hj⟩ : Fin 4) hl]
      iapply HFk
      iexact Hf
  · rw [if_neg (fun h => hl ((last_cond n i).mp h)), out_stay n i.val (j.val + 1) j.val hl]
    iapply W_pure
    isplitl [H19]
    · iexact H19
    · iexact HF

/-- Before column chunk `j` of the `i`-th active expert's second layer. -/
def T6 (T : S33.Idx → Elt F .i32) (n : Fin 33) (i j : ℕ) : sProp 𝕄 :=
  iprop(Stat I T ∗ Held (Val := Elt F) (tcT d) B.a19 (accMid I.V (act I.V i) (accAt I.V i) j) ∗ dnAll I (sl i) (curφ (some (act I.V i)) j)
    ∗ dnAll I (sl (i + 1)) (nxtφ (nxt I n i) j) ∗ outAll I (outφ n i j))

/-- One trip of the second layer's loop. -/
theorem t6_trip {T : S33.Idx → Elt F .i32} {n : Fin 33} (hn : n.val = nAct I.V) (hT : Tab I n T) (hw3) (i : Fin (k0_t4_loop (BitVec.ofNat 32 n.val)).trips) (v61) (hw5)
    (j : Fin k0_t6_loop.trips) (u : Unit) :
    T6 I T n i.val j.val ⊢ W defs 𝒱 (tcT d) bd (k0_t6_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) 0#32 1#32 j u)
      (fun _ => T6 I T n i.val (j.val + 1)) := by
  have hi : i.val < n.val := lt_of_lt_of_eq i.isLt (trips4 n)
  have hj : j.val < 4 := lt_of_lt_of_eq j.isLt trips6
  unfold k0_t6_body T6 Stat
  dsimp only
  rw [k0_part1_eq_skeleton]
  unfold k0_part1_skel
  dsimp only
  iintro ⟨⟨H9, H12, H13, H15, H16, H17, HO⟩, H19, HC, HN, HF⟩
  icases (dnAll_turn I (sl i.val) ⟨j.val, hj⟩ _ (cur_at _ (⟨j.val, hj⟩ : Fin 4))) $$ HC with ⟨Hc, HCk⟩
  iapply W_bind
  iapply W_pure
  dsimp only
  iapply (piece (part2_W I hT hw3 i _ j _ _)) $$ [H9 HN]
  · isplitl [H9]
    · iexact H9
    · iexact HN
  iintro %_ ⟨H9, HN⟩
  iapply (piece (part3_W I hw3 i v61 hw5 j _ _ (accAt I.V i.val))) $$ [H19 H17 Hc HO]
  · isplitl [H19]
    · iexact H19
    isplitl [H17]
    · iexact H17
    isplitl [Hc]
    · iexact Hc
    · iexact HO
  iintro %r ⟨⟨H19, H17, Hc, HO⟩, %hr⟩
  subst hr
  iapply (piece (part4_W I hn ⟨i.val, hi⟩ j _ _)) $$ [H19 HF]
  · isplitl [H19]
    · iexact H19
    · iexact HF
  iintro %_ ⟨H19, HF⟩
  iapply W_pure
  isplitl [H9 H12 H13 H15 H16 H17 HO]
  · isplitl [H9]
    · iexact H9
    isplitl [H12]
    · iexact H12
    isplitl [H13]
    · iexact H13
    isplitl [H15]
    · iexact H15
    isplitl [H16]
    · iexact H16
    isplitl [H17]
    · iexact H17
    · iexact HO
  isplitl [H19]
  · iexact H19
  isplitl [HCk Hc]
  · rw [← cur_upd _ (⟨j.val, hj⟩ : Fin 4)]
    iapply HCk
    iexact Hc
  isplitl [HN]
  · iexact HN
  · iexact HF

/-- The `i`-th active expert, if there is one. -/
def curE (n : Fin 33) (i : ℕ) : Option (Fin 32) := if i < n.val then some (act I.V i) else none

/-- Before the `i`-th active expert. -/
def T4 (T : S33.Idx → Elt F .i32) (n : Fin 33) (i : ℕ) : sProp 𝕄 :=
  iprop(Stat I T ∗ HeldAny (Elt F) (tcT d) B.a18 ∗ Held (Val := Elt F) (tcT d) B.a19 (accAt I.V i)
    ∗ guAll I (sl i) (fun _ => curE I n i) ∗ guAll I (sl (i + 1)) (fun _ => none)
    ∗ dnAll I (sl i) (fun _ => curE I n i) ∗ dnAll I (sl (i + 1)) (fun _ => none) ∗ outAll I (fun _ => if i = n.val then 1 else 0))

theorem part6_W {T : S33.Idx → Elt F .i32} {n : Fin 33} (hT : Tab I n T) (hw3) (i : Fin (k0_t4_loop (BitVec.ofNat 32 n.val)).trips) (v60 v61 v63 hw5 c0 c1) :
    T5 I T n i.val 0 ⊢ W defs 𝒱 (tcT d) bd (k0_part6 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i v60 v61 v63 hw5 c0 c1) (fun _ => T5 I T n i.val 7) := by
  rw [k0_part6_eq_skeleton]
  unfold k0_part6_skel
  iintro H
  iapply (loop_step (fun j _ => T5 I T n i.val j) (fun j u => t5_trip I hT hw3 i v60 v61 v63 hw5 c0 c1 j u)) $$ H
  iintro %_ H
  iapply W_pure
  rw [trips5]
  iexact H

theorem part8_W {T : S33.Idx → Elt F .i32} {n : Fin 33} (hn : n.val = nAct I.V) (hT : Tab I n T) (hw3) (i : Fin (k0_t4_loop (BitVec.ofNat 32 n.val)).trips) (v61) (hw5) :
    T6 I T n i.val 0 ⊢ W defs 𝒱 (tcT d) bd (k0_part8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 i (tripW i.val) v61 (wd (act I.V i.val)) hw5 (rt I.V (act I.V i.val)) (hid I.V (act I.V i.val)) 0#32 1#32)
      (fun _ => T6 I T n i.val 4) := by
  rw [k0_part8_eq_skeleton]
  unfold k0_part8_skel
  iintro H
  iapply (loop_step (fun j _ => T6 I T n i.val j) (fun j u => t6_trip I hn hT hw3 i v61 hw5 j u)) $$ H
  iintro %_ H
  iapply W_pure
  rw [trips6]
  iexact H

theorem part5_W {T : S33.Idx → Elt F .i32} {n : Fin 33} (hT : Tab I n T) (hw3) (i : Fin (k0_t4_loop (BitVec.ofNat 32 n.val)).trips) :
    iprop(Stat I T ∗ HeldAny (Elt F) (tcT d) B.a18)
      ⊢ W defs 𝒱 (tcT d) bd (k0_part5 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32 i)
      (fun r => iprop((Stat I T ∗ Held (Val := Elt F) (tcT d) B.a18 (guMid I.V (act I.V i.val) 0)) ∗ ⌜∃ v61 hw5, r = ⟨tripW i.val, v61, wd (act I.V i.val), hw5, 0#32, 1#32⟩⌝)) := by
  have hi : i.val < n.val := lt_of_lt_of_eq i.isLt (trips4 n)
  have hi33 : i.val < 33 := by have := n.isLt; omega
  rw [k0_part5_eq_skeleton]
  unfold k0_part5_skel Stat
  dsimp only
  iintro ⟨⟨H9, H12, H13, H15, H16, H17, HO⟩, H18⟩
  iapply (tab_load (i := ⟨i.val, hi33⟩) (off16 _ i hi33) (hT ⟨i.val, hi33⟩ hi)) $$ H9
  iintro H9
  iapply (assume_step (chk5 (act I.V i.val)))
  iapply load_any $$ H18
  iintro %_ H18
  iapply (store_any zero2) $$ H18
  iintro H18
  iapply W_pure
  isplitl
  · isplitr [H18]
    · isplitl [H9]
      · iexact H9
      isplitl [H12]
      · iexact H12
      isplitl [H13]
      · iexact H13
      isplitl [H15]
      · iexact H15
      isplitl [H16]
      · iexact H16
      isplitl [H17]
      · iexact H17
      · iexact HO
    · iexact H18
  · ipureintro; exact ⟨_, _, rfl⟩

theorem part7_W {T : S33.Idx → Elt F .i32} (e : Fin 32) (hw5) :
    iprop(Stat I T ∗ Held (Val := Elt F) (tcT d) B.a18 (guMid I.V e 7))
      ⊢ W defs 𝒱 (tcT d) bd (k0_part7 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw5)
      (fun r => iprop((Stat I T ∗ Held (Val := Elt F) (tcT d) B.a18 (guMid I.V e 7)) ∗ ⌜r = ⟨rt I.V e, hid I.V e, 0#32, 1#32⟩⌝)) := by
  rw [k0_part7_eq_skeleton]
  unfold k0_part7_skel Stat
  dsimp only
  iintro ⟨⟨H9, H12, H13, H15, H16, H17, HO⟩, H18⟩
  iapply (load_full zero2) $$ H12
  iintro H12
  iapply (load_full zero2) $$ H13
  iintro H13
  iapply (load_full zero2) $$ H18
  iintro H18
  iapply (load_held_at (off29 e) (sguRow_inb e)) $$ H16
  iintro H16
  iapply W_pure
  isplitl
  · isplitr [H18]
    · isplitl [H9]
      · iexact H9
      isplitl [H12]
      · iexact H12
      isplitl [H13]
      · iexact H13
      isplitl [H15]
      · iexact H15
      isplitl [H16]
      · iexact H16
      isplitl [H17]
      · iexact H17
      · iexact HO
    · iexact H18
  · ipureintro; rfl

theorem cur_zero {m : ℕ} (o : Option (Fin 32)) : (curφ o 0 : Fin m → _) = fun _ => o := by
  funext k; exact if_pos (Nat.zero_le _)
theorem cur_end {m : ℕ} (o : Option (Fin 32)) : (curφ o m : Fin m → _) = fun _ => none := by
  funext k; exact if_neg (Nat.not_le.mpr k.isLt)
theorem nxt_zero {m : ℕ} (o : Option (Fin 32)) : (nxtφ o 0 : Fin m → _) = fun _ => none := by
  funext k; exact if_neg (Nat.not_lt_zero _)
theorem nxt_end {m : ℕ} (o : Option (Fin 32)) : (nxtφ o m : Fin m → _) = fun _ => o := by
  funext k; exact if_pos k.isLt
theorem out_zero (n : Fin 33) (i : ℕ) : outφ n i 0 = fun _ => 0 := by
  funext k; exact if_neg (fun h => absurd h.2 (Nat.not_lt_zero _))
theorem out_end (n : Fin 33) (i : ℕ) : outφ n i 4 = fun _ => if i + 1 = n.val then 1 else 0 := by
  funext k; unfold outφ; congr 1; apply propext; exact ⟨fun h => h.1, fun h => ⟨h, k.isLt⟩⟩
theorem sl_two (i : ℕ) : sl (i + 1 + 1) = sl i := Fin.ext (by change (i + 1 + 1) % 2 = i % 2; omega)

/-- One active expert. -/
theorem t4_trip {T : S33.Idx → Elt F .i32} {n : Fin 33} (hn : n.val = nAct I.V) (hT : Tab I n T) (hw3) (i : Fin (k0_t4_loop (BitVec.ofNat 32 n.val)).trips) (u : Unit) :
    T4 I T n i.val ⊢ W defs 𝒱 (tcT d) bd (k0_t4_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32 i u) (fun _ => T4 I T n (i.val + 1)) := by
  have hi : i.val < n.val := lt_of_lt_of_eq i.isLt (trips4 n)
  unfold k0_t4_body T4
  dsimp only
  have hc : curE I n i.val = some (act I.V i.val) := if_pos hi
  rw [hc, if_neg (show ¬ i.val = n.val by omega)]
  iintro ⟨HS, H18, H19, HC, HN, HDC, HDN, HF⟩
  iapply (piece (part5_W I hT hw3 i)) $$ [HS H18]
  · isplitl [HS]
    · iexact HS
    · iexact H18
  iintro %r ⟨⟨HS, H18⟩, %hr⟩
  obtain ⟨v61, hw5, rfl⟩ := hr
  dsimp only
  iapply (piece (part6_W I hT hw3 i _ _ _ _ _ _)) $$ [HS H18 HC HN]
  · unfold T5
    rw [cur_zero, nxt_zero]
    isplitl [HS]
    · iexact HS
    isplitl [H18]
    · iexact H18
    isplitl [HC]
    · iexact HC
    · iexact HN
  unfold T5
  rw [cur_end, nxt_end]
  iintro %_ ⟨HS, H18, HC, HN⟩
  iapply (piece (part7_W I (act I.V i.val) hw5)) $$ [HS H18]
  · isplitl [HS]
    · iexact HS
    · iexact H18
  iintro %r ⟨⟨HS, H18⟩, %hr⟩
  subst hr
  dsimp only
  iapply (piece (part8_W I hn hT hw3 i _ _)) $$ [HS H19 HDC HDN HF]
  · unfold T6
    rw [cur_zero, nxt_zero, out_zero]
    isplitl [HS]
    · iexact HS
    isplitl [H19]
    · iexact H19
    isplitl [HDC]
    · iexact HDC
    isplitl [HDN]
    · iexact HDN
    · iexact HF
  unfold T6
  rw [cur_end, nxt_end, out_end]
  iintro %_ ⟨HS, H19, HDC, HDN, HF⟩
  iapply W_pure
  rw [sl_two]
  isplitl [HS]
  · iexact HS
  isplitl [H18]
  · iapply (held_any (Val := Elt F)) $$ H18
  isplitl [H19]
  · iexact H19
  isplitl [HN]
  · iexact HN
  isplitl [HC]
  · iexact HC
  isplitl [HDN]
  · iexact HDN
  isplitl [HDC]
  · iexact HDC
  · iexact HF

/-- All the active experts, in order. -/
theorem part25_W {T : S33.Idx → Elt F .i32} {n : Fin 33} (hn : n.val = nAct I.V) (hT : Tab I n T) (hw3) :
    T4 I T n 0 ⊢ W defs 𝒱 (tcT d) bd (k0_part25 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 1#32 0#32 0#32 1#32) (fun _ => T4 I T n n.val) := by
  rw [k0_part25_eq_skeleton]
  unfold k0_part25_skel
  iintro H
  iapply (loop_step (fun i _ => T4 I T n i) (fun i u => t4_trip I hn hT hw3 i u)) $$ H
  iintro %_ H
  iapply W_pure
  rw [trips4 n]
  iexact H

/-- The remainder loop, which has no trips. -/
theorem part27_W {P : sProp 𝕄} {n : Fin 33} (hw3 c1 c0 v57 c1') :
    P ⊢ W defs 𝒱 (tcT d) bd (k0_part27 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val) hw3 c1 c0 v57 c1') (fun _ => P) := by
  rw [k0_part27_eq_skeleton]
  unfold k0_part27_skel
  iintro H
  iapply (loop_step (fun _ _ => P) (fun i u => absurd (lt_of_lt_of_eq i.isLt (trips7 n)) (Nat.not_lt_zero _))) $$ H
  iintro %_ H
  iapply W_pure
  iexact H

/-- The result's column chunks before the `j`-th wait. -/
def doneφ (j : ℕ) : Fin 4 → ℕ := fun k => if k.val < j then 2 else 1

theorem done_at (j : Fin 4) : doneφ j.val j = 1 := if_neg (lt_irrefl _)
theorem done_upd (j : Fin 4) : Function.update (doneφ j.val) j 2 = doneφ (j.val + 1) := by
  funext k
  by_cases hk : k = j
  · subst hk; rw [Function.update_self]; exact (if_pos (by omega)).symm
  · rw [Function.update_of_ne hk]
    have : k.val ≠ j.val := fun h' => hk (Fin.ext h')
    unfold doneφ; congr 1; apply propext; omega

theorem t10_trip (c0 c1) (j : Fin k0_t10_loop.trips) (u : Unit) :
    iprop(outAll I (doneφ j.val) ∗ Owes (Elt F) (tcT d)) ⊢ W defs 𝒱 (tcT d) bd (k0_t10_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c0 c1 j u)
      (fun _ => iprop(outAll I (doneφ (j.val + 1)) ∗ Owes (Elt F) (tcT d))) := by
  have hj : j.val < 4 := lt_of_lt_of_eq j.isLt trips10
  unfold k0_t10_body
  dsimp only
  iintro ⟨HF, HO⟩
  icases (outAll_turn I ⟨j.val, hj⟩ _ (done_at (⟨j.val, hj⟩ : Fin 4))) $$ HF with ⟨Hf, HFk⟩
  iapply (out_wait I (k := ⟨j.val, hj⟩) (k0_off76_eq j)) $$ [Hf HO]
  · isplitl [Hf]
    · iexact Hf
    · iexact HO
  iintro ⟨Hf, HO⟩
  iapply W_pure
  isplitr [HO]
  · rw [← done_upd (⟨j.val, hj⟩ : Fin 4)]
    iapply HFk
    iexact Hf
  · iexact HO

/-- The result's column chunks, all waited for. -/
theorem part29_W (c0 c1) :
    iprop(outAll I (fun _ => 1) ∗ Owes (Elt F) (tcT d)) ⊢ W defs 𝒱 (tcT d) bd (k0_part29 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c0 c1)
      (fun _ => iprop(outAll I (fun _ => 2) ∗ Owes (Elt F) (tcT d))) := by
  rw [k0_part29_eq_skeleton]
  unfold k0_part29_skel
  iintro H
  iapply (loop_step (fun j _ => iprop(outAll I (doneφ j) ∗ Owes (Elt F) (tcT d))) (fun j u => t10_trip I c0 c1 j u)) $$ [H]
  · rw [show doneφ 0 = fun _ => 1 from funext fun k => if_neg (Nat.not_lt_zero _)]
    iexact H
  rw [trips10, show doneφ 4 = fun _ => 2 from funext fun k => if_pos k.isLt]
  iintro %_ H
  iapply W_pure
  iexact H

end Cert.KernelIdeal.Walk

end
-- ==== Proof.KernelIdealRings.lean ====
module

public import proofs.«01_k».proof.Proof.KernelIdealT6

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The rings opened before the loops and closed after them -/

section Rings

variable {B : Mem} {d : Dev nD} (I : In F B d)

theorem guAll_free (s : Fin 2) : guAll I s (fun _ => none) = iprop((bigSep Finset.univ fun k : Fin 7 => Lent (tcT d) B.a3 (guTok s k) I.f3)
    ∗ (bigSep Finset.univ fun k : Fin 7 => PartAny (Val := Elt F) (tcT d) B.a21 (guDst s k)) ∗ (bigSep Finset.univ fun k : Fin 7 => semVal ((tcT d), SemLoc.dma (guSem B s k)) 0)) :=
  (bigSep_sep Finset.univ _ _).trans (congrArg (fun x => iprop((bigSep Finset.univ fun k : Fin 7 => Lent (tcT d) B.a3 (guTok s k) I.f3) ∗ x)) (bigSep_sep Finset.univ _ _))
theorem dnAll_free (s : Fin 2) : dnAll I s (fun _ => none) = iprop((bigSep Finset.univ fun k : Fin 4 => Lent (tcT d) B.a5 (dnTok s k) I.f5)
    ∗ (bigSep Finset.univ fun k : Fin 4 => PartAny (Val := Elt F) (tcT d) B.a22 (dnDst s k)) ∗ (bigSep Finset.univ fun k : Fin 4 => semVal ((tcT d), SemLoc.dma (dnSem B s k)) 0)) :=
  (bigSep_sep Finset.univ _ _).trans (congrArg (fun x => iprop((bigSep Finset.univ fun k : Fin 4 => Lent (tcT d) B.a5 (dnTok s k) I.f5) ∗ x)) (bigSep_sep Finset.univ _ _))

variable (F) in
/-- The first ring's semaphores, all at zero; the second ring's; the result's. -/
abbrev guSems (B : Mem) (d : Dev nD) : sProp 𝕄 := bigSep Finset.univ fun s : Fin 2 => bigSep Finset.univ fun k : Fin 7 => semVal ((tcT d), SemLoc.dma (guSem B s k)) 0
variable (F) in
abbrev dnSems (B : Mem) (d : Dev nD) : sProp 𝕄 := bigSep Finset.univ fun s : Fin 2 => bigSep Finset.univ fun k : Fin 4 => semVal ((tcT d), SemLoc.dma (dnSem B s k)) 0
variable (F) in
abbrev outSems (B : Mem) (d : Dev nD) : sProp 𝕄 := bigSep Finset.univ fun k : Fin 4 => semVal ((tcT d), SemLoc.dma (outSem B k)) 0

theorem gu_open : iprop(Lent (tcT d) B.a3 fullShare I.f3 ∗ HeldAny (Elt F) (tcT d) B.a21 ∗ guSems F B d)
    ⊢ iprop((guAll I 0 (fun _ => none) ∗ guAll I 1 (fun _ => none))
      ∗ ((guAll I 0 (fun _ => none) ∗ guAll I 1 (fun _ => none)) -∗ (Lent (tcT d) B.a3 fullShare I.f3 ∗ HeldAny (Elt F) (tcT d) B.a21 ∗ guSems F B d))) := by
  have hP : HeldAny (Elt F) (tcT d) B.a21 ⊢ iprop(((bigSep Finset.univ fun k : Fin 7 => PartAny (Val := Elt F) (tcT d) B.a21 (guDst 0 k)) ∗ (bigSep Finset.univ fun k : Fin 7 => PartAny (Val := Elt F) (tcT d) B.a21 (guDst 1 k)))
      ∗ (((bigSep Finset.univ fun k : Fin 7 => PartAny (Val := Elt F) (tcT d) B.a21 (guDst 0 k)) ∗ (bigSep Finset.univ fun k : Fin 7 => PartAny (Val := Elt F) (tcT d) B.a21 (guDst 1 k))) -∗ HeldAny (Elt F) (tcT d) B.a21)) := by
    have h := split_parts (Val := Elt F) (c := (tcT d)) B.a21 (fun p : Fin 2 × Fin 7 => guDst p.1 p.2) guDst_disjoint
    rw [bigSep_univ_prod, bigSep_fin_two] at h
    exact h
  have hL : Lent (tcT d) B.a3 fullShare I.f3 ⊢ iprop(((bigSep Finset.univ fun k : Fin 7 => Lent (tcT d) B.a3 (guTok 0 k) I.f3) ∗ (bigSep Finset.univ fun k : Fin 7 => Lent (tcT d) B.a3 (guTok 1 k) I.f3))
      ∗ (((bigSep Finset.univ fun k : Fin 7 => Lent (tcT d) B.a3 (guTok 0 k) I.f3) ∗ (bigSep Finset.univ fun k : Fin 7 => Lent (tcT d) B.a3 (guTok 1 k) I.f3)) -∗ Lent (tcT d) B.a3 fullShare I.f3)) := by
    have h := split_shares2 (c := (tcT d)) B.a3 fullShare 2 7 I.f3
    rw [bigSep_fin_two] at h
    exact h
  have hS : guSems F B d = iprop((bigSep Finset.univ fun k : Fin 7 => semVal ((tcT d), SemLoc.dma (guSem B 0 k)) 0)
      ∗ (bigSep Finset.univ fun k : Fin 7 => semVal ((tcT d), SemLoc.dma (guSem B 1 k)) 0)) := bigSep_fin_two _
  rw [guAll_free, guAll_free, hS]
  iintro ⟨HL, HP, ⟨HS0, HS1⟩⟩
  icases hL $$ HL with ⟨⟨HL0, HL1⟩, HLk⟩
  icases hP $$ HP with ⟨⟨HP0, HP1⟩, HPk⟩
  isplitl [HL0 HL1 HP0 HP1 HS0 HS1]
  · isplitl [HL0 HP0 HS0]
    · isplitl [HL0]
      · iexact HL0
      isplitl [HP0]
      · iexact HP0
      · iexact HS0
    · isplitl [HL1]
      · iexact HL1
      isplitl [HP1]
      · iexact HP1
      · iexact HS1
  · iintro ⟨⟨HL0, HP0, HS0⟩, ⟨HL1, HP1, HS1⟩⟩
    isplitl [HL0 HL1 HLk]
    · iapply HLk
      isplitl [HL0]
      · iexact HL0
      · iexact HL1
    isplitl [HP0 HP1 HPk]
    · iapply HPk
      isplitl [HP0]
      · iexact HP0
      · iexact HP1
    · isplitl [HS0]
      · iexact HS0
      · iexact HS1

theorem dn_open : iprop(Lent (tcT d) B.a5 fullShare I.f5 ∗ HeldAny (Elt F) (tcT d) B.a22 ∗ dnSems F B d)
    ⊢ iprop((dnAll I 0 (fun _ => none) ∗ dnAll I 1 (fun _ => none))
      ∗ ((dnAll I 0 (fun _ => none) ∗ dnAll I 1 (fun _ => none)) -∗ (Lent (tcT d) B.a5 fullShare I.f5 ∗ HeldAny (Elt F) (tcT d) B.a22 ∗ dnSems F B d))) := by
  have hP : HeldAny (Elt F) (tcT d) B.a22 ⊢ iprop(((bigSep Finset.univ fun k : Fin 4 => PartAny (Val := Elt F) (tcT d) B.a22 (dnDst 0 k)) ∗ (bigSep Finset.univ fun k : Fin 4 => PartAny (Val := Elt F) (tcT d) B.a22 (dnDst 1 k)))
      ∗ (((bigSep Finset.univ fun k : Fin 4 => PartAny (Val := Elt F) (tcT d) B.a22 (dnDst 0 k)) ∗ (bigSep Finset.univ fun k : Fin 4 => PartAny (Val := Elt F) (tcT d) B.a22 (dnDst 1 k))) -∗ HeldAny (Elt F) (tcT d) B.a22)) := by
    have h := split_parts (Val := Elt F) (c := (tcT d)) B.a22 (fun p : Fin 2 × Fin 4 => dnDst p.1 p.2) dnDst_disjoint
    rw [bigSep_univ_prod, bigSep_fin_two] at h
    exact h
  have hL : Lent (tcT d) B.a5 fullShare I.f5 ⊢ iprop(((bigSep Finset.univ fun k : Fin 4 => Lent (tcT d) B.a5 (dnTok 0 k) I.f5) ∗ (bigSep Finset.univ fun k : Fin 4 => Lent (tcT d) B.a5 (dnTok 1 k) I.f5))
      ∗ (((bigSep Finset.univ fun k : Fin 4 => Lent (tcT d) B.a5 (dnTok 0 k) I.f5) ∗ (bigSep Finset.univ fun k : Fin 4 => Lent (tcT d) B.a5 (dnTok 1 k) I.f5)) -∗ Lent (tcT d) B.a5 fullShare I.f5)) := by
    have h := split_shares2 (c := (tcT d)) B.a5 fullShare 2 4 I.f5
    rw [bigSep_fin_two] at h
    exact h
  have hS : dnSems F B d = iprop((bigSep Finset.univ fun k : Fin 4 => semVal ((tcT d), SemLoc.dma (dnSem B 0 k)) 0)
      ∗ (bigSep Finset.univ fun k : Fin 4 => semVal ((tcT d), SemLoc.dma (dnSem B 1 k)) 0)) := bigSep_fin_two _
  rw [dnAll_free, dnAll_free, hS]
  iintro ⟨HL, HP, ⟨HS0, HS1⟩⟩
  icases hL $$ HL with ⟨⟨HL0, HL1⟩, HLk⟩
  icases hP $$ HP with ⟨⟨HP0, HP1⟩, HPk⟩
  isplitl [HL0 HL1 HP0 HP1 HS0 HS1]
  · isplitl [HL0 HP0 HS0]
    · isplitl [HL0]
      · iexact HL0
      isplitl [HP0]
      · iexact HP0
      · iexact HS0
    · isplitl [HL1]
      · iexact HL1
      isplitl [HP1]
      · iexact HP1
      · iexact HS1
  · iintro ⟨⟨HL0, HP0, HS0⟩, ⟨HL1, HP1, HS1⟩⟩
    isplitl [HL0 HL1 HLk]
    · iapply HLk
      isplitl [HL0]
      · iexact HL0
      · iexact HL1
    isplitl [HP0 HP1 HPk]
    · iapply HPk
      isplitl [HP0]
      · iexact HP0
      · iexact HP1
    · isplitl [HS0]
      · iexact HS0
      · iexact HS1

theorem outAll_free : outAll I (fun _ => 0) = iprop((bigSep Finset.univ fun k : Fin 4 => PartAny (Val := Elt F) (tcT d) B.a20 (col k))
    ∗ (bigSep Finset.univ fun k : Fin 4 => PartAny (Val := Elt F) (tcT d) B.a7 (col k)) ∗ outSems F B d) :=
  (bigSep_sep Finset.univ _ _).trans (congrArg (fun x => iprop((bigSep Finset.univ fun k : Fin 4 => PartAny (Val := Elt F) (tcT d) B.a20 (col k)) ∗ x)) (bigSep_sep Finset.univ _ _))
theorem outAll_done : outAll I (fun _ => 2) = iprop((bigSep Finset.univ fun k : Fin 4 => PartAny (Val := Elt F) (tcT d) B.a20 (col k))
    ∗ (bigSep Finset.univ fun k : Fin 4 => Part (Val := Elt F) (tcT d) B.a7 (col k) (outCol I.V k)) ∗ outSems F B d) :=
  (bigSep_sep Finset.univ _ _).trans (congrArg (fun x => iprop((bigSep Finset.univ fun k : Fin 4 => PartAny (Val := Elt F) (tcT d) B.a20 (col k)) ∗ x)) (bigSep_sep Finset.univ _ _))

theorem out_open : iprop(HeldAny (Elt F) (tcT d) B.a20 ∗ HeldAny (Elt F) (tcT d) B.a7 ∗ outSems F B d)
    ⊢ iprop(outAll I (fun _ => 0)
      ∗ (outAll I (fun _ => 2) -∗ (HeldAny (Elt F) (tcT d) B.a20 ∗ Held (Val := Elt F) (tcT d) B.a7 (result I.V) ∗ outSems F B d))) := by
  have h20 := split_parts (Val := Elt F) (c := (tcT d)) B.a20 col col_disjoint
  have h7 := split_parts (Val := Elt F) (c := (tcT d)) B.a7 col col_disjoint
  have hj := join_parts (Val := Elt F) (c := (tcT d)) B.a7 col col_disjoint col_cover (result I.V)
  rw [bigSep_congr (Ψ := fun k : Fin 4 => Part (Val := Elt F) (tcT d) B.a7 (col k) (outCol I.V k)) (fun k _ => by rw [result_col])] at hj
  rw [outAll_free, outAll_done]
  iintro ⟨H20, H7, HS⟩
  icases h20 $$ H20 with ⟨H20, H20k⟩
  icases h7 $$ H7 with ⟨H7, -⟩
  isplitl [H20 H7 HS]
  · isplitl [H20]
    · iexact H20
    isplitl [H7]
    · iexact H7
    · iexact HS
  · iintro ⟨H20, H7, HS⟩
    isplitl [H20 H20k]
    · iapply H20k
      iexact H20
    isplitl [H7]
    · iapply hj
      iexact H7
    · iexact HS

end Rings

end Cert.KernelIdeal.Walk

end
-- ==== Proof.KernelIdealStart.lean ====
module

public import proofs.«01_k».proof.Proof.KernelIdealRings
public import proofs.«01_k».proof.Proof.KernelIdealChecks

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The kernel before its loop over the experts -/

theorem inSem_inb : ∀ (k : Fin 5), ∀ a, (![k.val] : Fin 1 → ℕ) a + S1.size a ≤ S5.size a := by decide +kernel

/-- The semaphore of the `k`-th array read whole. -/
abbrev inSem (B : Mem) (k : Fin 5) : DmaSem sig := ((B.a24.slice (Rect.unit (s := S5) ![k.val] S1.size (inSem_inb k))).squeeze S_ squeezes_S1_S_).sem

section Start

variable {B : Mem} {d : Dev nD} (I : In F B d)
variable {defs : Defs nD τ sig (Elt F) Λ₀} {𝒱 : Variants} {bd : Option 𝒱.V}
variable {α : Type} {Q : α → sProp (MT nD τ sig Unit (Elt F) ℕ (Pipeline.UD sig nD τ) ℕ)}

/-- One of the two shares at which the routing table is read. -/
abbrev idTok (i : Fin 2) : PosShare TreeShare := Transfers.shareTok fullShare 2 i

/-- Array 0 of those read whole, on its way. -/
abbrev fl0 : sProp 𝕄 := Transfers.Flight EC0 (tcT d) (.dma (inSem B 0)) () (B.a14.view.ref.dmaCredit S33x7168 .bf16)
  iprop(Held (Val := Elt F) (tcT d) B.a14 I.V.x ∗ Lent (tcT d) B.a0 fullShare I.f0)
/-- Array 1 of those read whole, on its way. -/
abbrev fl1 : sProp 𝕄 := Transfers.Flight EC0 (tcT d) (.dma (inSem B 1)) () (B.a10.view.ref.dmaCredit S8x33 .i32)
  iprop(Held (Val := Elt F) (tcT d) B.a10 I.V.ids ∗ Lent (tcT d) B.a1 (idTok 1) I.f1)
/-- Array 2 of those read whole, on its way. -/
abbrev fl2 : sProp 𝕄 := Transfers.Flight EC0 (tcT d) (.dma (inSem B 2)) () (B.a11.view.ref.dmaCredit S8x33 .f32)
  iprop(Held (Val := Elt F) (tcT d) B.a11 I.V.rw ∗ Lent (tcT d) B.a2 fullShare I.f2)
/-- Array 3 of those read whole, on its way. -/
abbrev fl3 : sProp 𝕄 := Transfers.Flight EC0 (tcT d) (.dma (inSem B 3)) () (B.a16.view.ref.dmaCredit S32x1536 .f32)
  iprop(Held (Val := Elt F) (tcT d) B.a16 I.V.sgu ∗ Lent (tcT d) B.a4 fullShare I.f4)
/-- Array 4 of those read whole, on its way. -/
abbrev fl4 : sProp 𝕄 := Transfers.Flight EC0 (tcT d) (.dma (inSem B 4)) () (B.a17.view.ref.dmaCredit S32x7168 .f32)
  iprop(Held (Val := Elt F) (tcT d) B.a17 I.V.sdn ∗ Lent (tcT d) B.a6 fullShare I.f6)

theorem id_load {X : S8x33.Idx → Elt F .i32} (k : Fin 8) (t : Fin 33) {off : Fin 2 → ℕ} (ho : off = ![k.val, t.val])
    {inb : ∀ a, off a + S1x1.size a ≤ S8x33.size a} {h1 hp} {K : BitVec 32 → Prog (TpuEff nD τ sig (Elt F) Λ₀ .tc) α} :
    Held (Val := Elt F) (tcT d) B.a8 X ⊢ iprop((Held (Val := Elt F) (tcT d) B.a8 X -∗ W defs 𝒱 (tcT d) bd (K (idw (F := F) X k t)) Q)
      -∗ W defs 𝒱 (tcT d) bd (smemLoad (nD := nD) (τ := τ) (p := Proc.tc) (Val := Elt F) (Λ := Λ₀) B.a8 (Rect.unit (s := S8x33) off S1x1.size inb) h1 hp >>= K) Q) := by
  subst ho
  exact smem_load (c := (tcT d))

/-- The routing table read into scalar memory, the other arrays sent for, and the first expert. -/
theorem part17_W (h0 : (idw (F := F) I.V.ids 0 0).toNat < 32) :
    iprop(Lent (tcT d) B.a1 (idTok 0) I.f1 ∗ HeldAny (Elt F) (tcT d) B.a8 ∗ semVal ((tcT d), SemLoc.dma B.a23.sem) 0
      ∗ Lent (tcT d) B.a0 fullShare I.f0 ∗ HeldAny (Elt F) (tcT d) B.a14 ∗ semVal ((tcT d), SemLoc.dma (inSem B 0)) 0
      ∗ Lent (tcT d) B.a1 (idTok 1) I.f1 ∗ HeldAny (Elt F) (tcT d) B.a10 ∗ semVal ((tcT d), SemLoc.dma (inSem B 1)) 0
      ∗ Lent (tcT d) B.a2 fullShare I.f2 ∗ HeldAny (Elt F) (tcT d) B.a11 ∗ semVal ((tcT d), SemLoc.dma (inSem B 2)) 0
      ∗ Lent (tcT d) B.a4 fullShare I.f4 ∗ HeldAny (Elt F) (tcT d) B.a16 ∗ semVal ((tcT d), SemLoc.dma (inSem B 3)) 0
      ∗ Lent (tcT d) B.a6 fullShare I.f6 ∗ HeldAny (Elt F) (tcT d) B.a17 ∗ semVal ((tcT d), SemLoc.dma (inSem B 4)) 0
      ∗ Owes (Elt F) (tcT d))
    ⊢ W defs 𝒱 (tcT d) bd (k0_part17 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun r => iprop(⌜r.1 = wd (firstE I.V) ∧ r.2.2.1 = 0#32 ∧ r.2.2.2 = 1#32⌝
      ∗ Held (Val := Elt F) (tcT d) B.a8 I.V.ids ∗ Lent (tcT d) B.a1 (idTok 0) I.f1 ∗ semVal ((tcT d), SemLoc.dma B.a23.sem) 0
      ∗ fl0 I ∗ fl1 I ∗ fl2 I ∗ fl3 I ∗ fl4 I ∗ Owes (Elt F) (tcT d))) := by
  have hw : idw (F := F) I.V.ids 0 0 = wd (firstE I.V) := by
    apply BitVec.eq_of_toNat_eq
    rw [BitVec.toNat_ofNat]
    change _ = ((idw (F := F) I.V.ids 0 0).toNat % 32) % 2 ^ 32
    omega
  rw [k0_part17_eq_skeleton]
  unfold k0_part17_skel
  iintro ⟨HL, H8, HS, HL0, HB0, HS0, HL1, HB1, HS1, HL2, HB2, HS2, HL3, HB3, HS3, HL4, HB4, HS4, HO⟩
  iapply (enqueue_whole (c := (tcT d)) (show 0 < S8x33.numel by decide +kernel)) $$ [HL H8 HS]
  · isplitl [HL]
    · iexact HL
    isplitl [H8]
    · iexact H8
    iexact HS
  iintro HF
  iapply (enqueue_whole (c := (tcT d)) (sm := inSem B 0) (show 0 < S33x7168.numel by decide +kernel)) $$ [HL0 HB0 HS0]
  · isplitl [HL0]
    · iexact HL0
    isplitl [HB0]
    · iexact HB0
    iexact HS0
  iintro HF0
  iapply (enqueue_whole (c := (tcT d)) (sm := inSem B 1) (show 0 < S8x33.numel by decide +kernel)) $$ [HL1 HB1 HS1]
  · isplitl [HL1]
    · iexact HL1
    isplitl [HB1]
    · iexact HB1
    iexact HS1
  iintro HF1
  iapply (enqueue_whole (c := (tcT d)) (sm := inSem B 2) (show 0 < S8x33.numel by decide +kernel)) $$ [HL2 HB2 HS2]
  · isplitl [HL2]
    · iexact HL2
    isplitl [HB2]
    · iexact HB2
    iexact HS2
  iintro HF2
  iapply (enqueue_whole (c := (tcT d)) (sm := inSem B 3) (show 0 < S32x1536.numel by decide +kernel)) $$ [HL3 HB3 HS3]
  · isplitl [HL3]
    · iexact HL3
    isplitl [HB3]
    · iexact HB3
    iexact HS3
  iintro HF3
  iapply (enqueue_whole (c := (tcT d)) (sm := inSem B 4) (show 0 < S32x7168.numel by decide +kernel)) $$ [HL4 HB4 HS4]
  · isplitl [HL4]
    · iexact HL4
    isplitl [HB4]
    · iexact HB4
    iexact HS4
  iintro HF4
  iapply (wait_step (c := (tcT d)) (sm := B.a23.sem) rfl) $$ [HF HO]
  · isplitl [HF]
    · iexact HF
    iexact HO
  iintro ⟨⟨H8, HL⟩, HS, HO⟩
  iapply (id_load (X := I.V.ids) 0 0 rfl) $$ H8
  iintro H8
  rw [hw]
  iapply (assume_step (chk1 (firstE I.V)))
  iapply W_pure
  isplitr
  · ipureintro; exact ⟨rfl, rfl, rfl⟩
  isplitl [H8]
  · iexact H8
  isplitl [HL]
  · iexact HL
  isplitl [HS]
  · iexact HS
  isplitl [HF0]
  · iexact HF0
  isplitl [HF1]
  · iexact HF1
  isplitl [HF2]
  · iexact HF2
  isplitl [HF3]
  · iexact HF3
  isplitl [HF4]
  · iexact HF4
  iexact HO

theorem trips1 : k0_t1_loop.trips = 11 := by decide +kernel
theorem trips2 : k0_t2_loop.trips = 33 := by decide +kernel
theorem trips3 : k0_t3_loop.trips = 32 := by decide +kernel

theorem nxt_past {m : ℕ} (o : Option (Fin 32)) {j : ℕ} (h : m ≤ j) : (nxtφ o j : Fin m → _) = fun _ => o := by
  funext k; exact if_pos (lt_of_lt_of_le k.isLt h)

/-- One chunk of the first expert's weights sent for. -/
theorem t1_trip (e : Fin 32) (hw1 c0 c1) (t : Fin k0_t1_loop.trips) (u : Unit) :
    iprop(guAll I 0 (nxtφ (some e) t.val) ∗ dnAll I 0 (nxtφ (some e) (t.val - 7)))
      ⊢ W defs 𝒱 (tcT d) bd (k0_t1_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw1 c0 c1 t u)
        (fun _ => iprop(guAll I 0 (nxtφ (some e) (t.val + 1)) ∗ dnAll I 0 (nxtφ (some e) (t.val + 1 - 7)))) := by
  have ht : t.val < 11 := lt_of_lt_of_eq t.isLt trips1
  unfold k0_t1_body
  dsimp only
  iintro ⟨HG, HD⟩
  by_cases h : t.val < 7
  · rw [dif_pos ((cond1 t).mpr h), dif_neg (fun h' => absurd ((cond2 t).mp h') (by omega)), show t.val + 1 - 7 = t.val - 7 by omega]
    icases (guAll_turn I 0 ⟨t.val, h⟩ _ (nxt_at _ (⟨t.val, h⟩ : Fin 7))) $$ HG with ⟨Hg, HGk⟩
    iapply (gu_enqueue I (s := 0) (k := ⟨t.val, h⟩) (e := e) (k0_off1_eq t) (k0_off2_eq t) (off3 e t h)) $$ Hg
    iintro Hg
    iapply W_pure
    isplitl [HGk Hg]
    · rw [← nxt_upd _ (⟨t.val, h⟩ : Fin 7)]
      iapply HGk
      iexact Hg
    · iexact HD
  · have h7 : t.val - 7 < 4 := by omega
    rw [dif_neg (fun h' => absurd ((cond1 t).mp h') h), dif_pos ((cond2 t).mpr (by omega)), show t.val + 1 - 7 = t.val - 7 + 1 by omega,
      nxt_past (j := t.val) _ (by omega), nxt_past (j := t.val + 1) _ (by omega)]
    icases (dnAll_turn I 0 ⟨t.val - 7, h7⟩ _ (nxt_at _ (⟨t.val - 7, h7⟩ : Fin 4))) $$ HD with ⟨Hd, HDk⟩
    iapply (dn_enqueue I (s := 0) (k := ⟨t.val - 7, h7⟩) (e := e) (off4 t (by omega)) (off5 t (by omega)) (off6 e t (by omega))) $$ Hd
    iintro Hd
    iapply W_pure
    isplitl [HG]
    · iexact HG
    · rw [← nxt_upd _ (⟨t.val - 7, h7⟩ : Fin 4)]
      iapply HDk
      iexact Hd

theorem part18_W (e : Fin 32) (hw1 c0 c1) :
    iprop(guAll I 0 (fun _ => none) ∗ dnAll I 0 (fun _ => none))
      ⊢ W defs 𝒱 (tcT d) bd (k0_part18 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e) hw1 c0 c1) (fun _ => iprop(guAll I 0 (fun _ => some e) ∗ dnAll I 0 (fun _ => some e))) := by
  rw [k0_part18_eq_skeleton]
  unfold k0_part18_skel
  have hL := loop_step (defs := defs) (𝒱 := 𝒱) (bd := bd) (Q := fun _ : PUnit => iprop(guAll I 0 (fun _ => some e) ∗ dnAll I 0 (fun _ => some e))) (L := k0_t1_loop) (hok := k0_t1_ok) (init := ())
    (k := fun _ => pure ⟨⟩)
    (fun t _ => iprop(guAll I 0 (nxtφ (some e) t) ∗ dnAll I 0 (nxtφ (some e) (t - 7)))) (fun t u => t1_trip I e hw1 c0 c1 t u)
  rw [trips1, nxt_past (m := 7) (j := 11) _ (by decide), nxt_past (m := 4) (j := 11 - 7) _ (by decide), nxt_zero, nxt_zero] at hL
  iintro H
  iapply hL $$ H
  iintro %_ H
  iapply W_pure
  iexact H

/-- One token's experts put into the set of bits. -/
theorem t2_trip (c2 c0 c1) (t : Fin k0_t2_loop.trips) (acc : BitVec 32) :
    iprop(Held (Val := Elt F) (tcT d) B.a8 I.V.ids ∗ ⌜acc = bitsAt I.V t.val⌝)
      ⊢ W defs 𝒱 (tcT d) bd (k0_t2_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 c2 c0 c1 t acc)
        (fun acc' => iprop(Held (Val := Elt F) (tcT d) B.a8 I.V.ids ∗ ⌜acc' = bitsAt I.V (t.val + 1)⌝)) := by
  have ht : t.val < 33 := lt_of_lt_of_eq t.isLt trips2
  unfold k0_t2_body
  dsimp only
  iintro ⟨H8, %hacc⟩
  iapply (id_load (X := I.V.ids) 0 ⟨t.val, ht⟩ (k0_off7_eq t)) $$ H8
  iintro H8
  iapply (id_load (X := I.V.ids) 1 ⟨t.val, ht⟩ (k0_off8_eq t)) $$ H8
  iintro H8
  iapply (id_load (X := I.V.ids) 2 ⟨t.val, ht⟩ (k0_off9_eq t)) $$ H8
  iintro H8
  iapply (id_load (X := I.V.ids) 3 ⟨t.val, ht⟩ (k0_off10_eq t)) $$ H8
  iintro H8
  iapply (id_load (X := I.V.ids) 4 ⟨t.val, ht⟩ (k0_off11_eq t)) $$ H8
  iintro H8
  iapply (id_load (X := I.V.ids) 5 ⟨t.val, ht⟩ (k0_off12_eq t)) $$ H8
  iintro H8
  iapply (id_load (X := I.V.ids) 6 ⟨t.val, ht⟩ (k0_off13_eq t)) $$ H8
  iintro H8
  iapply (id_load (X := I.V.ids) 7 ⟨t.val, ht⟩ (k0_off14_eq t)) $$ H8
  iintro H8
  iapply W_pure
  isplitl [H8]
  · iexact H8
  · ipureintro
    subst hacc
    have h : bitsAt I.V (t.val + 1) = bitsStep I.V (bitsAt I.V t.val) ⟨t.val, ht⟩ := dif_pos ht
    rw [h]; rfl

theorem part20_W (c0 c1) :
    Held (Val := Elt F) (tcT d) B.a8 I.V.ids ⊢ W defs 𝒱 (tcT d) bd (k0_part20 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 0#32 c0 c1)
      (fun b => iprop(Held (Val := Elt F) (tcT d) B.a8 I.V.ids ∗ ⌜b = bitsAt I.V 33⌝)) := by
  rw [k0_part20_eq_skeleton]
  unfold k0_part20_skel
  have hL := loop_only (defs := defs) (𝒱 := 𝒱) (bd := bd) (c := (tcT d)) (L := k0_t2_loop) (hok := k0_t2_ok)
    (init := 0#32)
    (fun t acc => iprop(Held (Val := Elt F) (tcT d) B.a8 I.V.ids ∗ ⌜acc = bitsAt I.V t⌝)) (fun t u => t2_trip I 0#32 c0 c1 t u)
  rw [trips2] at hL
  iintro H
  iapply hL $$ [H]
  · isplitl [H]
    · iexact H
    · ipureintro; rfl

/-- The table's first entry written. -/
theorem part21_W (e : Fin 32) :
    HeldAny (Elt F) (tcT d) B.a9 ⊢ W defs 𝒱 (tcT d) bd (k0_part21 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd e))
      (fun r => iprop(⌜r = ⟨1#32, 0#32, 1#32⟩⌝ ∗ ∃ T, Held (Val := Elt F) (tcT d) B.a9 T ∗ ⌜tab (F := F) T 0 = wd e⌝)) := by
  rw [k0_part21_eq_skeleton]
  unfold k0_part21_skel
  iintro H
  icases any_held $$ H with ⟨%T, H⟩
  iapply (tab_load (i := 0) (w := tab (F := F) T 0) rfl rfl) $$ H
  iintro H
  iapply (store_held (c := (tcT d))) $$ H
  iintro H
  iapply W_pure
  isplitr
  · ipureintro; rfl
  iexists _
  isplitl [H]
  · iexact H
  · ipureintro
    exact congrFun (ld_overlay (α := Elt F) (e := .i32) (actBox 0) T (fun _ => wd e)) _

theorem iv3 : ∀ j : Fin k0_t3_loop.trips, Scf.iv 0#32 1#32 j.val = BitVec.ofNat 32 j.val := by decide +kernel
theorem one_bit (x : BitVec 32) : Scalar.andi x 1#32 = 0#32 ∨ Scalar.andi x 1#32 = 1#32 := by
  have h : (Scalar.andi x 1#32).toNat = x.toNat % 2 := by
    change (x &&& 1#32).toNat = _
    rw [BitVec.toNat_and]
    exact Nat.and_one_is_mod _
  rcases Nat.mod_two_eq_zero_or_one x.toNat with h' | h'
  · left; apply BitVec.eq_of_toNat_eq; rw [h, h']; rfl
  · right; apply BitVec.eq_of_toNat_eq; rw [h, h']; rfl
theorem ne_word : ∀ f e : Fin 32, (Scalar.extui (Scalar.cmpi .ne (wd f) (wd e)) : BitVec 32) = if e = f then 0#32 else 1#32 := by decide +kernel
theorem count_zero : ∀ n : Fin 33, ∀ b : Bool, ∀ c : Bool, Scalar.addi (BitVec.ofNat 32 n.val) (Scalar.muli (if b then 1#32 else 0#32) (if c then 0#32 else 1#32)) = BitVec.ofNat 32 (if b && !c then n.val + 1 else n.val) := by decide +kernel

theorem count_next (V : Vals F) (j : ℕ) (hj : j < 32) :
    Scalar.addi (BitVec.ofNat 32 (actl V j).length) (Scalar.muli (Scalar.andi (Scalar.shrsi (bitsAt V 33) (wd ⟨j, hj⟩)) 1#32)
      (Scalar.extui (Scalar.cmpi .ne (wd (firstE V)) (wd ⟨j, hj⟩)))) = BitVec.ofNat 32 (actl V (j + 1)).length := by
  rw [ne_word]
  have hs : actl V (j + 1) = if hasBit V ⟨j, hj⟩ ∧ (⟨j, hj⟩ : Fin 32) ≠ firstE V then actl V j ++ [⟨j, hj⟩] else actl V j := dif_pos hj
  have hl := actl_length_le V j
  have hb : Scalar.andi (Scalar.shrsi (bitsAt V 33) (wd ⟨j, hj⟩)) 1#32 = if decide (hasBit V ⟨j, hj⟩) then 1#32 else 0#32 := by
    by_cases h : hasBit V ⟨j, hj⟩
    · rw [decide_eq_true h]; exact h
    · rw [decide_eq_false h]; exact (one_bit _).resolve_right h
  have hc := count_zero ⟨(actl V j).length, by omega⟩ (decide (hasBit V ⟨j, hj⟩)) (decide ((⟨j, hj⟩ : Fin 32) = firstE V))
  rw [hb, hs]
  simp only [decide_eq_true_eq, Bool.and_eq_true, Bool.not_eq_true', decide_eq_false_iff_not] at hc ⊢
  rw [hc]
  congr 1
  by_cases h : hasBit V ⟨j, hj⟩ ∧ ¬ (⟨j, hj⟩ : Fin 32) = firstE V
  · rw [if_pos h, if_pos h, List.length_append]; rfl
  · rw [if_neg h, if_neg h]

theorem actBox_disjoint (i j : Fin 33) (h : i ≠ j) : Disjoint (actBox i).set (actBox j).set :=
  Rect.unit_disjoint (s := S33) (inb := actBox_inb i) (inb' := actBox_inb j) (0 : Fin 1)
    (by change i.val + 1 ≤ j.val ∨ j.val + 1 ≤ i.val
        have : i.val ≠ j.val := fun h' => h (Fin.ext h')
        omega)

/-- The table holds the first entries of a list. -/
def TabL (l : List (Fin 32)) (T : S33.Idx → Elt F .i32) : Prop := ∀ i : Fin 33, ∀ h : i.val < l.length, tab (F := F) T i = wd (l[i.val]'h)

theorem tab_next (V : Vals F) (j : ℕ) (hj : j < 32) (n : Fin 33) (hn : n.val = (actl V j).length) {T : S33.Idx → Elt F .i32} (hT : TabL (actl V j) T) :
    TabL (actl V (j + 1)) ((actBox n).overlay (α := Elt F .i32) T (fun _ => wd ⟨j, hj⟩)) := by
  have hs : actl V (j + 1) = if hasBit V ⟨j, hj⟩ ∧ (⟨j, hj⟩ : Fin 32) ≠ firstE V then actl V j ++ [⟨j, hj⟩] else actl V j := dif_pos hj
  have hold : ∀ i : Fin 33, i.val < (actl V j).length → tab (F := F) ((actBox n).overlay (α := Elt F .i32) T (fun _ => wd ⟨j, hj⟩)) i = tab (F := F) T i := fun i hi =>
    congrFun (ld_overlay_of_disjoint (α := Elt F) (e := .i32) (actBox n) (actBox i) (actBox_disjoint n i (fun h => by rw [← h, hn] at hi; exact lt_irrefl _ hi)) T (fun _ => wd ⟨j, hj⟩)) _
  have hnew : tab (F := F) ((actBox n).overlay (α := Elt F .i32) T (fun _ => wd ⟨j, hj⟩)) n = wd ⟨j, hj⟩ :=
    congrFun (ld_overlay (α := Elt F) (e := .i32) (actBox n) T (fun _ => wd ⟨j, hj⟩)) _
  rw [hs]
  split
  · intro i hi
    rw [List.length_append] at hi
    by_cases h : i.val < (actl V j).length
    · rw [hold i h, hT i h, List.getElem_append_left h]
    · have hin : i = n := Fin.ext (by simp only [List.length_singleton] at hi; omega)
      subst hin
      rw [hnew, List.getElem_append_right (by omega)]
      simp only [List.getElem_singleton]
  · intro i hi
    rw [hold i hi, hT i hi]

/-- One expert appended to the table if it is active. -/
theorem t3_trip (c1) (j : Fin k0_t3_loop.trips) (acc : BitVec 32) :
    iprop(∃ T, Held (Val := Elt F) (tcT d) B.a9 T ∗ ⌜acc = BitVec.ofNat 32 (actl I.V j.val).length ∧ TabL (actl I.V j.val) T⌝)
      ⊢ W defs 𝒱 (tcT d) bd (k0_t3_body B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd (firstE I.V)) (bitsAt I.V 33) c1 0#32 1#32 j acc)
        (fun acc' => iprop(∃ T, Held (Val := Elt F) (tcT d) B.a9 T ∗ ⌜acc' = BitVec.ofNat 32 (actl I.V (j.val + 1)).length ∧ TabL (actl I.V (j.val + 1)) T⌝)) := by
  have hj : j.val < 32 := lt_of_lt_of_eq j.isLt trips3
  have hl := actl_length_le I.V j.val
  unfold k0_t3_body
  dsimp only
  rw [iv3 j]
  iintro ⟨%T, H, %hT⟩
  obtain ⟨rfl, hT⟩ := hT
  iapply (assume_step (chk2 ⟨(actl I.V j.val).length, by omega⟩))
  iapply (tab_load (i := ⟨(actl I.V j.val).length, by omega⟩) (T := T) (off15 ⟨(actl I.V j.val).length, by omega⟩) rfl) $$ H
  iintro H
  iapply (store_held_at (c := (tcT d)) (off15 ⟨(actl I.V j.val).length, by omega⟩) (actBox_inb ⟨(actl I.V j.val).length, by omega⟩)) $$ H
  iintro H
  iapply W_pure
  iexists _
  isplitl [H]
  · iexact H
  · ipureintro
    exact ⟨count_next I.V j.val hj, tab_next I.V j.val hj _ rfl hT⟩

theorem part22_W :
    iprop(∃ T, Held (Val := Elt F) (tcT d) B.a9 T ∗ ⌜tab (F := F) T 0 = wd (firstE I.V)⌝)
      ⊢ W defs 𝒱 (tcT d) bd (k0_part22 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (wd (firstE I.V)) (bitsAt I.V 33) 1#32 0#32 1#32)
        (fun n => iprop(∃ T, Held (Val := Elt F) (tcT d) B.a9 T ∗ ⌜n = BitVec.ofNat 32 (nAct I.V) ∧ TabL (actl I.V 32) T⌝)) := by
  rw [k0_part22_eq_skeleton]
  unfold k0_part22_skel
  have hL := loop_only (defs := defs) (𝒱 := 𝒱) (bd := bd) (c := (tcT d)) (L := k0_t3_loop) (hok := k0_t3_ok)
    (init := 1#32)
    (fun j acc => iprop(∃ T, Held (Val := Elt F) (tcT d) B.a9 T ∗ ⌜acc = BitVec.ofNat 32 (actl I.V j).length ∧ TabL (actl I.V j) T⌝)) (fun j u => t3_trip I 1#32 j u)
  rw [trips3] at hL
  iintro ⟨%T, H, %hT⟩
  iapply hL $$ [H]
  · iexists T
    isplitl [H]
    · iexact H
    · ipureintro
      refine ⟨rfl, fun i h => ?_⟩
      have h' : i.val < 1 := h
      have hi : i = 0 := Fin.ext (by change i.val = 0; omega)
      subst hi
      exact hT

/-- The arrays arrive; the accumulator is cleared and the routing tables turned. -/
theorem part23_W (n : Fin 33) :
    iprop(fl0 I ∗ fl1 I ∗ fl2 I ∗ fl3 I ∗ fl4 I ∗ Owes (Elt F) (tcT d) ∗ HeldAny (Elt F) (tcT d) B.a19 ∗ HeldAny (Elt F) (tcT d) B.a15
      ∗ HeldAny (Elt F) (tcT d) B.a12 ∗ HeldAny (Elt F) (tcT d) B.a13)
    ⊢ W defs 𝒱 (tcT d) bd (k0_part23 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 (BitVec.ofNat 32 n.val)) (fun _ => iprop(Held (Val := Elt F) (tcT d) B.a19 (k0_pay15 (F := F))
      ∗ Held (Val := Elt F) (tcT d) B.a15 (k0_pay16 (F := F)) ∗ Held (Val := Elt F) (tcT d) B.a12 (idsT I.V) ∗ Held (Val := Elt F) (tcT d) B.a13 (rwT I.V)
      ∗ Held (Val := Elt F) (tcT d) B.a14 I.V.x ∗ Lent (tcT d) B.a0 fullShare I.f0 ∗ semVal ((tcT d), SemLoc.dma (inSem B 0)) 0
      ∗ Held (Val := Elt F) (tcT d) B.a10 I.V.ids ∗ Lent (tcT d) B.a1 (idTok 1) I.f1 ∗ semVal ((tcT d), SemLoc.dma (inSem B 1)) 0
      ∗ Held (Val := Elt F) (tcT d) B.a11 I.V.rw ∗ Lent (tcT d) B.a2 fullShare I.f2 ∗ semVal ((tcT d), SemLoc.dma (inSem B 2)) 0
      ∗ Held (Val := Elt F) (tcT d) B.a16 I.V.sgu ∗ Lent (tcT d) B.a4 fullShare I.f4 ∗ semVal ((tcT d), SemLoc.dma (inSem B 3)) 0
      ∗ Held (Val := Elt F) (tcT d) B.a17 I.V.sdn ∗ Lent (tcT d) B.a6 fullShare I.f6 ∗ semVal ((tcT d), SemLoc.dma (inSem B 4)) 0
      ∗ Owes (Elt F) (tcT d))) := by
  rw [k0_part23_eq_skeleton]
  unfold k0_part23_skel
  iintro ⟨HF0, HF1, HF2, HF3, HF4, HO, H19, H15, H12, H13⟩
  iapply (assume_step (chk3 n))
  iapply (load_any (c := (tcT d))) $$ H19
  iintro %_ H19
  iapply (store_any (c := (tcT d)) zero2) $$ H19
  iintro H19
  iapply (load_any (c := (tcT d))) $$ H15
  iintro %_ H15
  iapply (store_any (c := (tcT d)) zero2) $$ H15
  iintro H15
  iapply (wait_step (c := (tcT d)) (sm := inSem B 0) rfl) $$ [HF0 HO]
  · isplitl [HF0]
    · iexact HF0
    iexact HO
  iintro ⟨⟨HB0, HL0⟩, HS0, HO⟩
  iapply (wait_step (c := (tcT d)) (sm := inSem B 1) rfl) $$ [HF1 HO]
  · isplitl [HF1]
    · iexact HF1
    iexact HO
  iintro ⟨⟨HB1, HL1⟩, HS1, HO⟩
  iapply (wait_step (c := (tcT d)) (sm := inSem B 2) rfl) $$ [HF2 HO]
  · isplitl [HF2]
    · iexact HF2
    iexact HO
  iintro ⟨⟨HB2, HL2⟩, HS2, HO⟩
  iapply (wait_step (c := (tcT d)) (sm := inSem B 3) rfl) $$ [HF3 HO]
  · isplitl [HF3]
    · iexact HF3
    iexact HO
  iintro ⟨⟨HB3, HL3⟩, HS3, HO⟩
  iapply (wait_step (c := (tcT d)) (sm := inSem B 4) rfl) $$ [HF4 HO]
  · isplitl [HF4]
    · iexact HF4
    iexact HO
  iintro ⟨⟨HB4, HL4⟩, HS4, HO⟩
  iapply (load_full (c := (tcT d)) zero2) $$ HB1
  iintro HB1
  iapply (load_any (c := (tcT d))) $$ H12
  iintro %_ H12
  iapply (store_any (c := (tcT d)) zero2) $$ H12
  iintro H12
  iapply (load_full (c := (tcT d)) zero2) $$ HB2
  iintro HB2
  iapply (load_any (c := (tcT d))) $$ H13
  iintro %_ H13
  iapply (store_any (c := (tcT d)) zero2) $$ H13
  iintro H13
  iapply W_pure
  isplitl [H19]
  · iexact H19
  isplitl [H15]
  · iexact H15
  isplitl [H12]
  · iexact H12
  isplitl [H13]
  · iexact H13
  isplitl [HB0]
  · iexact HB0
  isplitl [HL0]
  · iexact HL0
  isplitl [HS0]
  · iexact HS0
  isplitl [HB1]
  · iexact HB1
  isplitl [HL1]
  · iexact HL1
  isplitl [HS1]
  · iexact HS1
  isplitl [HB2]
  · iexact HB2
  isplitl [HL2]
  · iexact HL2
  isplitl [HS2]
  · iexact HS2
  isplitl [HB3]
  · iexact HB3
  isplitl [HL3]
  · iexact HL3
  isplitl [HS3]
  · iexact HS3
  isplitl [HB4]
  · iexact HB4
  isplitl [HL4]
  · iexact HL4
  isplitl [HS4]
  · iexact HS4
  iexact HO

/-- The tokens put above the padding rows. -/
theorem part24_W (w : BitVec 32) :
    iprop(Held (Val := Elt F) (tcT d) B.a14 I.V.x ∗ Held (Val := Elt F) (tcT d) B.a15 (k0_pay16 (F := F)))
    ⊢ W defs 𝒱 (tcT d) bd (k0_part24 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27 w) (fun r => iprop(⌜r.1 = 1#32 ∧ r.2.1 = 0#32 ∧ r.2.2.1 = 0#32 ∧ r.2.2.2.2 = 1#32⌝
      ∗ Held (Val := Elt F) (tcT d) B.a14 I.V.x ∗ Held (Val := Elt F) (tcT d) B.a15 (xs I.V))) := by
  rw [k0_part24_eq_skeleton]
  unfold k0_part24_skel
  iintro ⟨H14, H15⟩
  iapply (load_full (c := (tcT d)) zero2) $$ H14
  iintro H14
  iapply (load_held (c := (tcT d))) $$ H15
  iintro H15
  iapply (store_sub (c := (tcT d))) $$ H15
  iintro H15
  iapply W_pure
  isplitr
  · ipureintro; exact ⟨rfl, rfl, rfl, rfl⟩
  isplitl [H14]
  · iexact H14
  · iexact H15

end Start

end Cert.KernelIdeal.Walk

end
-- ==== Proof.KernelIdealBody.lean ====
module

public import proofs.«01_k».proof.Proof.KernelIdealStart

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ (Pipeline.UD sig nD τ) ℕ

/-! # The whole kernel -/

section Body

variable {B : Mem} {d : Dev nD} (I : In F B d)
variable {defs : Defs nD τ sig (Elt F) Λ₀} {𝒱 : Variants} {bd : Option 𝒱.V}

/-- What the kernel starts from: the arrays it reads, everything it writes at any contents, its semaphores at zero. -/
def Pre : sProp 𝕄 :=
  iprop(Lent (tcT d) B.a0 fullShare I.f0 ∗ Lent (tcT d) B.a1 fullShare I.f1 ∗ Lent (tcT d) B.a2 fullShare I.f2 ∗ Lent (tcT d) B.a3 fullShare I.f3 ∗ Lent (tcT d) B.a4 fullShare I.f4 ∗ Lent (tcT d) B.a5 fullShare I.f5 ∗ Lent (tcT d) B.a6 fullShare I.f6
    ∗ HeldAny (Elt F) (tcT d) B.a7 ∗ HeldAny (Elt F) (tcT d) B.a8 ∗ HeldAny (Elt F) (tcT d) B.a9 ∗ HeldAny (Elt F) (tcT d) B.a10 ∗ HeldAny (Elt F) (tcT d) B.a11 ∗ HeldAny (Elt F) (tcT d) B.a12 ∗ HeldAny (Elt F) (tcT d) B.a13 ∗ HeldAny (Elt F) (tcT d) B.a14 ∗ HeldAny (Elt F) (tcT d) B.a15 ∗ HeldAny (Elt F) (tcT d) B.a16 ∗ HeldAny (Elt F) (tcT d) B.a17 ∗ HeldAny (Elt F) (tcT d) B.a18 ∗ HeldAny (Elt F) (tcT d) B.a19 ∗ HeldAny (Elt F) (tcT d) B.a20 ∗ HeldAny (Elt F) (tcT d) B.a21 ∗ HeldAny (Elt F) (tcT d) B.a22
    ∗ semVal ((tcT d), SemLoc.dma B.a23.sem) 0 ∗ semVal ((tcT d), SemLoc.dma (inSem B 0)) 0 ∗ semVal ((tcT d), SemLoc.dma (inSem B 1)) 0 ∗ semVal ((tcT d), SemLoc.dma (inSem B 2)) 0 ∗ semVal ((tcT d), SemLoc.dma (inSem B 3)) 0 ∗ semVal ((tcT d), SemLoc.dma (inSem B 4)) 0 ∗ outSems F B d ∗ guSems F B d ∗ dnSems F B d ∗ Owes (Elt F) (tcT d))

/-- What it ends with: the same, the result written. -/
def Post : sProp 𝕄 :=
  iprop(Lent (tcT d) B.a0 fullShare I.f0 ∗ Lent (tcT d) B.a1 fullShare I.f1 ∗ Lent (tcT d) B.a2 fullShare I.f2 ∗ Lent (tcT d) B.a3 fullShare I.f3 ∗ Lent (tcT d) B.a4 fullShare I.f4 ∗ Lent (tcT d) B.a5 fullShare I.f5 ∗ Lent (tcT d) B.a6 fullShare I.f6
    ∗ Held (Val := Elt F) (tcT d) B.a7 (result I.V) ∗ HeldAny (Elt F) (tcT d) B.a8 ∗ HeldAny (Elt F) (tcT d) B.a9 ∗ HeldAny (Elt F) (tcT d) B.a10 ∗ HeldAny (Elt F) (tcT d) B.a11 ∗ HeldAny (Elt F) (tcT d) B.a12 ∗ HeldAny (Elt F) (tcT d) B.a13 ∗ HeldAny (Elt F) (tcT d) B.a14 ∗ HeldAny (Elt F) (tcT d) B.a15 ∗ HeldAny (Elt F) (tcT d) B.a16 ∗ HeldAny (Elt F) (tcT d) B.a17 ∗ HeldAny (Elt F) (tcT d) B.a18 ∗ HeldAny (Elt F) (tcT d) B.a19 ∗ HeldAny (Elt F) (tcT d) B.a20 ∗ HeldAny (Elt F) (tcT d) B.a21 ∗ HeldAny (Elt F) (tcT d) B.a22
    ∗ semVal ((tcT d), SemLoc.dma B.a23.sem) 0 ∗ semVal ((tcT d), SemLoc.dma (inSem B 0)) 0 ∗ semVal ((tcT d), SemLoc.dma (inSem B 1)) 0 ∗ semVal ((tcT d), SemLoc.dma (inSem B 2)) 0 ∗ semVal ((tcT d), SemLoc.dma (inSem B 3)) 0 ∗ semVal ((tcT d), SemLoc.dma (inSem B 4)) 0 ∗ outSems F B d ∗ guSems F B d ∗ dnSems F B d ∗ Owes (Elt F) (tcT d))

theorem gu_both (i : ℕ) : iprop(guAll I (sl i) (fun _ => none) ∗ guAll I (sl (i + 1)) (fun _ => none)) ⊢ iprop(guAll I 0 (fun _ => none) ∗ guAll I 1 (fun _ => none)) := by
  rcases Nat.mod_two_eq_zero_or_one i with h | h
  · rw [show sl i = 0 from Fin.ext h, show sl (i + 1) = 1 from Fin.ext (by change (i + 1) % 2 = 1; omega)]
  · rw [show sl i = 1 from Fin.ext h, show sl (i + 1) = 0 from Fin.ext (by change (i + 1) % 2 = 0; omega)]
    iintro ⟨H1, H0⟩
    isplitl [H0]
    · iexact H0
    · iexact H1

theorem dn_both (i : ℕ) : iprop(dnAll I (sl i) (fun _ => none) ∗ dnAll I (sl (i + 1)) (fun _ => none)) ⊢ iprop(dnAll I 0 (fun _ => none) ∗ dnAll I 1 (fun _ => none)) := by
  rcases Nat.mod_two_eq_zero_or_one i with h | h
  · rw [show sl i = 0 from Fin.ext h, show sl (i + 1) = 1 from Fin.ext (by change (i + 1) % 2 = 1; omega)]
  · rw [show sl i = 1 from Fin.ext h, show sl (i + 1) = 0 from Fin.ext (by change (i + 1) % 2 = 0; omega)]
    iintro ⟨H1, H0⟩
    isplitl [H0]
    · iexact H0
    · iexact H1

/-- Once every active expert is done, both rings are free. -/
theorem T4_end {T : S33.Idx → Elt F .i32} {n : Fin 33} (hcn : curE I n n.val = none) (hon : (fun _ : Fin 4 => if n.val = n.val then 1 else 0) = fun _ => 1) :
    T4 I T n n.val ⊢ iprop(Held (Val := Elt F) (tcT d) B.a9 T ∗ Held (Val := Elt F) (tcT d) B.a12 (idsT I.V) ∗ Held (Val := Elt F) (tcT d) B.a13 (rwT I.V)
      ∗ Held (Val := Elt F) (tcT d) B.a15 (xs I.V) ∗ Held (Val := Elt F) (tcT d) B.a16 I.V.sgu ∗ Held (Val := Elt F) (tcT d) B.a17 I.V.sdn ∗ Owes (Elt F) (tcT d)
      ∗ HeldAny (Elt F) (tcT d) B.a18 ∗ Held (Val := Elt F) (tcT d) B.a19 (accAt I.V n.val)
      ∗ (guAll I 0 (fun _ => none) ∗ guAll I 1 (fun _ => none)) ∗ (dnAll I 0 (fun _ => none) ∗ dnAll I 1 (fun _ => none)) ∗ outAll I (fun _ => 1)) := by
  unfold T4 Stat
  rw [hcn, hon]
  iintro ⟨⟨H9, H12, H13, H15, H16, H17, HO⟩, H18, H19, HG0, HG1, HD0, HD1, HU⟩
  isplitl [H9]
  · iexact H9
  isplitl [H12]
  · iexact H12
  isplitl [H13]
  · iexact H13
  isplitl [H15]
  · iexact H15
  isplitl [H16]
  · iexact H16
  isplitl [H17]
  · iexact H17
  isplitl [HO]
  · iexact HO
  isplitl [H18]
  · iexact H18
  isplitl [H19]
  · iexact H19
  isplitl [HG0 HG1]
  · iapply (gu_both I n.val)
    isplitl [HG0]
    · iexact HG0
    · iexact HG1
  isplitl [HD0 HD1]
  · iapply (dn_both I n.val)
    isplitl [HD0]
    · iexact HD0
    · iexact HD1
  iexact HU

theorem tab_active {T : S33.Idx → Elt F .i32} (V : Vals F) (hT : TabL (actl V 32) T) (n : Fin 33) (hn : n.val = nAct V) (i : Fin 33) (hi : i.val < n.val) :
    tab (F := F) T i = wd (act V i.val) := by
  have h : i.val < (actl V 32).length := by rw [hn] at hi; exact hi
  rw [hT i h]
  unfold act
  rw [List.getD_eq_getElem?_getD, List.getElem?_eq_getElem h]
  rfl

theorem act_zero (V : Vals F) : act V 0 = firstE V := by
  have h : ∀ j, (actl V j).head? = some (firstE V) := by
    intro j
    induction j with
    | zero => rfl
    | succ j ih =>
      unfold actl
      split
      · split
        · rw [List.head?_append, ih]; rfl
        · exact ih
      · exact ih
  have h' := h 32
  unfold act
  rw [List.head?_eq_getElem?] at h'
  rw [List.getD_eq_getElem?_getD, h']
  rfl

theorem body_W (h0 : (idw (F := F) I.V.ids 0 0).toNat < 32) :
    Pre I ⊢ W defs 𝒱 (tcT d) bd (cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun _ => Post I) := by
  have hsh : Lent (tcT d) B.a1 fullShare I.f1 ⊢ iprop((Lent (tcT d) B.a1 (idTok 0) I.f1 ∗ Lent (tcT d) B.a1 (idTok 1) I.f1)
      ∗ ((Lent (tcT d) B.a1 (idTok 0) I.f1 ∗ Lent (tcT d) B.a1 (idTok 1) I.f1) -∗ Lent (tcT d) B.a1 fullShare I.f1)) := by
    have h := split_shares (c := (tcT d)) B.a1 fullShare 2 I.f1
    rw [bigSep_fin_two] at h
    exact h
  have hpos : 0 < nAct I.V := actl_length_pos I.V 32
  obtain ⟨n, hn⟩ : ∃ n : Fin 33, n.val = nAct I.V := ⟨⟨nAct I.V, Nat.lt_succ_of_le (actl_length_le I.V 32)⟩, rfl⟩
  have hc0 : curE I n 0 = some (firstE I.V) := by unfold curE; rw [if_pos (by omega), act_zero]
  have hcn : curE I n n.val = none := if_neg (lt_irrefl _)
  have ho0 : (fun _ : Fin 4 => if 0 = n.val then 1 else 0) = fun _ => 0 := funext fun _ => if_neg (by omega)
  have hon : (fun _ : Fin 4 => if n.val = n.val then 1 else 0) = fun _ => 1 := funext fun _ => if_pos rfl
  rw [cc0_moe_swiglu_fp8_eq_skeleton]
  unfold cc0_moe_swiglu_fp8_skel Pre
  iintro ⟨L0, L1, L2, L3, L4, L5, L6, H7, H8, H9, H10, H11, H12, H13, H14, H15, H16, H17, H18, H19, H20, H21, H22, S23, S0, S1, S2, S3, S4, SO, SG, SD, HO⟩
  icases hsh $$ L1 with ⟨⟨L1a, L1b⟩, L1k⟩
  icases (gu_open I) $$ [L3 H21 SG] with ⟨⟨HG0, HG1⟩, HGk⟩
  · isplitl [L3]
    · iexact L3
    isplitl [H21]
    · iexact H21
    iexact SG
  icases (dn_open I) $$ [L5 H22 SD] with ⟨⟨HD0, HD1⟩, HDk⟩
  · isplitl [L5]
    · iexact L5
    isplitl [H22]
    · iexact H22
    iexact SD
  icases (out_open I) $$ [H20 H7 SO] with ⟨HU, HUk⟩
  · isplitl [H20]
    · iexact H20
    isplitl [H7]
    · iexact H7
    iexact SO
  iapply (Cert.Walk.piece (part17_W I h0)) $$ [L1a H8 S23 L0 H14 S0 L1b H10 S1 L2 H11 S2 L4 H16 S3 L6 H17 S4 HO]
  · isplitl [L1a]
    · iexact L1a
    isplitl [H8]
    · iexact H8
    isplitl [S23]
    · iexact S23
    isplitl [L0]
    · iexact L0
    isplitl [H14]
    · iexact H14
    isplitl [S0]
    · iexact S0
    isplitl [L1b]
    · iexact L1b
    isplitl [H10]
    · iexact H10
    isplitl [S1]
    · iexact S1
    isplitl [L2]
    · iexact L2
    isplitl [H11]
    · iexact H11
    isplitl [S2]
    · iexact S2
    isplitl [L4]
    · iexact L4
    isplitl [H16]
    · iexact H16
    isplitl [S3]
    · iexact S3
    isplitl [L6]
    · iexact L6
    isplitl [H17]
    · iexact H17
    isplitl [S4]
    · iexact S4
    iexact HO
  iintro %r ⟨%hr, H8, L1a, S23, F0, F1, F2, F3, F4, HO⟩
  obtain ⟨v10, hw1, c0, c1⟩ := r
  obtain ⟨rfl, rfl, rfl⟩ := hr
  dsimp only
  iapply (Cert.Walk.piece (part18_W I (firstE I.V) hw1 0#32 1#32)) $$ [HG0 HD0]
  · isplitl [HG0]
    · iexact HG0
    iexact HD0
  iintro %_ ⟨HG0, HD0⟩
  iapply (pure_step (p := k0_part19 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := ⟨0#32, 0#32, 1#32⟩) rfl)
  dsimp only
  iapply (Cert.Walk.piece (part20_W I 0#32 1#32)) $$ H8
  iintro %b ⟨H8, %hb⟩
  subst hb
  iapply (Cert.Walk.piece (part21_W (B := B) (d := d) (firstE I.V))) $$ H9
  iintro %r ⟨%hr, H9⟩
  subst hr
  iapply (Cert.Walk.piece (part22_W I)) $$ H9
  iintro %m ⟨%T, H9, %hT⟩
  obtain ⟨rfl, hT⟩ := hT
  have hTab : Tab I n T := fun i hi => tab_active I.V hT n hn i hi
  rw [← hn]
  iapply (Cert.Walk.piece (part23_W I n)) $$ [F0 F1 F2 F3 F4 HO H19 H15 H12 H13]
  · isplitl [F0]
    · iexact F0
    isplitl [F1]
    · iexact F1
    isplitl [F2]
    · iexact F2
    isplitl [F3]
    · iexact F3
    isplitl [F4]
    · iexact F4
    isplitl [HO]
    · iexact HO
    isplitl [H19]
    · iexact H19
    isplitl [H15]
    · iexact H15
    isplitl [H12]
    · iexact H12
    iexact H13
  iintro %r ⟨H19, H15, H12, H13, H14, L0, S0, H10, L1b, S1, H11, L2, S2, H16, L4, S3, H17, L6, S4, HO⟩
  obtain ⟨hw3⟩ := r
  iapply (Cert.Walk.piece (part24_W I _)) $$ [H14 H15]
  · isplitl [H14]
    · iexact H14
    iexact H15
  iintro %r ⟨%hr, H14, H15⟩
  obtain ⟨a1, a2, a3, v57, a4⟩ := r
  obtain ⟨rfl, rfl, rfl, rfl⟩ := hr
  dsimp only
  iapply (Cert.Walk.piece (part25_W I hn hTab hw3)) $$ [H9 H12 H13 H15 H16 H17 HO H18 H19 HG0 HG1 HD0 HD1 HU]
  · unfold T4 Stat
    rw [hc0, ho0]
    isplitl [H9 H12 H13 H15 H16 H17 HO]
    · isplitl [H9]
      · iexact H9
      isplitl [H12]
      · iexact H12
      isplitl [H13]
      · iexact H13
      isplitl [H15]
      · iexact H15
      isplitl [H16]
      · iexact H16
      isplitl [H17]
      · iexact H17
      iexact HO
    isplitl [H18]
    · iexact H18
    isplitl [H19]
    · iexact H19
    isplitl [HG0]
    · iexact HG0
    isplitl [HG1]
    · iexact HG1
    isplitl [HD0]
    · iexact HD0
    isplitl [HD1]
    · iexact HD1
    iexact HU
  iintro %_ H
  iapply (pure_step (p := k0_part26 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := 1#32) rfl)
  iapply (Cert.Walk.piece (part27_W (n := n) hw3 _ _ _ _)) $$ H
  iintro %_ H
  iapply (pure_step (p := k0_part28 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (x := ⟨0#32, 1#32⟩) rfl)
  dsimp only
  icases (T4_end I hcn hon) $$ H with ⟨H9, H12, H13, H15, H16, H17, HO, H18, H19, HG, HD, HU⟩
  iapply (Cert.Walk.piece (part29_W I _ _)) $$ [HU HO]
  · isplitl [HU]
    · iexact HU
    iexact HO
  iintro %_ ⟨HU, HO⟩
  icases HGk $$ HG with ⟨L3, H21, SG⟩
  icases HDk $$ HD with ⟨L5, H22, SD⟩
  icases HUk $$ HU with ⟨H20, H7, SO⟩
  iapply W_pure
  unfold Post
  isplitl [L0]
  · iexact L0
  isplitl [L1a L1b L1k]
  · iapply L1k
    isplitl [L1a]
    · iexact L1a
    · iexact L1b
  isplitl [L2]
  · iexact L2
  isplitl [L3]
  · iexact L3
  isplitl [L4]
  · iexact L4
  isplitl [L5]
  · iexact L5
  isplitl [L6]
  · iexact L6
  isplitl [H7]
  · iexact H7
  isplitl [H8]
  · iapply held_any $$ H8
  isplitl [H9]
  · iapply held_any $$ H9
  isplitl [H10]
  · iapply held_any $$ H10
  isplitl [H11]
  · iapply held_any $$ H11
  isplitl [H12]
  · iapply held_any $$ H12
  isplitl [H13]
  · iapply held_any $$ H13
  isplitl [H14]
  · iapply held_any $$ H14
  isplitl [H15]
  · iapply held_any $$ H15
  isplitl [H16]
  · iapply held_any $$ H16
  isplitl [H17]
  · iapply held_any $$ H17
  isplitl [H18]
  · iexact H18
  isplitl [H19]
  · iapply held_any $$ H19
  isplitl [H20]
  · iexact H20
  isplitl [H21]
  · iexact H21
  isplitl [H22]
  · iexact H22
  isplitl [S23]
  · iexact S23
  isplitl [S0]
  · iexact S0
  isplitl [S1]
  · iexact S1
  isplitl [S2]
  · iexact S2
  isplitl [S3]
  · iexact S3
  isplitl [S4]
  · iexact S4
  isplitl [SO]
  · iexact SO
  isplitl [SG]
  · iexact SG
  isplitl [SD]
  · iexact SD
  iexact HO

end Body

end Cert.KernelIdeal.Walk

end
-- ==== Proof.KernelIdealLaunch.lean ====
/-
  Hand-written, untrusted. The launch: the kernel's triple read on the program's own buffers and semaphores, and what a
  run of the whole program then ends in: the result's array, the arguments, the semaphores.
-/
module

public import proofs.«01_k».proof.Proof.KernelIdealBody
public import proofs.«01_k».proof.Proof.Gen.KernelIdeal.Frame
public import proofs.«01_k».proof.Proof.Gen.KernelIdeal.Points
public import Idealize.ShloMosaic.Lib.Pipeline.FrameBody
public import Idealize.ShloMosaic.Lib.Pipeline.FrameValue

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.View (ld)
open Idealize.ShloMosaic.Pipeline (Dat Cfg Window BodyObligation cellOf)

variable {F : FTy → Type} [FloatOps F]

local notation "𝕄" => MT nD τ sig Unit (Elt F) ℕ (Pipeline.UD sig nD τ) ℕ

/-! # The program's buffers as the kernel's -/

/-- The kernel's operands in this program. -/
abbrev B0 : Mem := ⟨Memref.whole main_v4, Memref.isWhole_whole _, Memref.whole main_v1, Memref.isWhole_whole _, Memref.whole main_v3, Memref.isWhole_whole _, Memref.whole main_arg3, Memref.isWhole_whole _, Memref.whole main_arg4, Memref.isWhole_whole _, Memref.whole main_arg5, Memref.isWhole_whole _, Memref.whole main_arg6, Memref.isWhole_whole _, Memref.whole main_v5, Memref.isWhole_whole _, Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _, cc0_scratch15, cc0_scratch16, cc0_scratch17, cc0_scratch18, cc0_scratch19⟩

theorem bodyAt0_B0 (t : Fin grid0.N) : bodyAt0 (F := F) t = (let B := B0; cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) := rfl

section Whole

theorem held_whole (d : Dev nD) (b : Ref sig .tc) (X : Buf (Elt F) ((tcT d).loc b)) :
    (Held (Val := Elt F) (tcT d) (Memref.whole b) X : sProp 𝕄) ⊢ ((tcT d).loc b ↦{fullShare} X) := by
  unfold Held; rw [Memref.view_whole, View.set_whole]
  iintro ⟨%f, H, %h⟩
  have h' : f = X := h
  subst h'
  iexact H

end Whole

/-! # The semaphores -/

/-- The kernel's thirty-two transfer semaphores. -/
abbrev osem0 : Fin 32 → SemLoc sig := fun j => SemLoc.dma j
theorem ownSemFacts0 : Pipeline.OwnSemFacts cfg0.spec osem0 := by decide +kernel

theorem inSem0 : ∀ k : Fin 5, inSem B0 k = ⟨1 + k.val, show _ < 32 by omega⟩ := by decide +kernel
theorem outSem0 : ∀ k : Fin 4, outSem B0 k = ⟨6 + k.val, show _ < 32 by omega⟩ := by decide +kernel
theorem guSem0 : ∀ (s : Fin 2) (k : Fin 7), guSem B0 s k = ⟨10 + 7 * s.val + k.val, show _ < 32 by omega⟩ := by decide +kernel
theorem dnSem0 : ∀ (s : Fin 2) (k : Fin 4), dnSem B0 s k = ⟨24 + 4 * s.val + k.val, show _ < 32 by omega⟩ := by decide +kernel

variable (F) in
theorem ownSems00_eq (d : Dev nD) : (Pipeline.ownSems0 osem0 d : sProp 𝕄) = iprop(semVal ((tcT d), SemLoc.dma (0 : DmaSem sig)) 0 ∗ semVal ((tcT d), SemLoc.dma (1 : DmaSem sig)) 0 ∗ semVal ((tcT d), SemLoc.dma (2 : DmaSem sig)) 0 ∗ semVal ((tcT d), SemLoc.dma (3 : DmaSem sig)) 0 ∗ semVal ((tcT d), SemLoc.dma (4 : DmaSem sig)) 0 ∗ semVal ((tcT d), SemLoc.dma (5 : DmaSem sig)) 0 ∗ semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0 ∗ semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0 ∗ semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0 ∗ semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0 ∗ semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0) := by
  rw [Pipeline.ownSems0_eq_of_list d osem0 [0, 1, 2, 3, 4, 5, 6, 7, 8, 9, 10, 11, 12, 13, 14, 15, 16, 17, 18, 19, 20, 21, 22, 23, 24, 25, 26, 27, 28, 29, 30, 31] (by decide +kernel) (by decide +kernel)]; rfl

variable (F) in
theorem outSems0_eq (d : Dev nD) : (outSems F B0 d : sProp 𝕄) = iprop(semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0) := by
  have h : (outSems F B0 d : sProp 𝕄) = bigSep Finset.univ fun k : Fin 4 => semVal ((tcT d), SemLoc.dma (⟨6 + k.val, show _ < 32 by omega⟩ : DmaSem sig)) 0 :=
    bigSep_congr fun k _ => by rw [outSem0 k]
  rw [h, BI.bigSep_univ_eq_bigSepL [0, 1, 2, 3] (by decide) (by decide)]
  rfl

variable (F) in
theorem guSems0_eq (d : Dev nD) : (guSems F B0 d : sProp 𝕄) = iprop((semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0) ∗ (semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0)) := by
  have h : (guSems F B0 d : sProp 𝕄) = bigSep Finset.univ fun s : Fin 2 => bigSep Finset.univ fun k : Fin 7 => semVal ((tcT d), SemLoc.dma (⟨10 + 7 * s.val + k.val, show _ < 32 by omega⟩ : DmaSem sig)) 0 :=
    bigSep_congr fun s _ => bigSep_congr fun k _ => by rw [guSem0 s k]
  rw [h, bigSep_fin_two, BI.bigSep_univ_eq_bigSepL [0, 1, 2, 3, 4, 5, 6] (by decide) (by decide), BI.bigSep_univ_eq_bigSepL [0, 1, 2, 3, 4, 5, 6] (by decide) (by decide)]
  rfl

variable (F) in
theorem dnSems0_eq (d : Dev nD) : (dnSems F B0 d : sProp 𝕄) = iprop((semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0) ∗ (semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0)) := by
  have h : (dnSems F B0 d : sProp 𝕄) = bigSep Finset.univ fun s : Fin 2 => bigSep Finset.univ fun k : Fin 4 => semVal ((tcT d), SemLoc.dma (⟨24 + 4 * s.val + k.val, show _ < 32 by omega⟩ : DmaSem sig)) 0 :=
    bigSep_congr fun s _ => bigSep_congr fun k _ => by rw [dnSem0 s k]
  rw [h, bigSep_fin_two, BI.bigSep_univ_eq_bigSepL [0, 1, 2, 3] (by decide) (by decide), BI.bigSep_univ_eq_bigSepL [0, 1, 2, 3] (by decide) (by decide)]
  rfl

variable (F) in
/-- The semaphores as the kernel's triple groups them. -/
abbrev semsK (d : Dev nD) : sProp 𝕄 :=
  iprop(semVal ((tcT d), SemLoc.dma B0.a23.sem) 0 ∗ semVal ((tcT d), SemLoc.dma (inSem B0 0)) 0 ∗ semVal ((tcT d), SemLoc.dma (inSem B0 1)) 0 ∗ semVal ((tcT d), SemLoc.dma (inSem B0 2)) 0 ∗ semVal ((tcT d), SemLoc.dma (inSem B0 3)) 0 ∗ semVal ((tcT d), SemLoc.dma (inSem B0 4)) 0 ∗ outSems F B0 d ∗ guSems F B0 d ∗ dnSems F B0 d)

variable (F) in
theorem semsK_eq (d : Dev nD) : (semsK F d : sProp 𝕄) = iprop(semVal ((tcT d), SemLoc.dma (0 : DmaSem sig)) 0 ∗ semVal ((tcT d), SemLoc.dma (1 : DmaSem sig)) 0 ∗ semVal ((tcT d), SemLoc.dma (2 : DmaSem sig)) 0 ∗ semVal ((tcT d), SemLoc.dma (3 : DmaSem sig)) 0 ∗ semVal ((tcT d), SemLoc.dma (4 : DmaSem sig)) 0 ∗ semVal ((tcT d), SemLoc.dma (5 : DmaSem sig)) 0 ∗ (semVal ((tcT d), SemLoc.dma (6 : DmaSem sig)) 0 ∗ semVal ((tcT d), SemLoc.dma (7 : DmaSem sig)) 0 ∗ semVal ((tcT d), SemLoc.dma (8 : DmaSem sig)) 0 ∗ semVal ((tcT d), SemLoc.dma (9 : DmaSem sig)) 0) ∗ ((semVal ((tcT d), SemLoc.dma (10 : DmaSem sig)) 0 ∗ semVal ((tcT d), SemLoc.dma (11 : DmaSem sig)) 0 ∗ semVal ((tcT d), SemLoc.dma (12 : DmaSem sig)) 0 ∗ semVal ((tcT d), SemLoc.dma (13 : DmaSem sig)) 0 ∗ semVal ((tcT d), SemLoc.dma (14 : DmaSem sig)) 0 ∗ semVal ((tcT d), SemLoc.dma (15 : DmaSem sig)) 0 ∗ semVal ((tcT d), SemLoc.dma (16 : DmaSem sig)) 0) ∗ (semVal ((tcT d), SemLoc.dma (17 : DmaSem sig)) 0 ∗ semVal ((tcT d), SemLoc.dma (18 : DmaSem sig)) 0 ∗ semVal ((tcT d), SemLoc.dma (19 : DmaSem sig)) 0 ∗ semVal ((tcT d), SemLoc.dma (20 : DmaSem sig)) 0 ∗ semVal ((tcT d), SemLoc.dma (21 : DmaSem sig)) 0 ∗ semVal ((tcT d), SemLoc.dma (22 : DmaSem sig)) 0 ∗ semVal ((tcT d), SemLoc.dma (23 : DmaSem sig)) 0)) ∗ ((semVal ((tcT d), SemLoc.dma (24 : DmaSem sig)) 0 ∗ semVal ((tcT d), SemLoc.dma (25 : DmaSem sig)) 0 ∗ semVal ((tcT d), SemLoc.dma (26 : DmaSem sig)) 0 ∗ semVal ((tcT d), SemLoc.dma (27 : DmaSem sig)) 0) ∗ (semVal ((tcT d), SemLoc.dma (28 : DmaSem sig)) 0 ∗ semVal ((tcT d), SemLoc.dma (29 : DmaSem sig)) 0 ∗ semVal ((tcT d), SemLoc.dma (30 : DmaSem sig)) 0 ∗ semVal ((tcT d), SemLoc.dma (31 : DmaSem sig)) 0))) := by
  unfold semsK
  rw [outSems0_eq, guSems0_eq, dnSems0_eq, inSem0, inSem0, inSem0, inSem0, inSem0]; rfl

variable (F) in
theorem sems_in (d : Dev nD) : (Pipeline.ownSems0 osem0 d : sProp 𝕄) ⊢ semsK F d := by
  rw [semsK_eq, ownSems00_eq]
  iintro ⟨S0, S1, S2, S3, S4, S5, S6, S7, S8, S9, S10, S11, S12, S13, S14, S15, S16, S17, S18, S19, S20, S21, S22, S23, S24, S25, S26, S27, S28, S29, S30, S31⟩
  isplitl [S0]
  · iexact S0
  isplitl [S1]
  · iexact S1
  isplitl [S2]
  · iexact S2
  isplitl [S3]
  · iexact S3
  isplitl [S4]
  · iexact S4
  isplitl [S5]
  · iexact S5
  isplitl [S6 S7 S8 S9]
  · isplitl [S6]
    · iexact S6
    isplitl [S7]
    · iexact S7
    isplitl [S8]
    · iexact S8
    iexact S9
  isplitl [S10 S11 S12 S13 S14 S15 S16 S17 S18 S19 S20 S21 S22 S23]
  · isplitl [S10 S11 S12 S13 S14 S15 S16]
    · isplitl [S10]
      · iexact S10
      isplitl [S11]
      · iexact S11
      isplitl [S12]
      · iexact S12
      isplitl [S13]
      · iexact S13
      isplitl [S14]
      · iexact S14
      isplitl [S15]
      · iexact S15
      iexact S16
    isplitl [S17]
    · iexact S17
    isplitl [S18]
    · iexact S18
    isplitl [S19]
    · iexact S19
    isplitl [S20]
    · iexact S20
    isplitl [S21]
    · iexact S21
    isplitl [S22]
    · iexact S22
    iexact S23
  isplitl [S24 S25 S26 S27]
  · isplitl [S24]
    · iexact S24
    isplitl [S25]
    · iexact S25
    isplitl [S26]
    · iexact S26
    iexact S27
  isplitl [S28]
  · iexact S28
  isplitl [S29]
  · iexact S29
  isplitl [S30]
  · iexact S30
  iexact S31

variable (F) in
theorem sems_out (d : Dev nD) : (semsK F d : sProp 𝕄) ⊢ Pipeline.ownSems0 osem0 d := by
  rw [semsK_eq, ownSems00_eq]
  iintro ⟨S0, S1, S2, S3, S4, S5, ⟨S6, S7, S8, S9⟩, ⟨⟨S10, S11, S12, S13, S14, S15, S16⟩, ⟨S17, S18, S19, S20, S21, S22, S23⟩⟩, ⟨⟨S24, S25, S26, S27⟩, ⟨S28, S29, S30, S31⟩⟩⟩
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S10]
  · iexact S10
  isplitl [S11]
  · iexact S11
  isplitl [S12]
  · iexact S12
  isplitl [S13]
  · iexact S13
  isplitl [S14]
  · iexact S14
  isplitl [S15]
  · iexact S15
  isplitl [S16]
  · iexact S16
  isplitl [S17]
  · iexact S17
  isplitl [S18]
  · iexact S18
  isplitl [S19]
  · iexact S19
  isplitl [S20]
  · iexact S20
  isplitl [S21]
  · iexact S21
  isplitl [S22]
  · iexact S22
  isplitl [S23]
  · iexact S23
  isplitl [S24]
  · iexact S24
  isplitl [S25]
  · iexact S25
  isplitl [S26]
  · iexact S26
  isplitl [S27]
  · iexact S27
  isplitl [S28]
  · iexact S28
  isplitl [S29]
  · iexact S29
  isplitl [S30]
  · iexact S30
  iexact S31

/-! # The arrays -/

/-- The arrays the kernel reads. -/
abbrev H0 : Finset (Ref sig .tc) := {main_v4, main_v1, main_v3, main_arg3, main_arg4, main_arg5, main_arg6}
/-- The array it writes. -/
abbrev R0 : Finset (Ref sig .tc) := {main_v5}
theorem H0_sub : H0 ⊆ Pipeline.restRefs sig spec0 := by decide +kernel
theorem R0_sub : R0 ⊆ Pipeline.restRefs sig spec0 \ H0 := by decide +kernel

variable (m : (ℓ : Loc nD τ sig) → Buf (Elt F) ℓ)

/-- What the kernel's arrays hold when it starts. -/
abbrev I0 (d : Dev nD) : In F B0 d :=
  ⟨V m d main_v4, V m d main_v1, V m d main_v3, V m d main_arg3, V m d main_arg4, V m d main_arg5, V m d main_arg6⟩

/-- What the arrays hold once it is done: the result written, the others as they were. -/
abbrev G0 (d : Dev nD) : (b : Ref sig .tc) → Buf (Elt F) ((d.tc : Thread nD τ).loc b) := Function.update (V m d) main_v5 (result (I0 m d).V)

theorem hbm_eq (d : Dev nD) : (bigSep H0 fun b => ((d.tc : Thread nD τ).loc b) ↦{fullShare} V m d b : sProp 𝕄)
    = iprop(((tcT d).loc main_v4 ↦{fullShare} V m d main_v4) ∗ ((tcT d).loc main_v1 ↦{fullShare} V m d main_v1) ∗ ((tcT d).loc main_v3 ↦{fullShare} V m d main_v3) ∗ ((tcT d).loc main_arg3 ↦{fullShare} V m d main_arg3) ∗ ((tcT d).loc main_arg4 ↦{fullShare} V m d main_arg4) ∗ ((tcT d).loc main_arg5 ↦{fullShare} V m d main_arg5) ∗ ((tcT d).loc main_arg6 ↦{fullShare} V m d main_arg6)) := by
  rw [BI.bigSep_eq_bigSepL_of_eq [main_v4, main_v1, main_v3, main_arg3, main_arg4, main_arg5, main_arg6] (by decide +kernel) (by decide +kernel)]; rfl

theorem routed_eq (d : Dev nD) (W : (b : Ref sig .tc) → Buf (Elt F) ((d.tc : Thread nD τ).loc b)) :
    (Pipeline.routed R0 d W : sProp 𝕄) = ((tcT d).loc main_v5 ↦{fullShare} W main_v5) := by
  unfold Pipeline.routed; rw [BI.bigSep_eq_bigSepL_of_eq [main_v5] (by decide +kernel) (by decide +kernel)]; rfl

theorem enter (d : Dev nD) : iprop(Pipeline.ΦDRG osem0 spec0 H0 R0 (V m) (V m) d ∗ (∃ w, owes (tcT d) 0 w)) ⊢ iprop(Pre (I0 m d) ∗ (∃ r, prngReg d r)) := by
  rw [Pipeline.ΦDRG_eq, hbm_eq, routed_eq, show Pipeline.scopedRest spec0 d = Pipeline.scopedRest cfg0.spec d from rfl, scopedRest0_eq]
  unfold Pre Lent HeldAny Cert.Walk.Owes
  simp only [Memref.view_whole, View.set_whole]
  iintro ⟨⟨⟨R2, R3, R4, R5, R6, R7, R8, R9, R10, R11, R12, R13, R14, R0, R1⟩, HP, HS, ⟨H0, H1, H2, H3, H4, H5, H6⟩, HO⟩, HW⟩
  isplitr [HP]
  swap
  · iexact HP
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [HO]
  · iexists _; iexact HO
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  isplitl [R11]
  · iexact R11
  isplitl [R12]
  · iexact R12
  isplitl [R13]
  · iexact R13
  isplitl [R14]
  · iexact R14
  icases (sems_in F d) $$ HS with ⟨T0, T1, T2, T3, T4, T5, TU, TG, TD⟩
  isplitl [T0]
  · iexact T0
  isplitl [T1]
  · iexact T1
  isplitl [T2]
  · iexact T2
  isplitl [T3]
  · iexact T3
  isplitl [T4]
  · iexact T4
  isplitl [T5]
  · iexact T5
  isplitl [TU]
  · iexact TU
  isplitl [TG]
  · iexact TG
  isplitl [TD]
  · iexact TD
  iexact HW

theorem leave (d : Dev nD) : iprop(Post (I0 m d) ∗ (∃ r, prngReg d r)) ⊢ iprop(Pipeline.ΦDRG osem0 spec0 H0 R0 (V m) (G0 m) d ∗ (∃ w, owes (tcT d) 0 w)) := by
  rw [Pipeline.ΦDRG_eq, hbm_eq, routed_eq, show G0 m d main_v5 = result (I0 m d).V from Function.update_self .., show Pipeline.scopedRest spec0 d = Pipeline.scopedRest cfg0.spec d from rfl, scopedRest0_eq]
  unfold Post Lent HeldAny Cert.Walk.Owes
  simp only [Memref.view_whole, View.set_whole]
  iintro ⟨⟨H0, H1, H2, H3, H4, H5, H6, HO, R0, R1, R2, R3, R4, R5, R6, R7, R8, R9, R10, R11, R12, R13, R14, T0, T1, T2, T3, T4, T5, TU, TG, TD, HW⟩, HP⟩
  isplitr [HW]
  swap
  · iexact HW
  isplitl [R2 R3 R4 R5 R6 R7 R8 R9 R10 R11 R12 R13 R14 R0 R1]
  · isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R0]
    · iexact R0
    iexact R1
  isplitl [HP]
  · iexact HP
  isplitl [T0 T1 T2 T3 T4 T5 TU TG TD]
  · iapply (sems_out F d)
    isplitl [T0]
    · iexact T0
    isplitl [T1]
    · iexact T1
    isplitl [T2]
    · iexact T2
    isplitl [T3]
    · iexact T3
    isplitl [T4]
    · iexact T4
    isplitl [T5]
    · iexact T5
    isplitl [TU]
    · iexact TU
    isplitl [TG]
    · iexact TG
    iexact TD
  isplitl [H0 H1 H2 H3 H4 H5 H6]
  · isplitl [H0]
    · iexact H0
    isplitl [H1]
    · iexact H1
    isplitl [H2]
    · iexact H2
    isplitl [H3]
    · iexact H3
    isplitl [H4]
    · iexact H4
    isplitl [H5]
    · iexact H5
    iexact H6
  iapply (held_whole d main_v5 (result (I0 m d).V)) $$ HO

/-! # The launch -/

/-- What the core holds before the region's one point, and after it. -/
def PhiAt (c : Dev nD) : ℕ → sProp 𝕄
  | 0 => Pipeline.ΦDRG osem0 spec0 H0 R0 (V m) (V m) c
  | _ + 1 => Pipeline.ΦDRG osem0 spec0 H0 R0 (V m) (G0 m) c

/-- The region's data: no window, the arrays' state before and after its one point, nothing owed. -/
def dats (_ : Fin 1) (c : Dev nD) : Dat τ (Elt F) Unit ℕ (Pipeline.UD sig nD τ) ℕ cfg0 c where
  A w := (show Fin 0 from w).elim0
  after w t := (show Fin 0 from w).elim0
  Φ t := PhiAt m c t.val
  q _ := fullShare
  owed _ := 0

theorem A_eq (c : Dev nD) (w : Fin cfg0.W) : (dats m 0 c).A w = V m c (Pipeline.arrRef cfg0.spec w) := (show Fin 0 from w).elim0

theorem phi_in (c : Dev nD) (t : Fin cfg0.N) : (dats m 0 c).Φ t.castSucc = Pipeline.ΦDRG osem0 spec0 H0 R0 (V m) (V m) c := by
  rw [show t = t0_0 from fin_N0 t]; rfl

theorem phi_out (c : Dev nD) (t : Fin cfg0.N) : (dats m 0 c).Φ t.succ = Pipeline.ΦDRG osem0 spec0 H0 R0 (V m) (G0 m) c := by
  rw [show t = t0_0 from fin_N0 t]; rfl

theorem sound_body (h0 : ∀ d : Dev nD, (idw (F := F) (I0 m d).V.ids 0 0).toNat < 32) (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [phi_in, phi_out, bodyAt0_B0]
  unfold Dat.owesAt Pipeline.owesWithin
  rw [show (dats m 0 c).owed t.castSucc = 0 from rfl, show (dats m 0 c).owed t.succ = 0 from rfl]
  have hb : Pre (I0 m c) ⊢ wp frame (wpE (defs₀ (F := F)) Variants.none c none) Set.univ (let B := B0; cc0_moe_swiglu_fp8 B.a0 B.h0 B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.a24 B.a25 B.a26 B.a27) (fun _ => Post (I0 m c)) :=
    body_W (bd := none) (I0 m c) (h0 c)
  have hl := leave m c
  iintro ⟨HΦ, %W, -, HW⟩
  icases (enter m c) $$ [HΦ HW] with ⟨HQ, HP⟩
  · isplitl [HΦ]
    · iexact HΦ
    · iexists W; iexact HW
  iapply (W_wand (defs := defs₀ (F := F)) (𝒱 := Variants.none) (c := tcT c) (bd := none) (Q' := fun _ => Post (I0 m c)))
  isplitl [HQ]
  · iapply hb $$ HQ
  iintro %u HQ
  icases hl $$ [HQ HP] with ⟨HΦ, %W', HW⟩
  · isplitl [HQ]
    · iexact HQ
    · iexact HP
  isplitl [HΦ]
  · iexact HΦ
  iexists W'
  isplitr
  · ipureintro; exact fun _ _ => Or.inl trivial
  iexact HW

theorem bigSep_W0 (Φ : Fin cfg0.W → sProp 𝕄) : bigSep Finset.univ Φ = iprop(emp) := by
  rw [show (Finset.univ : Finset (Fin cfg0.W)) = ∅ from rfl]; exact bigSep_empty

theorem defs₀_row (t : Fin cfg0.N) : defs₀ (F := F) .tc cfg0.body (cfg0.bodyArgs t (cfg0.slots t)) = bodyAt0 t := by
  unfold defs₀; rw [Defs.onTc_tc]

theorem body_obligation (h0 : ∀ d : Dev nD, (idw (F := F) (I0 m d).V.ids 0 0).toNat < 32) (c : Dev nD) :
    BodyObligation (dats (F := F) m 0 c) (defs₀ (F := F)) Variants.none () Set.univ := fun t => by
  rw [bigSep_W0, bigSep_W0, defs₀_row]
  refine BIBase.Entails.trans ?_ ((sound_body m h0 c t).trans (wp_mono _ _ _ fun _ => ?_))
  · iintro ⟨H1, H2, -⟩
    isplitl [H1]
    · iexact H1
    · iexact H2
  · iintro ⟨H1, H2⟩
    isplitl [H1]
    · iexact H1
    isplitl [H2]
    · iexact H2
    · itrivial

theorem phi_first (c : Dev nD) : Pipeline.ΦDRG osem0 cfg0.spec H0 R0 (V m) (V m) c ⊢ (dats m 0 c).Φ 0 := Entails.of_eq rfl
theorem phi_last (c : Dev nD) : (dats m 0 c).Φ (Fin.last cfg0.N) ⊢ Pipeline.ΦDRG osem0 cfg0.spec H0 R0 (V m) (G0 m) c := Entails.of_eq rfl

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of the program ends, its arrays but the result as they were before the kernel, the result at what the
    kernel's triple says, every semaphore at zero. -/
theorem run_main (h0 : ∀ d : Dev nD, (idw (F := F) (I0 m d).V.ids 0 0).toNat < 32) (ρ : Dev nD → PrngReg) :
    θ_run (defs (F := F)) (onTc (τ := τ) (main (F := F))) ⟨m, fun _ => 0, ρ⟩
      (fun r => Pipeline.FramePostRG cfgs (dats m) 0 R0 (V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m h0 c).loose) (hshare := fun c w => (show Fin 0 from w).elim0) (howed := fun _ _ => rfl)
    (V := V m) (hmain := hmainD m Variants.none) (hA := A_eq m) (G := G0 m)
    (hin := fun c => phi_first m c) (hout := fun c => phi_last m c)
    (hQ' := fun _ h => h)

set_option maxHeartbeats 800000 in
/-- What a run leaves: the arguments unchanged, the result, the semaphores at zero. -/
theorem run_end (h0 : ∀ d : Dev nD, (idw (F := F) (I0 m d).V.ids 0 0).toNat < 32) (ρ : Dev nD → PrngReg) :
    θ_run (defs (F := F)) (onTc (τ := τ) (main (F := F))) ⟨m, fun _ => 0, ρ⟩
      (fun r => (∀ c : Dev nD,
          r.2.mem ((c : Thread nD τ).loc main_v5) = result (I0 m c).V
          ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r h => ⟨fun c => ⟨by
      rw [h.1.2 c main_v5 (by decide)]; exact Function.update_self .., ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c)⟩, h.2⟩) (run_main m h0 ρ)

end Cert.KernelIdeal.Walk

end
-- ==== Proof.KernelIdealPre.lean ====
/-
  Hand-written, untrusted. The arrays the kernel is handed, read at the program's arguments, and what the precondition
  says of the expert numbers.
-/
module

public import proofs.«01_k».proof.Proof.KernelIdealLaunch
public import proofs.«01_k».proof.Proof.Gen.Pre_experts_exist
public import Idealize.ShloMosaic.Lib.StableHlo.RunRead
public import Idealize.ShloMosaic.Lib.ValueLayout
public import Idealize.ShloMosaic.Lib.WordCmp
public import Idealize.ShloMosaic.Lib.Pipeline.Value

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.ShloMosaic.WordCmp
open Idealize.ShloMosaic.View (ld)
open Idealize.ShloMosaic.ValueIdx (ix1 ix2 ix3 ix4)

variable {F : FTy → Type} [FloatOps F]

/-! # The host's rearrangements -/

section Host

variable (m : (ℓ : Loc nD τ sig) → Buf (Elt F) ℓ)

theorem V_main_v1 (c : Dev nD) (k : Fin 8) (t : Fin 33) :
    V m c main_v1 (ix2 k t) = m ((c : Thread nD τ).loc main_arg1) (ix3 t 0 k) := by
  have h : V m c main_v1 = transpose S8x33 [1, 0] (shapeCast S33x8 (m ((c : Thread nD τ).loc main_arg1)) shapeCasts_S33x1x8_S33x8) transposes_S33x8_S8x33_1_0 := by
    unfold V hostOps0; after_reads_simp; rfl
  rw [h]
  refine (ValueIdx.transpose_ix2_apply _ _ k t).trans ?_
  exact shapeCast_apply _ _ _ _ (by
    refine (Shape.rowMajor_val_three _).trans (Eq.trans ?_ (Shape.rowMajor_val_two _).symm)
    show (t.val * 1 + 0) * 8 + k.val = t.val * 8 + k.val
    omega)

theorem V_main_v3 (c : Dev nD) (k : Fin 8) (t : Fin 33) :
    V m c main_v3 (ix2 k t) = m ((c : Thread nD τ).loc main_arg2) (ix3 t 0 k) := by
  have h : V m c main_v3 = transpose S8x33 [1, 0] (shapeCast S33x8 (m ((c : Thread nD τ).loc main_arg2)) shapeCasts_S33x1x8_S33x8) transposes_S33x8_S8x33_1_0 := by
    unfold V hostOps0; after_reads_simp; rfl
  rw [h]
  refine (ValueIdx.transpose_ix2_apply _ _ k t).trans ?_
  exact shapeCast_apply _ _ _ _ (by
    refine (Shape.rowMajor_val_three _).trans (Eq.trans ?_ (Shape.rowMajor_val_two _).symm)
    show (t.val * 1 + 0) * 8 + k.val = t.val * 8 + k.val
    omega)

theorem V_main_v4 (c : Dev nD) (t : Fin 33) (d : Fin 7168) :
    V m c main_v4 (ix2 t d) = m ((c : Thread nD τ).loc main_arg0) (ix3 t 0 d) := by
  have h : V m c main_v4 = shapeCast S33x7168 (m ((c : Thread nD τ).loc main_arg0)) shapeCasts_S33x1x7168_S33x7168 := by
    unfold V hostOps0; after_reads_simp; rfl
  rw [h]
  exact shapeCast_apply _ _ _ _ (by
    refine (Shape.rowMajor_val_three _).trans (Eq.trans ?_ (Shape.rowMajor_val_two _).symm)
    show (t.val * 1 + 0) * 7168 + d.val = t.val * 7168 + d.val
    omega)

end Host

theorem idw_eq (ids : S8x33.Idx → Elt F .i32) (k : Fin 8) (t : Fin 33) : idw (F := F) ids k t = ids (ix2 k t) := by
  unfold idw
  refine congrArg ids (funext fun a => Fin.ext ?_)
  change _ + 1 * _ = _
  fin_cases a
  · show k.val + 1 * 0 = k.val; omega
  · show t.val + 1 * 0 = t.val; omega

/-! # What the precondition says -/

theorem and1 {a b : BitVec 1} (h : a &&& b = 1#1) : a = 1#1 ∧ b = 1#1 := by
  revert a b; decide

theorem word_range (w : BitVec 32) (h : IntOp.andi (IntOp.cmpi .sge w 0#32) (IntOp.cmpi .slt w 32#32) = 1#1) : w.toNat < 32 := by
  obtain ⟨h1, h2⟩ := and1 h
  rw [cmpi_sge_eq] at h1; rw [cmpi_slt_eq] at h2
  have h1' : (0#32).toInt ≤ w.toInt := by
    by_contra hc; rw [decide_eq_false hc] at h1; exact absurd h1 (by decide)
  have h2' : w.toInt < (32#32).toInt := by
    by_contra hc; rw [decide_eq_false hc] at h2; exact absurd h2 (by decide)
  have e0 : (0#32).toInt = 0 := by decide
  have e1 : (32#32).toInt = 32 := by decide
  rw [e0] at h1'; rw [e1] at h2'
  rw [BitVec.toInt_eq_toNat_cond] at h1' h2'
  have := w.isLt
  split at h1' <;> omega

theorem range_of_pre (a0 a1 a2 a3 a4 a5 a6) (h : Cert.Pre_experts_exist.fn (F := F) a0 a1 a2 a3 a4 a5 a6 = fun _ => 1#1) (t : Fin 33) (k : Fin 8) :
    (a1 (ix3 t 0 k)).toNat < 32 :=
  word_range _ (congrFun h (ix3 t 0 k))

/-! # The run, of memories the precondition holds of -/

section Start

variable (m : (ℓ : Loc nD τ sig) → Buf (Elt F) ℓ)

/-- The arrays the kernel reads, at the program's arguments. -/
theorem I0_ids (c : Dev nD) (k : Fin 8) (t : Fin 33) : idw (F := F) (I0 m c).V.ids k t = m ((c : Thread nD τ).loc main_arg1) (ix3 t 0 k) :=
  (idw_eq _ k t).trans (V_main_v1 m c k t)

theorem start_of_range (h : ∀ (c : Dev nD) (t : Fin 33) (k : Fin 8), (m ((c : Thread nD τ).loc main_arg1) (ix3 t 0 k)).toNat < 32) :
    ∀ d : Dev nD, (idw (F := F) (I0 m d).V.ids 0 0).toNat < 32 := fun d => by
  rw [I0_ids]; exact h d 0 0

end Start

end Cert.KernelIdeal.Walk

end
-- ==== Proof.KernelIdealOnce.lean ====
/-
  Hand-written, untrusted. What the stronger precondition says of the expert numbers: each names an expert, and the eight
  of a token are distinct.
-/
module

public import proofs.«01_k».proof.Proof.KernelIdealPre
public import proofs.«01_k».proof.Proof.Gen.Pre_experts_exist_once

@[expose] public section

set_option maxRecDepth 16384
set_option maxErrors 6

noncomputable section

namespace Cert.KernelIdeal.Walk

open Cert.KernelIdeal Cert.KernelIdeal.Gen Cert.Walk
open Idealize.ShloMosaic Idealize.ShloMosaic.TcCoe Idealize.ShloMosaic.Tactic
open Idealize.ShloMosaic.WordCmp
open Idealize.ShloMosaic.View (ld)
open Idealize.ShloMosaic.ValueIdx (ix1 ix2 ix3 ix4)

variable {F : FTy → Type} [FloatOps F]

section Once

theorem once_at (a0 a1 a2 a3 a4 a5 a6) (h : Cert.Pre_experts_exist_once.fn (F := F) a0 a1 a2 a3 a4 a5 a6 = fun _ => 1#1) (t : Fin 33) (k j : Fin 8) :
    Scalar.select (IntOp.cmpi .eq (BitVec.ofNat 32 k.val) (BitVec.ofNat 32 j.val))
      (IntOp.andi (IntOp.cmpi .sge (a1 (ix3 t 0 k)) 0#32) (IntOp.cmpi .slt (a1 (ix3 t 0 k)) 32#32))
      (IntOp.cmpi .ne (a1 (ix3 t 0 k)) (a1 (ix3 t 0 j))) = 1#1 := by
  refine Eq.trans ?_ (congrFun h (ix4 t 0 k j))
  dsimp only [Cert.Pre_experts_exist_once.fn, Cert.Pre_experts_exist_once.fn_where, select, cmpi, andi, broadcastInDim, iotaInDim, constantI]
  have e1 : ∀ x y : Cert.Pre_experts_exist_once.S33x1x8.Idx, (∀ a, (x a).val = (y a).val) → a1 x = a1 y := fun x y hxy => congrArg a1 (funext fun a => Fin.ext (hxy a))
  refine congr (congr rfl (congrArg₂ IntOp.andi (congrArg₂ (IntOp.cmpi .sge) (e1 _ _ fun a => ?_) rfl) (congrArg₂ (IntOp.cmpi .slt) (e1 _ _ fun a => ?_) rfl)))
    (congrArg₂ (IntOp.cmpi .ne) (e1 _ _ fun a => ?_) (e1 _ _ fun a => ?_))
  all_goals fin_cases a <;> rfl

end Once

/-- Every expert number is below thirty-two, and a token's eight are distinct. -/
theorem once_of_pre (a0 a1 a2 a3 a4 a5 a6) (h : Cert.Pre_experts_exist_once.fn (F := F) a0 a1 a2 a3 a4 a5 a6 = fun _ => 1#1) :
    (∀ (t : Fin 33) (k : Fin 8), (a1 (ix3 t 0 k)).toNat < 32)
      ∧ ∀ (t : Fin 33) (k j : Fin 8), k ≠ j → a1 (ix3 t 0 k) ≠ a1 (ix3 t 0 j) := by
  refine ⟨fun t k => ?_, fun t k j hkj he => ?_⟩
  · have h' := once_at a0 a1 a2 a3 a4 a5 a6 h t k k
    refine word_range _ ?_
    rwa [show Scalar.select (IntOp.cmpi .eq (BitVec.ofNat 32 k.val) (BitVec.ofNat 32 k.val)) (α := BitVec 1) = fun a b => a from by
      funext a b; unfold Scalar.select; rw [if_pos]; rw [cmpi_eq_eq, decide_eq_true rfl]; rfl] at h'
  · have h' := once_at a0 a1 a2 a3 a4 a5 a6 h t k j
    rw [show Scalar.select (IntOp.cmpi .eq (BitVec.ofNat 32 k.val) (BitVec.ofNat 32 j.val)) (α := BitVec 1) = fun a b => b from by
      funext a b; unfold Scalar.select; rw [if_neg]
      clear he h'; clear h; revert k j; decide] at h'
    rw [he] at h'
    change IntOp.cmpi .ne _ _ = 1#1 at h'
    rw [cmpi_ne_eq, decide_eq_false (by simp)] at h'
    exact absurd h' (by decide)

end Cert.KernelIdeal.Walk

end
-- ==== Proof.Moe.lean ====
/-
  Hand-written, untrusted. The mixture of experts over the extended reals, as plain sums: what each expert makes of each
  token, the sum over a token's eight experts, and the same sum gathered expert by expert.
-/
module

public import Idealize.ShloMosaic.PureOps.Ideal
public import Idealize.ShloMosaic.PureOps.Ideal.Laws

@[expose] public section

noncomputable section

namespace Cert.Moe

open Idealize.ShloMosaic
open scoped BigOperators

/-- The seven arrays, by token, expert, slot and column. -/
structure Arr where
  x : Fin 33 → Fin 7168 → EReal
  ids : Fin 33 → Fin 8 → BitVec 32
  rw : Fin 33 → Fin 8 → EReal
  wgu : Fin 32 → Fin 7168 → Fin 1536 → EReal
  sgu : Fin 32 → Fin 1536 → EReal
  wdn : Fin 32 → Fin 768 → Fin 7168 → EReal
  sdn : Fin 32 → Fin 7168 → EReal

/-- Expert `e`'s number as a word. -/
abbrev word (e : Fin 32) : BitVec 32 := BitVec.ofNat 32 e.val

/-- The gate's columns of the first layer, and the other half's. -/
abbrev lo (j : Fin 768) : Fin 1536 := ⟨j.val, by omega⟩
abbrev hi (j : Fin 768) : Fin 1536 := ⟨768 + j.val, by omega⟩

variable (A : Arr)

/-- The first layer, scaled. -/
def gu (e : Fin 32) (t : Fin 33) (n : Fin 1536) : EReal := (∑ q : Fin 7168, A.x t q * A.wgu e q n) * A.sgu e n
/-- The hidden layer. -/
def hidden (e : Fin 32) (t : Fin 33) (j : Fin 768) : EReal := gu A e t (lo j) * Ideal.logistic (gu A e t (lo j)) * gu A e t (hi j)
/-- The second layer, unscaled. -/
def down (e : Fin 32) (t : Fin 33) (d : Fin 7168) : EReal := ∑ j : Fin 768, hidden A e t j * A.wdn e j d
/-- Slot `k`'s share of the result, taken from expert `e`: nothing unless the slot names it. -/
def share (e : Fin 32) (t : Fin 33) (d : Fin 7168) (k : Fin 8) : EReal :=
  if A.ids t k = word e then down A e t d * (A.sdn e d * A.rw t k) else 0
/-- The result: over a token's slots, over the experts. -/
def out (t : Fin 33) (d : Fin 7168) : EReal := ∑ k : Fin 8, ∑ e : Fin 32, share A e t d k

/-- Expert `e`'s share of the result as the kernel adds it: the hidden layer masked, the routing weight summed first. -/
def term (e : Fin 32) (t : Fin 33) (d : Fin 7168) : EReal :=
  (∑ j : Fin 768, (if ∃ k, A.ids t k = word e then hidden A e t j else 0) * A.wdn e j d)
    * (A.sdn e d * ∑ k : Fin 8, if A.ids t k = word e then A.rw t k else 0)

/-- An expert no slot of the token names adds nothing. -/
theorem term_unrouted (e : Fin 32) (t : Fin 33) (d : Fin 7168) (h : ¬ ∃ k, A.ids t k = word e) : term A e t d = 0 := by
  unfold term
  rw [Finset.sum_eq_zero fun j _ => by rw [if_neg h, zero_mul], zero_mul]

/-- A token's eight experts being distinct, what an expert adds is the sum of its slots' shares. -/
theorem term_eq (e : Fin 32) (t : Fin 33) (d : Fin 7168) (hd : ∀ k j, k ≠ j → A.ids t k ≠ A.ids t j) :
    term A e t d = ∑ k : Fin 8, share A e t d k := by
  by_cases h : ∃ k, A.ids t k = word e
  · obtain ⟨k, hk⟩ := h
    have hn : ∀ j, j ≠ k → ¬ A.ids t j = word e := fun j hj he => hd j k hj (he.trans hk.symm)
    unfold term
    rw [Finset.sum_eq_single (f := fun k => if A.ids t k = word e then A.rw t k else 0) k (fun j _ hj => if_neg (hn j hj)) (fun hm => absurd (Finset.mem_univ _) hm),
      Finset.sum_eq_single (f := fun k => share A e t d k) k (fun j _ hj => if_neg (hn j hj)) (fun hm => absurd (Finset.mem_univ _) hm), if_pos hk]
    unfold share down
    rw [if_pos hk]
    exact congrArg (· * _) (Finset.sum_congr rfl fun j _ => by rw [if_pos ⟨k, hk⟩])
  · rw [term_unrouted A e t d h]
    exact (Finset.sum_eq_zero fun k _ => if_neg fun hk => h ⟨k, hk⟩).symm

/-- The result gathered expert by expert. -/
theorem sum_term (t : Fin 33) (d : Fin 7168) (hd : ∀ k j, k ≠ j → A.ids t k ≠ A.ids t j) : ∑ e : Fin 32, term A e t d = out A t d := by
  unfold out
  rw [Finset.sum_comm]
  exact Finset.sum_congr rfl fun e _ => term_eq A e t d hd

end Cert.Moe

end
-- ==== Proof.KernelIdealMath.lean ====
/-
  Hand-written, untrusted. The kernel's values read at an index, over the extended reals: the padded tokens, the first
  layer's sums, the routing weight of a token, its hidden layer, one expert's share of the result.
-/
module

public import proofs.«01_k».proof.Proof.KernelIdealVals
public import proofs.«01_k».proof.Proof.Moe
public import Idealize.ShloMosaic.PureOps.Ideal
public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.IndicatorCount
public import Idealize.ShloMosaic.Lib.WordCmp
public import Idealize.ShloMosaic.Lib.Pipeline.Value

@[expose] public section

set_option maxRecDepth 16384
set_option maxErrors 8

noncomputable section

namespace Cert.KernelIdeal.Walk

open Cert.KernelIdeal Cert.KernelIdeal.Gen
open Idealize.ShloMosaic Idealize.ShloMosaic.TcCoe Idealize.ShloMosaic.WordCmp
open Idealize.ShloMosaic.View (ld)
open Idealize.ShloMosaic.ValueIdx (ix1 ix2 ix3 ix4)
open scoped BigOperators

variable (V : Vals Ideal)

/-- A token's row among the padded ones. -/
abbrev t48 (t : Fin 33) : Fin 48 := ⟨t.val, by omega⟩

/-! ## Tables and padded tokens -/

theorem idsT_apply (t : Fin 33) (k : Fin 8) : idsT V (ix2 t k) = V.ids (ix2 k t) := by
  unfold idsT k0_pay17; dsimp only
  rw [shapeCast_self]; exact ValueIdx.transpose_ix2_apply _ _ t k

theorem rwT_apply (t : Fin 33) (k : Fin 8) : rwT V (ix2 t k) = V.rw (ix2 k t) := by
  unfold rwT k0_pay18; dsimp only
  rw [shapeCast_self]; exact ValueIdx.transpose_ix2_apply _ _ t k

theorem xs_apply (t : Fin 33) (d : Fin 7168) : xs V (ix2 (t48 t) d) = V.x (ix2 t d) := by
  have e : (ix2 (t48 t) d : S48x7168.Idx) = rows34.emb (ix2 (⟨t.val, by omega⟩ : Fin 34) d) := by
    funext a; apply Fin.ext
    fin_cases a
    · show t.val = 0 + 1 * t.val; omega
    · show d.val = 0 + 1 * d.val; omega
  unfold xs
  refine (congrArg _ e).trans ((Rect.overlay_emb _ _ _ _).trans ?_)
  unfold updateSlice
  rw [dif_pos (fun a => by
    fin_cases a
    · exact ⟨Nat.zero_le _, by show t.val < 0 + 33; omega⟩
    · exact ⟨Nat.zero_le _, by show d.val < 0 + 7168; omega⟩)]
  unfold k0_pay19
  rw [shapeCast_self]
  exact congrArg V.x (funext fun a => Fin.ext (by fin_cases a <;> rfl))

/-! ## The first layer -/

/-- One product of the first layer. -/
def xw (e : Fin 32) (t : Fin 33) (n : Fin 1536) (q : ℕ) : EReal :=
  if h : q < 7168 then V.x (ix2 t ⟨q, h⟩) * V.wgu (ix3 e ⟨q, h⟩ n) else 0

theorem pay4_apply (g : FVec Ideal S48x1536 .f32) (x : FVec Ideal S48x1024 .bf16) (w : FVec Ideal S1x1024x1536 .fp8e4m3) (t : Fin 48) (n : Fin 1536) :
    k0_pay4 (F := Ideal) g x w (ix2 t n) = g (ix2 t n) + ∑ r : Fin 1024, x (ix2 t r) * w (ix3 0 r n) := by
  unfold k0_pay4
  rw [shapeCast_self]
  refine congrArg (g (ix2 t n) + ·) ?_
  refine (Ideal.matmul_plain_apply (M := 48) (K := 1024) (N := 1536) none _ _ _ t n).trans ?_
  refine (congrArg₂ (· + ·) (show (constant S48x1536 .f32 0x00000000#32 : FVec Ideal S48x1536 .f32) (ix2 t n) = 0 from Ideal.ofBits_zero_f32) rfl).trans ?_
  rw [zero_add]
  exact Finset.sum_congr rfl fun r _ => congrArg (x (ix2 t r) * ·) (ValueIdx.shapeCast_1ab_ab_apply _ _ r n)

theorem ld_xcol (j : Fin 7) (t : Fin 48) (r : Fin 1024) :
    ld (Val := Elt Ideal) (e' := .bf16) (xs V) (xcol j) (ix2 t r) = xs V (ix2 t ⟨1024 * j.val + r.val, by omega⟩) :=
  congrArg (xs V) (funext fun a => Fin.ext (by
    fin_cases a
    · show 0 + 1 * t.val = t.val; omega
    · show 1024 * j.val + 1 * r.val = 1024 * j.val + r.val; omega))

theorem ld_guSrc (e : Fin 32) (j : Fin 7) (r : Fin 1024) (n : Fin 1536) :
    ld (Val := Elt Ideal) (e' := .fp8e4m3) V.wgu (guSrc e j) (ix3 0 r n) = V.wgu (ix3 e ⟨1024 * j.val + r.val, by omega⟩ n) :=
  congrArg V.wgu (funext fun a => Fin.ext (by
    fin_cases a
    · show e.val + 1 * 0 = e.val; omega
    · show 1024 * j.val + 1 * r.val = 1024 * j.val + r.val; omega
    · show 0 + 1 * n.val = n.val; omega))

theorem guMid_apply (e : Fin 32) (t : Fin 33) (n : Fin 1536) (j : ℕ) (hj : j ≤ 7) :
    guMid V e j (ix2 (t48 t) n) = ∑ q ∈ Finset.range (1024 * j), xw V e t n q := by
  induction j with
  | zero =>
    unfold guMid k0_pay3
    rw [shapeCast_self]
    exact Ideal.ofBits_zero_f32
  | succ j ih =>
    unfold guMid
    rw [pay4_apply, ih (by omega), Nat.mul_succ, Finset.sum_range_add]
    refine congrArg (_ + ·) ?_
    rw [Finset.sum_range]
    refine Finset.sum_congr rfl fun r _ => ?_
    have hv : (f7 j).val = j := Nat.mod_eq_of_lt (by omega)
    have hq : 1024 * j + r.val < 7168 := by omega
    have hr : (⟨1024 * (f7 j).val + r.val, by omega⟩ : Fin 7168) = ⟨1024 * j + r.val, hq⟩ := Fin.ext (congrArg (1024 * · + r.val) hv)
    rw [ld_xcol, ld_guSrc, hr, xs_apply]
    unfold xw
    rw [dif_pos hq]

/-- The first layer's sum. -/
theorem guMid_seven (e : Fin 32) (t : Fin 33) (n : Fin 1536) :
    guMid V e 7 (ix2 (t48 t) n) = ∑ q : Fin 7168, V.x (ix2 t q) * V.wgu (ix3 e q n) := by
  rw [guMid_apply V e t n 7 (le_refl _), Finset.sum_range]
  refine Finset.sum_congr rfl fun q _ => ?_
  unfold xw
  exact dif_pos q.isLt

/-! ## A token's routing -/

theorem lift_8 (h : S33x8.Reduces [1] S33) (t : Fin 33) (k : Fin 8) : h.lift (ix1 t) k = ix2 t k :=
  funext fun a => Fin.ext (by fin_cases a <;> rfl)

theorem pay5_apply (w : BitVec 32) (ids : IVec S33x8 32) (t : Fin 33) (k : Fin 8) :
    k0_pay5 (F := Ideal) w ids (ix2 t k) = 1#1 ↔ ids (ix2 t k) = w := by
  show IntOp.cmpi .eq (ids (ix2 t k)) w = 1#1 ↔ _
  rw [cmpi_eq_eq]
  by_cases h : ids (ix2 t k) = w
  · rw [decide_eq_true h]; exact iff_of_true rfl h
  · rw [decide_eq_false h]; exact iff_of_false (by decide) h

theorem pay6_apply (w : BitVec 32) (ids : IVec S33x8 32) (rw' : FVec Ideal S33x8 .f32) (t : Fin 33) :
    k0_pay6 (F := Ideal) w ids rw' (ix2 t 0) = ∑ k : Fin 8, if ids (ix2 t k) = w then rw' (ix2 t k) else 0 := by
  unfold k0_pay6; dsimp only
  refine (ValueIdx.shapeCast_a_a1_apply _ _ t 0).trans ?_
  refine (Ideal.multiReduction_add_single _ _ _ _ _ _).trans ?_
  refine Finset.sum_congr rfl fun k _ => ?_
  refine (congrArg _ (lift_8 _ t k)).trans ?_
  show (if k0_pay5 (F := Ideal) w ids (ix2 t k) = 1#1 then rw' (ix2 t k) else Ideal.ofBits .f32 0x00000000#32) = _
  rw [Ideal.ofBits_zero_f32]
  by_cases h : ids (ix2 t k) = w
  · rw [if_pos h, if_pos ((pay5_apply w ids t k).mpr h)]
  · rw [if_neg h, if_neg (fun hc => h ((pay5_apply w ids t k).mp hc))]

theorem count_apply (w : BitVec 32) (ids : IVec S33x8 32) (t : Fin 33) :
    multiReductionI .add [1] S33 (extui 32 (k0_pay5 (F := Ideal) w ids) natLt_1_32) 0#32 reduces_S33x8_S33 rfl (ix1 t)
      = BitVec.ofNat 32 (Finset.univ.filter fun k : Fin 8 => k0_pay5 (F := Ideal) w ids (ix2 t k) = 1#1).card := by
  refine (reduceFold_eq_fold _ _ _ _ _).trans ((Shape.Reduces.fold_filter_drop_single _ _ _ _ _).trans ?_)
  refine Eq.trans ?_ (IndicatorCount.fold_addi_setWidth_eq_card (w := 32) (fun k : Fin 8 => k0_pay5 (F := Ideal) w ids (ix2 t k)) Finset.univ)
  refine Finset.fold_congr fun k _ => ?_
  exact congrArg (fun i => (k0_pay5 (F := Ideal) w ids i).setWidth 32) (lift_8 _ t k)

theorem routed_iff (w : BitVec 32) (ids : IVec S33x8 32) (t : Fin 33) :
    IntOp.cmpi .sgt (multiReductionI .add [1] S33 (extui 32 (k0_pay5 (F := Ideal) w ids) natLt_1_32) 0#32 reduces_S33x8_S33 rfl (ix1 t)) 0#32 = 1#1
      ↔ ∃ k : Fin 8, ids (ix2 t k) = w := by
  rw [count_apply, cmpi_sgt_eq]
  have hle : (Finset.univ.filter fun k : Fin 8 => k0_pay5 (F := Ideal) w ids (ix2 t k) = 1#1).card ≤ 8 := (Finset.card_le_univ _).trans (by decide)
  generalize hc : (Finset.univ.filter fun k : Fin 8 => k0_pay5 (F := Ideal) w ids (ix2 t k) = 1#1).card = c at hle
  have h1 : BitVec.ofBool (decide ((0#32).toInt < (BitVec.ofNat 32 c).toInt)) = 1#1 ↔ 0 < c := by
    clear hc; revert hle; revert c; decide
  rw [h1, ← hc, Finset.card_pos]
  constructor
  · rintro ⟨k, hk⟩
    exact ⟨k, (pay5_apply w ids t k).mp (Finset.mem_filter.mp hk).2⟩
  · rintro ⟨k, hk⟩
    exact ⟨k, Finset.mem_filter.mpr ⟨Finset.mem_univ _, (pay5_apply w ids t k).mpr hk⟩⟩

end Cert.KernelIdeal.Walk

end
-- ==== Proof.KernelIdealTerm.lean ====
/-
  Hand-written, untrusted. The kernel's result over the extended reals: one expert's hidden layer and share, the accumulator
  after any number of column chunks and of experts, and the result as the sum over all the experts.
-/
module

public import proofs.«01_k».proof.Proof.KernelIdealMath

@[expose] public section

set_option maxRecDepth 16384
set_option maxErrors 8

noncomputable section

namespace Cert.KernelIdeal.Walk

open Cert.KernelIdeal Cert.KernelIdeal.Gen
open Idealize.ShloMosaic Idealize.ShloMosaic.TcCoe Idealize.ShloMosaic.WordCmp
open Idealize.ShloMosaic.View (ld)
open Idealize.ShloMosaic.ValueIdx (ix1 ix2 ix3 ix4)
open Cert.Moe (lo hi)
open scoped BigOperators

variable (V : Vals Ideal)

/-- The kernel's arrays by token, expert, slot and column. -/
def arr : Cert.Moe.Arr where
  x t d := V.x (ix2 t d)
  ids t k := V.ids (ix2 k t)
  rw t k := V.rw (ix2 k t)
  wgu e q n := V.wgu (ix3 e q n)
  sgu e n := V.sgu (ix2 e n)
  wdn e j d := V.wdn (ix3 e j d)
  sdn e d := V.sdn (ix2 e d)

/-! ## One expert -/

theorem pay7_apply (w : BitVec 32) (ids : IVec S33x8 32) (g : FVec Ideal S48x1536 .f32) (s : FVec Ideal S1x1536 .f32) (t : Fin 33) (j : Fin 768) :
    k0_pay7 (F := Ideal) w ids g s (ix2 t j)
      = if ∃ k : Fin 8, ids (ix2 t k) = w then
          g (ix2 (t48 t) (lo j)) * s (ix2 0 (lo j)) * Ideal.logistic (g (ix2 (t48 t) (lo j)) * s (ix2 0 (lo j))) * (g (ix2 (t48 t) (hi j)) * s (ix2 0 (hi j)))
        else 0 := by
  have hb : ∀ n : Fin 1536, broadcastTo S48x1536 s broadcasts_S1x1536_S48x1536 (ix2 (t48 t) n) = s (ix2 0 n) := fun n =>
    broadcastTo_apply _ _ _ _ fun a => by fin_cases a <;> rfl
  have hl : ∀ v : FVec Ideal S48x1536 .f32, extractStridedSlice S48x768 ![0, 0] v slices_S48x1536_o0_0_S48x768 (ix2 (t48 t) j) = v (ix2 (t48 t) (lo j)) := fun v =>
    extractStridedSlice_apply _ _ _ _ _ fun a => by
      fin_cases a
      · show t.val = 0 + t.val; omega
      · show j.val = 0 + j.val; omega
  have hh : ∀ v : FVec Ideal S48x1536 .f32, extractStridedSlice S48x768 ![0, 768] v slices_S48x1536_o0_768_S48x768 (ix2 (t48 t) j) = v (ix2 (t48 t) (hi j)) := fun v =>
    extractStridedSlice_apply _ _ _ _ _ fun a => by
      fin_cases a
      · show t.val = 0 + t.val; omega
      · show 768 + j.val = 768 + j.val; rfl
  have hr : ∀ v : FVec Ideal S48x768 .f32, extractStridedSlice S33x768 ![0, 0] v slices_S48x768_o0_0_S33x768 (ix2 t j) = v (ix2 (t48 t) j) := fun v =>
    extractStridedSlice_apply _ _ _ _ _ fun a => by
      fin_cases a
      · show t.val = 0 + t.val; omega
      · show j.val = 0 + j.val; omega
  have hc : ∀ v : IVec S33x1 1, broadcastTo S33x768 v broadcasts_S33x1_S33x768 (ix2 t j) = v (ix2 t 0) := fun v =>
    broadcastTo_apply _ _ _ _ fun a => by fin_cases a <;> rfl
  have key : k0_pay7 (F := Ideal) w ids g s (ix2 t j)
      = if IntOp.cmpi .sgt (multiReductionI .add [1] S33 (extui 32 (k0_pay5 (F := Ideal) w ids) natLt_1_32) 0#32 reduces_S33x8_S33 rfl (ix1 t)) 0#32 = 1#1 then
          g (ix2 (t48 t) (lo j)) * s (ix2 0 (lo j)) * Ideal.logistic (g (ix2 (t48 t) (lo j)) * s (ix2 0 (lo j))) * (g (ix2 (t48 t) (hi j)) * s (ix2 0 (hi j)))
        else 0 := by
    unfold k0_pay7
    change (if broadcastTo S33x768 _ _ (ix2 t j) = 1#1 then extractStridedSlice (s := S48x768) S33x768 ![0, 0] _ _ (ix2 t j) else Ideal.ofBits .f32 0x00000000#32) = _
    rw [hc, shapeCast_self, hr, Ideal.ofBits_zero_f32]
    change (if IntOp.cmpi .sgt (shapeCast S33x1 _ _ (ix2 t 0)) 0#32 = 1#1 then
      extractStridedSlice (s := S48x1536) S48x768 ![0, 0] _ _ (ix2 (t48 t) j) * Ideal.logistic (extractStridedSlice (s := S48x1536) S48x768 ![0, 0] _ _ (ix2 (t48 t) j))
        * extractStridedSlice (s := S48x1536) S48x768 ![0, 768] _ _ (ix2 (t48 t) j) else 0) = _
    rw [hl, hh, ValueIdx.shapeCast_a_a1_apply]
    change (if _ then g _ * broadcastTo S48x1536 _ _ (ix2 (t48 t) (lo j)) * Ideal.logistic (g _ * broadcastTo S48x1536 _ _ (ix2 (t48 t) (lo j)))
      * (g _ * broadcastTo S48x1536 _ _ (ix2 (t48 t) (hi j))) else 0) = _
    rw [hb, hb]
  rw [key]
  exact if_congr (routed_iff w ids t) rfl rfl

/-- An expert's hidden layer: a token's row is zero unless it is routed there. -/
theorem hid_apply (e : Fin 32) (t : Fin 33) (j : Fin 768) :
    hid V e (ix2 t j) = if ∃ k, (arr V).ids t k = Cert.Moe.word e then Cert.Moe.hidden (arr V) e t j else 0 := by
  have hs : ∀ n : Fin 1536, ld (Val := Elt Ideal) (e' := .f32) V.sgu (sguRow e) (ix2 0 n) = V.sgu (ix2 e n) := fun n =>
    congrArg V.sgu (funext fun a => Fin.ext (by
      fin_cases a
      · show e.val + 1 * 0 = e.val; omega
      · show 0 + 1 * n.val = n.val; omega))
  unfold hid
  refine (pay7_apply _ _ _ _ t j).trans ?_
  rw [guMid_seven, guMid_seven, hs, hs]
  exact if_congr (exists_congr fun k => by rw [idsT_apply]; rfl) rfl rfl

theorem pay1_apply (rt' : FVec Ideal S33x1 .f32) (h : FVec Ideal S33x768 .bf16) (w : FVec Ideal S1x768x1792 .fp8e4m3) (acc : FVec Ideal S33x1792 .f32)
    (s : FVec Ideal S1x1792 .f32) (t : Fin 33) (c : Fin 1792) :
    k0_pay1 (F := Ideal) rt' h w acc s (ix2 t c)
      = acc (ix2 t c) + (∑ j : Fin 768, h (ix2 t j) * w (ix3 0 j c)) * (s (ix2 0 c) * rt' (ix2 t 0)) := by
  have hs : broadcastTo S33x1792 s broadcasts_S1x1792_S33x1792 (ix2 t c) = s (ix2 0 c) :=
    broadcastTo_apply _ _ _ _ fun a => by fin_cases a <;> rfl
  have hr : broadcastTo S33x1792 rt' broadcasts_S33x1_S33x1792 (ix2 t c) = rt' (ix2 t 0) :=
    broadcastTo_apply _ _ _ _ fun a => by fin_cases a <;> rfl
  unfold k0_pay1
  rw [shapeCast_self]
  refine congrArg (acc (ix2 t c) + ·) (congrArg₂ (· * ·) ?_ (congrArg₂ (· * ·) hs hr))
  refine (Ideal.matmul_plain_apply (M := 33) (K := 768) (N := 1792) none _ _ _ t c).trans ?_
  refine (congrArg₂ (· + ·) (show (constant S33x1792 .f32 0x00000000#32 : FVec Ideal S33x1792 .f32) (ix2 t c) = 0 from Ideal.ofBits_zero_f32) rfl).trans ?_
  rw [zero_add]
  exact Finset.sum_congr rfl fun r _ => congrArg (h (ix2 t r) * ·) (ValueIdx.shapeCast_1ab_ab_apply _ _ r c)

theorem rt_apply (e : Fin 32) (t : Fin 33) :
    rt V e (ix2 t 0) = ∑ k : Fin 8, if (arr V).ids t k = Cert.Moe.word e then (arr V).rw t k else 0 := by
  unfold rt
  refine (pay6_apply _ _ _ t).trans (Finset.sum_congr rfl fun k _ => ?_)
  rw [idsT_apply, rwT_apply]; rfl

/-! ## The accumulator -/

/-- A column's place in its chunk. -/
theorem col_emb (k : Fin 4) (t : Fin 33) (c : Fin 1792) (d : Fin 7168) (h : d.val = 1792 * k.val + c.val) :
    (ix2 t d : S33x7168.Idx) = (col k).emb (ix2 t c) := by
  funext a; apply Fin.ext
  fin_cases a
  · show t.val = 0 + 1 * t.val; omega
  · show d.val = 1792 * k.val + 1 * c.val; omega

theorem not_mem_col (k : Fin 4) (t : Fin 33) (d : Fin 7168) (h : d.val / 1792 ≠ k.val) : (ix2 t d : S33x7168.Idx) ∉ (col k).set := by
  rw [← Rect.map_emb_univ]
  intro hm
  obtain ⟨x, -, hx⟩ := Finset.mem_map.mp hm
  have h1 : 1792 * k.val + 1 * (x 1).val = d.val := congrArg Fin.val (congrFun hx 1)
  have h2 : (x 1).val < 1792 := (x 1).isLt
  omega

/-- The accumulator after `n` of one expert's column chunks. -/
theorem accMid_apply (e : Fin 32) (A : S33x7168.Idx → Elt Ideal .f32) (n : ℕ) (hn : n ≤ 4) (t : Fin 33) (d : Fin 7168) :
    accMid V e A n (ix2 t d) = if d.val / 1792 < n then (A (ix2 t d) + Cert.Moe.term (arr V) e t d : EReal) else A (ix2 t d) := by
  induction n generalizing d with
  | zero => rfl
  | succ n ih =>
    have hk : (f4 n).val = n := Nat.mod_eq_of_lt (by omega)
    unfold accMid
    by_cases hd : d.val / 1792 = n
    · obtain ⟨c, hc⟩ : ∃ c : Fin 1792, d.val = 1792 * (f4 n).val + c.val := ⟨⟨d.val % 1792, Nat.mod_lt _ (by decide)⟩, by rw [hk]; show _ = _ + d.val % 1792; omega⟩
      have hcol := col_emb (f4 n) t c d hc
      rw [if_pos (by omega)]
      refine (congrArg _ hcol).trans ((Rect.overlay_emb _ _ _ _).trans ?_)
      refine (pay1_apply _ _ _ _ _ t c).trans ?_
      have h1 : ld (Val := Elt Ideal) (e' := .f32) (accMid V e A n) (col (f4 n)) (ix2 t c) = A (ix2 t d) := by
        refine (congrArg (accMid V e A n) hcol.symm).trans ((ih (by omega) d).trans (if_neg (by omega)))
      have h2 : ∀ j : Fin 768, ld (Val := Elt Ideal) (e' := .fp8e4m3) V.wdn (dnSrc e (f4 n)) (ix3 0 j c) = V.wdn (ix3 e j d) := fun j =>
        congrArg V.wdn (funext fun a => Fin.ext (by
          fin_cases a
          · show e.val + 1 * 0 = e.val; omega
          · show 0 + 1 * j.val = j.val; omega
          · show 1792 * (f4 n).val + 1 * c.val = d.val; omega))
      have h3 : ld (Val := Elt Ideal) (e' := .f32) V.sdn (sdnBox e (f4 n)) (ix2 0 c) = V.sdn (ix2 e d) :=
        congrArg V.sdn (funext fun a => Fin.ext (by
          fin_cases a
          · show e.val + 1 * 0 = e.val; omega
          · show 1792 * (f4 n).val + 1 * c.val = d.val; omega))
      rw [h1, h3, rt_apply]
      refine congrArg (A (ix2 t d) + ·) (congrArg (· * _) (Finset.sum_congr rfl fun j _ => ?_))
      rw [h2, hid_apply]
      refine congrArg (· * V.wdn (ix3 e j d)) ?_
      by_cases hr : ∃ k, (arr V).ids t k = Cert.Moe.word e
      · rw [if_pos hr, if_pos hr]
      · rw [if_neg hr, if_neg hr]
    · refine (Rect.overlay_of_not_mem _ _ _ (not_mem_col (f4 n) t d (by rw [hk]; exact hd))).trans ((ih (by omega) d).trans ?_)
      exact if_congr ⟨fun h => by omega, fun h => by omega⟩ rfl rfl

/-- The accumulator after `i` experts. -/
theorem accAt_apply (i : ℕ) (t : Fin 33) (d : Fin 7168) :
    accAt V i (ix2 t d) = ∑ j ∈ Finset.range i, Cert.Moe.term (arr V) (act V j) t d := by
  induction i with
  | zero =>
    unfold accAt k0_pay15
    rw [shapeCast_self]
    exact Ideal.ofBits_zero_f32
  | succ i ih =>
    unfold accAt
    have h4 : d.val / 1792 < 4 := by omega
    rw [accMid_apply V _ _ 4 (le_refl _) t d, if_pos h4, Finset.sum_range_succ, ih]

theorem pay2_col (k : Fin 4) (t : Fin 33) (c : Fin 1792) (d : Fin 7168) (h : d.val = 1792 * k.val + c.val) (X : S33x7168.Idx → Elt Ideal .f32) :
    k0_pay2 (F := Ideal) (ld (Val := Elt Ideal) (e' := .f32) X (col k)) (ix2 t c) = X (ix2 t d) := by
  unfold k0_pay2
  rw [shapeCast_self]
  exact congrArg X (col_emb k t c d h).symm

/-- The result, before the experts it runs over are known. -/
theorem result_apply (t : Fin 33) (d : Fin 7168) :
    result V (ix2 t d) = ∑ j ∈ Finset.range (nAct V), Cert.Moe.term (arr V) (act V j) t d := by
  have hpos : 0 < nAct V := actl_length_pos V 32
  obtain ⟨k, c, hk, hdc⟩ : ∃ (k : Fin 4) (c : Fin 1792), d.val / 1792 = k.val ∧ d.val = 1792 * k.val + c.val :=
    ⟨⟨d.val / 1792, by omega⟩, ⟨d.val % 1792, Nat.mod_lt _ (by decide)⟩, rfl, (Nat.div_add_mod _ _).symm⟩
  have hcol := col_emb k t c d hdc
  have h1 : result V (ix2 t d) = ld (Val := Elt Ideal) (e' := .bf16) (result V) (col k) (ix2 t c) := congrArg (result V) hcol
  have h2 : outCol V k (ix2 t c) = accMid V (act V (nAct V - 1)) (accAt V (nAct V - 1)) (k.val + 1) (ix2 t d) := pay2_col k t c d hdc _
  rw [h1, result_col, h2, accMid_apply V _ _ _ (by omega) t d, if_pos (by omega), accAt_apply, ← Finset.sum_range_succ]
  rw [Nat.sub_add_cancel hpos]

/-! ## The experts the kernel lists -/

theorem sum_getD {α : Type} (f : α → EReal) (l : List α) (z : α) : ∑ j ∈ Finset.range l.length, f (l.getD j z) = (l.map f).sum := by
  induction l with
  | nil => rfl
  | cons a l ih =>
    rw [List.length_cons, Finset.sum_range_succ', List.map_cons, List.sum_cons, ← ih, add_comm]
    rfl

theorem shli_one (w : BitVec 32) (e : Fin 32) (h : w = wd e) : (Scalar.shli 1#32 w).getLsbD e.val = true := by
  subst h; revert e; decide

theorem bitsStep_keeps (acc : BitVec 32) (t : Fin 33) (i : ℕ) (h : acc.getLsbD i = true) : (bitsStep V acc t).getLsbD i = true := by
  unfold bitsStep Scalar.ori IntOp.ori
  simp only [BitVec.getLsbD_or, h, Bool.true_or]

theorem bitsStep_sets (acc : BitVec 32) (t : Fin 33) (k : Fin 8) (e : Fin 32) (h : idw (F := Ideal) V.ids k t = wd e) : (bitsStep V acc t).getLsbD e.val = true := by
  have hs := shli_one _ e h
  unfold bitsStep Scalar.ori IntOp.ori
  simp only [BitVec.getLsbD_or]
  fin_cases k <;> simp only [Fin.zero_eta, Fin.mk_one, Fin.reduceFinMk] at hs <;> simp only [hs, Bool.true_or, Bool.or_true]

theorem bitsAt_sets (n : ℕ) (t : Fin 33) (ht : t.val < n) (k : Fin 8) (e : Fin 32) (h : idw (F := Ideal) V.ids k t = wd e) : (bitsAt V n).getLsbD e.val = true := by
  induction n with
  | zero => exact absurd ht (Nat.not_lt_zero _)
  | succ n ih =>
    unfold bitsAt
    by_cases hn : n < 33
    · rw [dif_pos hn]
      by_cases hv : t.val = n
      · rw [show (⟨n, hn⟩ : Fin 33) = t from Fin.ext hv.symm]
        exact bitsStep_sets V _ t k e h
      · exact bitsStep_keeps V _ _ _ (ih (by omega))
    · rw [dif_neg hn]; exact ih (by omega)

theorem wd_toNat (e : Fin 32) : (wd e).toNat = e.val := by revert e; decide

theorem hasBit_of (e : Fin 32) (h : (bitsAt V 33).getLsbD e.val = true) : hasBit V e := by
  unfold hasBit
  have he : (wd e).toNat = e.val := wd_toNat e
  generalize bitsAt V 33 = b at h
  unfold Scalar.andi IntOp.andi Scalar.shrsi IntOp.shrsi
  rw [if_pos (by rw [he]; exact e.isLt)]
  unfold BitVec.sshiftRight'
  rw [he]
  apply BitVec.eq_of_getLsbD_eq
  intro i hi
  rw [BitVec.getLsbD_and, BitVec.getLsbD_sshiftRight]
  by_cases h0 : i = 0
  · subst h0
    simp [h]
  · have : (1#32).getLsbD i = false := by simp [BitVec.getLsbD_one, h0]
    rw [this, Bool.and_false]

theorem actl_keeps (e : Fin 32) (i j : ℕ) (hij : i ≤ j) (h : e ∈ actl V i) : e ∈ actl V j := by
  induction j with
  | zero => rwa [Nat.le_zero.mp hij] at h
  | succ j ih =>
    by_cases hj : i = j + 1
    · rwa [← hj]
    · have hm := ih (by omega)
      unfold actl
      split
      · split
        · exact List.mem_append_left _ hm
        · exact hm
      · exact hm

/-- Every expert whose bit is set is listed. -/
theorem mem_actl (e : Fin 32) (h : hasBit V e) : e ∈ actl V 32 := by
  by_cases hf : e = firstE V
  · exact actl_keeps V e 0 32 (Nat.zero_le _) (by rw [hf]; exact List.mem_singleton.mpr rfl)
  · refine actl_keeps V e (e.val + 1) 32 (by omega) ?_
    unfold actl
    rw [dif_pos e.isLt, if_pos ⟨h, hf⟩]
    exact List.mem_append_right _ (List.mem_singleton.mpr rfl)

/-- The result: the sum of what all the experts add. -/
theorem result_sum (hid : ∀ k t, idw (F := Ideal) V.ids k t = V.ids (ix2 k t)) (t : Fin 33) (d : Fin 7168) :
    result V (ix2 t d) = ∑ e : Fin 32, Cert.Moe.term (arr V) e t d := by
  rw [result_apply]
  refine (sum_getD (fun e => Cert.Moe.term (arr V) e t d) (actl V 32) (firstE V)).trans ?_
  rw [← List.sum_toFinset _ (actl_nodup V 32).1]
  refine Finset.sum_subset (Finset.subset_univ _) fun e _ he => Cert.Moe.term_unrouted _ _ _ _ ?_
  rintro ⟨k, hk⟩
  exact he (List.mem_toFinset.mpr (mem_actl V e (hasBit_of V e (bitsAt_sets V 33 t t.isLt k e ((hid k t).trans hk)))))

end Cert.KernelIdeal.Walk

end
-- ==== Proof.ReferenceValue.lean ====
/-
  Hand-written, untrusted. The reference's result over the extended reals: its two batched products, one slot's step, and
  the stored value as the sum over a token's slots and over the experts.
-/
module

public import proofs.«01_k».proof.Proof.Moe
public import proofs.«01_k».proof.Proof.Gen.ReferenceIdeal.Frame
public import Idealize.ShloMosaic.PureOps.Ideal
public import Idealize.ShloMosaic.PureOps.Ideal.Laws
public import Idealize.ShloMosaic.Lib.MatmulPlain
public import Idealize.ShloMosaic.Lib.ValueLayout
public import Idealize.ShloMosaic.Lib.ValueLayoutCasts
public import Idealize.ShloMosaic.Lib.WordCmp
public import Idealize.ShloMosaic.Lib.Pipeline.Value
public import Idealize.ShloMosaic.Lib.Pipeline.ValueKit.Basic

@[expose] public section

set_option maxRecDepth 16384
set_option maxErrors 8

noncomputable section

namespace Cert.ReferenceIdeal.Value

open Cert.ReferenceIdeal Cert.ReferenceIdeal.Gen
open Idealize.ShloMosaic Idealize.ShloMosaic.TcCoe Idealize.ShloMosaic.WordCmp
open Idealize.ShloMosaic.ValueIdx (ix1 ix2 ix3 ix4 contrEquiv1 contrEquiv1_symm_val)
open Cert.Moe (lo hi word)
open scoped BigOperators

/-! ## The batched products -/

/-- The first layer's product at an index. -/
theorem dot_gu (L : FVec Ideal S32x33x7168 .bf16) (R : FVec Ideal S32x7168x1536 .bf16) (acc : FVec Ideal S32x33x1536 .f32) (e : Fin 32) (t : Fin 33) (n : Fin 1536) :
    FloatOps.matmul dot_S32x33x7168_S32x7168x1536_S32x33x1536_2_1_1_2_0_0 none L R acc (ix3 e t n)
      = acc (ix3 e t n) + ∑ q : Fin 7168, L (ix3 e t q) * R (ix3 e q n) := by
  have hr : dot_S32x33x7168_S32x7168x1536_S32x33x1536_2_1_1_2_0_0.contr.rank = 1 := rfl
  have hs : dot_S32x33x7168_S32x7168x1536_S32x33x1536_2_1_1_2_0_0.contr.size ⟨0, by rw [hr]; exact Nat.one_pos⟩ = 7168 := rfl
  rw [Ideal.matmul_apply, ← Equiv.sum_comp (contrEquiv1 _ 7168 hr hs).symm]
  refine congrArg (acc (ix3 e t n) + ·) (Finset.sum_congr rfl fun k _ => ?_)
  have hk := contrEquiv1_symm_val _ 7168 hr hs k
  have el : dot_S32x33x7168_S32x7168x1536_S32x33x1536_2_1_1_2_0_0.lhsIdx (ix3 e t n) ((contrEquiv1 _ 7168 hr hs).symm k) = ix3 e t k := by
    funext a; apply Fin.ext
    match a with
    | ⟨0, _⟩ => rfl
    | ⟨1, _⟩ => rfl
    | ⟨2, _⟩ => exact hk
  have er : dot_S32x33x7168_S32x7168x1536_S32x33x1536_2_1_1_2_0_0.rhsIdx (ix3 e t n) ((contrEquiv1 _ 7168 hr hs).symm k) = ix3 e k n := by
    funext a; apply Fin.ext
    match a with
    | ⟨0, _⟩ => rfl
    | ⟨1, _⟩ => exact hk
    | ⟨2, _⟩ => rfl
  rw [el, er]

/-- The second layer's product at an index. -/
theorem dot_dn (L : FVec Ideal S32x33x768 .bf16) (R : FVec Ideal S32x768x7168 .bf16) (acc : FVec Ideal S32x33x7168 .f32) (e : Fin 32) (t : Fin 33) (n : Fin 7168) :
    FloatOps.matmul dot_S32x33x768_S32x768x7168_S32x33x7168_2_1_1_2_0_0 none L R acc (ix3 e t n)
      = acc (ix3 e t n) + ∑ q : Fin 768, L (ix3 e t q) * R (ix3 e q n) := by
  have hr : dot_S32x33x768_S32x768x7168_S32x33x7168_2_1_1_2_0_0.contr.rank = 1 := rfl
  have hs : dot_S32x33x768_S32x768x7168_S32x33x7168_2_1_1_2_0_0.contr.size ⟨0, by rw [hr]; exact Nat.one_pos⟩ = 768 := rfl
  rw [Ideal.matmul_apply, ← Equiv.sum_comp (contrEquiv1 _ 768 hr hs).symm]
  refine congrArg (acc (ix3 e t n) + ·) (Finset.sum_congr rfl fun k _ => ?_)
  have hk := contrEquiv1_symm_val _ 768 hr hs k
  have el : dot_S32x33x768_S32x768x7168_S32x33x7168_2_1_1_2_0_0.lhsIdx (ix3 e t n) ((contrEquiv1 _ 768 hr hs).symm k) = ix3 e t k := by
    funext a; apply Fin.ext
    match a with
    | ⟨0, _⟩ => rfl
    | ⟨1, _⟩ => rfl
    | ⟨2, _⟩ => exact hk
  have er : dot_S32x33x768_S32x768x7168_S32x33x7168_2_1_1_2_0_0.rhsIdx (ix3 e t n) ((contrEquiv1 _ 768 hr hs).symm k) = ix3 e k n := by
    funext a; apply Fin.ext
    match a with
    | ⟨0, _⟩ => rfl
    | ⟨1, _⟩ => exact hk
    | ⟨2, _⟩ => rfl
  rw [el, er]

/-! ## The arrays, and what every expert makes of every token -/

/-- The reference's arrays by token, expert, slot and column. -/
def arr (x0 : Vec Ideal S33x7168 .bf16) (x1 : Vec Ideal S33x8 .i32) (x2 : Vec Ideal S33x8 .f32) (x3 : Vec Ideal S32x7168x1536 .fp8e4m3) (x4 : Vec Ideal S32x1536 .f32)
    (x5 : Vec Ideal S32x768x7168 .fp8e4m3) (x6 : Vec Ideal S32x7168 .f32) : Cert.Moe.Arr where
  x t d := x0 (ix2 t d)
  ids t k := x1 (ix2 t k)
  rw t k := x2 (ix2 t k)
  wgu e q n := x3 (ix3 e q n)
  sgu e n := x4 (ix2 e n)
  wdn e j d := x5 (ix3 e j d)
  sdn e d := x6 (ix2 e d)

variable (x0 : Vec Ideal S33x7168 .bf16) (x1 : Vec Ideal S33x8 .i32) (x2 : Vec Ideal S33x8 .f32) (x3 : Vec Ideal S32x7168x1536 .fp8e4m3) (x4 : Vec Ideal S32x1536 .f32)
    (x5 : Vec Ideal S32x768x7168 .fp8e4m3) (x6 : Vec Ideal S32x7168 .f32)

/-- The tokens spread over the experts. -/
def toks : FVec Ideal S32x33x7168 .bf16 :=
  broadcastTo S32x33x7168 (shapeCast S1x33x7168 (shapeCast S1x33x7168 (shapeCast S33x7168 x0 shapeCasts_S33x7168_S33x7168) shapeCasts_S33x7168_S1x33x7168)
    shapeCasts_S1x33x7168_S1x33x7168) broadcasts_S1x33x7168_S32x33x7168

theorem toks_apply (e : Fin 32) (t : Fin 33) (d : Fin 7168) : toks x0 (ix3 e t d) = x0 (ix2 t d) := by
  unfold toks
  rw [shapeCast_self, shapeCast_self]
  refine (broadcastTo_apply _ _ _ (ix3 0 t d) fun a => by fin_cases a <;> rfl).trans ?_
  exact shapeCast_apply _ _ _ _ (by
    refine (Shape.rowMajor_val_two _).trans (Eq.trans ?_ (Shape.rowMajor_val_three _).symm)
    show t.val * 7168 + d.val = (0 * 33 + t.val) * 7168 + d.val
    omega)

/-- The first layer, scaled. -/
def guV : FVec Ideal S32x33x1536 .f32 :=
  mulf (matmul dot_S32x33x7168_S32x7168x1536_S32x33x1536_2_1_1_2_0_0 none (toks x0) (extf .bf16 x3 bitsLt_fp8e4m3_bf16) (constant S32x33x1536 .f32 0x00000000#32))
    (broadcastTo S32x33x1536 (shapeCast S32x1x1536 x4 shapeCasts_S32x1536_S32x1x1536) broadcasts_S32x1x1536_S32x33x1536)

theorem guV_apply (e : Fin 32) (t : Fin 33) (n : Fin 1536) : guV x0 x3 x4 (ix3 e t n) = Cert.Moe.gu (arr x0 x1 x2 x3 x4 x5 x6) e t n := by
  have hs : broadcastTo S32x33x1536 (shapeCast S32x1x1536 x4 shapeCasts_S32x1536_S32x1x1536) broadcasts_S32x1x1536_S32x33x1536 (ix3 e t n) = x4 (ix2 e n) := by
    refine (broadcastTo_apply _ _ _ (ix3 e 0 n) fun a => by fin_cases a <;> rfl).trans ?_
    exact shapeCast_apply _ _ _ _ (by
      refine (Shape.rowMajor_val_two _).trans (Eq.trans ?_ (Shape.rowMajor_val_three _).symm)
      show e.val * 1536 + n.val = (e.val * 1 + 0) * 1536 + n.val
      omega)
  unfold guV Cert.Moe.gu
  refine congrArg₂ (· * ·) ?_ hs
  refine (dot_gu _ _ _ e t n).trans ?_
  refine (congrArg₂ (· + ·) (show (constant S32x33x1536 .f32 0x00000000#32 : FVec Ideal S32x33x1536 .f32) (ix3 e t n) = 0 from Ideal.ofBits_zero_f32) rfl).trans ?_
  rw [zero_add]
  exact Finset.sum_congr rfl fun q _ => congrArg₂ (· * ·) (toks_apply x0 e t q) rfl

/-- The hidden layer. -/
def hidV : FVec Ideal S32x33x768 .f32 :=
  mulf (mulf (extractStridedSlice S32x33x768 ![0, 0, 0] (guV x0 x3 x4) slices_S32x33x1536_o0_0_0_S32x33x768)
      (logistic (extractStridedSlice S32x33x768 ![0, 0, 0] (guV x0 x3 x4) slices_S32x33x1536_o0_0_0_S32x33x768)))
    (extractStridedSlice S32x33x768 ![0, 0, 768] (guV x0 x3 x4) slices_S32x33x1536_o0_0_768_S32x33x768)

theorem hidV_apply (e : Fin 32) (t : Fin 33) (j : Fin 768) : hidV x0 x3 x4 (ix3 e t j) = Cert.Moe.hidden (arr x0 x1 x2 x3 x4 x5 x6) e t j := by
  have hl : extractStridedSlice S32x33x768 ![0, 0, 0] (guV x0 x3 x4) slices_S32x33x1536_o0_0_0_S32x33x768 (ix3 e t j) = Cert.Moe.gu (arr x0 x1 x2 x3 x4 x5 x6) e t (lo j) :=
    (extractStridedSlice_apply _ _ _ _ (ix3 e t (lo j)) fun a => by
      fin_cases a
      · show e.val = 0 + e.val; omega
      · show t.val = 0 + t.val; omega
      · show j.val = 0 + j.val; omega).trans (guV_apply x0 x1 x2 x3 x4 x5 x6 e t (lo j))
  have hh : extractStridedSlice S32x33x768 ![0, 0, 768] (guV x0 x3 x4) slices_S32x33x1536_o0_0_768_S32x33x768 (ix3 e t j) = Cert.Moe.gu (arr x0 x1 x2 x3 x4 x5 x6) e t (hi j) :=
    (extractStridedSlice_apply _ _ _ _ (ix3 e t (hi j)) fun a => by
      fin_cases a
      · show e.val = 0 + e.val; omega
      · show t.val = 0 + t.val; omega
      · show 768 + j.val = 768 + j.val; rfl).trans (guV_apply x0 x1 x2 x3 x4 x5 x6 e t (hi j))
  unfold hidV Cert.Moe.hidden
  exact congrArg₂ (· * ·) (congrArg₂ (· * ·) hl (congrArg Ideal.logistic hl)) hh

theorem pay1_apply (e : Fin 32) (t : Fin 33) (d : Fin 7168) :
    k0_pay1 (F := Ideal) x0 x3 x4 x5 (ix3 e t d) = Cert.Moe.down (arr x0 x1 x2 x3 x4 x5 x6) e t d := by
  have h : k0_pay1 (F := Ideal) x0 x3 x4 x5 = matmul dot_S32x33x768_S32x768x7168_S32x33x7168_2_1_1_2_0_0 none (truncf .bf16 (hidV x0 x3 x4) bitsLt_bf16_f32)
      (extf .bf16 x5 bitsLt_fp8e4m3_bf16) (constant S32x33x7168 .f32 0x00000000#32) := rfl
  rw [h]
  unfold Cert.Moe.down
  refine (dot_dn _ _ _ e t d).trans ?_
  refine (congrArg₂ (· + ·) (show (constant S32x33x7168 .f32 0x00000000#32 : FVec Ideal S32x33x7168 .f32) (ix3 e t d) = 0 from Ideal.ofBits_zero_f32) rfl).trans ?_
  rw [zero_add]
  exact Finset.sum_congr rfl fun q _ => congrArg₂ (· * ·) (hidV_apply x0 x1 x2 x3 x4 x5 x6 e t q) rfl

/-! ## One slot's step -/

/-- A slot's column of a table by token, spread over the experts and the columns. -/
def colV {α : Type} (k : ℕ) (h : S33x8.Slices ![0, k] S33x1) (v : S33x8.Idx → α) : S32x33x7168.Idx → α :=
  broadcastTo S32x33x7168 (shapeCast S1x33x1 (extractStridedSlice S33x1 ![0, k] v h) shapeCasts_S33x1_S1x33x1) broadcasts_S1x33x1_S32x33x7168

theorem colV_apply {α : Type} (k : Fin 8) (h : S33x8.Slices ![0, k.val] S33x1) (v : S33x8.Idx → α) (e : Fin 32) (t : Fin 33) (d : Fin 7168) :
    colV k.val h v (ix3 e t d) = v (ix2 t k) := by
  unfold colV
  refine (broadcastTo_apply _ _ _ (ix3 0 t 0) fun a => by fin_cases a <;> rfl).trans ?_
  refine (shapeCast_apply _ _ _ (ix2 t 0) (by
    refine (Shape.rowMajor_val_two _).trans (Eq.trans ?_ (Shape.rowMajor_val_three _).symm)
    show t.val * 1 + 0 = (0 * 33 + t.val) * 1 + 0
    omega)).trans ?_
  exact extractStridedSlice_apply _ _ _ _ _ fun a => by
    fin_cases a
    · show t.val = 0 + t.val; omega
    · show k.val = k.val + 0; omega

/-- What slot `k` adds. -/
def slotV (D : FVec Ideal S32x33x7168 .f32) (I : IVec S33x8 32) (W : FVec Ideal S33x8 .f32) (S : FVec Ideal S32x1x7168 .f32) (k : ℕ) (h : S33x8.Slices ![0, k] S33x1) :
    FVec Ideal S33x7168 .f32 :=
  multiReduction .add [0] S33x7168
    (select (cmpi .eq (colV k h I) (iota .tc S32x33x7168 32 [0] iota_S32x33x7168_d0_w32))
      (mulf D (mulf (broadcastTo S32x33x7168 S broadcasts_S32x1x7168_S32x33x7168) (colV k h W)))
      (broadcast S32x33x7168 (Scalar.ofBits .f32 0x00000000#32 : Ideal .f32)))
    0x00000000#32 reduces_S32x33x7168_S33x7168 (.inl rfl) rfl

theorem lift_32 (h : S32x33x7168.Reduces [0] S33x7168) (t : Fin 33) (d : Fin 7168) (e : Fin 32) : h.lift (ix2 t d) e = ix3 e t d :=
  funext fun a => Fin.ext (by fin_cases a <;> rfl)

theorem slotV_apply (k : Fin 8) (h : S33x8.Slices ![0, k.val] S33x1) (t : Fin 33) (d : Fin 7168) :
    slotV (k0_pay1 (F := Ideal) x0 x3 x4 x5) x1 x2 (k0_pay4 (F := Ideal) x6) k.val h (ix2 t d)
      = ∑ e : Fin 32, Cert.Moe.share (arr x0 x1 x2 x3 x4 x5 x6) e t d k := by
  unfold slotV
  refine (Ideal.multiReduction_add_single _ _ _ _ _ _).trans (Finset.sum_congr rfl fun (e : Fin 32) _ => ?_)
  refine (congrArg _ (lift_32 _ t d e)).trans ?_
  have hS : broadcastTo S32x33x7168 (k0_pay4 (F := Ideal) x6) broadcasts_S32x1x7168_S32x33x7168 (ix3 e t d) = x6 (ix2 e d) := by
    refine (broadcastTo_apply _ _ _ (ix3 e 0 d) fun a => by fin_cases a <;> rfl).trans ?_
    exact shapeCast_apply _ _ _ _ (by
      refine (Shape.rowMajor_val_two _).trans (Eq.trans ?_ (Shape.rowMajor_val_three _).symm)
      show e.val * 7168 + d.val = (e.val * 1 + 0) * 7168 + d.val
      omega)
  show (if IntOp.cmpi .eq (colV k.val h x1 (ix3 e t d)) (iota .tc S32x33x7168 32 [0] iota_S32x33x7168_d0_w32 (ix3 e t d)) = 1#1 then
      k0_pay1 (F := Ideal) x0 x3 x4 x5 (ix3 e t d) * (broadcastTo S32x33x7168 (k0_pay4 (F := Ideal) x6) broadcasts_S32x1x7168_S32x33x7168 (ix3 e t d) * colV k.val h x2 (ix3 e t d))
    else Ideal.ofBits .f32 0x00000000#32) = _
  rw [hS, colV_apply, colV_apply, pay1_apply x0 x1 x2 x3 x4 x5 x6, Ideal.ofBits_zero_f32, cmpi_eq_eq]
  have hi : iota .tc S32x33x7168 32 [0] iota_S32x33x7168_d0_w32 (ix3 e t d) = word e := congrArg (BitVec.ofNat 32) (show 0 * 32 + e.val = e.val by omega)
  rw [hi]
  unfold Cert.Moe.share
  by_cases hc : x1 (ix2 t k) = word e
  · rw [decide_eq_true hc, if_pos (by decide)]; exact (if_pos hc).symm
  · rw [decide_eq_false hc, if_neg (by decide)]; exact (if_neg hc).symm

/-! ## The stored value -/

theorem pay9_eq (D : FVec Ideal S32x33x7168 .f32) (I : IVec S33x8 32) (W : FVec Ideal S33x8 .f32) (S : FVec Ideal S32x1x7168 .f32) (z : FVec Ideal S33x7168 .f32) :
    k0_pay9 (F := Ideal) D I W S (iota .tc S32x33x7168 32 [0] iota_S32x33x7168_d0_w32) z
        (mulf D (mulf (broadcastTo S32x33x7168 S broadcasts_S32x1x7168_S32x33x7168) (colV 0 slices_S33x8_o0_0_S33x1 W)))
        (cmpi .eq (colV 0 slices_S33x8_o0_0_S33x1 I) (iota .tc S32x33x7168 32 [0] iota_S32x33x7168_d0_w32)) (k0_pay8 (F := Ideal))
      = addf (addf (addf (addf z (slotV D I W S 0 slices_S33x8_o0_0_S33x1)) (slotV D I W S 1 slices_S33x8_o0_1_S33x1)) (slotV D I W S 2 slices_S33x8_o0_2_S33x1))
          (slotV D I W S 3 slices_S33x8_o0_3_S33x1) := by
  unfold k0_pay9 k0_pay8 slotV colV; with_reducible rfl

theorem pay12_eq (D : FVec Ideal S32x33x7168 .f32) (I : IVec S33x8 32) (W : FVec Ideal S33x8 .f32) (S : FVec Ideal S32x1x7168 .f32) (z : FVec Ideal S33x7168 .f32) :
    k0_pay12 (F := Ideal) D I W S (iota .tc S32x33x7168 32 [0] iota_S32x33x7168_d0_w32) z (k0_pay10 (F := Ideal) D W S) (k0_pay11 I)
      = truncf .bf16 (addf (addf (addf (addf z (slotV D I W S 4 slices_S33x8_o0_4_S33x1)) (slotV D I W S 5 slices_S33x8_o0_5_S33x1)) (slotV D I W S 6 slices_S33x8_o0_6_S33x1))
          (slotV D I W S 7 slices_S33x8_o0_7_S33x1)) bitsLt_bf16_f32 := by
  unfold k0_pay12 k0_pay10 k0_pay11 slotV colV; with_reducible rfl

theorem out_apply (t : Fin 33) (d : Fin 7168) :
    out0_7 (F := Ideal) x0 x1 x2 x3 x4 x5 x6 (ix2 t d) = Cert.Moe.out (arr x0 x1 x2 x3 x4 x5 x6) t d := by
  have e0 : View.ld x0 r0_0 = x0 := View.ld_unit_lit _ _ (by decide)
  have e1 : View.ld x1 r0_4 = x1 := View.ld_unit_lit _ _ (by decide)
  have e2 : View.ld x2 r0_4 = x2 := View.ld_unit_lit _ _ (by decide)
  have e3 : View.ld x3 r0_1 = x3 := View.ld_unit_lit _ _ (by decide)
  have e4 : View.ld x4 r0_2 = x4 := View.ld_unit_lit _ _ (by decide)
  have e5 : View.ld x5 r0_3 = x5 := View.ld_unit_lit _ _ (by decide)
  have e6 : View.ld x6 r0_5 = x6 := View.ld_unit_lit _ _ (by decide)
  have p2 : k0_pay2 (F := Ideal) x1 = x1 := shapeCast_self _ _
  have p3 : k0_pay3 (F := Ideal) x2 = x2 := shapeCast_self _ _
  unfold out0_7
  rw [View.canon_cons_unit_lit _ _ _ (by decide)]
  unfold k0_pay14 k0_pay15 k0_pay16 k0_pay17 k0_pay13 k0_pay6 k0_pay7
  rw [e0, e1, e2, e3, e4, e5, e6, p2, p3]
  have h : ∀ (D : FVec Ideal S32x33x7168 .f32) (S : FVec Ideal S32x1x7168 .f32),
      k0_pay12 (F := Ideal) D x1 x2 S (iota .tc S32x33x7168 32 [0] iota_S32x33x7168_d0_w32)
        (k0_pay9 (F := Ideal) D x1 x2 S (iota .tc S32x33x7168 32 [0] iota_S32x33x7168_d0_w32) (k0_pay5 (F := Ideal))
          (mulf D (mulf (broadcastTo S32x33x7168 S broadcasts_S32x1x7168_S32x33x7168) (colV 0 slices_S33x8_o0_0_S33x1 x2)))
          (cmpi .eq (colV 0 slices_S33x8_o0_0_S33x1 x1) (iota .tc S32x33x7168 32 [0] iota_S32x33x7168_d0_w32)) (k0_pay8 (F := Ideal)))
        (k0_pay10 (F := Ideal) D x2 S) (k0_pay11 x1) (ix2 t d)
      = (((((((Ideal.ofBits .f32 0x00000000#32 + slotV D x1 x2 S 0 slices_S33x8_o0_0_S33x1 (ix2 t d)) + slotV D x1 x2 S 1 slices_S33x8_o0_1_S33x1 (ix2 t d))
          + slotV D x1 x2 S 2 slices_S33x8_o0_2_S33x1 (ix2 t d)) + slotV D x1 x2 S 3 slices_S33x8_o0_3_S33x1 (ix2 t d))
          + slotV D x1 x2 S 4 slices_S33x8_o0_4_S33x1 (ix2 t d)) + slotV D x1 x2 S 5 slices_S33x8_o0_5_S33x1 (ix2 t d))
          + slotV D x1 x2 S 6 slices_S33x8_o0_6_S33x1 (ix2 t d)) + slotV D x1 x2 S 7 slices_S33x8_o0_7_S33x1 (ix2 t d) := fun D S => by
    rw [pay12_eq, pay9_eq]; rfl
  refine (h (k0_pay1 (F := Ideal) x0 x3 x4 x5) (k0_pay4 (F := Ideal) x6)).trans ?_
  have hs := fun (k : Fin 8) (hk : S33x8.Slices ![0, k.val] S33x1) => slotV_apply x0 x1 x2 x3 x4 x5 x6 k hk t d
  rw [Ideal.ofBits_zero_f32, zero_add]
  unfold Cert.Moe.out
  rw [Fin.sum_univ_eight]
  exact congrArg₂ (· + ·) (congrArg₂ (· + ·) (congrArg₂ (· + ·) (congrArg₂ (· + ·) (congrArg₂ (· + ·) (congrArg₂ (· + ·) (congrArg₂ (· + ·) (hs 0 _) (hs 1 _)) (hs 2 _))
    (hs 3 _)) (hs 4 _)) (hs 5 _)) (hs 6 _)) (hs 7 _)

end Cert.ReferenceIdeal.Value

end
-- ==== Proof.ReferenceRun.lean ====
/-
  Hand-written, untrusted. The reference's run over the extended reals: its result array is what every token's slots and
  the experts give, at the program's arguments.
-/
module

public import proofs.«01_k».proof.Proof.ReferenceValue
public import Idealize.ShloMosaic.Lib.Pipeline.ValueKit.Geometry
public import Idealize.ShloMosaic.Lib.Claim
public import Idealize.ShloMosaic.Lib.StableHlo.RunRead

@[expose] public section

set_option maxRecDepth 16384
set_option maxErrors 8

noncomputable section

namespace Cert.ReferenceIdeal.Value

open Cert.ReferenceIdeal Cert.ReferenceIdeal.Gen
open Idealize.ShloMosaic Idealize.ShloMosaic.TcCoe Idealize.ShloMosaic.Tactic Idealize.SL.Sem
open Idealize.ShloMosaic.ValueIdx (ix1 ix2 ix3 ix4)
open Idealize.ShloMosaic.Pipeline (Dat)

variable (m : (ℓ : Loc nD τ sig) → Buf (Elt Ideal) ℓ)

/-! ## The operands the host reshapes -/

theorem V_main_v0 (c : Dev nD) (t : Fin 33) (d : Fin 7168) :
    V m c main_v0 (ix2 t d) = m ((c : Thread nD τ).loc main_arg0) (ix3 t 0 d) := by
  have h : V m c main_v0 = shapeCast S33x7168 (m ((c : Thread nD τ).loc main_arg0)) shapeCasts_S33x1x7168_S33x7168 := by
    unfold V hostOps0; after_reads_simp; rfl
  rw [h]
  exact shapeCast_apply _ _ _ _ (by
    refine (Shape.rowMajor_val_three _).trans (Eq.trans ?_ (Shape.rowMajor_val_two _).symm)
    show (t.val * 1 + 0) * 7168 + d.val = t.val * 7168 + d.val
    omega)

theorem V_main_v1 (c : Dev nD) (t : Fin 33) (k : Fin 8) :
    V m c main_v1 (ix2 t k) = m ((c : Thread nD τ).loc main_arg1) (ix3 t 0 k) := by
  have h : V m c main_v1 = shapeCast S33x8 (m ((c : Thread nD τ).loc main_arg1)) shapeCasts_S33x1x8_S33x8 := by
    unfold V hostOps0; after_reads_simp; rfl
  rw [h]
  exact shapeCast_apply _ _ _ _ (by
    refine (Shape.rowMajor_val_three _).trans (Eq.trans ?_ (Shape.rowMajor_val_two _).symm)
    show (t.val * 1 + 0) * 8 + k.val = t.val * 8 + k.val
    omega)

theorem V_main_v2 (c : Dev nD) (t : Fin 33) (k : Fin 8) :
    V m c main_v2 (ix2 t k) = m ((c : Thread nD τ).loc main_arg2) (ix3 t 0 k) := by
  have h : V m c main_v2 = shapeCast S33x8 (m ((c : Thread nD τ).loc main_arg2)) shapeCasts_S33x1x8_S33x8 := by
    unfold V hostOps0; after_reads_simp; rfl
  rw [h]
  exact shapeCast_apply _ _ _ _ (by
    refine (Shape.rowMajor_val_three _).trans (Eq.trans ?_ (Shape.rowMajor_val_two _).symm)
    show (t.val * 1 + 0) * 8 + k.val = t.val * 8 + k.val
    omega)

/-! ## The blocks at the one point are the arrays -/

theorem idx : win0_0.index t0_0 = ![0, 0] ∧ win0_1.index t0_0 = ![0, 0] ∧ win0_2.index t0_0 = ![0, 0] ∧ win0_3.index t0_0 = ![0, 0, 0] ∧ win0_4.index t0_0 = ![0, 0] ∧ win0_5.index t0_0 = ![0, 0, 0] ∧ win0_6.index t0_0 = ![0, 0] ∧ win0_7.index t0_0 = ![0, 0] := by decide +kernel

theorem emb0 (y : S33x7168.Idx) : (((cfg0.win 0).blk t0_0).view.emb y : S33x7168.Idx) = y := by
  have h := idx.1
  funext a; apply Fin.ext
  blk_simp
  rw [h]; fin_cases a <;> simp
theorem emb1 (y : S33x8.Idx) : (((cfg0.win 1).blk t0_0).view.emb y : S33x8.Idx) = y := by
  have h := idx.2.1
  funext a; apply Fin.ext
  blk_simp
  rw [h]; fin_cases a <;> simp
theorem emb2 (y : S33x8.Idx) : (((cfg0.win 2).blk t0_0).view.emb y : S33x8.Idx) = y := by
  have h := idx.2.2.1
  funext a; apply Fin.ext
  blk_simp
  rw [h]; fin_cases a <;> simp
theorem emb3 (y : S32x7168x1536.Idx) : (((cfg0.win 3).blk t0_0).view.emb y : S32x7168x1536.Idx) = y := by
  have h := idx.2.2.2.1
  funext a; apply Fin.ext
  blk_simp
  rw [h]; fin_cases a <;> simp
theorem emb4 (y : S32x1536.Idx) : (((cfg0.win 4).blk t0_0).view.emb y : S32x1536.Idx) = y := by
  have h := idx.2.2.2.2.1
  funext a; apply Fin.ext
  blk_simp
  rw [h]; fin_cases a <;> simp
theorem emb5 (y : S32x768x7168.Idx) : (((cfg0.win 5).blk t0_0).view.emb y : S32x768x7168.Idx) = y := by
  have h := idx.2.2.2.2.2.1
  funext a; apply Fin.ext
  blk_simp
  rw [h]; fin_cases a <;> simp
theorem emb6 (y : S32x7168.Idx) : (((cfg0.win 6).blk t0_0).view.emb y : S32x7168.Idx) = y := by
  have h := idx.2.2.2.2.2.2.1
  funext a; apply Fin.ext
  blk_simp
  rw [h]; fin_cases a <;> simp
theorem blk0 (c : Dev nD) (y : S33x7168.Idx) : iblk m c 0 t0_0 y = V m c main_v0 y := congrArg (V m c main_v0) (emb0 y)
theorem blk1 (c : Dev nD) (y : S33x8.Idx) : iblk m c 1 t0_0 y = V m c main_v1 y := congrArg (V m c main_v1) (emb1 y)
theorem blk2 (c : Dev nD) (y : S33x8.Idx) : iblk m c 2 t0_0 y = V m c main_v2 y := congrArg (V m c main_v2) (emb2 y)
theorem blk3 (c : Dev nD) (y : S32x7168x1536.Idx) : iblk m c 3 t0_0 y = m ((c : Thread nD τ).loc main_arg3) y :=
  (congrArg (V m c main_arg3) (emb3 y)).trans (congrFun (V_main_arg3 m c) y)
theorem blk4 (c : Dev nD) (y : S32x1536.Idx) : iblk m c 4 t0_0 y = m ((c : Thread nD τ).loc main_arg4) y :=
  (congrArg (V m c main_arg4) (emb4 y)).trans (congrFun (V_main_arg4 m c) y)
theorem blk5 (c : Dev nD) (y : S32x768x7168.Idx) : iblk m c 5 t0_0 y = m ((c : Thread nD τ).loc main_arg5) y :=
  (congrArg (V m c main_arg5) (emb5 y)).trans (congrFun (V_main_arg5 m c) y)
theorem blk6 (c : Dev nD) (y : S32x7168.Idx) : iblk m c 6 t0_0 y = m ((c : Thread nD τ).loc main_arg6) y :=
  (congrArg (V m c main_arg6) (emb6 y)).trans (congrFun (V_main_arg6 m c) y)

/-! ## The result -/

/-- The arrays the reference reads, at the program's arguments. -/
def args (c : Dev nD) : Cert.Moe.Arr where
  x t d := m ((c : Thread nD τ).loc main_arg0) (ix3 t 0 d)
  ids t k := m ((c : Thread nD τ).loc main_arg1) (ix3 t 0 k)
  rw t k := m ((c : Thread nD τ).loc main_arg2) (ix3 t 0 k)
  wgu e q n := m ((c : Thread nD τ).loc main_arg3) (ix3 e q n)
  sgu e n := m ((c : Thread nD τ).loc main_arg4) (ix2 e n)
  wdn e j d := m ((c : Thread nD τ).loc main_arg5) (ix3 e j d)
  sdn e d := m ((c : Thread nD τ).loc main_arg6) (ix2 e d)

theorem arr_args (c : Dev nD) :
    arr (iblk m c 0 t0_0) (iblk m c 1 t0_0) (iblk m c 2 t0_0) (iblk m c 3 t0_0) (iblk m c 4 t0_0) (iblk m c 5 t0_0) (iblk m c 6 t0_0) = args m c := by
  unfold arr args
  congr 1
  · funext t d; exact (blk0 m c _).trans (V_main_v0 m c t d)
  · funext t k; exact (blk1 m c _).trans (V_main_v1 m c t k)
  · funext t k; exact (blk2 m c _).trans (V_main_v2 m c t k)
  · funext e q n; exact blk3 m c _
  · funext e n; exact blk4 m c _
  · funext e j d; exact blk5 m c _
  · funext e d; exact blk6 m c _

/-- The result array. -/
def G (c : Dev nD) : Vec Ideal S33x7168 .bf16 := fun i => Cert.Moe.out (args m c) (i 0) (i 1)

theorem result_apply (c : Dev nD) (z : S33x7168.Idx) :
    out0_7 (F := Ideal) (iblk m c 0 t0_0) (iblk m c 1 t0_0) (iblk m c 2 t0_0) (iblk m c 3 t0_0) (iblk m c 4 t0_0) (iblk m c 5 t0_0) (iblk m c 6 t0_0) z = G m c z := by
  have hz : z = ix2 (z 0) (z 1) := by funext a; match a with | ⟨0, _⟩ => rfl | ⟨1, _⟩ => rfl
  refine (congrArg _ hz).trans ((out_apply _ _ _ _ _ _ _ (z 0) (z 1)).trans ?_)
  rw [arr_args]; rfl

theorem final (c : Dev nD) : (dats m 0 c).arrAt 7 cfg0.N = G m c := by
  refine (dats m 0 c).arrAt_eq_of_after_last 7 t0_0 (by decide +kernel) (G m c) fun y => ?_
  exact (congrFun (after0_7 m c t0_0) y).trans (result_apply m c y)

/-- The reference's run: the result array, and the arguments unchanged. -/
theorem run_result (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨((h.1 c).1 7).trans (final m c), h.2 c⟩) (θ_run_and (run_main m ρ) (unchanged m ρ))

end Cert.ReferenceIdeal.Value

end
-- ==== Proof.lean ====
module

public import proofs.«01_k».proof.Defs
public import proofs.«01_k».proof.Proof.KernelPre
public import proofs.«01_k».proof.Proof.KernelIdealPre
public import proofs.«01_k».proof.Proof.KernelIdealOnce
public import proofs.«01_k».proof.Proof.KernelIdealTerm
public import proofs.«01_k».proof.Proof.ReferenceRun
public import proofs.«01_k».proof.Proof.Gen.Pre_experts_exist_once
public import proofs.«01_k».proof.Proof.Gen.ReferenceIdeal.Frame

@[expose] public section

noncomputable section

namespace Cert.Proof

open Idealize.ShloMosaic Idealize.ShloMosaic.TcCoe Idealize.SL.Sem
open Idealize.ShloMosaic.ValueIdx (ix1 ix2 ix3 ix4)

theorem frame_kernel : quiescent_Kernel (hKernel := Cert.Kernel.Gen.facts) (hPre_experts_exist := Cert.Pre_experts_exist.Gen.facts) := by
  intro m g hpre
  have h0 := Cert.Kernel.Walk.start_of_range m fun c t k => Cert.Kernel.Walk.range_of_pre _ _ _ _ _ _ _ (hpre c) t k
  exact (θ_run _ _ _).mono (fun _ h => ⟨fun c => (h.1 c).2, h.2⟩) (Cert.Kernel.Walk.run_end m h0 g)

theorem frame_kernel_ideal : quiescent_KernelIdeal (hKernelIdeal := Cert.KernelIdeal.Gen.facts) (hPre_experts_exist := Cert.Pre_experts_exist.Gen.facts) := by
  intro m g hpre
  have h0 := Cert.KernelIdeal.Walk.start_of_range m fun c t k => Cert.KernelIdeal.Walk.range_of_pre _ _ _ _ _ _ _ (hpre c) t k
  exact (θ_run _ _ _).mono (fun _ h => ⟨fun c => (h.1 c).2, h.2⟩) (Cert.KernelIdeal.Walk.run_end m h0 g)

theorem frame_reference_ideal : quiescent_ReferenceIdeal (hReferenceIdeal := Cert.ReferenceIdeal.Gen.facts) := fun m g _ =>
  Cert.ReferenceIdeal.Gen.frame m g

theorem frame_kernel_ideal_once : quiescent_KernelIdeal_pre_experts_exist_once (hKernelIdeal := Cert.KernelIdeal.Gen.facts) (hPre_experts_exist_once := Cert.Pre_experts_exist_once.Gen.facts) := by
  intro m g hpre
  have h0 := Cert.KernelIdeal.Walk.start_of_range m fun c t k => (Cert.KernelIdeal.Walk.once_of_pre _ _ _ _ _ _ _ (hpre c)).1 t k
  exact (θ_run _ _ _).mono (fun _ h => ⟨fun c => (h.1 c).2, h.2⟩) (Cert.KernelIdeal.Walk.run_end m h0 g)

/-- The arrays the kernel reads are the arrays the reference reads. -/
theorem arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Walk.arr (Cert.KernelIdeal.Walk.I0 m c).V = Cert.ReferenceIdeal.Value.args m' c := by
  unfold Cert.KernelIdeal.Walk.arr Cert.ReferenceIdeal.Value.args
  congr 1
  · funext t d; exact (Cert.KernelIdeal.Walk.V_main_v4 m c t d).trans (congrFun h0 (ix3 t 0 d)).symm
  · funext t k; exact (Cert.KernelIdeal.Walk.V_main_v1 m c k t).trans (congrFun h1 (ix3 t 0 k)).symm
  · funext t k; exact (Cert.KernelIdeal.Walk.V_main_v3 m c k t).trans (congrFun h2 (ix3 t 0 k)).symm
  · funext e q n; exact (congrFun (Cert.KernelIdeal.Gen.V_main_arg3 m c) (ix3 e q n)).trans (congrFun h3 (ix3 e q n)).symm
  · funext e n; exact (congrFun (Cert.KernelIdeal.Gen.V_main_arg4 m c) (ix2 e n)).trans (congrFun h4 (ix2 e n)).symm
  · funext e j d; exact (congrFun (Cert.KernelIdeal.Gen.V_main_arg5 m c) (ix3 e j d)).trans (congrFun h5 (ix3 e j d)).symm
  · funext e d; exact (congrFun (Cert.KernelIdeal.Gen.V_main_arg6 m c) (ix2 e d)).trans (congrFun h6 (ix2 e d)).symm

/-- The kernel's result array is the reference's, a token's experts being distinct. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (ha : Cert.KernelIdeal.Walk.arr (Cert.KernelIdeal.Walk.I0 m c).V = Cert.ReferenceIdeal.Value.args m' c)
    (hd : ∀ (t : Fin 33) (k j : Fin 8), k ≠ j → (Cert.ReferenceIdeal.Value.args m' c).ids t k ≠ (Cert.ReferenceIdeal.Value.args m' c).ids t j) :
    Cert.KernelIdeal.Walk.result (Cert.KernelIdeal.Walk.I0 m c).V = Cert.ReferenceIdeal.Value.G m' c := by
  funext i
  have hi : i = ix2 (i 0) (i 1) := by funext a; match a with | ⟨0, _⟩ => rfl | ⟨1, _⟩ => rfl
  refine (congrArg _ hi).trans ((Cert.KernelIdeal.Walk.result_sum _ (fun k t => Cert.KernelIdeal.Walk.idw_eq _ k t) (i 0) (i 1)).trans ?_)
  rw [ha]
  exact Cert.Moe.sum_term _ _ _ (hd _)

theorem algebraic : algebraic_KernelIdeal_ReferenceIdeal_pre_experts_exist_once (hKernelIdeal := Cert.KernelIdeal.Gen.facts) (hReferenceIdeal := Cert.ReferenceIdeal.Gen.facts)
    (hPre_experts_exist_once := Cert.Pre_experts_exist_once.Gen.facts) := by
  intro m g m' g' hpre hag
  have hr := fun c => Cert.KernelIdeal.Walk.once_of_pre _ _ _ _ _ _ _ (hpre c)
  have h0 := Cert.KernelIdeal.Walk.start_of_range m fun c t k => (hr c).1 t k
  refine ⟨fun c => Cert.KernelIdeal.Walk.result (Cert.KernelIdeal.Walk.I0 m c).V,
    (θ_run _ _ _).mono (fun _ h c => h.1 c) (Cert.KernelIdeal.Walk.run_end m h0 g),
    (θ_run _ _ _).mono (fun _ h c => ⟨(h c).1.trans (result_eq m m' c ?_ ?_).symm, (h c).2⟩) (Cert.ReferenceIdeal.Value.run_result m' g')⟩
  · obtain ⟨a0, a1, a2, a3, a4, a5, a6⟩ := hag c
    exact arr_eq m m' c a0 a1 a2 a3 a4 a5 a6
  · intro t k j hkj he
    have h1 := (hag c).2.1
    exact (hr c).2 t k j hkj ((congrFun h1 (ix3 t 0 k)).symm.trans (he.trans (congrFun h1 (ix3 t 0 j))))

theorem claim : Cert.Claim := ⟨Cert.Kernel.Gen.facts, Cert.KernelIdeal.Gen.facts, Cert.ReferenceIdeal.Gen.facts, Cert.Pre_experts_exist.Gen.facts, Cert.Pre_experts_exist_once.Gen.facts,
  frame_kernel, frame_kernel_ideal, frame_kernel_ideal_once, frame_reference_ideal, fun m g _ => Cert.ReferenceIdeal.Gen.frame m g, trivial, algebraic⟩

end Cert.Proof

end
